-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exit" .f32 0xC2DC0000#32 ⊥

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)) (v5 : (c : Dev Cert.Kernel5Ideal.nD) → Buf (Elt Ideal) ((c.tc : Thread Cert.Kernel5Ideal.nD Cert.Kernel5Ideal.τ).loc Cert.Kernel5Ideal.main_v14_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_v14_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_v44) = v3 c
          ∧ r.2.mem ((c.tc : Thread Cert.Reference5Ideal.nD Cert.Reference5Ideal.τ).loc Cert.Reference5Ideal.main_v46) = v4 c
          ∧ r.2.mem ((c.tc : Thread Cert.Reference5Ideal.nD Cert.Reference5Ideal.τ).loc Cert.Reference5Ideal.main_v48) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_logits_finite.lean ====
abbrev S2x16384x1024 : Shape := ⟨3, ![2, 16384, 1024]⟩
abbrev S8x32768 : Shape := ⟨2, ![8, 32768]⟩
abbrev S2x4x32 : Shape := ⟨3, ![2, 4, 32]⟩
abbrev S128x1024 : Shape := ⟨2, ![128, 1024]⟩
abbrev S8x128 : Shape := ⟨2, ![8, 128]⟩
abbrev S4 : Shape := ⟨1, ![4]⟩
abbrev S_ : Shape := ⟨0, ![]⟩
abbrev S4x32768 : Shape := ⟨2, ![4, 32768]⟩
abbrev S16x1024 : Shape := ⟨2, ![16, 1024]⟩
abbrev S4x16 : Shape := ⟨2, ![4, 16]⟩

class Facts : Prop where
  bitsLt_bf16_f32 : FTy.bits .bf16 < FTy.bits .f32
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  slices_S8x32768_S4x32768_0_0 : S8x32768.Slices ![0, 0] S4x32768
  bcast_S_S4x32768 : S_.BroadcastsInDim S4x32768 (![] : Fin 0 → Fin S4x32768.rank)
  reducesTo_S4x32768_S_d0_1 : S4x32768.ReducesTo [0, 1] S_
  slices_S128x1024_S16x1024_0_0 : S128x1024.Slices ![0, 0] S16x1024
  bcast_S_S16x1024 : S_.BroadcastsInDim S16x1024 (![] : Fin 0 → Fin S16x1024.rank)
  reducesTo_S16x1024_S_d0_1 : S16x1024.ReducesTo [0, 1] S_
  slices_S8x128_S4x16_0_0 : S8x128.Slices ![0, 0] S4x16
  bcast_S_S4x16 : S_.BroadcastsInDim S4x16 (![] : Fin 0 → Fin S4x16.rank)
  reducesTo_S4x16_S_d0_1 : S4x16.ReducesTo [0, 1] S_

variable [Facts]

def fn_part2 {F : FTy → Type} [FloatOps F] (main_v34 : IVec S_ 1) (main_v35 : FVec F S4x16 .f32) : IVec S_ 1 :=
  let main_cst_10 : FVec F S_ .f32 := constant S_ .f32 0xFF800000#32
  let main_v36 : FVec F S4x16 .f32 := broadcastInDim S4x16 ![] bcast_S_S4x16 main_cst_10
  let main_v37 : IVec S4x16 1 := cmpf .ogt main_v35 main_v36
  let main_cst_11 : FVec F S_ .f32 := constant S_ .f32 0x7F800000#32
  let main_v38 : FVec F S4x16 .f32 := broadcastInDim S4x16 ![] bcast_S_S4x16 main_cst_11
  let main_v39 : IVec S4x16 1 := cmpf .olt main_v35 main_v38
  let main_v40 : IVec S4x16 1 := andi main_v37 main_v39
  let main_c_12 : IVec S_ 1 := constantI S_ 1 1#1
  let main_v41 : IVec S_ 1 := (fun x v => Host.reduce IntOp.andi x v reducesTo_S4x16_S_d0_1 h_S_) main_v40 main_c_12
  let main_v42 : IVec S_ 1 := andi main_v34 main_v41
  main_v42

def fn_part1 {F : FTy → Type} [FloatOps F] (main_arg5 : FVec F S128x1024 .bf16) (main_arg7 : FVec F S8x128 .f32) (main_v16 : IVec S_ 1) (main_v17 : FVec F S4x32768 .f32) : IVec S_ 1 :=
  let main_cst_4 : FVec F S_ .f32 := constant S_ .f32 0xFF800000#32
  let main_v18 : FVec F S4x32768 .f32 := broadcastInDim S4x32768 ![] bcast_S_S4x32768 main_cst_4
  let main_v19 : IVec S4x32768 1 := cmpf .ogt main_v17 main_v18
  let main_cst_5 : FVec F S_ .f32 := constant S_ .f32 0x7F800000#32
  let main_v20 : FVec F S4x32768 .f32 := broadcastInDim S4x32768 ![] bcast_S_S4x32768 main_cst_5
  let main_v21 : IVec S4x32768 1 := cmpf .olt main_v17 main_v20
  let main_v22 : IVec S4x32768 1 := andi main_v19 main_v21
  let main_c_6 : IVec S_ 1 := constantI S_ 1 1#1
  let main_v23 : IVec S_ 1 := (fun x v => Host.reduce IntOp.andi x v reducesTo_S4x32768_S_d0_1 h_S_) main_v22 main_c_6
  let main_v24 : IVec S_ 1 := andi main_v16 main_v23
  let main_v25 : FVec F S16x1024 .bf16 := (extractStridedSlice S16x1024 ![0, 0] · slices_S128x1024_S16x1024_0_0) main_arg5
  let main_v26 : FVec F S16x1024 .f32 := (extf .f32 · bitsLt_bf16_f32) main_v25
  let main_cst_7 : FVec F S_ .f32 := constant S_ .f32 0xFF800000#32
  let main_v27 : FVec F S16x1024 .f32 := broadcastInDim S16x1024 ![] bcast_S_S16x1024 main_cst_7
  let main_v28 : IVec S16x1024 1 := cmpf .ogt main_v26 main_v27
  let main_v29 : FVec F S16x1024 .f32 := (extf .f32 · bitsLt_bf16_f32) main_v25
  let main_cst_8 : FVec F S_ .f32 := constant S_ .f32 0x7F800000#32
  let main_v30 : FVec F S16x1024 .f32 := broadcastInDim S16x1024 ![] bcast_S_S16x1024 main_cst_8
  let main_v31 : IVec S16x1024 1 := cmpf .olt main_v29 main_v30
  let main_v32 : IVec S16x1024 1 := andi main_v28 main_v31
  let main_c_9 : IVec S_ 1 := constantI S_ 1 1#1
  let main_v33 : IVec S_ 1 := (fun x v => Host.reduce IntOp.andi x v reducesTo_S16x1024_S_d0_1 h_S_) main_v32 main_c_9
  let main_v34 : IVec S_ 1 := andi main_v24 main_v33
  let main_v35 : FVec F S4x16 .f32 := (extractStridedSlice S4x16 ![0, 0] · slices_S8x128_S4x16_0_0) main_arg7
  fn_part2 (F := F) main_v34 main_v35

def fn {F : FTy → Type} [FloatOps F] (main_arg0 : FVec F S2x16384x1024 .bf16) (main_arg1 : FVec F S2x16384x1024 .bf16) (main_arg2 : FVec F S2x16384x1024 .bf16) (main_arg3 : FVec F S8x32768 .f32) (main_arg4 : FVec F S2x4x32 .f32) (main_arg5 : FVec F S128x1024 .bf16) (main_arg6 : FVec F S128x1024 .bf16) (main_arg7 : FVec F S8x128 .f32) (main_arg8 : FVec F S4 .f32) : IVec S_ 1 :=
  let main_v0 : FVec F S2x16384x1024 .f32 := (extf .f32 · bitsLt_bf16_f32) main_arg0
  let main_cst : FVec F S_ .f32 := constant S_ .f32 0xFF800000#32
  let main_v1 : FVec F S2x16384x1024 .f32 := broadcastInDim S2x16384x1024 ![] bcast_S_S2x16384x1024 main_cst
  let main_v2 : IVec S2x16384x1024 1 := cmpf .ogt main_v0 main_v1
  let main_v3 : FVec F S2x16384x1024 .f32 := (extf .f32 · bitsLt_bf16_f32) main_arg0
  let main_cst_0 : FVec F S_ .f32 := constant S_ .f32 0x7F800000#32
  let main_v4 : FVec F S2x16384x1024 .f32 := broadcastInDim S2x16384x1024 ![] bcast_S_S2x16384x1024 main_cst_0
  let main_v5 : IVec S2x16384x1024 1 := cmpf .olt main_v3 main_v4
  let main_v6 : IVec S2x16384x1024 1 := andi main_v2 main_v5
  let main_c : IVec S_ 1 := constantI S_ 1 1#1
  let main_v7 : IVec S_ 1 := (fun x v => Host.reduce IntOp.andi x v reducesTo_S2x16384x1024_S_d0_1_2 h_S_) main_v6 main_c
  let main_v8 : FVec F S2x16384x1024 .f32 := (extf .f32 · bitsLt_bf16_f32) main_arg1
  let main_cst_1 : FVec F S_ .f32 := constant S_ .f32 0xFF800000#32
  let main_v9 : FVec F S2x16384x1024 .f32 := broadcastInDim S2x16384x1024 ![] bcast_S_S2x16384x1024 main_cst_1
  let main_v10 : IVec S2x16384x1024 1 := cmpf .ogt main_v8 main_v9
  let main_v11 : FVec F S2x16384x1024 .f32 := (extf .f32 · bitsLt_bf16_f32) main_arg1
  let main_cst_2 : FVec F S_ .f32 := constant S_ .f32 0x7F800000#32
  let main_v12 : FVec F S2x16384x1024 .f32 := broadcastInDim S2x16384x1024 ![] bcast_S_S2x16384x1024 main_cst_2
  let main_v13 : IVec S2x16384x1024 1 := cmpf .olt main_v11 main_v12
  let main_v14 : IVec S2x16384x1024 1 := andi main_v10 main_v13
  let main_c_3 : IVec S_ 1 := constantI S_ 1 1#1
  let main_v15 : IVec S_ 1 := (fun x v => Host.reduce IntOp.andi x v reducesTo_S2x16384x1024_S_d0_1_2 h_S_) main_v14 main_c_3
  let main_v16 : IVec S_ 1 := andi main_v7 main_v15
  let main_v17 : FVec F S4x32768 .f32 := (extractStridedSlice S4x32768 ![0, 0] · slices_S8x32768_S4x32768_0_0) main_arg3
  fn_part1 (F := F) main_arg5 main_arg7 main_v16 main_v17
-- ==== Kernel.lean ====
abbrev S2x16384x1024 : Shape := ⟨3, ![2, 16384, 1024]⟩
abbrev S8x32768 : Shape := ⟨2, ![8, 32768]⟩
abbrev S2x4x32 : Shape := ⟨3, ![2, 4, 32]⟩
abbrev S128x1024 : Shape := ⟨2, ![128, 1024]⟩
abbrev S8x128 : Shape := ⟨2, ![8, 128]⟩
abbrev S4 : Shape := ⟨1, ![4]⟩
abbrev S128 : Shape := ⟨1, ![128]⟩
abbrev S1x128 : Shape := ⟨2, ![1, 128]⟩
abbrev S_ : Shape := ⟨0, ![]⟩
abbrev S8x1 : Shape := ⟨2, ![8, 1]⟩
abbrev S8x2x32x512 : Shape := ⟨4, ![8, 2, 32, 512]⟩
abbrev S4x2x32x1 : Shape := ⟨4, ![4, 2, 32, 1]⟩
abbrev S4x2x32 : Shape := ⟨3, ![4, 2, 32]⟩
abbrev S256 : Shape := ⟨1, ![256]⟩
abbrev S1x1024x256 : Shape := ⟨3, ![1, 1024, 256]⟩
abbrev S1x16384x256 : Shape := ⟨3, ![1, 16384, 256]⟩
abbrev S1x1x32x512 : Shape := ⟨4, ![1, 1, 32, 512]⟩
abbrev S128x256 : Shape := ⟨2, ![128, 256]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1x1x256 : Shape := ⟨4, ![1, 1, 1, 256]⟩
abbrev S1x256 : Shape := ⟨2, ![1, 256]⟩
abbrev S256x512 : Shape := ⟨2, ![256, 512]⟩
abbrev S1x512x256 : Shape := ⟨3, ![1, 512, 256]⟩
abbrev S512x256 : Shape := ⟨2, ![512, 256]⟩
abbrev S1x1x1x512 : Shape := ⟨4, ![1, 1, 1, 512]⟩
abbrev S1x512 : Shape := ⟨2, ![1, 512]⟩
abbrev S256x768 : Shape := ⟨2, ![256, 768]⟩
abbrev S1x768x256 : Shape := ⟨3, ![1, 768, 256]⟩
abbrev S768x256 : Shape := ⟨2, ![768, 256]⟩
abbrev S1x768 : Shape := ⟨2, ![1, 768]⟩
abbrev S256x1024 : Shape := ⟨2, ![256, 1024]⟩
abbrev S1x1024 : Shape := ⟨2, ![1, 1024]⟩
abbrev S1x1024x1 : Shape := ⟨3, ![1, 1024, 1]⟩
abbrev S256x128 : Shape := ⟨2, ![256, 128]⟩

abbrev nBuf : Space → Nat
  | .hbm => 29
  | .vmem => 18
  | .smem => 3
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S8x32768, .f32⟩
  | .hbm, ⟨4, _⟩ => ⟨S2x4x32, .f32⟩
  | .hbm, ⟨5, _⟩ => ⟨S128x1024, .bf16⟩
  | .hbm, ⟨6, _⟩ => ⟨S128x1024, .bf16⟩
  | .hbm, ⟨7, _⟩ => ⟨S8x128, .f32⟩
  | .hbm, ⟨8, _⟩ => ⟨S4, .f32⟩
  | .hbm, ⟨9, _⟩ => ⟨S128, .i32⟩
  | .hbm, ⟨10, _⟩ => ⟨S1x128, .i32⟩
  | .hbm, ⟨11, _⟩ => ⟨S_, .i32⟩
  | .hbm, ⟨12, _⟩ => ⟨S1x128, .i32⟩
  | .hbm, ⟨13, _⟩ => ⟨S1x128, .i1⟩
  | .hbm, ⟨14, _⟩ => ⟨S8x1, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S8x128, .i1⟩
  | .hbm, ⟨20, _⟩ => ⟨S8x128, .f32⟩
  | .hbm, ⟨21, _⟩ => ⟨S8x128, .f32⟩
  | .hbm, ⟨22, _⟩ => ⟨S8x2x32x512, .f32⟩
  | .hbm, ⟨23, _⟩ => ⟨S4x2x32x1, .f32⟩
  | .hbm, ⟨24, _⟩ => ⟨S4x2x32, .f32⟩
  | .hbm, ⟨25, _⟩ => ⟨S2x4x32, .f32⟩
  | .hbm, ⟨26, _⟩ => ⟨S256, .f32⟩
  | .hbm, ⟨27, _⟩ => ⟨S256, .f32⟩
  | .hbm, ⟨28, _⟩ => ⟨S2x16384x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x256, .bf16⟩
  | .local _ .vmem, ⟨5, _⟩ => ⟨S1x16384x256, .bf16⟩
  | .local _ .vmem, ⟨6, _⟩ => ⟨S1x1x32x512, .f32⟩
  | .local _ .vmem, ⟨7, _⟩ => ⟨S1x1x32x512, .f32⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S8x128, .f32⟩
  | .local _ .vmem, ⟨13, _⟩ => ⟨S1x1024x256, .f32⟩
  | .local _ .vmem, ⟨14, _⟩ => ⟨S1x1024x256, .f32⟩
  | .local _ .vmem, ⟨15, _⟩ => ⟨S1024x1, .f32⟩
  | .local _ .vmem, ⟨16, _⟩ => ⟨S1024x1, .f32⟩
  | .local _ .vmem, ⟨17, _⟩ => ⟨S1024x256, .f32⟩
  | .local _ .smem, ⟨0, _⟩ => ⟨S256, .f32⟩
  | .local _ .smem, ⟨1, _⟩ => ⟨S256, .f32⟩
  | .local _ .smem, ⟨2, _⟩ => ⟨S4, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg4_0 : Ref sig .tc := ⟨.smem, 0, rfl⟩
abbrev cc0_stg5_0 : Ref sig .tc := ⟨.smem, 1, rfl⟩
abbrev cc0_stg9_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c1024_i32 : BitVec 32 := 1024#32
  let v50 : BitVec 32 := Scalar.muli arg2 c1024_i32
  v50
def k0_off1 (i : grid0.Coords) : Fin 3 → Nat :=
  let c0_15 : Index := 0#32
  let arg2 : BitVec 32 := BitVec.ofNat 32 (i 2).val
  let c1024_i32 : BitVec 32 := 1024#32
  let v50 : BitVec 32 := Scalar.muli arg2 c1024_i32
  let v51 : BitVec 32 := v50
  let v54 : Index := Scalar.indexCast v51
  let c0_16 : Index := 0#32
  ![0, v54.toNat, 0]
def k0_off2 (i : grid0.Coords) (c0_i32 : BitVec 32) : Fin 4 → Nat :=
  let c0_18 : Index := 0#32
  let c0_19 : Index := 0#32
  let arg2 : BitVec 32 := BitVec.ofNat 32 (i 2).val
  let c2_i32 : BitVec 32 := 2#32
  let v58 : BitVec 32 := Scalar.muli arg2 c2_i32
  let v59 : BitVec 32 := Scalar.addi v58 c0_i32
  let v60 : Index := Scalar.indexCast v59
  let c0_20 : Index := 0#32
  ![0, 0, v60.toNat, 0]
def k0_off3 (i : grid0.Coords) : Fin 3 → Nat :=
  let c0_34 : Index := 0#32
  let arg2 : BitVec 32 := BitVec.ofNat 32 (i 2).val
  let c1024_i32 : BitVec 32 := 1024#32
  let v50 : BitVec 32 := Scalar.muli arg2 c1024_i32
  let v51 : BitVec 32 := v50
  let v93 : Index := Scalar.indexCast v51
  let c0_35 : Index := 0#32
  ![0, v93.toNat, 0]
def k0_off4 (i : grid0.Coords) (c0_i32_38 : BitVec 32) : Fin 4 → Nat :=
  let c0_39 : Index := 0#32
  let c0_40 : Index := 0#32
  let arg2 : BitVec 32 := BitVec.ofNat 32 (i 2).val
  let c2_i32_37 : BitVec 32 := 2#32
  let v97 : BitVec 32 := Scalar.muli arg2 c2_i32_37
  let v98 : BitVec 32 := Scalar.addi v97 c0_i32_38
  let v99 : Index := Scalar.indexCast v98
  let c0_41 : Index := 0#32
  ![0, 0, v99.toNat, 0]
def k0_off5 (i : grid0.Coords) : Fin 3 → Nat :=
  let c0_54 : Index := 0#32
  let arg2 : BitVec 32 := BitVec.ofNat 32 (i 2).val
  let c1024_i32 : BitVec 32 := 1024#32
  let v50 : BitVec 32 := Scalar.muli arg2 c1024_i32
  let v51 : BitVec 32 := v50
  let v132 : Index := Scalar.indexCast v51
  let c0_55 : Index := 0#32
  ![0, v132.toNat, 0]
def k0_off6 (i : grid0.Coords) : Fin 3 → Nat :=
  let c0_78 : Index := 0#32
  let arg2 : BitVec 32 := BitVec.ofNat 32 (i 2).val
  let c1024_i32 : BitVec 32 := 1024#32
  let v50 : BitVec 32 := Scalar.muli arg2 c1024_i32
  let v51 : BitVec 32 := v50
  let v177 : Index := Scalar.indexCast v51
  let c0_79 : Index := 0#32
  ![0, v177.toNat, 0]
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c32_i32 : BitVec 32 := 32#32
  let v2 : BitVec 32 := Scalar.muli v1 c32_i32
  let arg2 : BitVec 32 := BitVec.ofNat 32 (i 2).val
  let c2_i32_103 : BitVec 32 := 2#32
  let v220 : BitVec 32 := Scalar.muli arg2 c2_i32_103
  let c1_i32_104 : BitVec 32 := 1#32
  let v221 : BitVec 32 := Scalar.subi v220 c1_i32_104
  let c0_i32_105 : BitVec 32 := 0#32
  let v222 : BitVec 32 := Scalar.maxsi v221 c0_i32_105
  let v223 : BitVec 32 := Scalar.addi v2 v222
  let v224 : Index := Scalar.indexCast v223
  ![v224.toNat]
def k0_mult2 (arg17 : BitVec 32) : BitVec 32 :=
  let c512_i32_136 : BitVec 32 := 512#32
  let v290 : BitVec 32 := Scalar.muli arg17 c512_i32_136
  v290
def k0_cond1 (v262 : BitVec 1) : BitVec 1 :=
  let v263 : BitVec 32 := Scalar.extui v262
  let c0_i32_125 : BitVec 32 := 0#32
  let v264 : BitVec 1 := Scalar.cmpi .ne v263 c0_i32_125
  v264

def k0_off8 (arg17 : BitVec 32) : Fin 3 → Nat :=
  let c0_137 : Index := 0#32
  let c512_i32_136 : BitVec 32 := 512#32
  let v290 : BitVec 32 := Scalar.muli arg17 c512_i32_136
  let v291 : BitVec 32 := v290
  let v292 : Index := Scalar.indexCast v291
  let c0_138 : Index := 0#32
  ![0, v292.toNat, 0]
def k0_off9 (arg17 : BitVec 32) : Fin 4 → Nat :=
  let c0_141 : Index := 0#32
  let c0_142 : Index := 0#32
  let v298 : Index := Scalar.indexCast arg17
  let c0_143 : Index := 0#32
  ![0, 0, v298.toNat, 0]
def k0_mult3 (arg17 : BitVec 32) : BitVec 32 :=
  let c512_i32_136 : BitVec 32 := 512#32
  let v290 : BitVec 32 := Scalar.muli arg17 c512_i32_136
  v290
def k0_cond2 (v262 : BitVec 1) : BitVec 1 :=
  let v_true : BitVec 1 := 1#1
  let v265 : BitVec 1 := Scalar.xori v262 v_true
  let v266 : BitVec 32 := Scalar.extui v265
  let c0_i32_126 : BitVec 32 := 0#32
  let v267 : BitVec 1 := Scalar.cmpi .ne v266 c0_i32_126
  v267

def k0_off10 (arg17 : BitVec 32) : Fin 3 → Nat :=
  let c0_137 : Index := 0#32
  let c512_i32_136 : BitVec 32 := 512#32
  let v290 : BitVec 32 := Scalar.muli arg17 c512_i32_136
  let v291 : BitVec 32 := v290
  let v292 : Index := Scalar.indexCast v291
  let c0_138 : Index := 0#32
  ![0, v292.toNat, 0]
def k0_off11 (arg17 : BitVec 32) : Fin 4 → Nat :=
  let c0_141 : Index := 0#32
  let c0_142 : Index := 0#32
  let v298 : Index := Scalar.indexCast arg17
  let c0_143 : Index := 0#32
  ![0, 0, v298.toNat, 0]

def k0_chk1 (arg17 : BitVec 32) (v262 : BitVec 1) : Prop :=
  (∀ (k0_h1 : k0_cond1 v262 = 1#1), 512 ∣ (k0_mult2 arg17).toNat) ∧
  (∀ (k0_h1 : k0_cond1 v262 = 1#1), ∀ a, (k0_off8 arg17) a + S1x512x256.size a ≤ S1x16384x256.size a) ∧
  (∀ (k0_h1 : k0_cond1 v262 = 1#1), ∀ a, (k0_off9 arg17) a + S1x1x1x512.size a ≤ S1x1x32x512.size a) ∧
  (∀ (k0_h2 : k0_cond2 v262 = 1#1), 512 ∣ (k0_mult3 arg17).toNat) ∧
  (∀ (k0_h2 : k0_cond2 v262 = 1#1), ∀ a, (k0_off10 arg17) a + S1x512x256.size a ≤ S1x16384x256.size a) ∧
  (∀ (k0_h2 : k0_cond2 v262 = 1#1), ∀ a, (k0_off11 arg17) a + S1x1x1x512.size a ≤ S1x1x32x512.size a)
theorem k0_mult2_dvd : ∀ (arg17 : BitVec 32) (v262 : BitVec 1) (k0_hw1 : k0_chk1 arg17 v262), ∀ (k0_h1 : k0_cond1 v262 = 1#1), 512 ∣ (k0_mult2 arg17).toNat := fun arg17 v262 k0_hw1 k0_h1 => k0_hw1.1 k0_h1
theorem k0_off8_inb : ∀ (arg17 : BitVec 32) (v262 : BitVec 1) (k0_hw1 : k0_chk1 arg17 v262), ∀ (k0_h1 : k0_cond1 v262 = 1#1), ∀ a, (k0_off8 arg17) a + S1x512x256.size a ≤ S1x16384x256.size a := fun arg17 v262 k0_hw1 k0_h1 => k0_hw1.2.1 k0_h1
theorem k0_off9_inb : ∀ (arg17 : BitVec 32) (v262 : BitVec 1) (k0_hw1 : k0_chk1 arg17 v262), ∀ (k0_h1 : k0_cond1 v262 = 1#1), ∀ a, (k0_off9 arg17) a + S1x1x1x512.size a ≤ S1x1x32x512.size a := fun arg17 v262 k0_hw1 k0_h1 => k0_hw1.2.2.1 k0_h1
theorem k0_mult3_dvd : ∀ (arg17 : BitVec 32) (v262 : BitVec 1) (k0_hw1 : k0_chk1 arg17 v262), ∀ (k0_h2 : k0_cond2 v262 = 1#1), 512 ∣ (k0_mult3 arg17).toNat := fun arg17 v262 k0_hw1 k0_h2 => k0_hw1.2.2.2.1 k0_h2
theorem k0_off10_inb : ∀ (arg17 : BitVec 32) (v262 : BitVec 1) (k0_hw1 : k0_chk1 arg17 v262), ∀ (k0_h2 : k0_cond2 v262 = 1#1), ∀ a, (k0_off10 arg17) a + S1x512x256.size a ≤ S1x16384x256.size a := fun arg17 v262 k0_hw1 k0_h2 => k0_hw1.2.2.2.2.1 k0_h2
theorem k0_off11_inb : ∀ (arg17 : BitVec 32) (v262 : BitVec 1) (k0_hw1 : k0_chk1 arg17 v262), ∀ (k0_h2 : k0_cond2 v262 = 1#1), ∀ a, (k0_off11 arg17) a + S1x1x1x512.size a ≤ S1x1x32x512.size a := fun arg17 v262 k0_hw1 k0_h2 => k0_hw1.2.2.2.2.2 k0_h2

def k0_off12 (i : grid0.Coords) (arg17 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c32_i32 : BitVec 32 := 32#32
  let v2 : BitVec 32 := Scalar.muli v1 c32_i32
  let c1_i32_127 : BitVec 32 := 1#32
  let v268 : BitVec 32 := Scalar.subi arg17 c1_i32_127
  let c0_i32_128 : BitVec 32 := 0#32
  let v269 : BitVec 32 := Scalar.maxsi v268 c0_i32_128
  let v270 : BitVec 32 := Scalar.addi v2 v269
  let v271 : Index := Scalar.indexCast v270
  ![v271.toNat]

def k0_chk2 (i : grid0.Coords) (arg17 : BitVec 32) : Prop :=
  (∀ a, (k0_off12 i arg17) a + S1.size a ≤ S256.size a)
theorem k0_off12_inb : ∀ (i : grid0.Coords) (arg17 : BitVec 32) (k0_hw2 : k0_chk2 i arg17), ∀ a, (k0_off12 i arg17) a + S1.size a ≤ S256.size a := fun i arg17 k0_hw2 => k0_hw2

def k0_off13 (i : grid0.Coords) : Fin 1 → Nat :=
  let arg1 : BitVec 32 := BitVec.ofNat 32 (i 1).val
  let v242 : Index := Scalar.indexCast arg1
  ![v242.toNat]
def k0_off14 (i : grid0.Coords) : Fin 2 → Nat :=
  let arg1 : BitVec 32 := BitVec.ofNat 32 (i 1).val
  let v264 : Index := Scalar.indexCast arg1
  let c0_128 : Index := 0#32
  ![v264.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .smem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .smem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .smem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "exit" => some ⊥
  | "mask" => some ⊥
  | _ => none
-- ==== ReferenceIdeal.lean ====
abbrev S2x16384x1024 : Shape := ⟨3, ![2, 16384, 1024]⟩
abbrev S8x32768 : Shape := ⟨2, ![8, 32768]⟩
abbrev S2x4x32 : Shape := ⟨3, ![2, 4, 32]⟩
abbrev S128x1024 : Shape := ⟨2, ![128, 1024]⟩
abbrev S8x128 : Shape := ⟨2, ![8, 128]⟩
abbrev S4 : Shape := ⟨1, ![4]⟩
abbrev S2x16384x4x256 : Shape := ⟨4, ![2, 16384, 4, 256]⟩
abbrev S2x4x16384x256 : Shape := ⟨4, ![2, 4, 16384, 256]⟩
abbrev S16x1024 : Shape := ⟨2, ![16, 1024]⟩
abbrev S1x16x1024 : Shape := ⟨3, ![1, 16, 1024]⟩
abbrev S2x16x1024 : Shape := ⟨3, ![2, 16, 1024]⟩
abbrev S2x16400x1024 : Shape := ⟨3, ![2, 16400, 1024]⟩
abbrev S2x16400x4x256 : Shape := ⟨4, ![2, 16400, 4, 256]⟩
abbrev S2x4x16400x256 : Shape := ⟨4, ![2, 4, 16400, 256]⟩
abbrev S4x32768 : Shape := ⟨2, ![4, 32768]⟩
abbrev S4x2x16384 : Shape := ⟨3, ![4, 2, 16384]⟩
abbrev S2x4x16384 : Shape := ⟨3, ![2, 4, 16384]⟩
abbrev S4x16 : Shape := ⟨2, ![4, 16]⟩
abbrev S1x4x16 : Shape := ⟨3, ![1, 4, 16]⟩
abbrev S2x4x16 : Shape := ⟨3, ![2, 4, 16]⟩
abbrev S2x4x1 : Shape := ⟨3, ![2, 4, 1]⟩
abbrev S2x4x16400 : Shape := ⟨3, ![2, 4, 16400]⟩
abbrev S2x4x16384x16400 : Shape := ⟨4, ![2, 4, 16384, 16400]⟩
abbrev S2x4x16384x1 : Shape := ⟨4, ![2, 4, 16384, 1]⟩
abbrev S2x4x1x16400 : Shape := ⟨4, ![2, 4, 1, 16400]⟩
abbrev S16400 : Shape := ⟨1, ![16400]⟩
abbrev S1x16400 : Shape := ⟨2, ![1, 16400]⟩
abbrev S16384 : Shape := ⟨1, ![16384]⟩
abbrev S_ : Shape := ⟨0, ![]⟩
abbrev S16384x1 : Shape := ⟨2, ![16384, 1]⟩
abbrev S16384x16400 : Shape := ⟨2, ![16384, 16400]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S8x32768, .f32⟩
  | .hbm, ⟨4, _⟩ => ⟨S2x4x32, .f32⟩
  | .hbm, ⟨5, _⟩ => ⟨S128x1024, .bf16⟩
  | .hbm, ⟨6, _⟩ => ⟨S128x1024, .bf16⟩
  | .hbm, ⟨7, _⟩ => ⟨S8x128, .f32⟩
  | .hbm, ⟨8, _⟩ => ⟨S4, .f32⟩
  | .hbm, ⟨9, _⟩ => ⟨S2x16384x4x256, .bf16⟩
  | .hbm, ⟨10, _⟩ => ⟨S2x4x16384x256, .bf16⟩
  | .hbm, ⟨11, _⟩ => ⟨S2x4x16384x256, .f32⟩
  | .hbm, ⟨12, _⟩ => ⟨S16x1024, .bf16⟩
  | .hbm, ⟨13, _⟩ => ⟨S1x16x1024, .bf16⟩
  | .hbm, ⟨14, _⟩ => ⟨S2x16x1024, .bf16⟩
  | .hbm, ⟨15, _⟩ => ⟨S2x16400x1024, .bf16⟩
  | .hbm, ⟨16, _⟩ => ⟨S2x16400x4x256, .bf16⟩
  | .hbm, ⟨17, _⟩ => ⟨S2x4x16400x256, .bf16⟩
  | .hbm, ⟨18, _⟩ => ⟨S2x4x16400x256, .f32⟩
  | .hbm, ⟨19, _⟩ => ⟨S16x1024, .bf16⟩
  | .hbm, ⟨20, _⟩ => ⟨S1x16x1024, .bf16⟩
  | .hbm, ⟨21, _⟩ => ⟨S2x16x1024, .bf16⟩
  | .hbm, ⟨22, _⟩ => ⟨S2x16400x1024, .bf16⟩
  | .hbm, ⟨23, _⟩ => ⟨S2x16400x4x256, .bf16⟩
  | .hbm, ⟨24, _⟩ => ⟨S2x4x16400x256, .bf16⟩
  | .hbm, ⟨25, _⟩ => ⟨S2x4x16400x256, .f32⟩
  | .hbm, ⟨26, _⟩ => ⟨S4x32768, .f32⟩
  | .hbm, ⟨27, _⟩ => ⟨S4x2x16384, .f32⟩
  | .hbm, ⟨28, _⟩ => ⟨S2x4x16384, .f32⟩
  | .hbm, ⟨29, _⟩ => ⟨S2x4x16384, .f32⟩
  | .hbm, ⟨30, _⟩ => ⟨S4x16, .f32⟩
  | .hbm, ⟨31, _⟩ => ⟨S1x4x16, .f32⟩
  | .hbm, ⟨32, _⟩ => ⟨S1x4x16, .f32⟩
  | .hbm, ⟨33, _⟩ => ⟨S2x4x16, .f32⟩
  | .hbm, ⟨34, _⟩ => ⟨S2x4x1, .f32⟩
  | .hbm, ⟨35, _⟩ => ⟨S2x4x16384, .f32⟩
  | .hbm, ⟨36, _⟩ => ⟨S2x4x16384, .f32⟩
  | .hbm, ⟨37, _⟩ => ⟨S2x4x16400, .f32⟩
  | .hbm, ⟨38, _⟩ => ⟨S2x4x16384x16400, .f32⟩
  | .hbm, ⟨39, _⟩ => ⟨S2x4x16384, .f32⟩
  | .hbm, ⟨40, _⟩ => ⟨S2x4x16384x1, .f32⟩
  | .hbm, ⟨41, _⟩ => ⟨S2x4x16384x16400, .f32⟩
  | .hbm, ⟨42, _⟩ => ⟨S2x4x16384x16400, .f32⟩
  | .hbm, ⟨43, _⟩ => ⟨S2x4x1x16400, .f32⟩
  | .hbm, ⟨44, _⟩ => ⟨S2x4x16384x16400, .f32⟩
  | .hbm, ⟨45, _⟩ => ⟨S2x4x16384x16400, .f32⟩
  | .hbm, ⟨46, _⟩ => ⟨S16400, .i32⟩
  | .hbm, ⟨47, _⟩ => ⟨S1x16400, .i32⟩
  | .hbm, ⟨48, _⟩ => ⟨S16384, .i32⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S16384x16400, .i32⟩
  | .hbm, ⟨54, _⟩ => ⟨S16384x16400, .i32⟩
  | .hbm, ⟨55, _⟩ => ⟨S16384x16400, .i1⟩
  | .hbm, ⟨56, _⟩ => ⟨S_, .f32⟩
  | .hbm, ⟨57, _⟩ => ⟨S_, .f32⟩
  | .hbm, ⟨58, _⟩ => ⟨S2x4x16384x16400, .i1⟩
  | .hbm, ⟨59, _⟩ => ⟨S2x4x16384x16400, .f32⟩
  | .hbm, ⟨60, _⟩ => ⟨S2x4x16384x16400, .f32⟩
  | .hbm, ⟨61, _⟩ => ⟨S_, .f32⟩
  | .hbm, ⟨62, _⟩ => ⟨S2x4x16384, .f32⟩
  | .hbm, ⟨63, _⟩ => ⟨S_, .f32⟩
  | .hbm, ⟨64, _⟩ => ⟨S2x4x16384, .f32⟩
  | .hbm, ⟨65, _⟩ => ⟨S2x4x16384, .f32⟩
  | .hbm, ⟨66, _⟩ => ⟨S2x4x16384x1, .f32⟩
  | .hbm, ⟨67, _⟩ => ⟨S2x4x16384x16400, .f32⟩
  | .hbm, ⟨68, _⟩ => ⟨S2x4x16384x16400, .f32⟩
  | .hbm, ⟨69, _⟩ => ⟨S2x4x16384x16400, .f32⟩
  | .hbm, ⟨70, _⟩ => ⟨S_, .f32⟩
  | .hbm, ⟨71, _⟩ => ⟨S2x4x16384, .f32⟩
  | .hbm, ⟨72, _⟩ => ⟨S2x4x16384x1, .f32⟩
  | .hbm, ⟨73, _⟩ => ⟨S2x4x16384x16400, .f32⟩
  | .hbm, ⟨74, _⟩ => ⟨S2x4x16384x16400, .f32⟩
  | .hbm, ⟨75, _⟩ => ⟨S2x4x16384x256, .f32⟩
  | .hbm, ⟨76, _⟩ => ⟨S2x16384x4x256, .f32⟩
  | .hbm, ⟨77, _⟩ => ⟨S2x16384x1024, .f32⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v46 : Ref sig .tc := ⟨.hbm, 60, rfl⟩
abbrev main_cst_0 : Ref sig .tc := ⟨.hbm, 61, rfl⟩
abbrev main_v47 : Ref sig .tc := ⟨.hbm, 62, rfl⟩
abbrev main_cst_1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_2 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel2.lean ====
abbrev S2x16384x2048 : Shape := ⟨3, ![2, 16384, 2048]⟩
abbrev S16x5632 : Shape := ⟨2, ![16, 5632]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S8x5632 : Shape := ⟨2, ![8, 5632]⟩
abbrev S3x5632 : Shape := ⟨2, ![3, 5632]⟩
abbrev S5632 : Shape := ⟨1, ![5632]⟩
abbrev S1x512x2048 : Shape := ⟨3, ![1, 512, 2048]⟩
abbrev S2048x512 : Shape := ⟨2, ![2048, 512]⟩
abbrev S512x2048 : Shape := ⟨2, ![512, 2048]⟩
abbrev S3x512 : Shape := ⟨2, ![3, 512]⟩
abbrev S1x512 : Shape := ⟨2, ![1, 512]⟩
abbrev S8x512 : Shape := ⟨2, ![8, 512]⟩
abbrev S11x8x512 : Shape := ⟨3, ![11, 8, 512]⟩
abbrev S1x8x512 : Shape := ⟨3, ![1, 8, 512]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S2x16384x2048, .f32⟩
  | .hbm, ⟨1, _⟩ => ⟨S16x5632, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S1x2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8x5632, .f32⟩
  | .hbm, ⟨17, _⟩ => ⟨S3x5632, .f32⟩
  | .hbm, ⟨18, _⟩ => ⟨S5632, .f32⟩
  | .hbm, ⟨19, _⟩ => ⟨S1x5632, .f32⟩
  | .hbm, ⟨20, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S8x512, .f32⟩
  | .local _ .vmem, ⟨13, _⟩ => ⟨S8x512, .f32⟩
  | .local _ .vmem, ⟨14, _⟩ => ⟨S1x2048, .f32⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .bf16⟩
  | .local _ .vmem, ⟨19, _⟩ => ⟨S11x8x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 32, 11], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v82 : Index := Scalar.indexCast arg2
  let c0_35 : Index := 0#32
  let c0_36 : Index := 0#32
  ![v82.toNat, 0, 0]
def k0_off2 (i : grid0.Coords) : Fin 3 → Nat :=
  let arg2 : BitVec 32 := BitVec.ofNat 32 (i 2).val
  let v13 : Index := Scalar.indexCast arg2
  let c0_9 : Index := 0#32
  let c0_10 : Index := 0#32
  ![v13.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S2x16384x2048 : Shape := ⟨3, ![2, 16384, 2048]⟩
abbrev S16x5632 : Shape := ⟨2, ![16, 5632]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S1x2048 : Shape := ⟨2, ![1, 2048]⟩
abbrev S2048x11264 : Shape := ⟨2, ![2048, 11264]⟩
abbrev S2x16384x11264 : Shape := ⟨3, ![2, 16384, 11264]⟩
abbrev S2x16384x5632 : Shape := ⟨3, ![2, 16384, 5632]⟩
abbrev S1x16x5632 : Shape := ⟨3, ![1, 16, 5632]⟩
abbrev S2x16x5632 : Shape := ⟨3, ![2, 16, 5632]⟩
abbrev S2x16400x5632 : Shape := ⟨3, ![2, 16400, 5632]⟩
abbrev S2x16386x5632 : Shape := ⟨3, ![2, 16386, 5632]⟩
abbrev S1x1x5632 : Shape := ⟨3, ![1, 1, 5632]⟩
abbrev S5632 : Shape := ⟨1, ![5632]⟩
abbrev S_ : Shape := ⟨0, ![]⟩
abbrev S5632x2048 : Shape := ⟨2, ![5632, 2048]⟩
abbrev S2x16384 : Shape := ⟨2, ![2, 16384]⟩
abbrev S2x16384x1 : Shape := ⟨3, ![2, 16384, 1]⟩
abbrev S2048 : Shape := ⟨1, ![2048]⟩
abbrev S1x1x2048 : Shape := ⟨3, ![1, 1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S16x5632, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S1x2048, .f32⟩
  | .hbm, ⟨7, _⟩ => ⟨S1x2048, .f32⟩
  | .hbm, ⟨8, _⟩ => ⟨S2048x11264, .f32⟩
  | .hbm, ⟨9, _⟩ => ⟨S2x16384x11264, .f32⟩
  | .hbm, ⟨10, _⟩ => ⟨S2x16384x5632, .f32⟩
  | .hbm, ⟨11, _⟩ => ⟨S1x16x5632, .f32⟩
  | .hbm, ⟨12, _⟩ => ⟨S2x16x5632, .f32⟩
  | .hbm, ⟨13, _⟩ => ⟨S2x16384x5632, .f32⟩
  | .hbm, ⟨14, _⟩ => ⟨S2x16400x5632, .f32⟩
  | .hbm, ⟨15, _⟩ => ⟨S2x16386x5632, .f32⟩
  | .hbm, ⟨16, _⟩ => ⟨S1x1x5632, .f32⟩
  | .hbm, ⟨17, _⟩ => ⟨S5632, .f32⟩
  | .hbm, ⟨18, _⟩ => ⟨S2x16384x5632, .f32⟩
  | .hbm, ⟨19, _⟩ => ⟨S1x1x5632, .f32⟩
  | .hbm, ⟨20, _⟩ => ⟨S2x16384x5632, .f32⟩
  | .hbm, ⟨21, _⟩ => ⟨S2x16384x5632, .f32⟩
  | .hbm, ⟨22, _⟩ => ⟨S1x1x5632, .f32⟩
  | .hbm, ⟨23, _⟩ => ⟨S5632, .f32⟩
  | .hbm, ⟨24, _⟩ => ⟨S2x16384x5632, .f32⟩
  | .hbm, ⟨25, _⟩ => ⟨S1x1x5632, .f32⟩
  | .hbm, ⟨26, _⟩ => ⟨S2x16384x5632, .f32⟩
  | .hbm, ⟨27, _⟩ => ⟨S2x16384x5632, .f32⟩
  | .hbm, ⟨28, _⟩ => ⟨S2x16384x5632, .f32⟩
  | .hbm, ⟨29, _⟩ => ⟨S1x1x5632, .f32⟩
  | .hbm, ⟨30, _⟩ => ⟨S5632, .f32⟩
  | .hbm, ⟨31, _⟩ => ⟨S2x16384x5632, .f32⟩
  | .hbm, ⟨32, _⟩ => ⟨S1x1x5632, .f32⟩
  | .hbm, ⟨33, _⟩ => ⟨S2x16384x5632, .f32⟩
  | .hbm, ⟨34, _⟩ => ⟨S2x16384x5632, .f32⟩
  | .hbm, ⟨35, _⟩ => ⟨S2x16384x5632, .f32⟩
  | .hbm, ⟨36, _⟩ => ⟨S5632, .f32⟩
  | .hbm, ⟨37, _⟩ => ⟨S1x1x5632, .f32⟩
  | .hbm, ⟨38, _⟩ => ⟨S2x16384x5632, .f32⟩
  | .hbm, ⟨39, _⟩ => ⟨S2x16384x5632, .f32⟩
  | .hbm, ⟨40, _⟩ => ⟨S2x16384x5632, .f32⟩
  | .hbm, ⟨41, _⟩ => ⟨S2x16384x5632, .f32⟩
  | .hbm, ⟨42, _⟩ => ⟨S_, .f32⟩
  | .hbm, ⟨43, _⟩ => ⟨S2x16384x5632, .f32⟩
  | .hbm, ⟨44, _⟩ => ⟨S2x16384x5632, .f32⟩
  | .hbm, ⟨45, _⟩ => ⟨S_, .f32⟩
  | .hbm, ⟨46, _⟩ => ⟨S2x16384x5632, .f32⟩
  | .hbm, ⟨47, _⟩ => ⟨S2x16384x5632, .f32⟩
  | .hbm, ⟨48, _⟩ => ⟨S2x16384x5632, .f32⟩
  | .hbm, ⟨49, _⟩ => ⟨S2x16384x5632, .f32⟩
  | .hbm, ⟨50, _⟩ => ⟨S5632x2048, .f32⟩
  | .hbm, ⟨51, _⟩ => ⟨S2x16384x2048, .f32⟩
  | .hbm, ⟨52, _⟩ => ⟨S_, .f32⟩
  | .hbm, ⟨53, _⟩ => ⟨S2x16384x2048, .f32⟩
  | .hbm, ⟨54, _⟩ => ⟨S2x16384x2048, .f32⟩
  | .hbm, ⟨55, _⟩ => ⟨S2x16384x2048, .f32⟩
  | .hbm, ⟨56, _⟩ => ⟨S_, .f32⟩
  | .hbm, ⟨57, _⟩ => ⟨S2x16384, .f32⟩
  | .hbm, ⟨58, _⟩ => ⟨S2x16384x1, .f32⟩
  | .hbm, ⟨59, _⟩ => ⟨S_, .f32⟩
  | .hbm, ⟨60, _⟩ => ⟨S2x16384x1, .f32⟩
  | .hbm, ⟨61, _⟩ => ⟨S2x16384x1, .f32⟩
  | .hbm, ⟨62, _⟩ => ⟨S2x16384x2048, .f32⟩
  | .hbm, ⟨63, _⟩ => ⟨S2x16384x2048, .f32⟩
  | .hbm, ⟨64, _⟩ => ⟨S2x16384x2048, .f32⟩
  | .hbm, ⟨65, _⟩ => ⟨S_, .f32⟩
  | .hbm, ⟨66, _⟩ => ⟨S2x16384, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x2048, .f32⟩
  | .hbm, ⟨72, _⟩ => ⟨S2x16384x2048, .f32⟩
  | .hbm, ⟨73, _⟩ => ⟨S_, .f32⟩
  | .hbm, ⟨74, _⟩ => ⟨S2x16384x1, .f32⟩
  | .hbm, ⟨75, _⟩ => ⟨S2x16384x1, .f32⟩
  | .hbm, ⟨76, _⟩ => ⟨S2x16384x1, .f32⟩
  | .hbm, ⟨77, _⟩ => ⟨S2x16384x2048, .f32⟩
  | .hbm, ⟨78, _⟩ => ⟨S2x16384x2048, .f32⟩
  | .hbm, ⟨79, _⟩ => ⟨S2048, .f32⟩
  | .hbm, ⟨80, _⟩ => ⟨S1x1x2048, .f32⟩
  | .hbm, ⟨81, _⟩ => ⟨S2x16384x2048, .f32⟩
  | .hbm, ⟨82, _⟩ => ⟨S2x16384x2048, .f32⟩
  | .hbm, ⟨83, _⟩ => ⟨S2048, .f32⟩
  | .hbm, ⟨84, _⟩ => ⟨S1x1x2048, .f32⟩
  | .hbm, ⟨85, _⟩ => ⟨S2x16384x2048, .f32⟩
  | .hbm, ⟨86, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_4 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel3.lean ====
abbrev S16x2048 : Shape := ⟨2, ![16, 2048]⟩
abbrev S1x2048x11264 : Shape := ⟨3, ![1, 2048, 11264]⟩
abbrev S2048x11264 : Shape := ⟨2, ![2048, 11264]⟩
abbrev S16x5632 : Shape := ⟨2, ![16, 5632]⟩
abbrev S2048x512 : Shape := ⟨2, ![2048, 512]⟩
abbrev S16x512 : Shape := ⟨2, ![16, 512]⟩

abbrev nBuf : Space → Nat
  | .hbm => 5
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S1x2048x11264, .f32⟩
  | .hbm, ⟨2, _⟩ => ⟨S2048x11264, .f32⟩
  | .hbm, ⟨3, _⟩ => ⟨S2048x11264, .bf16⟩
  | .hbm, ⟨4, _⟩ => ⟨S16x5632, .f32⟩
  | .local _ .vmem, ⟨0, _⟩ => ⟨S16x2048, .f32⟩
  | .local _ .vmem, ⟨1, _⟩ => ⟨S2048x512, .bf16⟩
  | .local _ .vmem, ⟨2, _⟩ => ⟨S2048x512, .bf16⟩
  | .local _ .vmem, ⟨3, _⟩ => ⟨S16x512, .f32⟩
  | .local _ .vmem, ⟨4, _⟩ => ⟨S16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S16x2048 : Shape := ⟨2, ![16, 2048]⟩
abbrev S1x2048x11264 : Shape := ⟨3, ![1, 2048, 11264]⟩
abbrev S2048x11264 : Shape := ⟨2, ![2048, 11264]⟩
abbrev S16x11264 : Shape := ⟨2, ![16, 11264]⟩
abbrev S16x5632 : Shape := ⟨2, ![16, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x11264, .f32⟩
  | .hbm, ⟨2, _⟩ => ⟨S2048x11264, .f32⟩
  | .hbm, ⟨3, _⟩ => ⟨S16x11264, .f32⟩
  | .hbm, ⟨4, _⟩ => ⟨S16x5632, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x2048 : Shape := ⟨3, ![2, 16384, 2048]⟩
abbrev S2048 : Shape := ⟨1, ![2048]⟩
abbrev S1x1024 : Shape := ⟨2, ![1, 1024]⟩
abbrev S1x2048x2048 : Shape := ⟨3, ![1, 2048, 2048]⟩
abbrev S1x2048 : Shape := ⟨2, ![1, 2048]⟩
abbrev S32768x1024 : Shape := ⟨2, ![32768, 1024]⟩
abbrev S32768x2048 : Shape := ⟨2, ![32768, 2048]⟩
abbrev S1024 : Shape := ⟨1, ![1024]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 26
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x2048, .f32⟩
  | .hbm, ⟨3, _⟩ => ⟨S2048, .f32⟩
  | .hbm, ⟨4, _⟩ => ⟨S2048, .f32⟩
  | .hbm, ⟨5, _⟩ => ⟨S1x1024, .f32⟩
  | .hbm, ⟨6, _⟩ => ⟨S1x1024, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S32768x1024, .f32⟩
  | .hbm, ⟨11, _⟩ => ⟨S32768x1024, .f32⟩
  | .hbm, ⟨12, _⟩ => ⟨S32768x2048, .f32⟩
  | .hbm, ⟨13, _⟩ => ⟨S1x2048, .f32⟩
  | .hbm, ⟨14, _⟩ => ⟨S1x2048, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2048x2048, .f32⟩
  | .hbm, ⟨20, _⟩ => ⟨S2048x2048, .bf16⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x1024, .f32⟩
  | .local _ .vmem, ⟨9, _⟩ => ⟨S1x1024, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S2x16384x1024 : Shape := ⟨3, ![2, 16384, 1024]⟩
abbrev S2x16384x2048 : Shape := ⟨3, ![2, 16384, 2048]⟩
abbrev S2048 : Shape := ⟨1, ![2048]⟩
abbrev S1x1024 : Shape := ⟨2, ![1, 1024]⟩
abbrev S1x2048x2048 : Shape := ⟨3, ![1, 2048, 2048]⟩
abbrev S1x2048 : Shape := ⟨2, ![1, 2048]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1x2048 : Shape := ⟨3, ![1, 1, 2048]⟩
abbrev S2048x2048 : Shape := ⟨2, ![2048, 2048]⟩
abbrev S32768x2048 : Shape := ⟨2, ![32768, 2048]⟩

abbrev nBuf : Space → Nat
  | .hbm => 112
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x2048, .f32⟩
  | .hbm, ⟨3, _⟩ => ⟨S2048, .f32⟩
  | .hbm, ⟨4, _⟩ => ⟨S2048, .f32⟩
  | .hbm, ⟨5, _⟩ => ⟨S1x1024, .f32⟩
  | .hbm, ⟨6, _⟩ => ⟨S1x1024, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S1024, .f32⟩
  | .hbm, ⟨11, _⟩ => ⟨S2x16384x1024, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x1024, .f32⟩
  | .hbm, ⟨23, _⟩ => ⟨S2x16384x1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S1024, .f32⟩
  | .hbm, ⟨28, _⟩ => ⟨S2x16384x1024, .f32⟩
  | .hbm, ⟨29, _⟩ => ⟨S_, .f32⟩
  | .hbm, ⟨30, _⟩ => ⟨S2x16384, .f32⟩
  | .hbm, ⟨31, _⟩ => ⟨S2x16384x1, .f32⟩
  | .hbm, ⟨32, _⟩ => ⟨S_, .f32⟩
  | .hbm, ⟨33, _⟩ => ⟨S2x16384x1, .f32⟩
  | .hbm, ⟨34, _⟩ => ⟨S2x16384x1, .f32⟩
  | .hbm, ⟨35, _⟩ => ⟨S_, .f32⟩
  | .hbm, ⟨36, _⟩ => ⟨S2x16384x1, .f32⟩
  | .hbm, ⟨37, _⟩ => ⟨S2x16384x1, .f32⟩
  | .hbm, ⟨38, _⟩ => ⟨S2x16384x1, .f32⟩
  | .hbm, ⟨39, _⟩ => ⟨S2x16384x1024, .f32⟩
  | .hbm, ⟨40, _⟩ => ⟨S2x16384x1024, .f32⟩
  | .hbm, ⟨41, _⟩ => ⟨S1x1x1024, .f32⟩
  | .hbm, ⟨42, _⟩ => ⟨S2x16384x1024, .f32⟩
  | .hbm, ⟨43, _⟩ => ⟨S2x16384x1024, .f32⟩
  | .hbm, ⟨44, _⟩ => ⟨S2x16384x2048, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S_, .f32⟩
  | .hbm, ⟨55, _⟩ => ⟨S2x16384, .f32⟩
  | .hbm, ⟨56, _⟩ => ⟨S2x16384x1, .f32⟩
  | .hbm, ⟨57, _⟩ => ⟨S_, .f32⟩
  | .hbm, ⟨58, _⟩ => ⟨S2x16384x1, .f32⟩
  | .hbm, ⟨59, _⟩ => ⟨S2x16384x1, .f32⟩
  | .hbm, ⟨60, _⟩ => ⟨S2x16384x2048, .f32⟩
  | .hbm, ⟨61, _⟩ => ⟨S2x16384x2048, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S2x16384x1, .f32⟩
  | .hbm, ⟨66, _⟩ => ⟨S2x16384x2048, .f32⟩
  | .hbm, ⟨67, _⟩ => ⟨S2x16384x2048, .f32⟩
  | .hbm, ⟨68, _⟩ => ⟨S1x1x2048, .f32⟩
  | .hbm, ⟨69, _⟩ => ⟨S2x16384x2048, .f32⟩
  | .hbm, ⟨70, _⟩ => ⟨S2x16384x2048, .f32⟩
  | .hbm, ⟨71, _⟩ => ⟨S1x1x2048, .f32⟩
  | .hbm, ⟨72, _⟩ => ⟨S2x16384x2048, .f32⟩
  | .hbm, ⟨73, _⟩ => ⟨S2x16384x2048, .f32⟩
  | .hbm, ⟨74, _⟩ => ⟨S_, .f32⟩
  | .hbm, ⟨75, _⟩ => ⟨S2x16384x2048, .f32⟩
  | .hbm, ⟨76, _⟩ => ⟨S2x16384x2048, .f32⟩
  | .hbm, ⟨77, _⟩ => ⟨S2048x2048, .f32⟩
  | .hbm, ⟨78, _⟩ => ⟨S2x16384x2048, .f32⟩
  | .hbm, ⟨79, _⟩ => ⟨S2x16384x2048, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S2x16384, .f32⟩
  | .hbm, ⟨84, _⟩ => ⟨S2x16384x1, .f32⟩
  | .hbm, ⟨85, _⟩ => ⟨S_, .f32⟩
  | .hbm, ⟨86, _⟩ => ⟨S2x16384x1, .f32⟩
  | .hbm, ⟨87, _⟩ => ⟨S2x16384x1, .f32⟩
  | .hbm, ⟨88, _⟩ => ⟨S2x16384x2048, .f32⟩
  | .hbm, ⟨89, _⟩ => ⟨S2x16384x2048, .f32⟩
  | .hbm, ⟨90, _⟩ => ⟨S2x16384x2048, .f32⟩
  | .hbm, ⟨91, _⟩ => ⟨S_, .f32⟩
  | .hbm, ⟨92, _⟩ => ⟨S2x16384, .f32⟩
  | .hbm, ⟨93, _⟩ => ⟨S2x16384x1, .f32⟩
  | .hbm, ⟨94, _⟩ => ⟨S_, .f32⟩
  | .hbm, ⟨95, _⟩ => ⟨S2x16384x1, .f32⟩
  | .hbm, ⟨96, _⟩ => ⟨S2x16384x1, .f32⟩
  | .hbm, ⟨97, _⟩ => ⟨S2x16384x2048, .f32⟩
  | .hbm, ⟨98, _⟩ => ⟨S2x16384x2048, .f32⟩
  | .hbm, ⟨99, _⟩ => ⟨S_, .f32⟩
  | .hbm, ⟨100, _⟩ => ⟨S2x16384x1, .f32⟩
  | .hbm, ⟨101, _⟩ => ⟨S2x16384x1, .f32⟩
  | .hbm, ⟨102, _⟩ => ⟨S2x16384x1, .f32⟩
  | .hbm, ⟨103, _⟩ => ⟨S2x16384x2048, .f32⟩
  | .hbm, ⟨104, _⟩ => ⟨S2x16384x2048, .f32⟩
  | .hbm, ⟨105, _⟩ => ⟨S1x1x2048, .f32⟩
  | .hbm, ⟨106, _⟩ => ⟨S2x16384x2048, .f32⟩
  | .hbm, ⟨107, _⟩ => ⟨S2x16384x2048, .f32⟩
  | .hbm, ⟨108, _⟩ => ⟨S1x1x2048, .f32⟩
  | .hbm, ⟨109, _⟩ => ⟨S2x16384x2048, .f32⟩
  | .hbm, ⟨110, _⟩ => ⟨S2x16384x2048, .f32⟩
  | .hbm, ⟨111, _⟩ => ⟨S32768x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Kernel5.lean ====
abbrev S2x16384x2048 : Shape := ⟨3, ![2, 16384, 2048]⟩
abbrev S2048 : Shape := ⟨1, ![2048]⟩
abbrev S1x2048x6148 : Shape := ⟨3, ![1, 2048, 6148]⟩
abbrev S1x4 : Shape := ⟨2, ![1, 4]⟩
abbrev S2048x6148 : Shape := ⟨2, ![2048, 6148]⟩
abbrev S2048x3072 : Shape := ⟨2, ![2048, 3072]⟩
abbrev S2048x4 : Shape := ⟨2, ![2048, 4]⟩
abbrev S_ : Shape := ⟨0, ![]⟩
abbrev S2048x128 : Shape := ⟨2, ![2048, 128]⟩
abbrev S4 : Shape := ⟨1, ![4]⟩
abbrev S128 : Shape := ⟨1, ![128]⟩
abbrev S1x128 : Shape := ⟨2, ![1, 128]⟩
abbrev S32768x2048 : Shape := ⟨2, ![32768, 2048]⟩
abbrev S1x2048 : Shape := ⟨2, ![1, 2048]⟩
abbrev S512x512 : Shape := ⟨2, ![512, 512]⟩
abbrev S32768x1024 : Shape := ⟨2, ![32768, 1024]⟩
abbrev S8x32768 : Shape := ⟨2, ![8, 32768]⟩
abbrev S64x8x128 : Shape := ⟨3, ![64, 8, 128]⟩
abbrev S512x2048 : Shape := ⟨2, ![512, 2048]⟩
abbrev S512x1024 : Shape := ⟨2, ![512, 1024]⟩
abbrev S8x512 : Shape := ⟨2, ![8, 512]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩
abbrev S2048x1024 : Shape := ⟨2, ![2048, 1024]⟩
abbrev S512x256 : Shape := ⟨2, ![512, 256]⟩
abbrev S1 : Shape := ⟨1, ![1]⟩
abbrev S1x1 : Shape := ⟨2, ![1, 1]⟩
abbrev S4x128 : Shape := ⟨2, ![4, 128]⟩
abbrev S512x128 : Shape := ⟨2, ![512, 128]⟩
abbrev S128x512 : Shape := ⟨2, ![128, 512]⟩

abbrev nBuf : Space → Nat
  | .hbm => 40
  | .vmem => 26
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S1x2048x6148, .f32⟩
  | .hbm, ⟨4, _⟩ => ⟨S1x4, .f32⟩
  | .hbm, ⟨5, _⟩ => ⟨S2048x6148, .f32⟩
  | .hbm, ⟨6, _⟩ => ⟨S2048x6148, .bf16⟩
  | .hbm, ⟨7, _⟩ => ⟨S2048x3072, .bf16⟩
  | .hbm, ⟨8, _⟩ => ⟨S2048x3072, .bf16⟩
  | .hbm, ⟨9, _⟩ => ⟨S2048x4, .bf16⟩
  | .hbm, ⟨10, _⟩ => ⟨S_, .i32⟩
  | .hbm, ⟨11, _⟩ => ⟨S_, .bf16⟩
  | .hbm, ⟨12, _⟩ => ⟨S2048x128, .bf16⟩
  | .hbm, ⟨13, _⟩ => ⟨S4, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S32768x2048, .f32⟩
  | .hbm, ⟨19, _⟩ => ⟨S1x2048, .f32⟩
  | .hbm, ⟨20, _⟩ => ⟨S1x2048, .f32⟩
  | .hbm, ⟨21, _⟩ => ⟨S_, .bf16⟩
  | .hbm, ⟨22, _⟩ => ⟨S512x512, .bf16⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S_, .bf16⟩
  | .hbm, ⟨30, _⟩ => ⟨S512x512, .bf16⟩
  | .hbm, ⟨31, _⟩ => ⟨S512x512, .bf16⟩
  | .hbm, ⟨32, _⟩ => ⟨S32768x1024, .bf16⟩
  | .hbm, ⟨33, _⟩ => ⟨S32768x1024, .bf16⟩
  | .hbm, ⟨34, _⟩ => ⟨S32768x1024, .bf16⟩
  | .hbm, ⟨35, _⟩ => ⟨S32768x1024, .bf16⟩
  | .hbm, ⟨36, _⟩ => ⟨S32768x1024, .bf16⟩
  | .hbm, ⟨37, _⟩ => ⟨S32768x1024, .bf16⟩
  | .hbm, ⟨38, _⟩ => ⟨S8x32768, .f32⟩
  | .hbm, ⟨39, _⟩ => ⟨S64x8x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x3072, .bf16⟩
  | .local _ .vmem, ⟨5, _⟩ => ⟨S2048x3072, .bf16⟩
  | .local _ .vmem, ⟨6, _⟩ => ⟨S2048x128, .bf16⟩
  | .local _ .vmem, ⟨7, _⟩ => ⟨S1x128, .f32⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x512, .f32⟩
  | .local _ .vmem, ⟨22, _⟩ => ⟨S8x512, .f32⟩
  | .local _ .vmem, ⟨23, _⟩ => ⟨S1x8x128, .f32⟩
  | .local _ .vmem, ⟨24, _⟩ => ⟨S1x8x128, .f32⟩
  | .local _ .vmem, ⟨25, _⟩ => ⟨S8x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_call2_v0 : Ref sig .tc := ⟨.hbm, 23, rfl⟩
abbrev main_call2_c : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_cst : Ref sig .tc := ⟨.hbm, 29, rfl⟩
abbrev main_call2_v5 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev main_v14_5 : Ref sig .tc := ⟨.hbm, 37, rfl⟩
abbrev main_v14_6 : Ref sig .tc := ⟨.hbm, 38, rfl⟩
abbrev main_v14_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S2x16384x2048 : Shape := ⟨3, ![2, 16384, 2048]⟩
abbrev S2048 : Shape := ⟨1, ![2048]⟩
abbrev S1x2048x6148 : Shape := ⟨3, ![1, 2048, 6148]⟩
abbrev S1x4 : Shape := ⟨2, ![1, 4]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x6148 : Shape := ⟨2, ![2048, 6148]⟩
abbrev S2x16384x6148 : Shape := ⟨3, ![2, 16384, 6148]⟩
abbrev S2x16384x1024 : Shape := ⟨3, ![2, 16384, 1024]⟩
abbrev S2x16384x4 : Shape := ⟨3, ![2, 16384, 4]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S1x2048x6148, .f32⟩
  | .hbm, ⟨4, _⟩ => ⟨S1x4, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x2048, .f32⟩
  | .hbm, ⟨27, _⟩ => ⟨S2x16384x2048, .f32⟩
  | .hbm, ⟨28, _⟩ => ⟨S1x1x2048, .f32⟩
  | .hbm, ⟨29, _⟩ => ⟨S2x16384x2048, .f32⟩
  | .hbm, ⟨30, _⟩ => ⟨S2x16384x2048, .f32⟩
  | .hbm, ⟨31, _⟩ => ⟨S1x1x2048, .f32⟩
  | .hbm, ⟨32, _⟩ => ⟨S2x16384x2048, .f32⟩
  | .hbm, ⟨33, _⟩ => ⟨S2x16384x2048, .f32⟩
  | .hbm, ⟨34, _⟩ => ⟨S2048x6148, .f32⟩
  | .hbm, ⟨35, _⟩ => ⟨S2x16384x6148, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x4, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S_, .f32⟩
  | .hbm, ⟨44, _⟩ => ⟨S2x16384x1024, .f32⟩
  | .hbm, ⟨45, _⟩ => ⟨S2x16384x1024, .f32⟩
  | .hbm, ⟨46, _⟩ => ⟨S32768x1024, .f32⟩
  | .hbm, ⟨47, _⟩ => ⟨S32768x1024, .bf16⟩
  | .hbm, ⟨48, _⟩ => ⟨S32768x1024, .f32⟩
  | .hbm, ⟨49, _⟩ => ⟨S32768x1024, .bf16⟩
  | .hbm, ⟨50, _⟩ => ⟨S32768x1024, .f32⟩
  | .hbm, ⟨51, _⟩ => ⟨S32768x1024, .bf16⟩
  | .hbm, ⟨52, _⟩ => ⟨S_, .f32⟩
  | .hbm, ⟨53, _⟩ => ⟨S2x16384x1024, .f32⟩
  | .hbm, ⟨54, _⟩ => ⟨S2x16384x1024, .f32⟩
  | .hbm, ⟨55, _⟩ => ⟨S32768x1024, .f32⟩
  | .hbm, ⟨56, _⟩ => ⟨S32768x1024, .bf16⟩
  | .hbm, ⟨57, _⟩ => ⟨S32768x1024, .f32⟩
  | .hbm, ⟨58, _⟩ => ⟨S32768x1024, .bf16⟩
  | .hbm, ⟨59, _⟩ => ⟨S32768x1024, .f32⟩
  | .hbm, ⟨60, _⟩ => ⟨S32768x1024, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Proof.Fox.KitI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore

/-! The program up to its region, the blocks of its windows, and the frame read off a run. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, the host operations and then the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging buffer of input 0 holds its block at every point, when the body leaves it there. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 1 holds its block at every point, when the body leaves it there. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 2 holds its block at every point, when the body leaves it there. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 3 holds its block at every point, when the body leaves it there. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 4 holds its block at every point, when the body leaves it there. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 5 holds its block at every point, when the body leaves it there. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 6 holds its block at every point, when the body leaves it there. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 7 holds its block at every point, when the body leaves it there. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 8 holds its block at every point, when the body leaves it there. -/
theorem before0_8_of {c : Dev nD} (dat : Dat τ (Elt F) Unit ℕ (UR sig nD τ) ℕ (cfg0 (F := F)) c) (hA : dat.A 8 = V m c (Pipeline.arrRef spec0 8))
    (hafter : ∀ t, dat.after 8 t = iblk m c 8 t) (t : Fin (cfg0 (F := F)).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 9 holds its block at every point, when the body leaves it there. -/
theorem before0_9_of {c : Dev nD} (dat : Dat τ (Elt F) Unit ℕ (UR sig nD τ) ℕ (cfg0 (F := F)) c) (hA : dat.A 9 = V m c (Pipeline.arrRef spec0 9))
    (hafter : ∀ t, dat.after 9 t = iblk m c 9 t) (t : Fin (cfg0 (F := F)).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with the arrays as the proof data say: every argument is as launched. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (show ∀ w : Fin 11, Pipeline.arrRef spec0 w ≠ main_arg3 from by decide))).trans (V_main_arg3 m c),
      ((h c).2 main_arg4 (Pipeline.mem_restRefs_of main_arg4 (by decide) (show ∀ w : Fin 11, Pipeline.arrRef spec0 w ≠ main_arg4 from by decide))).trans (V_main_arg4 m c),
      ((h c).1 6).trans (((dats 0 c).arrAt_in 6 rfl _).trans ((hA c 6).trans (V_main_arg5 m c))),
      ((h c).1 7).trans (((dats 0 c).arrAt_in 7 rfl _).trans ((hA c 7).trans (V_main_arg6 m c))),
      ((h c).2 main_arg7 (Pipeline.mem_restRefs_of main_arg7 (by decide) (show ∀ w : Fin 11, Pipeline.arrRef spec0 w ≠ main_arg7 from by decide))).trans (V_main_arg7 m c),
      ((h c).1 9).trans (((dats 0 c).arrAt_in 9 rfl _).trans ((hA c 9).trans (V_main_arg8 m c)))⟩) h

end Cert.Proof.FoxKernelIdeal

end
-- ==== Proof.Fox.ModelI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore

/-! The attention body as a function: the state of one tile of 1024 query rows, and what a block of keys does to it. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ### Reading and stacking row groups -/

/-- The part of `x` under the rectangle `R`. -/
def rd {s : Shape} {e : EltTy} (x : Vec F s e) (R : Rect s) : Vec F R.shape e := fun j => x (R.toLoadRect.idx j)

theorem readAt_eq {κ' : Kind} {sp : Space} {s : Shape} {e : EltTy} {m : Memref sig κ' sp s e} (h : m.IsWhole) (x : Vec F s e) (R : Rect s) :
    View.readAt (Elt F) m.view R.toLoadRect (h.unread x) = rd x R := funext fun j => h.readAt_unread x _ j

/-- Four groups of 256 rows, one under the other. -/
def stk {d : ℕ} {e : EltTy} (w0 w1 w2 w3 : Vec F (⟨2, ![256, d]⟩ : Shape) e) : Vec F (⟨2, ![1024, d]⟩ : Shape) e := fun j =>
  if h0 : (j 0).val < 256 then w0 (ix2 ⟨(j 0).val, h0⟩ ⟨(j 1).val, idx2_lt1 j⟩)
  else if h1 : (j 0).val < 512 then w1 (ix2 ⟨(j 0).val - 256, by omega⟩ ⟨(j 1).val, idx2_lt1 j⟩)
  else if h2 : (j 0).val < 768 then w2 (ix2 ⟨(j 0).val - 512, by omega⟩ ⟨(j 1).val, idx2_lt1 j⟩)
  else w3 (ix2 ⟨(j 0).val - 768, by have := idx2_lt0 j; omega⟩ ⟨(j 1).val, idx2_lt1 j⟩)

theorem read_writes_stk {κ' : Kind} {sp : Space} {d : ℕ} {e : EltTy} (v : View sig κ' sp (⟨2, ![1024, d]⟩ : Shape) e)
    (f : v.ty.Contents (Elt F)) (h0 h1 h2 h3) (w0 w1 w2 w3 : Vec F (⟨2, ![256, d]⟩ : Shape) e) :
    v.read (Elt F) (v.writes (Elt F) f [⟨Rect.unit (s := ⟨2, ![1024, d]⟩) ![768, 0] (⟨2, ![256, d]⟩ : Shape).size h3, w3⟩,
      ⟨Rect.unit (s := ⟨2, ![1024, d]⟩) ![512, 0] (⟨2, ![256, d]⟩ : Shape).size h2, w2⟩,
      ⟨Rect.unit (s := ⟨2, ![1024, d]⟩) ![256, 0] (⟨2, ![256, d]⟩ : Shape).size h1, w1⟩,
      ⟨Rect.unit (s := ⟨2, ![1024, d]⟩) ![0, 0] (⟨2, ![256, d]⟩ : Shape).size h0, w0⟩]) = stk w0 w1 w2 w3 := by
  funext y
  have hy := idx2_lt0 y
  unfold stk
  split_ifs with c0 c1 c2
  · rw [View.read_writes_cons_rows_of_not_mem (o := 768) (W := 256) _ _ _ _ _ _ rfl rfl (by omega),
      View.read_writes_cons_rows_of_not_mem (o := 512) (W := 256) _ _ _ _ _ _ rfl rfl (by omega),
      View.read_writes_cons_rows_of_not_mem (o := 256) (W := 256) _ _ _ _ _ _ rfl rfl (by omega)]
    exact View.read_writes_cons_rows_of_mem (o := 0) _ _ _ _ _ _ (ix2 ⟨(y 0).val, c0⟩ ⟨(y 1).val, idx2_lt1 y⟩) rfl (by simp) rfl
  · rw [View.read_writes_cons_rows_of_not_mem (o := 768) (W := 256) _ _ _ _ _ _ rfl rfl (by omega),
      View.read_writes_cons_rows_of_not_mem (o := 512) (W := 256) _ _ _ _ _ _ rfl rfl (by omega)]
    exact View.read_writes_cons_rows_of_mem (o := 256) _ _ _ _ _ _ (ix2 ⟨(y 0).val - 256, by omega⟩ ⟨(y 1).val, idx2_lt1 y⟩) rfl
      (by show (y 0).val = 256 + ((y 0).val - 256); omega) rfl
  · rw [View.read_writes_cons_rows_of_not_mem (o := 768) (W := 256) _ _ _ _ _ _ rfl rfl (by omega)]
    exact View.read_writes_cons_rows_of_mem (o := 512) _ _ _ _ _ _ (ix2 ⟨(y 0).val - 512, by omega⟩ ⟨(y 1).val, idx2_lt1 y⟩) rfl
      (by show (y 0).val = 512 + ((y 0).val - 512); omega) rfl
  · exact View.read_writes_cons_rows_of_mem (o := 768) _ _ _ _ _ _ (ix2 ⟨(y 0).val - 768, by omega⟩ ⟨(y 1).val, idx2_lt1 y⟩) rfl
      (by show (y 0).val = 768 + ((y 0).val - 768); omega) rfl

/-- A whole load of a rank-2 buffer reads the buffer. -/
theorem readAt_whole2 {κ' : Kind} {sp : Space} {a b : ℕ} {e : EltTy} (v : View sig κ' sp (⟨2, ![a, b]⟩ : Shape) e)
    (f : v.ty.Contents (Elt F)) (h) :
    View.readAt (Elt F) v (Rect.unit (s := ⟨2, ![a, b]⟩) ![0, 0] (⟨2, ![a, b]⟩ : Shape).size h).toLoadRect f = v.read (Elt F) f := by
  funext j
  refine congrArg (v.read (Elt F) f) (funext fun d => Fin.ext ?_)
  match d with
  | ⟨0, _⟩ => show 0 + 1 * (j 0).val = _; rw [Nat.one_mul, Nat.zero_add]; rfl
  | ⟨1, _⟩ => show 0 + 1 * (j 1).val = _; rw [Nat.one_mul, Nat.zero_add]; rfl

theorem readCov_stk {κ' : Kind} {sp : Space} {d : ℕ} {e : EltTy} (v : View sig κ' sp (⟨2, ![1024, d]⟩ : Shape) e) (h0 h1 h2 h3 h)
    (w0 w1 w2 w3 : Vec F (⟨2, ![256, d]⟩ : Shape) e) :
    v.readCov (Val := Elt F) [⟨Rect.unit (s := ⟨2, ![1024, d]⟩) ![768, 0] (⟨2, ![256, d]⟩ : Shape).size h3, w3⟩,
      ⟨Rect.unit (s := ⟨2, ![1024, d]⟩) ![512, 0] (⟨2, ![256, d]⟩ : Shape).size h2, w2⟩,
      ⟨Rect.unit (s := ⟨2, ![1024, d]⟩) ![256, 0] (⟨2, ![256, d]⟩ : Shape).size h1, w1⟩,
      ⟨Rect.unit (s := ⟨2, ![1024, d]⟩) ![0, 0] (⟨2, ![256, d]⟩ : Shape).size h0, w0⟩]
      (Rect.unit (s := ⟨2, ![1024, d]⟩) ![0, 0] (⟨2, ![1024, d]⟩ : Shape).size h).toLoadRect = stk w0 w1 w2 w3 := by
  unfold View.readCov
  rw [readAt_whole2, read_writes_stk]

/-! ### Word facts -/

/-- The block a loop test at count `n` looks at: `n - 1`. -/
def wd (n : ℕ) : BitVec 32 := Scalar.subi (BitVec.ofNat 32 n) 1#32

theorem off8_inb (n : Fin 32) : ∀ a, k0_off8 (wd (n.val + 1)) a + S1x512x256.size a ≤ S1x16384x256.size a := by
  revert n; decide +kernel
theorem off9_inb (n : Fin 32) : ∀ a, k0_off9 (wd (n.val + 1)) a + S1x1x1x512.size a ≤ S1x1x32x512.size a := by
  revert n; decide +kernel
theorem dvd8 (n : Fin 32) : 512 ∣ (k0_mult2 (wd (n.val + 1))).toNat := by
  revert n; decide +kernel
theorem chk1 (n : Fin 32) (b : BitVec 1) : k0_chk1 (wd (n.val + 1)) b :=
  ⟨fun _ => dvd8 n, fun _ => off8_inb n, fun _ => off9_inb n, fun _ => dvd8 n, fun _ => off8_inb n, fun _ => off9_inb n⟩
theorem off12_inb' (a : Fin 2) (b : Fin 4) (n : Fin 32) : ∀ (d : Fin 1), (![(Scalar.indexCast (Scalar.addi (Scalar.muli (Scalar.addi (Scalar.muli
    (BitVec.ofNat 32 a.val) 4#32) (BitVec.ofNat 32 b.val)) 32#32) (Scalar.maxsi (Scalar.subi (wd (n.val + 1)) 1#32) 0#32)) : Index).toNat] : Fin 1 → ℕ) d
      + S1.size d ≤ S256.size d := by
  revert a b n; decide +kernel
theorem chk2 (i : grid0.Coords) (n : Fin 32) : k0_chk2 i (wd (n.val + 1)) := off12_inb' (i 0) (i 1) n
theorem wd_succ (n : Fin 32) : Scalar.subi (wd (n.val + 1)) 1#32 = wd n.val := by
  revert n; decide +kernel
theorem cond_cases (b : BitVec 1) : (k0_cond1 b = 1#1 ∧ ¬ k0_cond2 b = 1#1) ∨ (¬ k0_cond1 b = 1#1 ∧ k0_cond2 b = 1#1) := by
  revert b; decide

/-! ### One block of keys, for the four row groups -/

/-- Rows in registers: running maximum, sum and weighted sum. -/
abbrev St (F : FTy → Type) := Vec F S1024x1 .f32 × Vec F S1024x1 .f32 × Vec F S1024x256 .f32

/-- A group's scores against a block of 512 keys. -/
def sc512 (q : FVec F S256x256 .bf16) (kb : Vec F S1x512x256 .bf16) (nb : Vec F S1x1x1x512 .f32) : FVec F S256x512 .f32 :=
  k0_pay121 q (k0_pay96 kb) (k0_pay98 nb)

section Step
variable (q0 q1 q2 q3 : FVec F S256x256 .bf16) (kb vb : Vec F S1x512x256 .bf16) (nb : Vec F S1x1x1x512 .f32)

/-- A block with the maxima kept. -/
def fixS (s : St F) : St F := (s.1,
  stk (k0_pay4 q0 (k0_pay83 kb) (k0_pay85 nb) (rd s.1 (Rect.unit ![0, 0] S256x1.size inb_S1024x1_S256x1_0_0)) (rd s.2.1 (Rect.unit ![0, 0] S256x1.size inb_S1024x1_S256x1_0_0)))
    (k0_pay4 q1 (k0_pay83 kb) (k0_pay85 nb) (rd s.1 (Rect.unit ![256, 0] S256x1.size inb_S1024x1_S256x1_256_0)) (rd s.2.1 (Rect.unit ![256, 0] S256x1.size inb_S1024x1_S256x1_256_0)))
    (k0_pay4 q2 (k0_pay83 kb) (k0_pay85 nb) (rd s.1 (Rect.unit ![512, 0] S256x1.size inb_S1024x1_S256x1_512_0)) (rd s.2.1 (Rect.unit ![512, 0] S256x1.size inb_S1024x1_S256x1_512_0)))
    (k0_pay4 q3 (k0_pay83 kb) (k0_pay85 nb) (rd s.1 (Rect.unit ![768, 0] S256x1.size inb_S1024x1_S256x1_768_0)) (rd s.2.1 (Rect.unit ![768, 0] S256x1.size inb_S1024x1_S256x1_768_0))),
  stk (k0_pay5 q0 (k0_pay83 kb) (k0_pay84 vb) (k0_pay85 nb) (rd s.1 (Rect.unit ![0, 0] S256x1.size inb_S1024x1_S256x1_0_0)) (rd s.2.2 (Rect.unit ![0, 0] S256x256.size inb_S1024x256_S256x256_0_0)))
    (k0_pay5 q1 (k0_pay83 kb) (k0_pay84 vb) (k0_pay85 nb) (rd s.1 (Rect.unit ![256, 0] S256x1.size inb_S1024x1_S256x1_256_0)) (rd s.2.2 (Rect.unit ![256, 0] S256x256.size inb_S1024x256_S256x256_256_0)))
    (k0_pay5 q2 (k0_pay83 kb) (k0_pay84 vb) (k0_pay85 nb) (rd s.1 (Rect.unit ![512, 0] S256x1.size inb_S1024x1_S256x1_512_0)) (rd s.2.2 (Rect.unit ![512, 0] S256x256.size inb_S1024x256_S256x256_512_0)))
    (k0_pay5 q3 (k0_pay83 kb) (k0_pay84 vb) (k0_pay85 nb) (rd s.1 (Rect.unit ![768, 0] S256x1.size inb_S1024x1_S256x1_768_0)) (rd s.2.2 (Rect.unit ![768, 0] S256x256.size inb_S1024x256_S256x256_768_0))))

/-- A block with the maxima raised. -/
def onlS (s : St F) : St F := (
  stk (k0_pay9 (sc512 q0 kb nb) (rd s.1 (Rect.unit ![0, 0] S256x1.size inb_S1024x1_S256x1_0_0)))
    (k0_pay9 (sc512 q1 kb nb) (rd s.1 (Rect.unit ![256, 0] S256x1.size inb_S1024x1_S256x1_256_0)))
    (k0_pay9 (sc512 q2 kb nb) (rd s.1 (Rect.unit ![512, 0] S256x1.size inb_S1024x1_S256x1_512_0)))
    (k0_pay9 (sc512 q3 kb nb) (rd s.1 (Rect.unit ![768, 0] S256x1.size inb_S1024x1_S256x1_768_0))),
  stk (k0_pay10 (sc512 q0 kb nb) (rd s.1 (Rect.unit ![0, 0] S256x1.size inb_S1024x1_S256x1_0_0)) (rd s.2.1 (Rect.unit ![0, 0] S256x1.size inb_S1024x1_S256x1_0_0)))
    (k0_pay10 (sc512 q1 kb nb) (rd s.1 (Rect.unit ![256, 0] S256x1.size inb_S1024x1_S256x1_256_0)) (rd s.2.1 (Rect.unit ![256, 0] S256x1.size inb_S1024x1_S256x1_256_0)))
    (k0_pay10 (sc512 q2 kb nb) (rd s.1 (Rect.unit ![512, 0] S256x1.size inb_S1024x1_S256x1_512_0)) (rd s.2.1 (Rect.unit ![512, 0] S256x1.size inb_S1024x1_S256x1_512_0)))
    (k0_pay10 (sc512 q3 kb nb) (rd s.1 (Rect.unit ![768, 0] S256x1.size inb_S1024x1_S256x1_768_0)) (rd s.2.1 (Rect.unit ![768, 0] S256x1.size inb_S1024x1_S256x1_768_0))),
  stk (k0_pay11 (k0_pay97 vb) (sc512 q0 kb nb) (rd s.1 (Rect.unit ![0, 0] S256x1.size inb_S1024x1_S256x1_0_0)) (rd s.2.2 (Rect.unit ![0, 0] S256x256.size inb_S1024x256_S256x256_0_0)))
    (k0_pay11 (k0_pay97 vb) (sc512 q1 kb nb) (rd s.1 (Rect.unit ![256, 0] S256x1.size inb_S1024x1_S256x1_256_0)) (rd s.2.2 (Rect.unit ![256, 0] S256x256.size inb_S1024x256_S256x256_256_0)))
    (k0_pay11 (k0_pay97 vb) (sc512 q2 kb nb) (rd s.1 (Rect.unit ![512, 0] S256x1.size inb_S1024x1_S256x1_512_0)) (rd s.2.2 (Rect.unit ![512, 0] S256x256.size inb_S1024x256_S256x256_512_0)))
    (k0_pay11 (k0_pay97 vb) (sc512 q3 kb nb) (rd s.1 (Rect.unit ![768, 0] S256x1.size inb_S1024x1_S256x1_768_0)) (rd s.2.2 (Rect.unit ![768, 0] S256x256.size inb_S1024x256_S256x256_768_0))))
end Step

/-! ### The loop over earlier blocks -/

section Loop
variable (i : grid0.Coords) (q0 q1 q2 q3 : FVec F S256x256 .bf16) (v49 : F .f32)
  (x4 x5 : Vec F S1x16384x256 .bf16) (x6 : Vec F S1x1x32x512 .f32) (x7 x8 : Vec F S256 .f32)

def kAt (x : Vec F S1x16384x256 .bf16) (n : Fin 32) : Vec F S1x512x256 .bf16 := rd x (Rect.unit (k0_off8 (wd (n.val + 1))) S1x512x256.size (off8_inb n))
def nAt (x : Vec F S1x1x32x512 .f32) (n : Fin 32) : Vec F S1x1x1x512 .f32 := rd x (Rect.unit (k0_off9 (wd (n.val + 1))) S1x1x1x512.size (off9_inb n))
def wAt (x : Vec F S256 .f32) (n : Fin 32) : F .f32 :=
  rd x (Rect.unit (k0_off12 i (wd (n.val + 1))) S1.size (chk2 i n)) (Shape.Idx.first (numel1_S1.symm ▸ Nat.one_pos))

/-- The loop's flag before block `n - 1`. -/
def flg (n : ℕ) (gap : F .f32) : BitVec 32 :=
  Scalar.extui (Scalar.andi (Scalar.cmpi .sge (wd n) 0#32) (Scalar.cmpf .oge gap (Named.named κ "exit" 0xC2DC0000#32)))

/-- The gap after block `n`. -/
def gapS (n : Fin 32) (s : St F) : F .f32 := k0_pay12 v49 (wAt i x7 n) (wAt i x8 n) s.1

/-- The state after block `n`. -/
def stepS (n : Fin 32) (gap : F .f32) (s : St F) : St F :=
  if k0_cond1 (Scalar.cmpf .ole gap (Scalar.ofBits (F := F) .f32 0x42200000#32)) = 1#1
  then fixS q0 q1 q2 q3 (kAt x4 n) (kAt x5 n) (nAt x6 n) s else onlS q0 q1 q2 q3 (kAt x4 n) (kAt x5 n) (nAt x6 n) s

/-- The blocks `n - 1, …, 0`, in this order, while the flag lets the loop run. -/
def loopS : (n : ℕ) → n ≤ 32 → F .f32 → St F → St F
  | 0, _, _, s => s
  | n + 1, h, gap, s =>
    if Scalar.cmpi .ne (flg (n + 1) gap) 0#32 = 1#1 then
      loopS n (by omega) (gapS i v49 x7 x8 ⟨n, h⟩ (stepS q0 q1 q2 q3 x4 x5 x6 ⟨n, h⟩ gap s)) (stepS q0 q1 q2 q3 x4 x5 x6 ⟨n, h⟩ gap s)
    else s

theorem flg_zero (gap : F .f32) : ¬ Scalar.cmpi .ne (flg 0 gap) 0#32 = 1#1 := by
  have h : Scalar.cmpi .sge (wd 0) 0#32 = 0#1 := by decide
  unfold flg; rw [h]
  generalize Scalar.cmpf .oge gap (Named.named κ "exit" 0xC2DC0000#32) = b
  revert b; decide

end Loop

end Cert.Proof.FoxKernelIdeal

end
-- ==== Proof.Fox.TileI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore
public import proofs.«01_k».proof.Proof.Fox.ModelI

/-! One tile of the attention as a function of its input blocks. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ### One tile: the diagonal blocks, the earlier blocks, the prefix -/

section Tile
variable (i : grid0.Coords) (x3 : Vec F S1x1024x256 .bf16) (x4 : Vec F S1x16384x256 .bf16) (x5 : Vec F S1x16384x256 .bf16) (x6 : Vec F S1x1x32x512 .f32) (x7 : Vec F S256 .f32) (x8 : Vec F S256 .f32) (x9 : Vec F S128x256 .bf16) (x10 : Vec F S128x256 .bf16) (x11 : Vec F S8x128 .f32) (x12 : Vec F S4 .f32)

/-- Row group 0 of the tile's queries. -/
def qG0 : FVec F S256x256 .bf16 := k0_pay39 (rd x3 (Rect.unit (s := S1x1024x256) ![0, 0, 0] S1x256x256.size inb_S1x1024x256_S1x256x256_0_0_0))
/-- Row group 1 of the tile's queries. -/
def qG1 : FVec F S256x256 .bf16 := k0_pay40 (rd x3 (Rect.unit (s := S1x1024x256) ![0, 256, 0] S1x256x256.size inb_S1x1024x256_S1x256x256_0_256_0))
/-- Row group 2 of the tile's queries. -/
def qG2 : FVec F S256x256 .bf16 := k0_pay41 (rd x3 (Rect.unit (s := S1x1024x256) ![0, 512, 0] S1x256x256.size inb_S1x1024x256_S1x256x256_0_512_0))
/-- Row group 3 of the tile's queries. -/
def qG3 : FVec F S256x256 .bf16 := k0_pay42 (rd x3 (Rect.unit (s := S1x1024x256) ![0, 768, 0] S1x256x256.size inb_S1x1024x256_S1x256x256_0_768_0))

/-- The largest norm of a query row of the tile. -/
def qN : F .f32 := k0_pay46 (qG3 x3) (k0_pay43 (rd x3 (Rect.unit (s := S1x1024x256) ![0, 0, 0] S1x256x256.size inb_S1x1024x256_S1x256x256_0_0_0)))
  (k0_pay44 (rd x3 (Rect.unit (s := S1x1024x256) ![0, 256, 0] S1x256x256.size inb_S1x1024x256_S1x256x256_0_256_0)))
  (k0_pay45 (rd x3 (Rect.unit (s := S1x1024x256) ![0, 512, 0] S1x256x256.size inb_S1x1024x256_S1x256x256_0_512_0)))

def dK1 : Vec F S1x256x256 .bf16 := rd x4 (Rect.unit (s := S1x16384x256) (k0_off1 i) S1x256x256.size (k0_off1_inb i))
def dK2 : Vec F S1x512x256 .bf16 := rd x4 (Rect.unit (s := S1x16384x256) (k0_off3 i) S1x512x256.size (k0_off3_inb i))
def dK3 : Vec F S1x768x256 .bf16 := rd x4 (Rect.unit (s := S1x16384x256) (k0_off5 i) S1x768x256.size (k0_off5_inb i))
def dK4 : Vec F S1x1024x256 .bf16 := rd x4 (Rect.unit (s := S1x16384x256) (k0_off6 i) S1x1024x256.size (k0_off6_inb i))
def dA0 : Vec F S1x1x1x256 .f32 := rd x6 (Rect.unit (s := S1x1x32x512) (k0_off2 i 0#32) S1x1x1x256.size (k0_off2_inb i 0))
def dA1 : Vec F S1x1x1x256 .f32 := rd x6 (Rect.unit (s := S1x1x32x512) (k0_off2 i 1#32) S1x1x1x256.size (k0_off2_inb i 1))
def dB0 : Vec F S1x1x1x512 .f32 := rd x6 (Rect.unit (s := S1x1x32x512) (k0_off4 i 0#32) S1x1x1x512.size (k0_off4_inb i 0))
def dB1 : Vec F S1x1x1x512 .f32 := rd x6 (Rect.unit (s := S1x1x32x512) (k0_off4 i 1#32) S1x1x1x512.size (k0_off4_inb i 1))

/-- The state after the tile's own keys. -/
def dgS : St F := (
  stk (k0_pay51 (k0_pay49 (qG0 x3) (dK1 i x4) (dA0 i x6))) (k0_pay58 (k0_pay56 (qG1 x3) (dK2 i x4) (dB0 i x6)))
    (k0_pay66 (k0_pay61 (qG2 x3) (dK3 i x4) (dB0 i x6) (dA1 i x6)) k0_pay62)
    (k0_pay74 (iota .tc S256x1024 32 [0] iota_S256x1024_d0_w32) (iota .tc S256x1024 32 [1] iota_S256x1024_d1_w32) (k0_pay69 (qG3 x3) (dK4 i x4)) (k0_pay70 (dB0 i x6)) (dB1 i x6)),
  stk (k0_pay52 (k0_pay50 (qG0 x3) (dK1 i x4) (dA0 i x6))) (k0_pay59 (k0_pay57 (qG1 x3) (dK2 i x4) (dB0 i x6)))
    (k0_pay67 (k0_pay61 (qG2 x3) (dK3 i x4) (dB0 i x6) (dA1 i x6)) k0_pay62)
    (k0_pay75 (iota .tc S256x1024 32 [0] iota_S256x1024_d0_w32) (iota .tc S256x1024 32 [1] iota_S256x1024_d1_w32) (k0_pay69 (qG3 x3) (dK4 i x4)) (k0_pay70 (dB0 i x6)) (dB1 i x6)),
  stk (k0_pay53 (k0_pay48 (dK1 i x5)) (k0_pay50 (qG0 x3) (dK1 i x4) (dA0 i x6))) (k0_pay60 (k0_pay55 (dK2 i x5)) (k0_pay57 (qG1 x3) (dK2 i x4) (dB0 i x6)))
    (k0_pay68 (k0_pay61 (qG2 x3) (dK3 i x4) (dB0 i x6) (dA1 i x6)) k0_pay62 (dK3 i x5))
    (k0_pay76 (iota .tc S256x1024 32 [0] iota_S256x1024_d0_w32) (iota .tc S256x1024 32 [1] iota_S256x1024_d1_w32) (k0_pay69 (qG3 x3) (dK4 i x4)) (k0_pay70 (dB0 i x6)) (dB1 i x6) (dK4 i x5)))

def w7 (x : Vec F S256 .f32) : F .f32 := rd x (Rect.unit (s := S256) (k0_off7 i) S1.size (k0_off7_inb i)) (Shape.Idx.first (numel1_S1.symm ▸ Nat.one_pos))
def w13 (x : Vec F S4 .f32) : F .f32 := rd x (Rect.unit (s := S4) (k0_off13 i) S1.size (k0_off13_inb i)) (Shape.Idx.first (numel1_S1.symm ▸ Nat.one_pos))

/-- The gap before the first earlier block. -/
def gap0 : F .f32 := k0_pay77 (qN x3) (w7 i x7) (w7 i x8) (dgS i x3 x4 x5 x6).1

theorem two_le : 2 * (i 2).val ≤ 32 := by have : (i 2).val < 16 := (i 2).isLt; omega

/-- The state after the earlier blocks. -/
def lpS : St F := loopS i (qG0 x3) (qG1 x3) (qG2 x3) (qG3 x3) (qN x3) x4 x5 x6 x7 x8 (2 * (i 2).val) (two_le i) (gap0 i x3 x4 x5 x6 x7 x8)
  (dgS i x3 x4 x5 x6)

def pB : Vec F S1x128 .f32 := rd x11 (Rect.unit (s := S8x128) (k0_off14 i) S1x128.size (k0_off14_inb i))

/-- The prefix of learned tokens added to a state. -/
def pfS (s : St F) : St F := (
  stk (k0_pay18 (qG0 x3) x9 (pB i x11) (rd s.1 (Rect.unit (s := S1024x1) ![0, 0] S256x1.size inb_S1024x1_S256x1_0_0)))
    (k0_pay25 (qG1 x3) x9 (k0_pay13 (pB i x11)) (rd s.1 (Rect.unit (s := S1024x1) ![256, 0] S256x1.size inb_S1024x1_S256x1_256_0)))
    (k0_pay32 (k0_pay28 (qG2 x3) x9 (k0_pay13 (pB i x11))) (rd s.1 (Rect.unit (s := S1024x1) ![512, 0] S256x1.size inb_S1024x1_S256x1_512_0)))
    (k0_pay79 (k0_pay36 (qG3 x3) x9 (k0_pay13 (pB i x11)) (rd s.1 (Rect.unit (s := S1024x1) ![768, 0] S256x1.size inb_S1024x1_S256x1_768_0)))),
  stk (k0_pay19 (qG0 x3) x9 (pB i x11) (rd s.1 (Rect.unit (s := S1024x1) ![0, 0] S256x1.size inb_S1024x1_S256x1_0_0)) (rd s.2.1 (Rect.unit (s := S1024x1) ![0, 0] S256x1.size inb_S1024x1_S256x1_0_0)))
    (k0_pay26 (qG1 x3) x9 (k0_pay13 (pB i x11)) (rd s.1 (Rect.unit (s := S1024x1) ![256, 0] S256x1.size inb_S1024x1_S256x1_256_0)) (rd s.2.1 (Rect.unit (s := S1024x1) ![256, 0] S256x1.size inb_S1024x1_S256x1_256_0)))
    (k0_pay33 (k0_pay28 (qG2 x3) x9 (k0_pay13 (pB i x11))) (rd s.1 (Rect.unit (s := S1024x1) ![512, 0] S256x1.size inb_S1024x1_S256x1_512_0)) (rd s.2.1 (Rect.unit (s := S1024x1) ![512, 0] S256x1.size inb_S1024x1_S256x1_512_0)))
    (k0_pay80 (k0_pay37 (qG3 x3) x9 (k0_pay13 (pB i x11)) (rd s.1 (Rect.unit (s := S1024x1) ![768, 0] S256x1.size inb_S1024x1_S256x1_768_0))) (k0_pay38 (qG3 x3) x9 (k0_pay13 (pB i x11)) (rd s.1 (Rect.unit (s := S1024x1) ![768, 0] S256x1.size inb_S1024x1_S256x1_768_0))) (rd s.2.1 (Rect.unit (s := S1024x1) ![768, 0] S256x1.size inb_S1024x1_S256x1_768_0))),
  stk (k0_pay20 (qG0 x3) x9 x10 (pB i x11) (rd s.1 (Rect.unit (s := S1024x1) ![0, 0] S256x1.size inb_S1024x1_S256x1_0_0)) (rd s.2.2 (Rect.unit (s := S1024x256) ![0, 0] S256x256.size inb_S1024x256_S256x256_0_0)))
    (k0_pay27 (qG1 x3) x9 x10 (k0_pay13 (pB i x11)) (rd s.1 (Rect.unit (s := S1024x1) ![256, 0] S256x1.size inb_S1024x1_S256x1_256_0)) (rd s.2.2 (Rect.unit (s := S1024x256) ![256, 0] S256x256.size inb_S1024x256_S256x256_256_0)))
    (k0_pay34 x10 (k0_pay28 (qG2 x3) x9 (k0_pay13 (pB i x11))) (rd s.1 (Rect.unit (s := S1024x1) ![512, 0] S256x1.size inb_S1024x1_S256x1_512_0)) (rd s.2.2 (Rect.unit (s := S1024x256) ![512, 0] S256x256.size inb_S1024x256_S256x256_512_0)))
    (k0_pay81 x10 (k0_pay37 (qG3 x3) x9 (k0_pay13 (pB i x11)) (rd s.1 (Rect.unit (s := S1024x1) ![768, 0] S256x1.size inb_S1024x1_S256x1_768_0))) (k0_pay38 (qG3 x3) x9 (k0_pay13 (pB i x11)) (rd s.1 (Rect.unit (s := S1024x1) ![768, 0] S256x1.size inb_S1024x1_S256x1_768_0))) (rd s.2.2 (Rect.unit (s := S1024x256) ![768, 0] S256x256.size inb_S1024x256_S256x256_768_0))))

/-- Whether the prefix can still matter. -/
def pfC (s : St F) : Prop := Scalar.cmpi .ne (Scalar.extui (Scalar.cmpf .oge (k0_pay78 (qN x3) (w13 i x12) s.1) (Named.named κ "exit" 0xC2DC0000#32)) : BitVec 32) 0#32 = 1#1

open Classical in
/-- The tile's final state. -/
def fnS : St F := if pfC i x3 x12 (lpS i x3 x4 x5 x6 x7 x8) then pfS i x3 x9 x10 x11 (lpS i x3 x4 x5 x6 x7 x8) else lpS i x3 x4 x5 x6 x7 x8

/-- The tile's output block. -/
def outF : Vec F S1x1024x256 .f32 := k0_pay1 (k0_pay82 (fnS i x3 x4 x5 x6 x7 x8 x9 x10 x11 x12).2.2 (fnS i x3 x4 x5 x6 x7 x8 x9 x10 x11 x12).2.1)
end Tile

theorem wd_first (a : Fin 16) : Scalar.subi (Scalar.muli (BitVec.ofNat 32 a.val) 2#32) 1#32 = wd (2 * a.val) := by
  revert a; decide +kernel

end Cert.Proof.FoxKernelIdeal

end
-- ==== Proof.Fox.WhileI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore
public import proofs.«01_k».proof.Proof.Fox.ModelI

/-! The loop over earlier key blocks of the attention body, met by the function of the model file. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.nat

section W
variable (c : Dev nD) (i : grid0.Coords)
  (arg4 : Memref sig .tc .vmem S1x16384x256 .bf16) (harg4 : arg4.IsWhole) (arg5 : Memref sig .tc .vmem S1x16384x256 .bf16) (harg5 : arg5.IsWhole)
  (arg6 : Memref sig .tc .vmem S1x1x32x512 .f32) (harg6 : arg6.IsWhole) (v4 : FVec F S256x256 .bf16)
  (arg14 : Memref sig .tc .vmem S1024x1 .f32) (harg14 : arg14.IsWhole) (arg15 : Memref sig .tc .vmem S1024x1 .f32) (harg15 : arg15.IsWhole)
  (arg16 : Memref sig .tc .vmem S1024x256 .f32) (harg16 : arg16.IsWhole) (v6 : FVec F S256x256 .bf16) (v8 : FVec F S256x256 .bf16) (v10 : FVec F S256x256 .bf16)
  (arg7 : Memref sig .tc .smem S256 .f32) (harg7 : arg7.IsWhole) (arg8 : Memref sig .tc .smem S256 .f32) (harg8 : arg8.IsWhole) (v49 : F .f32)
  (x4 x5 : Vec F S1x16384x256 .bf16) (x6 : Vec F S1x1x32x512 .f32) (x7 x8 : Vec F S256 .f32)

/-- The buffers the loop reads and writes: keys, values, biases and the two bounds at their contents, the three scratch
    buffers at the state. -/
def held (s : St F) : sProp 𝕄 :=
  iprop(owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8
    ∗ owns (c : Thread nD τ) arg14 fullShare s.1 ∗ owns (c : Thread nD τ) arg15 fullShare s.2.1 ∗ owns (c : Thread nD τ) arg16 fullShare s.2.2)

/-- The loop with `n` blocks before it, at the gap `gap` and the state `s`: it returns some counters and leaves the state `loopS`. -/
def spec (n : ℕ) (hn : n ≤ 32) (gap : F .f32) (s : St F) : sWPT 𝕄 (BitVec 32 × BitVec 32 × F .f32) := do
  sWPT.consume (held c arg4 arg5 arg6 arg14 arg15 arg16 arg7 arg8 x4 x5 x6 x7 x8 s)
  let r ← sWPT.arbitrary
  sWPT.produce (held c arg4 arg5 arg6 arg14 arg15 arg16 arg7 arg8 x4 x5 x6 x7 x8 (loopS i v4 v6 v8 v10 v49 x4 x5 x6 x7 x8 n hn gap s))
  pure r

theorem spec_apply (n : ℕ) (hn : n ≤ 32) (gap : F .f32) (s : St F) (K : BitVec 32 × BitVec 32 × F .f32 → sProp 𝕄) :
    spec c i arg4 arg5 arg6 v4 arg14 arg15 arg16 v6 v8 v10 arg7 arg8 v49 x4 x5 x6 x7 x8 n hn gap s K
      = iprop(held c arg4 arg5 arg6 arg14 arg15 arg16 arg7 arg8 x4 x5 x6 x7 x8 s
        ∗ ∀ r : BitVec 32 × BitVec 32 × F .f32, (held c arg4 arg5 arg6 arg14 arg15 arg16 arg7 arg8 x4 x5 x6 x7 x8
          (loopS i v4 v6 v8 v10 v49 x4 x5 x6 x7 x8 n hn gap s) -∗ K r)) := rfl

set_option maxHeartbeats 2000000 in
theorem spec_le (E : Set ℕ) : ∀ n (hn : n ≤ 32) (gap : F .f32) (s : St F) (K : _ → sProp 𝕄),
    spec c i arg4 arg5 arg6 v4 arg14 arg15 arg16 v6 v8 v10 arg7 arg8 v49 x4 x5 x6 x7 x8 n hn gap s K
      ⊢ wp frame (wpE (defs₀ (F := F)) 𝒱₀ (c : Thread nD τ) (some n)) E
          (defs₀ (F := F) .tc 1 ⟨i, arg4, harg4, arg5, harg5, arg6, harg6, v4, arg14, harg14, arg15, harg15, arg16, harg16, v6, v8, v10,
            arg7, harg7, arg8, harg8, v49, wd n, flg n gap, gap⟩) K := by
  intro n
  induction n with
  | zero =>
    intro hn gap s K
    rw [spec_apply]
    show _ ⊢ wp frame (wpE (defs₀ (F := F)) 𝒱₀ (c : Thread nD τ) (some 0)) E (cc0_while1 i arg4 harg4 arg5 harg5 arg6 harg6 v4 arg14 harg14
      arg15 harg15 arg16 harg16 v6 v8 v10 arg7 harg7 arg8 harg8 v49 (wd 0) (flg 0 gap) gap) K
    simp only [cc0_while1_eq_skeleton]; unfold cc0_while1_skel
    simp only [flg_zero, ↓reduceIte, Prog.pure_eq_ret]
    iintro ⟨H, Hk⟩
    rw [wp_ret]; imodintro
    iapply Hk
    iexact H
  | succ n ih =>
    intro hn gap s K
    rw [spec_apply]
    show _ ⊢ wp frame (wpE (defs₀ (F := F)) 𝒱₀ (c : Thread nD τ) (some (n + 1))) E (cc0_while1 i arg4 harg4 arg5 harg5 arg6 harg6 v4 arg14 harg14
      arg15 harg15 arg16 harg16 v6 v8 v10 arg7 harg7 arg8 harg8 v49 (wd (n + 1)) (flg (n + 1) gap) gap) K
    simp only [cc0_while1_eq_skeleton]; unfold cc0_while1_skel
    have ihc : ∀ (a : BitVec 32) (b : BitVec 32) (g : F .f32) {g' : F .f32} {s' : St F} (ha : a = wd n) (hb : b = flg n g') (hg : g = g'),
        spec c i arg4 arg5 arg6 v4 arg14 arg15 arg16 v6 v8 v10 arg7 arg8 v49 x4 x5 x6 x7 x8 n (Nat.le_of_succ_le hn) g' s'
        ≤ wp frame (wpE (defs₀ (F := F)) 𝒱₀ (c : Thread nD τ) (some n)) E
          (defs₀ (F := F) .tc 1 ⟨i, arg4, harg4, arg5, harg5, arg6, harg6, v4, arg14, harg14, arg15, harg15, arg16, harg16, v6, v8, v10,
            arg7, harg7, arg8, harg8, v49, a, b, g⟩) := by
      intro a b g g' s' ha hb hg
      subst ha; subst hb; subst hg
      exact fun K => ih _ _ _ K
    by_cases hne : Scalar.cmpi .ne (flg (n + 1) gap) 0#32 = 1#1
    · have hn' : n ≤ 32 := by omega
      have hk2 := chk2 i ⟨n, hn⟩
      have hk1 := chk1 ⟨n, hn⟩ (Scalar.cmpf .ole gap (Scalar.ofBits (F := F) .f32 0x42200000#32))
      dsimp only at hk2 hk1
      obtain ⟨M, L, A⟩ := s
      rcases cond_cases (Scalar.cmpf .ole gap (Scalar.ofBits (F := F) .f32 0x42200000#32)) with ⟨hf1, hf2⟩ | ⟨hf1, hf2⟩
      · have hst : stepS v4 v6 v8 v10 x4 x5 x6 ⟨n, hn⟩ gap (M, L, A)
            = fixS v4 v6 v8 v10 (kAt x4 ⟨n, hn⟩) (kAt x5 ⟨n, hn⟩) (nAt x6 ⟨n, hn⟩) (M, L, A) := by unfold stepS; rw [if_pos hf1]
        unfold held owns
        iintro ⟨⟨⟨%f4, %hf4, H4⟩, ⟨%f5, %hf5, H5⟩, ⟨%f6, %hf6, H6⟩, ⟨%f7, %hf7, H7⟩, ⟨%f8, %hf8, H8⟩, ⟨%f14, %hf14, H14⟩, ⟨%f15, %hf15, H15⟩, ⟨%f16, %hf16, H16⟩⟩, Hk⟩
        obtain rfl := harg4.eq_unread hf4; obtain rfl := harg5.eq_unread hf5; obtain rfl := harg6.eq_unread hf6
        obtain rfl := harg7.eq_unread hf7; obtain rfl := harg8.eq_unread hf8
        obtain rfl := harg14.eq_unread hf14; obtain rfl := harg15.eq_unread hf15; obtain rfl := harg16.eq_unread hf16
        sl_exec (disch := first | sl_exact hne | sl_exact hf1 | sl_exact hf2 | sl_exact hk1 | sl_exact hk2)
        iapply (wp_call_spec 𝒱₀ (c : Thread nD τ) (some (n + 1)) E (spec c i arg4 arg5 arg6 v4 arg14 arg15 arg16 v6 v8 v10 arg7 arg8 v49
          x4 x5 x6 x7 x8 n hn' (gapS i v49 x7 x8 ⟨n, hn⟩ (stepS v4 v6 v8 v10 x4 x5 x6 ⟨n, hn⟩ gap (M, L, A)))
            (stepS v4 v6 v8 v10 x4 x5 x6 ⟨n, hn⟩ gap (M, L, A))) n
          (fun u hu => by cases hu; exact Nat.lt_succ_self n) (ihc _ _ _ (by sl_unfold_words; exact wd_succ ⟨n, hn⟩)
            (by sl_unfold_run_names
                rw [readAt_eq harg7, readAt_eq harg8, readAt_whole2, harg14.read_unread, hst, wd_succ ⟨n, hn⟩]; rfl)
            (by sl_unfold_run_names
                rw [readAt_eq harg7, readAt_eq harg8, readAt_whole2, harg14.read_unread, hst]; rfl)))
        rw [spec_apply, hst]; unfold held owns
        isplitl [H4 H5 H6 H7 H8 H14 H15 H16]
        · isplitl [H4]; · iexists _; isplitr; swap; · iexact H4
                          ipureintro; exact harg4.read_unread _
          isplitl [H5]; · iexists _; isplitr; swap; · iexact H5
                          ipureintro; exact harg5.read_unread _
          isplitl [H6]; · iexists _; isplitr; swap; · iexact H6
                          ipureintro; exact harg6.read_unread _
          isplitl [H7]; · iexists _; isplitr; swap; · iexact H7
                          ipureintro; exact harg7.read_unread _
          isplitl [H8]; · iexists _; isplitr; swap; · iexact H8
                          ipureintro; exact harg8.read_unread _
          isplitl [H14]
          · iexists _; isplitr; swap; · iexact H14
            ipureintro; exact harg14.read_unread _
          isplitl [H15]
          · iexists _; isplitr; swap; · iexact H15
            ipureintro; sl_unfold_run_names
            rw [read_writes_stk]; simp only [readAt_eq harg4, readAt_eq harg5, readAt_eq harg6, readAt_eq harg14, readAt_eq harg15, readAt_eq harg16]
            rfl
          iexists _; isplitr; swap; · iexact H16
          ipureintro; sl_unfold_run_names
          rw [read_writes_stk]; simp only [readAt_eq harg4, readAt_eq harg5, readAt_eq harg6, readAt_eq harg14, readAt_eq harg15, readAt_eq harg16]
          rfl
        iintro %r H
        rw [wp_ret]; imodintro
        iapply Hk
        rw [show loopS i v4 v6 v8 v10 v49 x4 x5 x6 x7 x8 (n + 1) hn gap (M, L, A) = loopS i v4 v6 v8 v10 v49 x4 x5 x6 x7 x8 n hn'
          (gapS i v49 x7 x8 ⟨n, hn⟩ (stepS v4 v6 v8 v10 x4 x5 x6 ⟨n, hn⟩ gap (M, L, A))) (stepS v4 v6 v8 v10 x4 x5 x6 ⟨n, hn⟩ gap (M, L, A))
          from if_pos hne, hst]
        iexact H
      · have hst : stepS v4 v6 v8 v10 x4 x5 x6 ⟨n, hn⟩ gap (M, L, A)
            = onlS v4 v6 v8 v10 (kAt x4 ⟨n, hn⟩) (kAt x5 ⟨n, hn⟩) (nAt x6 ⟨n, hn⟩) (M, L, A) := by unfold stepS; rw [if_neg hf1]
        unfold held owns
        iintro ⟨⟨⟨%f4, %hf4, H4⟩, ⟨%f5, %hf5, H5⟩, ⟨%f6, %hf6, H6⟩, ⟨%f7, %hf7, H7⟩, ⟨%f8, %hf8, H8⟩, ⟨%f14, %hf14, H14⟩, ⟨%f15, %hf15, H15⟩, ⟨%f16, %hf16, H16⟩⟩, Hk⟩
        obtain rfl := harg4.eq_unread hf4; obtain rfl := harg5.eq_unread hf5; obtain rfl := harg6.eq_unread hf6
        obtain rfl := harg7.eq_unread hf7; obtain rfl := harg8.eq_unread hf8
        obtain rfl := harg14.eq_unread hf14; obtain rfl := harg15.eq_unread hf15; obtain rfl := harg16.eq_unread hf16
        sl_exec (disch := first | sl_exact hne | sl_exact hf1 | sl_exact hf2 | sl_exact hk1 | sl_exact hk2)
        iapply (wp_call_spec 𝒱₀ (c : Thread nD τ) (some (n + 1)) E (spec c i arg4 arg5 arg6 v4 arg14 arg15 arg16 v6 v8 v10 arg7 arg8 v49
          x4 x5 x6 x7 x8 n hn' (gapS i v49 x7 x8 ⟨n, hn⟩ (stepS v4 v6 v8 v10 x4 x5 x6 ⟨n, hn⟩ gap (M, L, A)))
            (stepS v4 v6 v8 v10 x4 x5 x6 ⟨n, hn⟩ gap (M, L, A))) n
          (fun u hu => by cases hu; exact Nat.lt_succ_self n) (ihc _ _ _ (by sl_unfold_words; exact wd_succ ⟨n, hn⟩)
            (by sl_unfold_run_names
                rw [readAt_eq harg7, readAt_eq harg8, readCov_stk, hst, wd_succ ⟨n, hn⟩]
                simp only [readAt_eq harg4, readAt_eq harg5, readAt_eq harg6, readAt_eq harg14, readAt_eq harg15, readAt_eq harg16]; rfl)
            (by sl_unfold_run_names
                rw [readAt_eq harg7, readAt_eq harg8, readCov_stk, hst]
                simp only [readAt_eq harg4, readAt_eq harg5, readAt_eq harg6, readAt_eq harg14, readAt_eq harg15, readAt_eq harg16]; rfl)))
        rw [spec_apply, hst]; unfold held owns
        isplitl [H4 H5 H6 H7 H8 H14 H15 H16]
        · isplitl [H4]; · iexists _; isplitr; swap; · iexact H4
                          ipureintro; exact harg4.read_unread _
          isplitl [H5]; · iexists _; isplitr; swap; · iexact H5
                          ipureintro; exact harg5.read_unread _
          isplitl [H6]; · iexists _; isplitr; swap; · iexact H6
                          ipureintro; exact harg6.read_unread _
          isplitl [H7]; · iexists _; isplitr; swap; · iexact H7
                          ipureintro; exact harg7.read_unread _
          isplitl [H8]; · iexists _; isplitr; swap; · iexact H8
                          ipureintro; exact harg8.read_unread _
          isplitl [H14]
          · iexists _; isplitr; swap; · iexact H14
            ipureintro; sl_unfold_run_names
            rw [read_writes_stk]; simp only [readAt_eq harg4, readAt_eq harg5, readAt_eq harg6, readAt_eq harg14, readAt_eq harg15, readAt_eq harg16]
            rfl
          isplitl [H15]
          · iexists _; isplitr; swap; · iexact H15
            ipureintro; sl_unfold_run_names
            rw [read_writes_stk]; simp only [readAt_eq harg4, readAt_eq harg5, readAt_eq harg6, readAt_eq harg14, readAt_eq harg15, readAt_eq harg16]
            rfl
          iexists _; isplitr; swap; · iexact H16
          ipureintro; sl_unfold_run_names
          rw [read_writes_stk]; simp only [readAt_eq harg4, readAt_eq harg5, readAt_eq harg6, readAt_eq harg14, readAt_eq harg15, readAt_eq harg16]
          rfl
        iintro %r H
        rw [wp_ret]; imodintro
        iapply Hk
        rw [show loopS i v4 v6 v8 v10 v49 x4 x5 x6 x7 x8 (n + 1) hn gap (M, L, A) = loopS i v4 v6 v8 v10 v49 x4 x5 x6 x7 x8 n hn'
          (gapS i v49 x7 x8 ⟨n, hn⟩ (stepS v4 v6 v8 v10 x4 x5 x6 ⟨n, hn⟩ gap (M, L, A))) (stepS v4 v6 v8 v10 x4 x5 x6 ⟨n, hn⟩ gap (M, L, A))
          from if_pos hne, hst]
        iexact H
    · have e : loopS i v4 v6 v8 v10 v49 x4 x5 x6 x7 x8 (n + 1) hn gap s = s := by unfold loopS; rw [if_neg hne]
      rw [e]
      simp only [hne, ↓reduceIte, Prog.pure_eq_ret]
      iintro ⟨H, Hk⟩
      rw [wp_ret]; imodintro
      iapply Hk
      iexact H
end W

end Cert.Proof.FoxKernelIdeal

end
-- ==== Proof.Fox.BodyI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore
public import proofs.«01_k».proof.Proof.Fox.ModelI
public import proofs.«01_k».proof.Proof.Fox.TileI
public import proofs.«01_k».proof.Proof.Fox.WhileI

/-! The body of the attention: from the blocks in place to the tile written. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-- A whole store into a rank-3 buffer leaves what was stored. -/
theorem read_writes_whole3 {κ' : Kind} {sp : Space} {a b d : ℕ} {e : EltTy} (v : View sig κ' sp (⟨3, ![a, b, d]⟩ : Shape) e)
    (f : v.ty.Contents (Elt F)) (h) (w : Vec F (⟨3, ![a, b, d]⟩ : Shape) e) :
    v.read (Elt F) (v.writes (Elt F) f [⟨Rect.unit (s := ⟨3, ![a, b, d]⟩) ![0, 0, 0] (⟨3, ![a, b, d]⟩ : Shape).size h, w⟩]) = w := by
  funext y
  refine View.read_writes_cons_unit_of_mem v f (off := ![0, 0, 0]) h w [] y y rfl fun d => ?_
  match d with
  | ⟨0, _⟩ => exact (Nat.zero_add _).symm
  | ⟨1, _⟩ => exact (Nat.zero_add _).symm
  | ⟨2, _⟩ => exact (Nat.zero_add _).symm

section W
variable (c : Dev nD) (i : grid0.Coords)
  (arg3 : Memref sig .tc .vmem S1x1024x256 .bf16) (harg3 : arg3.IsWhole) (arg4 : Memref sig .tc .vmem S1x16384x256 .bf16) (harg4 : arg4.IsWhole) (arg5 : Memref sig .tc .vmem S1x16384x256 .bf16) (harg5 : arg5.IsWhole)
  (arg6 : Memref sig .tc .vmem S1x1x32x512 .f32) (harg6 : arg6.IsWhole) (arg7 : Memref sig .tc .smem S256 .f32) (harg7 : arg7.IsWhole) (arg8 : Memref sig .tc .smem S256 .f32) (harg8 : arg8.IsWhole)
  (arg9 : Memref sig .tc .vmem S128x256 .bf16) (harg9 : arg9.IsWhole) (arg10 : Memref sig .tc .vmem S128x256 .bf16) (harg10 : arg10.IsWhole) (arg11 : Memref sig .tc .vmem S8x128 .f32) (harg11 : arg11.IsWhole)
  (arg12 : Memref sig .tc .smem S4 .f32) (harg12 : arg12.IsWhole) (arg13 : Memref sig .tc .vmem S1x1024x256 .f32) (harg13 : arg13.IsWhole)
  (arg14 : Memref sig .tc .vmem S1024x1 .f32) (harg14 : arg14.IsWhole) (arg15 : Memref sig .tc .vmem S1024x1 .f32) (harg15 : arg15.IsWhole)
  (arg16 : Memref sig .tc .vmem S1024x256 .f32) (harg16 : arg16.IsWhole)

set_option maxHeartbeats 2000000 in
theorem kernelRun (x3 : Vec F S1x1024x256 .bf16) (x4 : Vec F S1x16384x256 .bf16) (x5 : Vec F S1x16384x256 .bf16) (x6 : Vec F S1x1x32x512 .f32) (x7 : Vec F S256 .f32) (x8 : Vec F S256 .f32) (x9 : Vec F S128x256 .bf16) (x10 : Vec F S128x256 .bf16) (x11 : Vec F S8x128 .f32) (x12 : Vec F S4 .f32) (x13 : Vec F S1x1024x256 .f32) (x14 : Vec F S1024x1 .f32) (x15 : Vec F S1024x1 .f32) (x16 : Vec F S1024x256 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outF i x3 x4 x5 x6 x7 x8 x9 x10 x11 x12) ∗ (∃ y, owns (c : Thread nD τ) arg14 fullShare y)
      ∗ (∃ y, owns (c : Thread nD τ) arg15 fullShare y) ∗ (∃ y, owns (c : Thread nD τ) arg16 fullShare y)) -∗ K ⟨⟩))
  ⊢ wp frame (wpE (defs₀ (F := F)) 𝒱₀ (c : Thread nD τ) none) E (cc0_fox_attention i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attention_eq_skeleton]; unfold cc0_fox_attention_skel
  simp only [k0_part10_eq_skeleton]; unfold k0_part10_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec
  have sc : ∀ (a b : BitVec 32) (g v49 : F .f32) (u4 u6 u8 u10 : FVec F S256x256 .bf16) (h49 : v49 = qN x3) (h4 : u4 = qG0 x3) (h6 : u6 = qG1 x3)
      (h8 : u8 = qG2 x3) (h10 : u10 = qG3 x3)
      (ha : a = wd (2 * (i 2).val)) (hb : b = flg (2 * (i 2).val) (gap0 i x3 x4 x5 x6 x7 x8)) (hg : g = gap0 i x3 x4 x5 x6 x7 x8),
      spec c i arg4 arg5 arg6 (qG0 x3) arg14 arg15 arg16 (qG1 x3) (qG2 x3) (qG3 x3) arg7 arg8 (qN x3) x4 x5 x6 x7 x8 (2 * (i 2).val) (two_le i)
        (gap0 i x3 x4 x5 x6 x7 x8) (dgS i x3 x4 x5 x6)
      ≤ wp frame (wpE (defs₀ (F := F)) 𝒱₀ (c : Thread nD τ) (some (2 * (i 2).val))) E
        (defs₀ (F := F) .tc 1 ⟨i, arg4, harg4, arg5, harg5, arg6, harg6, u4, arg14, harg14, arg15, harg15, arg16, harg16, u6, u8, u10,
          arg7, harg7, arg8, harg8, v49, a, b, g⟩) := by
    intro a b g v49 u4 u6 u8 u10 h49 h4 h6 h8 h10 ha hb hg
    subst h49 h4 h6 h8 h10 ha hb hg
    exact fun K => spec_le c i arg4 harg4 arg5 harg5 arg6 harg6 _ arg14 harg14 arg15 harg15 arg16 harg16 _ _ _ arg7 harg7 arg8 harg8 _ x4 x5 x6 x7 x8 E _ _ _ _ K
  iapply (wp_call_spec 𝒱₀ (c : Thread nD τ) none E (spec c i arg4 arg5 arg6 (qG0 x3) arg14 arg15 arg16 (qG1 x3) (qG2 x3) (qG3 x3) arg7 arg8 (qN x3)
      x4 x5 x6 x7 x8 (2 * (i 2).val) (two_le i) (gap0 i x3 x4 x5 x6 x7 x8) (dgS i x3 x4 x5 x6)) (2 * (i 2).val) (fun u hu => nomatch hu)
    (sc _ _ _ _ _ _ _ _ (by sl_unfold_run_names; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl) (by sl_unfold_run_names; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl) (by sl_unfold_run_names; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl)
      (by sl_unfold_run_names; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl) (by sl_unfold_run_names; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl)
      (by sl_unfold_words; exact wd_first (i 2))
      (by sl_unfold_run_names
          rw [readCov_stk]
          simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8]
          unfold flg; rw [← wd_first (i 2)] <;> rfl)
      (by sl_unfold_run_names
          rw [readCov_stk]
          simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8]
          all_goals rfl)))
  rw [spec_apply]; unfold held owns
  isplitl [H4 H5 H6 H7 H8 H14 H15 H16]
  · isplitl [H4]; · iexists _; isplitr; swap; · iexact H4
                    ipureintro; exact harg4.read_unread _
    isplitl [H5]; · iexists _; isplitr; swap; · iexact H5
                    ipureintro; exact harg5.read_unread _
    isplitl [H6]; · iexists _; isplitr; swap; · iexact H6
                    ipureintro; exact harg6.read_unread _
    isplitl [H7]; · iexists _; isplitr; swap; · iexact H7
                    ipureintro; exact harg7.read_unread _
    isplitl [H8]; · iexists _; isplitr; swap; · iexact H8
                    ipureintro; exact harg8.read_unread _
    isplitl [H14]
    · iexists _; isplitr; swap; · iexact H14
      ipureintro; sl_unfold_run_names
      rw [read_writes_stk]; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl
    isplitl [H15]
    · iexists _; isplitr; swap; · iexact H15
      ipureintro; sl_unfold_run_names
      rw [read_writes_stk]; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl
    iexists _; isplitr; swap; · iexact H16
    ipureintro; sl_unfold_run_names
    rw [read_writes_stk]; simp only [dgS, gap0, qG0, qG1, qG2, qG3, qN, dK1, dK2, dK3, dK4, dA0, dA1, dB0, dB1, w7, ← readAt_eq harg3 x3, ← readAt_eq harg4 x4, ← readAt_eq harg5 x5, ← readAt_eq harg6 x6, ← readAt_eq harg7 x7, ← readAt_eq harg8 x8] <;> rfl
  iintro %r
  have hout : ∀ s, lpS i x3 x4 x5 x6 x7 x8 = s → (pfC i x3 x12 s → outF i x3 x4 x5 x6 x7 x8 x9 x10 x11 x12 = k0_pay1 (k0_pay82 (pfS i x3 x9 x10 x11 s).2.2 (pfS i x3 x9 x10 x11 s).2.1))
      ∧ (¬ pfC i x3 x12 s → outF i x3 x4 x5 x6 x7 x8 x9 x10 x11 x12 = k0_pay1 (k0_pay82 s.2.2 s.2.1)) := by
    intro s hs; subst hs
    exact ⟨fun h => by unfold outF fnS; rw [if_pos h], fun h => by unfold outF fnS; rw [if_neg h]⟩
  generalize hs : lpS i x3 x4 x5 x6 x7 x8 = s at hout
  unfold lpS at hs
  rw [hs]
  obtain ⟨M, L, A⟩ := s
  have hout := hout _ rfl
  iintro ⟨⟨%f4, %hf4, H4⟩, ⟨%f5, %hf5, H5⟩, ⟨%f6, %hf6, H6⟩, ⟨%f7, %hf7, H7⟩, ⟨%f8, %hf8, H8⟩, ⟨%f14, %hf14, H14⟩, ⟨%f15, %hf15, H15⟩, ⟨%f16, %hf16, H16⟩⟩
  obtain rfl := harg4.eq_unread hf4; obtain rfl := harg5.eq_unread hf5; obtain rfl := harg6.eq_unread hf6
  obtain rfl := harg7.eq_unread hf7; obtain rfl := harg8.eq_unread hf8
  obtain rfl := harg14.eq_unread hf14; obtain rfl := harg15.eq_unread hf15; obtain rfl := harg16.eq_unread hf16
  sl_exec
  rw [wp_ret]; imodintro
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro
    rw [read_writes_whole3]
    sl_unfold_run_names
    rw [readAt_whole2 arg16.view, readAt_whole2 arg15.view]
    have e14 := (readAt_whole2 arg14.view (harg14.unread M) inb_S1024x1_S1024x1_0_0).trans (harg14.read_unread M)
    split_ifs with hc
    · have hp : pfC i x3 x12 (M, L, A) := by
        unfold pfC
        dsimp only
        rw [← e14]
        simp only [qG0, qG1, qG2, qG3, qN, w13, ← readAt_eq harg3 x3, ← readAt_eq harg12 x12]
        exact hc
      rw [hout.1 hp, read_writes_stk, read_writes_stk]
      have e9 := (readAt_whole2 arg9.view (harg9.unread x9) inb_S128x256_S128x256_0_0).trans (harg9.read_unread x9)
      have e10 := (readAt_whole2 arg10.view (harg10.unread x10) inb_S128x256_S128x256_0_0).trans (harg10.read_unread x10)
      conv_rhs =>
        simp only [pfS, qG0, qG1, qG2, qG3, pB]
        rw [← e9, ← e10]
      simp only [← readAt_eq harg3 x3, ← readAt_eq harg11 x11, ← readAt_eq harg14 M, ← readAt_eq harg15 L, ← readAt_eq harg16 A]
      all_goals rfl
    · have hp : ¬ pfC i x3 x12 (M, L, A) := by
        intro hp
        apply hc
        unfold pfC at hp
        dsimp only at hp
        rw [← e14] at hp
        simp only [qG0, qG1, qG2, qG3, qN, w13, ← readAt_eq harg3 x3, ← readAt_eq harg12 x12] at hp
        exact hp
      rw [hout.2 hp, harg16.read_unread, harg15.read_unread]
  isplitl [H14]
  · iexists _, _; isplitr; swap; · iexact H14
    ipureintro; rfl
  isplitl [H15]
  · iexists _, _; isplitr; swap; · iexact H15
    ipureintro; rfl
  iexists _, _; isplitr; swap; · iexact H16
  ipureintro; rfl
end W

end Cert.Proof.FoxKernelIdeal

end
-- ==== Proof.Fox.RunI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore
public import proofs.«01_k».proof.Proof.Fox.KitI
public import proofs.«01_k».proof.Proof.Fox.BodyI

/-! The run of the whole program. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem owns_of_eq {c : Thread nD τ} {sp : Space} {sh : Shape} {e : EltTy} {M : Memref sig c.2.kind sp sh e} {X Y : Vec F sh e} (h : X = Y) :
    (owns c M fullShare X : sProp 𝕄) ⊢ owns c M fullShare Y := by subst h; exact .rfl
theorem owns_of_pt (c : Dev nD) (b : Ref sig .tc) (f : b.ty.Contents (Elt F)) :
    (((c : Thread nD τ).loc b) ↦{fullShare} f : sProp 𝕄) ⊢ owns (c : Thread nD τ) (Memref.whole b) fullShare f := by
  rw [owns_whole (c : Thread nD τ) b fullShare f]
theorem pt_of_owns (c : Dev nD) (b : Ref sig .tc) (f : b.ty.Contents (Elt F)) :
    (owns (c : Thread nD τ) (Memref.whole b) fullShare f : sProp 𝕄) ⊢ ((c : Thread nD τ).loc b) ↦{fullShare} f := by
  rw [owns_whole (c : Thread nD τ) b fullShare f]

/-- The block the body writes at point `t`. -/
def outsAt (c : Dev nD) (t : Fin (cfg0 (F := F)).N) : Vec F S1x1024x256 .f32 :=
  outF (grid0.coords t) (iblk m c 0 t) (iblk m c 1 t) (iblk m c 2 t) (iblk m c 3 t) (iblk m c 4 t) (iblk m c 5 t) (iblk m c 6 t) (iblk m c 7 t) (iblk m c 8 t) (iblk m c 9 t)

/-- The arrays as the region finds them; after the body each input buffer at its block and the output's at `outsAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outsAt m c t
  Φ _ := Pipeline.ΦA spec0 c
  q _ := fullShare
  owed _ := 0

theorem A_eq (c : Dev nD) (w : Fin (cfg0 (F := F)).W) : (dats m 0 c).A w = V m c (Pipeline.arrRef spec0 w) := rfl
theorem after0_0 (c : Dev nD) (t : Fin (cfg0 (F := F)).N) : (dats m 0 c).after 0 t = iblk m c 0 t := by first | (dsimp only [dats]; done) | rfl
theorem before0_0 (c : Dev nD) (t : Fin (cfg0 (F := F)).N) (d) : (dats m 0 c).before 0 t d = iblk m c 0 t :=
  before0_0_of m (dats m 0 c) (A_eq m c 0) (after0_0 m c) t d
theorem after0_1 (c : Dev nD) (t : Fin (cfg0 (F := F)).N) : (dats m 0 c).after 1 t = iblk m c 1 t := by first | (dsimp only [dats]; done) | rfl
theorem before0_1 (c : Dev nD) (t : Fin (cfg0 (F := F)).N) (d) : (dats m 0 c).before 1 t d = iblk m c 1 t :=
  before0_1_of m (dats m 0 c) (A_eq m c 1) (after0_1 m c) t d
theorem after0_2 (c : Dev nD) (t : Fin (cfg0 (F := F)).N) : (dats m 0 c).after 2 t = iblk m c 2 t := by first | (dsimp only [dats]; done) | rfl
theorem before0_2 (c : Dev nD) (t : Fin (cfg0 (F := F)).N) (d) : (dats m 0 c).before 2 t d = iblk m c 2 t :=
  before0_2_of m (dats m 0 c) (A_eq m c 2) (after0_2 m c) t d
theorem after0_3 (c : Dev nD) (t : Fin (cfg0 (F := F)).N) : (dats m 0 c).after 3 t = iblk m c 3 t := by first | (dsimp only [dats]; done) | rfl
theorem before0_3 (c : Dev nD) (t : Fin (cfg0 (F := F)).N) (d) : (dats m 0 c).before 3 t d = iblk m c 3 t :=
  before0_3_of m (dats m 0 c) (A_eq m c 3) (after0_3 m c) t d
theorem after0_4 (c : Dev nD) (t : Fin (cfg0 (F := F)).N) : (dats m 0 c).after 4 t = iblk m c 4 t := by first | (dsimp only [dats]; done) | rfl
theorem before0_4 (c : Dev nD) (t : Fin (cfg0 (F := F)).N) (d) : (dats m 0 c).before 4 t d = iblk m c 4 t :=
  before0_4_of m (dats m 0 c) (A_eq m c 4) (after0_4 m c) t d
theorem after0_5 (c : Dev nD) (t : Fin (cfg0 (F := F)).N) : (dats m 0 c).after 5 t = iblk m c 5 t := by first | (dsimp only [dats]; done) | rfl
theorem before0_5 (c : Dev nD) (t : Fin (cfg0 (F := F)).N) (d) : (dats m 0 c).before 5 t d = iblk m c 5 t :=
  before0_5_of m (dats m 0 c) (A_eq m c 5) (after0_5 m c) t d
theorem after0_6 (c : Dev nD) (t : Fin (cfg0 (F := F)).N) : (dats m 0 c).after 6 t = iblk m c 6 t := by first | (dsimp only [dats]; done) | rfl
theorem before0_6 (c : Dev nD) (t : Fin (cfg0 (F := F)).N) (d) : (dats m 0 c).before 6 t d = iblk m c 6 t :=
  before0_6_of m (dats m 0 c) (A_eq m c 6) (after0_6 m c) t d
theorem after0_7 (c : Dev nD) (t : Fin (cfg0 (F := F)).N) : (dats m 0 c).after 7 t = iblk m c 7 t := by first | (dsimp only [dats]; done) | rfl
theorem before0_7 (c : Dev nD) (t : Fin (cfg0 (F := F)).N) (d) : (dats m 0 c).before 7 t d = iblk m c 7 t :=
  before0_7_of m (dats m 0 c) (A_eq m c 7) (after0_7 m c) t d
theorem after0_8 (c : Dev nD) (t : Fin (cfg0 (F := F)).N) : (dats m 0 c).after 8 t = iblk m c 8 t := by first | (dsimp only [dats]; done) | rfl
theorem before0_8 (c : Dev nD) (t : Fin (cfg0 (F := F)).N) (d) : (dats m 0 c).before 8 t d = iblk m c 8 t :=
  before0_8_of m (dats m 0 c) (A_eq m c 8) (after0_8 m c) t d
theorem after0_9 (c : Dev nD) (t : Fin (cfg0 (F := F)).N) : (dats m 0 c).after 9 t = iblk m c 9 t := by first | (dsimp only [dats]; done) | rfl
theorem before0_9 (c : Dev nD) (t : Fin (cfg0 (F := F)).N) (d) : (dats m 0 c).before 9 t d = iblk m c 9 t :=
  before0_9_of m (dats m 0 c) (A_eq m c 9) (after0_9 m c) t d
theorem after0_10 (c : Dev nD) (t : Fin (cfg0 (F := F)).N) : (dats m 0 c).after 10 t = outsAt m c t := rfl

set_option maxHeartbeats 1000000 in
/-- At every point the body, with its input buffers at their blocks, leaves them so and writes `outsAt`. -/
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10]
  unfold outsAt
  rw [show (dats m 0 c).Φ t.castSucc = Pipeline.ΦA spec0 c from rfl]
  unfold Pipeline.ΦA
  rw [scopedRest0_eq]
  iintro ⟨⟨⟨⟨%g0, G0⟩, ⟨%g1, G1⟩, ⟨%g2, G2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ g0 g1 g2 Set.univ _)
  isplitl [H0 H1 H2 H3 H4 H5 H6 H7 H8 H9 H10 G0 G1 G2]
  · isplitl [H0]; · iapply (owns_of_eq (before0_0 m c t d0)); iexact H0
    isplitl [H1]; · iapply (owns_of_eq (before0_1 m c t d1)); iexact H1
    isplitl [H2]; · iapply (owns_of_eq (before0_2 m c t d2)); iexact H2
    isplitl [H3]; · iapply (owns_of_eq (before0_3 m c t d3)); iexact H3
    isplitl [H4]; · iapply (owns_of_eq (before0_4 m c t d4)); iexact H4
    isplitl [H5]; · iapply (owns_of_eq (before0_5 m c t d5)); iexact H5
    isplitl [H6]; · iapply (owns_of_eq (before0_6 m c t d6)); iexact H6
    isplitl [H7]; · iapply (owns_of_eq (before0_7 m c t d7)); iexact H7
    isplitl [H8]; · iapply (owns_of_eq (before0_8 m c t d8)); iexact H8
    isplitl [H9]; · iapply (owns_of_eq (before0_9 m c t d9)); iexact H9
    isplitl [H10]; · iexact H10
    isplitl [G0]; · iapply (owns_of_pt c cc0_scratch0 g0); iexact G0
    isplitl [G1]; · iapply (owns_of_pt c cc0_scratch1 g1); iexact G1
    iapply (owns_of_pt c cc0_scratch2 g2); iexact G2
  iintro ⟨H0, H1, H2, H3, H4, H5, H6, H7, H8, H9, H10, ⟨%y0, G0⟩, ⟨%y1, G1⟩, ⟨%y2, G2⟩⟩
  isplitl [G0 G1 G2 Hr]
  · isplitr [Hr]
    · isplitl [G0]; · iexists y0; iapply (pt_of_owns c cc0_scratch0 y0); iexact G0
      isplitl [G1]; · iexists y1; iapply (pt_of_owns c cc0_scratch1 y1); iexact G1
      iexists y2; iapply (pt_of_owns c cc0_scratch2 y2); iexact G2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

-- the implicit arguments are found by unfolding plain definitions in a metavariable's type
set_option backward.isDefEq.respectTransparency.types false in
/-- From any memory with zero counters every execution ends, with every array at what the proof data say and every
    counter at zero. -/
theorem run_main : θ_run defs (onTc (τ := τ) (main (F := F))) (s₀ m ρ)
    (fun r => Pipeline.FramePost (cfgs (F := F)) (dats m) 0 (V m) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.FoxKernelIdeal

end
-- ==== Proof.Fox.FrameI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore
public import proofs.«01_k».proof.Proof.Fox.RunI

/-! The frame of the attention program. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-- Every execution ends with the arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_with_sems (frame_of m ρ (dats m) fun _ _ => rfl) (run_main (F := F) m ρ)

end Cert.Proof.FoxKernelIdeal

end
-- ==== Proof.Fox.ReadI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import proofs.«01_k».proof.Proof.Fox.ModelI

/-! The attention body's updates read at an entry. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

/-! ### Operations read at an index -/

theorem mx_apply {M N : ℕ} (src : FVec Ideal ⟨2, ![M, N]⟩ .f32) (h : (⟨2, ![M, N]⟩ : Shape).Reduces [1] ⟨1, ![M]⟩) (hφ : FKind.Formats .f32)
    (hacc : (0xFF800000#32 : BitVec 32) = FKind.maximumf.neutral .f32 hφ) (r : Fin M) :
    multiReduction .maximumf [1] ⟨1, ![M]⟩ src 0xFF800000#32 h hφ hacc (ix1 r) = Finset.univ.sup (fun k : Fin N => src (ix2 r k)) := by
  refine (Ideal.multiReduction_maximumf_single src _ h hφ hacc (ix1 r)).trans ?_
  have e : (src ∘ h.lift (ix1 r)) = fun k : Fin N => src (ix2 r k) := by
    funext k; refine congrArg src (funext fun d => Fin.ext ?_)
    match d with | ⟨0, _⟩ => rfl | ⟨1, _⟩ => rfl
  rw [e]
  have hb : (FloatOps.ofBits (F := Ideal) .f32 0xFF800000#32 : EReal) = ⊥ := by show Ideal.ofBits .f32 0xFF800000#32 = ⊥; simp [Ideal.ofBits, Ideal.ieee]
  rw [hb]; rfl

theorem sm_apply {M N : ℕ} (src : FVec Ideal ⟨2, ![M, N]⟩ .f32) (h : (⟨2, ![M, N]⟩ : Shape).Reduces [1] ⟨1, ![M]⟩) (hφ : FKind.Formats .f32)
    (hacc : (0x00000000#32 : BitVec 32) = FKind.add.neutral .f32 hφ) (r : Fin M) :
    multiReduction .add [1] ⟨1, ![M]⟩ src 0x00000000#32 h hφ hacc (ix1 r) = ∑ k : Fin N, src (ix2 r k) := by
  refine (Ideal.multiReduction_add_single src _ h hφ hacc (ix1 r)).trans ?_
  refine Finset.sum_congr rfl fun k _ => congrArg src (funext fun d => Fin.ext ?_)
  match d with | ⟨0, _⟩ => rfl | ⟨1, _⟩ => rfl

theorem bc_a1 {α : Type} {a b : ℕ} (v : (⟨2, ![a, 1]⟩ : Shape).Idx → α) (h : (⟨2, ![a, 1]⟩ : Shape).Broadcasts ⟨2, ![a, b]⟩) (r : Fin a) (c : Fin b) :
    broadcastTo ⟨2, ![a, b]⟩ v h (ix2 r c) = v (ix2 r 0) := by
  refine congrArg v (funext fun d => Fin.ext ?_)
  match d with
  | ⟨0, _⟩ =>
    simp (proj := false) only [Shape.size]
    split
    · rename_i h1
      have h1' : a = 1 := h1
      have := r.isLt
      show (0 : ℕ) = r.val
      omega
    · rfl
  | ⟨1, _⟩ => rfl

theorem sc_self {α : Type} {s : Shape} (x : s.Idx → α) (h : s.ShapeCasts s) (j : s.Idx) : shapeCast s x h j = x j :=
  shapeCast_apply x h _ _ rfl

theorem sc_111n {α : Type} {n : ℕ} (x : (⟨4, ![1, 1, 1, n]⟩ : Shape).Idx → α) (h : (⟨4, ![1, 1, 1, n]⟩ : Shape).ShapeCasts ⟨2, ![1, n]⟩) (k : Fin n) :
    shapeCast ⟨2, ![1, n]⟩ x h (ix2 0 k) = x (ix4 0 0 0 k) :=
  shapeCast_apply x h _ _ (by rw [Shape.rowMajor_val_two, Shape.rowMajor_val_four]; show ((0 * 1 + 0) * 1 + 0) * n + k.val = 0 * n + k.val; omega)

theorem mm_plain {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c) = ∑ k : Fin K, lhs (ix2 r k) * rhs (ix2 k c) := by
  subst hd
  refine (Ideal.matmul_plain_apply none lhs rhs _ r c).trans ?_
  show Ideal.ofBits .f32 0x00000000#32 + _ = _
  rw [Ideal.ofBits_zero_f32, zero_add]

theorem mm_tr {M K N : ℕ} {φ₁ φ₂ : FTy} (d : DotDims ⟨2, ![M, K]⟩ ⟨2, ![N, K]⟩ ⟨2, ![M, N]⟩) (hd : d = DotDims.transposedRhs M K N)
    (lhs : FVec Ideal ⟨2, ![M, K]⟩ φ₁) (rhs : FVec Ideal ⟨2, ![N, K]⟩ φ₂) (r : Fin M) (c : Fin N) :
    matmul d none lhs rhs (constant ⟨2, ![M, N]⟩ .f32 0x00000000#32) (ix2 r c) = ∑ k : Fin K, lhs (ix2 r k) * rhs (ix2 c k) := by
  subst hd
  refine (Ideal.matmul_transposedRhs_apply none lhs rhs _ r c).trans ?_
  show Ideal.ofBits .f32 0x00000000#32 + _ = _
  rw [Ideal.ofBits_zero_f32, zero_add]

theorem expv_apply {s : Shape} {φ : FTy} (a : FVec Ideal s φ) (i : s.Idx) : exp a i = Ideal.exp (a i) := rfl
theorem mm256 (lhs : FVec Ideal S256x256 .bf16) (rhs : FVec Ideal S256x256 .bf16) (r : Fin 256) (c : Fin 256) :
    matmul dot_S256x256_S256x256_S256x256_1_0_0_1_n_n none lhs rhs (constant S256x256 .f32 0x00000000#32) (ix2 r c) = ∑ k : Fin 256, lhs (ix2 r k) * rhs (ix2 k c) :=
  mm_plain _ rfl lhs rhs r c
theorem mx256 (src : FVec Ideal S256x256 .f32) (h : S256x256.Reduces [1] S256) (hφ : FKind.Formats .f32)
    (hacc : (0xFF800000#32 : BitVec 32) = 0xFF800000#32) (r : Fin 256) :
    multiReduction .maximumf [1] S256 src 0xFF800000#32 h hφ hacc (ix1 r) = Finset.univ.sup (fun k : Fin 256 => src (ix2 r k)) :=
  mx_apply src h hφ hacc r
theorem sm256 (src : FVec Ideal S256x256 .f32) (h : S256x256.Reduces [1] S256) (hφ : FKind.Formats .f32)
    (hacc : (0x00000000#32 : BitVec 32) = 0x00000000#32) (r : Fin 256) :
    multiReduction .add [1] S256 src 0x00000000#32 h hφ hacc (ix1 r) = ∑ k : Fin 256, src (ix2 r k) :=
  sm_apply src h hφ hacc r
theorem mt256 (lhs : FVec Ideal S256x256 .bf16) (rhs : FVec Ideal S256x256 .bf16) (r : Fin 256) (c : Fin 256) :
    matmul dot_S256x256_S256x256_S256x256_1_1_0_0_n_n none lhs rhs (constant S256x256 .f32 0x00000000#32) (ix2 r c) = ∑ k : Fin 256, lhs (ix2 r k) * rhs (ix2 c k) :=
  mm_tr _ rfl lhs rhs r c
theorem mm512 (lhs : FVec Ideal S256x512 .bf16) (rhs : FVec Ideal S512x256 .bf16) (r : Fin 256) (c : Fin 256) :
    matmul dot_S256x512_S512x256_S256x256_1_0_0_1_n_n none lhs rhs (constant S256x256 .f32 0x00000000#32) (ix2 r c) = ∑ k : Fin 512, lhs (ix2 r k) * rhs (ix2 k c) :=
  mm_plain _ rfl lhs rhs r c
theorem mx512 (src : FVec Ideal S256x512 .f32) (h : S256x512.Reduces [1] S256) (hφ : FKind.Formats .f32)
    (hacc : (0xFF800000#32 : BitVec 32) = 0xFF800000#32) (r : Fin 256) :
    multiReduction .maximumf [1] S256 src 0xFF800000#32 h hφ hacc (ix1 r) = Finset.univ.sup (fun k : Fin 512 => src (ix2 r k)) :=
  mx_apply src h hφ hacc r
theorem sm512 (src : FVec Ideal S256x512 .f32) (h : S256x512.Reduces [1] S256) (hφ : FKind.Formats .f32)
    (hacc : (0x00000000#32 : BitVec 32) = 0x00000000#32) (r : Fin 256) :
    multiReduction .add [1] S256 src 0x00000000#32 h hφ hacc (ix1 r) = ∑ k : Fin 512, src (ix2 r k) :=
  sm_apply src h hφ hacc r
theorem mt512 (lhs : FVec Ideal S256x256 .bf16) (rhs : FVec Ideal S512x256 .bf16) (r : Fin 256) (c : Fin 512) :
    matmul dot_S256x256_S512x256_S256x512_1_1_0_0_n_n none lhs rhs (constant S256x512 .f32 0x00000000#32) (ix2 r c) = ∑ k : Fin 256, lhs (ix2 r k) * rhs (ix2 c k) :=
  mm_tr _ rfl lhs rhs r c
theorem mm768 (lhs : FVec Ideal S256x768 .bf16) (rhs : FVec Ideal S768x256 .bf16) (r : Fin 256) (c : Fin 256) :
    matmul dot_S256x768_S768x256_S256x256_1_0_0_1_n_n none lhs rhs (constant S256x256 .f32 0x00000000#32) (ix2 r c) = ∑ k : Fin 768, lhs (ix2 r k) * rhs (ix2 k c) :=
  mm_plain _ rfl lhs rhs r c
theorem mx768 (src : FVec Ideal S256x768 .f32) (h : S256x768.Reduces [1] S256) (hφ : FKind.Formats .f32)
    (hacc : (0xFF800000#32 : BitVec 32) = 0xFF800000#32) (r : Fin 256) :
    multiReduction .maximumf [1] S256 src 0xFF800000#32 h hφ hacc (ix1 r) = Finset.univ.sup (fun k : Fin 768 => src (ix2 r k)) :=
  mx_apply src h hφ hacc r
theorem sm768 (src : FVec Ideal S256x768 .f32) (h : S256x768.Reduces [1] S256) (hφ : FKind.Formats .f32)
    (hacc : (0x00000000#32 : BitVec 32) = 0x00000000#32) (r : Fin 256) :
    multiReduction .add [1] S256 src 0x00000000#32 h hφ hacc (ix1 r) = ∑ k : Fin 768, src (ix2 r k) :=
  sm_apply src h hφ hacc r
theorem mt768 (lhs : FVec Ideal S256x256 .bf16) (rhs : FVec Ideal S768x256 .bf16) (r : Fin 256) (c : Fin 768) :
    matmul dot_S256x256_S768x256_S256x768_1_1_0_0_n_n none lhs rhs (constant S256x768 .f32 0x00000000#32) (ix2 r c) = ∑ k : Fin 256, lhs (ix2 r k) * rhs (ix2 c k) :=
  mm_tr _ rfl lhs rhs r c
theorem mm1024 (lhs : FVec Ideal S256x1024 .bf16) (rhs : FVec Ideal S1024x256 .bf16) (r : Fin 256) (c : Fin 256) :
    matmul dot_S256x1024_S1024x256_S256x256_1_0_0_1_n_n none lhs rhs (constant S256x256 .f32 0x00000000#32) (ix2 r c) = ∑ k : Fin 1024, lhs (ix2 r k) * rhs (ix2 k c) :=
  mm_plain _ rfl lhs rhs r c
theorem mx1024 (src : FVec Ideal S256x1024 .f32) (h : S256x1024.Reduces [1] S256) (hφ : FKind.Formats .f32)
    (hacc : (0xFF800000#32 : BitVec 32) = 0xFF800000#32) (r : Fin 256) :
    multiReduction .maximumf [1] S256 src 0xFF800000#32 h hφ hacc (ix1 r) = Finset.univ.sup (fun k : Fin 1024 => src (ix2 r k)) :=
  mx_apply src h hφ hacc r
theorem sm1024 (src : FVec Ideal S256x1024 .f32) (h : S256x1024.Reduces [1] S256) (hφ : FKind.Formats .f32)
    (hacc : (0x00000000#32 : BitVec 32) = 0x00000000#32) (r : Fin 256) :
    multiReduction .add [1] S256 src 0x00000000#32 h hφ hacc (ix1 r) = ∑ k : Fin 1024, src (ix2 r k) :=
  sm_apply src h hφ hacc r
theorem mt1024 (lhs : FVec Ideal S256x256 .bf16) (rhs : FVec Ideal S1024x256 .bf16) (r : Fin 256) (c : Fin 1024) :
    matmul dot_S256x256_S1024x256_S256x1024_1_1_0_0_n_n none lhs rhs (constant S256x1024 .f32 0x00000000#32) (ix2 r c) = ∑ k : Fin 256, lhs (ix2 r k) * rhs (ix2 c k) :=
  mm_tr _ rfl lhs rhs r c
theorem mm128 (lhs : FVec Ideal S256x128 .bf16) (rhs : FVec Ideal S128x256 .bf16) (r : Fin 256) (c : Fin 256) :
    matmul dot_S256x128_S128x256_S256x256_1_0_0_1_n_n none lhs rhs (constant S256x256 .f32 0x00000000#32) (ix2 r c) = ∑ k : Fin 128, lhs (ix2 r k) * rhs (ix2 k c) :=
  mm_plain _ rfl lhs rhs r c
theorem mx128 (src : FVec Ideal S256x128 .f32) (h : S256x128.Reduces [1] S256) (hφ : FKind.Formats .f32)
    (hacc : (0xFF800000#32 : BitVec 32) = 0xFF800000#32) (r : Fin 256) :
    multiReduction .maximumf [1] S256 src 0xFF800000#32 h hφ hacc (ix1 r) = Finset.univ.sup (fun k : Fin 128 => src (ix2 r k)) :=
  mx_apply src h hφ hacc r
theorem sm128 (src : FVec Ideal S256x128 .f32) (h : S256x128.Reduces [1] S256) (hφ : FKind.Formats .f32)
    (hacc : (0x00000000#32 : BitVec 32) = 0x00000000#32) (r : Fin 256) :
    multiReduction .add [1] S256 src 0x00000000#32 h hφ hacc (ix1 r) = ∑ k : Fin 128, src (ix2 r k) :=
  sm_apply src h hφ hacc r
theorem mt128 (lhs : FVec Ideal S256x256 .bf16) (rhs : FVec Ideal S128x256 .bf16) (r : Fin 256) (c : Fin 128) :
    matmul dot_S256x256_S128x256_S256x128_1_1_0_0_n_n none lhs rhs (constant S256x128 .f32 0x00000000#32) (ix2 r c) = ∑ k : Fin 256, lhs (ix2 r k) * rhs (ix2 c k) :=
  mm_tr _ rfl lhs rhs r c

set_option backward.isDefEq.respectTransparency.types false

/-! ### What a group's update leaves in a row -/
theorem dm0 (q : FVec Ideal S256x256 .bf16) (kb : Vec Ideal S1x256x256 .bf16) (nb : Vec Ideal S1x1x1x256 .f32) (r : Fin 256) : k0_pay51 (k0_pay49 q kb nb) (ix2 r 0) = (Finset.univ.sup fun k : Fin 256 => k0_pay47 q kb nb (ix2 r k)) := by
  simp (proj := false) only [k0_pay51, k0_pay49, mulf_apply, addf_apply, subf_apply, maximumf_apply, truncf_apply, expv_apply, sc_self, shapeCast_a_a1_apply, mx256, mx512, mx768, mx1024, mx128, sm256, sm512, sm768, sm1024, sm128, bc_a1]
theorem dl0 (q : FVec Ideal S256x256 .bf16) (kb : Vec Ideal S1x256x256 .bf16) (nb : Vec Ideal S1x1x1x256 .f32) (r : Fin 256) : k0_pay52 (k0_pay50 q kb nb) (ix2 r 0) = ∑ k : Fin 256, Ideal.exp (k0_pay47 q kb nb (ix2 r k) - (Finset.univ.sup fun k : Fin 256 => k0_pay47 q kb nb (ix2 r k))) := by
  simp (proj := false) only [k0_pay52, k0_pay50, k0_pay49, mulf_apply, addf_apply, subf_apply, maximumf_apply, truncf_apply, expv_apply, sc_self, shapeCast_a_a1_apply, mx256, mx512, mx768, mx1024, mx128, sm256, sm512, sm768, sm1024, sm128, bc_a1]
theorem da0 (q : FVec Ideal S256x256 .bf16) (kb : Vec Ideal S1x256x256 .bf16) (nb : Vec Ideal S1x1x1x256 .f32) (w : Vec Ideal S1x256x256 .bf16) (r d : Fin 256) : k0_pay53 (k0_pay48 w) (k0_pay50 q kb nb) (ix2 r d) = ∑ k : Fin 256, Ideal.exp (k0_pay47 q kb nb (ix2 r k) - (Finset.univ.sup fun k : Fin 256 => k0_pay47 q kb nb (ix2 r k))) * w (ix3 0 k d) := by
  simp (proj := false) only [k0_pay53, k0_pay48, k0_pay50, k0_pay49, mm256, shapeCast_1ab_ab_apply, mulf_apply, addf_apply, subf_apply, maximumf_apply, truncf_apply, expv_apply, sc_self, shapeCast_a_a1_apply, mx256, mx512, mx768, mx1024, mx128, sm256, sm512, sm768, sm1024, sm128, bc_a1]
theorem dm1 (q : FVec Ideal S256x256 .bf16) (kb : Vec Ideal S1x512x256 .bf16) (nb : Vec Ideal S1x1x1x512 .f32) (r : Fin 256) : k0_pay58 (k0_pay56 q kb nb) (ix2 r 0) = (Finset.univ.sup fun k : Fin 512 => k0_pay54 q kb nb (ix2 r k)) := by
  simp (proj := false) only [k0_pay58, k0_pay56, mulf_apply, addf_apply, subf_apply, maximumf_apply, truncf_apply, expv_apply, sc_self, shapeCast_a_a1_apply, mx256, mx512, mx768, mx1024, mx128, sm256, sm512, sm768, sm1024, sm128, bc_a1]
theorem dl1 (q : FVec Ideal S256x256 .bf16) (kb : Vec Ideal S1x512x256 .bf16) (nb : Vec Ideal S1x1x1x512 .f32) (r : Fin 256) : k0_pay59 (k0_pay57 q kb nb) (ix2 r 0) = ∑ k : Fin 512, Ideal.exp (k0_pay54 q kb nb (ix2 r k) - (Finset.univ.sup fun k : Fin 512 => k0_pay54 q kb nb (ix2 r k))) := by
  simp (proj := false) only [k0_pay59, k0_pay57, k0_pay56, mulf_apply, addf_apply, subf_apply, maximumf_apply, truncf_apply, expv_apply, sc_self, shapeCast_a_a1_apply, mx256, mx512, mx768, mx1024, mx128, sm256, sm512, sm768, sm1024, sm128, bc_a1]
theorem da1 (q : FVec Ideal S256x256 .bf16) (kb : Vec Ideal S1x512x256 .bf16) (nb : Vec Ideal S1x1x1x512 .f32) (w : Vec Ideal S1x512x256 .bf16) (r d : Fin 256) : k0_pay60 (k0_pay55 w) (k0_pay57 q kb nb) (ix2 r d) = ∑ k : Fin 512, Ideal.exp (k0_pay54 q kb nb (ix2 r k) - (Finset.univ.sup fun k : Fin 512 => k0_pay54 q kb nb (ix2 r k))) * w (ix3 0 k d) := by
  simp (proj := false) only [k0_pay60, k0_pay55, k0_pay57, k0_pay56, mm512, shapeCast_1ab_ab_apply, mulf_apply, addf_apply, subf_apply, maximumf_apply, truncf_apply, expv_apply, sc_self, shapeCast_a_a1_apply, mx256, mx512, mx768, mx1024, mx128, sm256, sm512, sm768, sm1024, sm128, bc_a1]
theorem dm2 (x : FVec Ideal S256x768 .f32) (mk : IVec S256x768 1) (r : Fin 256) : k0_pay66 x mk (ix2 r 0) = (Finset.univ.sup fun k : Fin 768 => k0_pay63 x mk (ix2 r k)) := by
  simp (proj := false) only [k0_pay66, k0_pay64, mulf_apply, addf_apply, subf_apply, maximumf_apply, truncf_apply, expv_apply, sc_self, shapeCast_a_a1_apply, mx256, mx512, mx768, mx1024, mx128, sm256, sm512, sm768, sm1024, sm128, bc_a1]
theorem dl2 (x : FVec Ideal S256x768 .f32) (mk : IVec S256x768 1) (r : Fin 256) : k0_pay67 x mk (ix2 r 0) = ∑ k : Fin 768, Ideal.exp (k0_pay63 x mk (ix2 r k) - (Finset.univ.sup fun k : Fin 768 => k0_pay63 x mk (ix2 r k))) := by
  simp (proj := false) only [k0_pay67, k0_pay65, k0_pay64, mulf_apply, addf_apply, subf_apply, maximumf_apply, truncf_apply, expv_apply, sc_self, shapeCast_a_a1_apply, mx256, mx512, mx768, mx1024, mx128, sm256, sm512, sm768, sm1024, sm128, bc_a1]
theorem da2 (x : FVec Ideal S256x768 .f32) (mk : IVec S256x768 1) (w : Vec Ideal S1x768x256 .bf16) (r d : Fin 256) : k0_pay68 x mk w (ix2 r d) = ∑ k : Fin 768, Ideal.exp (k0_pay63 x mk (ix2 r k) - (Finset.univ.sup fun k : Fin 768 => k0_pay63 x mk (ix2 r k))) * w (ix3 0 k d) := by
  simp (proj := false) only [k0_pay68, k0_pay65, k0_pay64, mm768, shapeCast_1ab_ab_apply, mulf_apply, addf_apply, subf_apply, maximumf_apply, truncf_apply, expv_apply, sc_self, shapeCast_a_a1_apply, mx256, mx512, mx768, mx1024, mx128, sm256, sm512, sm768, sm1024, sm128, bc_a1]
theorem dm3 (i0 i1 : IVec S256x1024 32) (x : FVec Ideal S256x1024 .f32) (na : FVec Ideal S1x512 .f32) (nb : Vec Ideal S1x1x1x512 .f32) (r : Fin 256) : k0_pay74 i0 i1 x na nb (ix2 r 0) = (Finset.univ.sup fun k : Fin 1024 => k0_pay71 i0 i1 x na nb (ix2 r k)) := by
  simp (proj := false) only [k0_pay74, k0_pay72, mulf_apply, addf_apply, subf_apply, maximumf_apply, truncf_apply, expv_apply, sc_self, shapeCast_a_a1_apply, mx256, mx512, mx768, mx1024, mx128, sm256, sm512, sm768, sm1024, sm128, bc_a1]
theorem dl3 (i0 i1 : IVec S256x1024 32) (x : FVec Ideal S256x1024 .f32) (na : FVec Ideal S1x512 .f32) (nb : Vec Ideal S1x1x1x512 .f32) (r : Fin 256) : k0_pay75 i0 i1 x na nb (ix2 r 0) = ∑ k : Fin 1024, Ideal.exp (k0_pay71 i0 i1 x na nb (ix2 r k) - (Finset.univ.sup fun k : Fin 1024 => k0_pay71 i0 i1 x na nb (ix2 r k))) := by
  simp (proj := false) only [k0_pay75, k0_pay73, k0_pay72, mulf_apply, addf_apply, subf_apply, maximumf_apply, truncf_apply, expv_apply, sc_self, shapeCast_a_a1_apply, mx256, mx512, mx768, mx1024, mx128, sm256, sm512, sm768, sm1024, sm128, bc_a1]
theorem da3 (i0 i1 : IVec S256x1024 32) (x : FVec Ideal S256x1024 .f32) (na : FVec Ideal S1x512 .f32) (nb : Vec Ideal S1x1x1x512 .f32) (w : Vec Ideal S1x1024x256 .bf16) (r d : Fin 256) : k0_pay76 i0 i1 x na nb w (ix2 r d) = ∑ k : Fin 1024, Ideal.exp (k0_pay71 i0 i1 x na nb (ix2 r k) - (Finset.univ.sup fun k : Fin 1024 => k0_pay71 i0 i1 x na nb (ix2 r k))) * w (ix3 0 k d) := by
  simp (proj := false) only [k0_pay76, k0_pay73, k0_pay72, mm1024, shapeCast_1ab_ab_apply, mulf_apply, addf_apply, subf_apply, maximumf_apply, truncf_apply, expv_apply, sc_self, shapeCast_a_a1_apply, mx256, mx512, mx768, mx1024, mx128, sm256, sm512, sm768, sm1024, sm128, bc_a1]
theorem sc512_apply (q : FVec Ideal S256x256 .bf16) (kb : Vec Ideal S1x512x256 .bf16) (nb : Vec Ideal S1x1x1x512 .f32) (r : Fin 256) (k : Fin 512) :
    sc512 q kb nb (ix2 r k) = (∑ e : Fin 256, q (ix2 r e) * kb (ix3 0 k e)) + nb (ix4 0 0 0 k) := by
  simp (proj := false) only [sc512, k0_pay121, k0_pay96, k0_pay98, addf_apply, mt512, shapeCast_1ab_ab_apply, broadcastTo_1b_ab_apply, sc_111n]
theorem pay3_apply (q : FVec Ideal S256x256 .bf16) (kb : Vec Ideal S1x512x256 .bf16) (nb : Vec Ideal S1x1x1x512 .f32) (m : Vec Ideal S256x1 .f32) (r : Fin 256) (k : Fin 512) :
    k0_pay3 q (k0_pay83 kb) (k0_pay85 nb) m (ix2 r k) = Ideal.exp (sc512 q kb nb (ix2 r k) - m (ix2 r 0)) := by
  rw [sc512_apply]
  simp (proj := false) only [k0_pay3, k0_pay83, k0_pay85, addf_apply, subf_apply, expv_apply, bc_a1, mt512, shapeCast_1ab_ab_apply, broadcastTo_1b_ab_apply, sc_111n]
theorem fl_apply (q : FVec Ideal S256x256 .bf16) (kb : Vec Ideal S1x512x256 .bf16) (nb : Vec Ideal S1x1x1x512 .f32) (m l : Vec Ideal S256x1 .f32) (r : Fin 256) :
    k0_pay4 q (k0_pay83 kb) (k0_pay85 nb) m l (ix2 r 0) = l (ix2 r 0) + ∑ k : Fin 512, Ideal.exp (sc512 q kb nb (ix2 r k) - m (ix2 r 0)) := by
  simp (proj := false) only [k0_pay4, mulf_apply, addf_apply, subf_apply, maximumf_apply, truncf_apply, expv_apply, sc_self, shapeCast_a_a1_apply, mx256, mx512, mx768, mx1024, mx128, sm256, sm512, sm768, sm1024, sm128, bc_a1, pay3_apply]
theorem fa_apply (q : FVec Ideal S256x256 .bf16) (kb : Vec Ideal S1x512x256 .bf16) (nb : Vec Ideal S1x1x1x512 .f32) (vb : Vec Ideal S1x512x256 .bf16) (m : Vec Ideal S256x1 .f32) (a : Vec Ideal S256x256 .f32) (r d : Fin 256) :
    k0_pay5 q (k0_pay83 kb) (k0_pay84 vb) (k0_pay85 nb) m a (ix2 r d)
      = a (ix2 r d) + ∑ k : Fin 512, Ideal.exp (sc512 q kb nb (ix2 r k) - m (ix2 r 0)) * vb (ix3 0 k d) := by
  simp (proj := false) only [k0_pay5, k0_pay84, mulf_apply, addf_apply, subf_apply, maximumf_apply, truncf_apply, expv_apply, sc_self, shapeCast_a_a1_apply, mx256, mx512, mx768, mx1024, mx128, sm256, sm512, sm768, sm1024, sm128, bc_a1, mm512, pay3_apply, shapeCast_1ab_ab_apply]
theorem om_apply (x : FVec Ideal S256x512 .f32) (m : Vec Ideal S256x1 .f32) (r : Fin 256) :
    k0_pay9 x m (ix2 r 0) = max (m (ix2 r 0)) (Finset.univ.sup fun k : Fin 512 => x (ix2 r k)) := by
  simp (proj := false) only [k0_pay9, k0_pay6, mulf_apply, addf_apply, subf_apply, maximumf_apply, truncf_apply, expv_apply, sc_self, shapeCast_a_a1_apply, mx256, mx512, mx768, mx1024, mx128, sm256, sm512, sm768, sm1024, sm128, bc_a1]
theorem ol_apply (x : FVec Ideal S256x512 .f32) (m l : Vec Ideal S256x1 .f32) (r : Fin 256) :
    k0_pay10 x m l (ix2 r 0) = l (ix2 r 0) * Ideal.exp (m (ix2 r 0) - max (m (ix2 r 0)) (Finset.univ.sup fun k : Fin 512 => x (ix2 r k)))
      + ∑ k : Fin 512, Ideal.exp (x (ix2 r k) - max (m (ix2 r 0)) (Finset.univ.sup fun k : Fin 512 => x (ix2 r k))) := by
  rw [mul_comm]
  simp (proj := false) only [k0_pay10, k0_pay6, k0_pay7, k0_pay8, mulf_apply, addf_apply, subf_apply, maximumf_apply, truncf_apply, expv_apply, sc_self, shapeCast_a_a1_apply, mx256, mx512, mx768, mx1024, mx128, sm256, sm512, sm768, sm1024, sm128, bc_a1]
theorem oa_apply (vb : Vec Ideal S1x512x256 .bf16) (x : FVec Ideal S256x512 .f32) (m : Vec Ideal S256x1 .f32) (a : Vec Ideal S256x256 .f32) (r d : Fin 256) :
    k0_pay11 (k0_pay97 vb) x m a (ix2 r d) = a (ix2 r d) * Ideal.exp (m (ix2 r 0) - max (m (ix2 r 0)) (Finset.univ.sup fun k : Fin 512 => x (ix2 r k)))
      + ∑ k : Fin 512, Ideal.exp (x (ix2 r k) - max (m (ix2 r 0)) (Finset.univ.sup fun k : Fin 512 => x (ix2 r k))) * vb (ix3 0 k d) := by
  rw [mul_comm]
  simp (proj := false) only [k0_pay11, k0_pay97, k0_pay6, k0_pay7, k0_pay8, mulf_apply, addf_apply, subf_apply, maximumf_apply, truncf_apply, expv_apply, sc_self, shapeCast_a_a1_apply, mx256, mx512, mx768, mx1024, mx128, sm256, sm512, sm768, sm1024, sm128, bc_a1, mm512, shapeCast_1ab_ab_apply]

/-- A group's scores against the learned tokens. -/
def sc128 (q : FVec Ideal S256x256 .bf16) (kb : Vec Ideal S128x256 .bf16) (nb : Vec Ideal S1x128 .f32) : FVec Ideal S256x128 .f32 := k0_pay14 q kb nb
theorem sc128_apply (q : FVec Ideal S256x256 .bf16) (kb : Vec Ideal S128x256 .bf16) (nb : Vec Ideal S1x128 .f32) (r : Fin 256) (k : Fin 128) :
    sc128 q kb nb (ix2 r k) = (∑ e : Fin 256, q (ix2 r e) * kb (ix2 k e)) + nb (ix2 0 k) := by
  simp (proj := false) only [sc128, k0_pay14, k0_pay13, addf_apply, mt128, broadcastTo_1b_ab_apply, sc_self]
theorem pm0 (q : FVec Ideal S256x256 .bf16) (kb : Vec Ideal S128x256 .bf16) (nb : Vec Ideal S1x128 .f32) (m : Vec Ideal S256x1 .f32) (r : Fin 256) : k0_pay18 q kb nb m (ix2 r 0) = max (m (ix2 r 0)) (Finset.univ.sup fun k : Fin 128 => sc128 q kb nb (ix2 r k)) := by
  have hx : k0_pay14 q kb nb = sc128 q kb nb := rfl
  simp (proj := false) only [k0_pay18, k0_pay19, k0_pay20, k0_pay15, k0_pay16, k0_pay17, hx, mulf_apply, addf_apply, subf_apply, maximumf_apply, truncf_apply, expv_apply, sc_self, shapeCast_a_a1_apply, mx256, mx512, mx768, mx1024, mx128, sm256, sm512, sm768, sm1024, sm128, bc_a1]
theorem pl0 (q : FVec Ideal S256x256 .bf16) (kb : Vec Ideal S128x256 .bf16) (nb : Vec Ideal S1x128 .f32) (m : Vec Ideal S256x1 .f32) (l : Vec Ideal S256x1 .f32) (r : Fin 256) : k0_pay19 q kb nb m l (ix2 r 0)
    = l (ix2 r 0) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) := by
  have hx : k0_pay14 q kb nb = sc128 q kb nb := rfl
  rw [mul_comm]
  simp (proj := false) only [k0_pay18, k0_pay19, k0_pay20, k0_pay15, k0_pay16, k0_pay17, hx, mulf_apply, addf_apply, subf_apply, maximumf_apply, truncf_apply, expv_apply, sc_self, shapeCast_a_a1_apply, mx256, mx512, mx768, mx1024, mx128, sm256, sm512, sm768, sm1024, sm128, bc_a1]
theorem pa0 (q : FVec Ideal S256x256 .bf16) (kb : Vec Ideal S128x256 .bf16) (nb : Vec Ideal S1x128 .f32) (m : Vec Ideal S256x1 .f32) (w : Vec Ideal S128x256 .bf16) (a : Vec Ideal S256x256 .f32) (r d : Fin 256) : k0_pay20 q kb w nb m a (ix2 r d)
    = a (ix2 r d) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) * w (ix2 k d) := by
  have hx : k0_pay14 q kb nb = sc128 q kb nb := rfl
  rw [mul_comm]
  simp (proj := false) only [k0_pay18, k0_pay19, k0_pay20, k0_pay15, k0_pay16, k0_pay17, hx, mulf_apply, addf_apply, subf_apply, maximumf_apply, truncf_apply, expv_apply, sc_self, shapeCast_a_a1_apply, mx256, mx512, mx768, mx1024, mx128, sm256, sm512, sm768, sm1024, sm128, bc_a1, mm128]
theorem pm1 (q : FVec Ideal S256x256 .bf16) (kb : Vec Ideal S128x256 .bf16) (nb : Vec Ideal S1x128 .f32) (m : Vec Ideal S256x1 .f32) (r : Fin 256) : k0_pay25 q kb (k0_pay13 nb) m (ix2 r 0) = max (m (ix2 r 0)) (Finset.univ.sup fun k : Fin 128 => sc128 q kb nb (ix2 r k)) := by
  have hx : k0_pay21 q kb (k0_pay13 nb) = sc128 q kb nb := rfl
  simp (proj := false) only [k0_pay22, k0_pay23, k0_pay24, k0_pay25, k0_pay26, k0_pay27, hx, mulf_apply, addf_apply, subf_apply, maximumf_apply, truncf_apply, expv_apply, sc_self, shapeCast_a_a1_apply, mx256, mx512, mx768, mx1024, mx128, sm256, sm512, sm768, sm1024, sm128, bc_a1]
theorem pl1 (q : FVec Ideal S256x256 .bf16) (kb : Vec Ideal S128x256 .bf16) (nb : Vec Ideal S1x128 .f32) (m : Vec Ideal S256x1 .f32) (l : Vec Ideal S256x1 .f32) (r : Fin 256) : k0_pay26 q kb (k0_pay13 nb) m l (ix2 r 0)
    = l (ix2 r 0) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) := by
  have hx : k0_pay21 q kb (k0_pay13 nb) = sc128 q kb nb := rfl
  rw [mul_comm]
  simp (proj := false) only [k0_pay22, k0_pay23, k0_pay24, k0_pay25, k0_pay26, k0_pay27, hx, mulf_apply, addf_apply, subf_apply, maximumf_apply, truncf_apply, expv_apply, sc_self, shapeCast_a_a1_apply, mx256, mx512, mx768, mx1024, mx128, sm256, sm512, sm768, sm1024, sm128, bc_a1]
theorem pa1 (q : FVec Ideal S256x256 .bf16) (kb : Vec Ideal S128x256 .bf16) (nb : Vec Ideal S1x128 .f32) (m : Vec Ideal S256x1 .f32) (w : Vec Ideal S128x256 .bf16) (a : Vec Ideal S256x256 .f32) (r d : Fin 256) : k0_pay27 q kb w (k0_pay13 nb) m a (ix2 r d)
    = a (ix2 r d) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) * w (ix2 k d) := by
  have hx : k0_pay21 q kb (k0_pay13 nb) = sc128 q kb nb := rfl
  rw [mul_comm]
  simp (proj := false) only [k0_pay22, k0_pay23, k0_pay24, k0_pay25, k0_pay26, k0_pay27, hx, mulf_apply, addf_apply, subf_apply, maximumf_apply, truncf_apply, expv_apply, sc_self, shapeCast_a_a1_apply, mx256, mx512, mx768, mx1024, mx128, sm256, sm512, sm768, sm1024, sm128, bc_a1, mm128]
theorem pm2 (q : FVec Ideal S256x256 .bf16) (kb : Vec Ideal S128x256 .bf16) (nb : Vec Ideal S1x128 .f32) (m : Vec Ideal S256x1 .f32) (r : Fin 256) : k0_pay32 (k0_pay28 q kb (k0_pay13 nb)) m (ix2 r 0) = max (m (ix2 r 0)) (Finset.univ.sup fun k : Fin 128 => sc128 q kb nb (ix2 r k)) := by
  have hx : k0_pay28 q kb (k0_pay13 nb) = sc128 q kb nb := rfl
  simp (proj := false) only [k0_pay29, k0_pay30, k0_pay31, k0_pay32, k0_pay33, k0_pay34, hx, mulf_apply, addf_apply, subf_apply, maximumf_apply, truncf_apply, expv_apply, sc_self, shapeCast_a_a1_apply, mx256, mx512, mx768, mx1024, mx128, sm256, sm512, sm768, sm1024, sm128, bc_a1]
theorem pl2 (q : FVec Ideal S256x256 .bf16) (kb : Vec Ideal S128x256 .bf16) (nb : Vec Ideal S1x128 .f32) (m : Vec Ideal S256x1 .f32) (l : Vec Ideal S256x1 .f32) (r : Fin 256) : k0_pay33 (k0_pay28 q kb (k0_pay13 nb)) m l (ix2 r 0)
    = l (ix2 r 0) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) := by
  have hx : k0_pay28 q kb (k0_pay13 nb) = sc128 q kb nb := rfl
  rw [mul_comm]
  simp (proj := false) only [k0_pay29, k0_pay30, k0_pay31, k0_pay32, k0_pay33, k0_pay34, hx, mulf_apply, addf_apply, subf_apply, maximumf_apply, truncf_apply, expv_apply, sc_self, shapeCast_a_a1_apply, mx256, mx512, mx768, mx1024, mx128, sm256, sm512, sm768, sm1024, sm128, bc_a1]
theorem pa2 (q : FVec Ideal S256x256 .bf16) (kb : Vec Ideal S128x256 .bf16) (nb : Vec Ideal S1x128 .f32) (m : Vec Ideal S256x1 .f32) (w : Vec Ideal S128x256 .bf16) (a : Vec Ideal S256x256 .f32) (r d : Fin 256) : k0_pay34 w (k0_pay28 q kb (k0_pay13 nb)) m a (ix2 r d)
    = a (ix2 r d) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) * w (ix2 k d) := by
  have hx : k0_pay28 q kb (k0_pay13 nb) = sc128 q kb nb := rfl
  rw [mul_comm]
  simp (proj := false) only [k0_pay29, k0_pay30, k0_pay31, k0_pay32, k0_pay33, k0_pay34, hx, mulf_apply, addf_apply, subf_apply, maximumf_apply, truncf_apply, expv_apply, sc_self, shapeCast_a_a1_apply, mx256, mx512, mx768, mx1024, mx128, sm256, sm512, sm768, sm1024, sm128, bc_a1, mm128]
theorem pm3 (q : FVec Ideal S256x256 .bf16) (kb : Vec Ideal S128x256 .bf16) (nb : Vec Ideal S1x128 .f32) (m : Vec Ideal S256x1 .f32) (r : Fin 256) : k0_pay79 (k0_pay36 q kb (k0_pay13 nb) m) (ix2 r 0) = max (m (ix2 r 0)) (Finset.univ.sup fun k : Fin 128 => sc128 q kb nb (ix2 r k)) := by
  have hx : k0_pay35 q kb (k0_pay13 nb) = sc128 q kb nb := rfl
  simp (proj := false) only [k0_pay79, k0_pay80, k0_pay81, k0_pay36, k0_pay37, k0_pay38, hx, mulf_apply, addf_apply, subf_apply, maximumf_apply, truncf_apply, expv_apply, sc_self, shapeCast_a_a1_apply, mx256, mx512, mx768, mx1024, mx128, sm256, sm512, sm768, sm1024, sm128, bc_a1]
theorem pl3 (q : FVec Ideal S256x256 .bf16) (kb : Vec Ideal S128x256 .bf16) (nb : Vec Ideal S1x128 .f32) (m : Vec Ideal S256x1 .f32) (l : Vec Ideal S256x1 .f32) (r : Fin 256) : k0_pay80 (k0_pay37 q kb (k0_pay13 nb) m) (k0_pay38 q kb (k0_pay13 nb) m) l (ix2 r 0)
    = l (ix2 r 0) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) := by
  have hx : k0_pay35 q kb (k0_pay13 nb) = sc128 q kb nb := rfl
  rw [mul_comm]
  simp (proj := false) only [k0_pay79, k0_pay80, k0_pay81, k0_pay36, k0_pay37, k0_pay38, hx, mulf_apply, addf_apply, subf_apply, maximumf_apply, truncf_apply, expv_apply, sc_self, shapeCast_a_a1_apply, mx256, mx512, mx768, mx1024, mx128, sm256, sm512, sm768, sm1024, sm128, bc_a1]
theorem pa3 (q : FVec Ideal S256x256 .bf16) (kb : Vec Ideal S128x256 .bf16) (nb : Vec Ideal S1x128 .f32) (m : Vec Ideal S256x1 .f32) (w : Vec Ideal S128x256 .bf16) (a : Vec Ideal S256x256 .f32) (r d : Fin 256) : k0_pay81 w (k0_pay37 q kb (k0_pay13 nb) m) (k0_pay38 q kb (k0_pay13 nb) m) a (ix2 r d)
    = a (ix2 r d) * Ideal.exp (m (ix2 r 0) - max (m (ix2 r 0)) (Finset.univ.sup fun k : Fin 128 => sc128 q kb nb (ix2 r k))) + ∑ k : Fin 128, Ideal.exp (sc128 q kb nb (ix2 r k) - max (m (ix2 r 0)) (Finset.univ.sup fun k : Fin 128 => sc128 q kb nb (ix2 r k))) * w (ix2 k d) := by
  have hx : k0_pay35 q kb (k0_pay13 nb) = sc128 q kb nb := rfl
  rw [mul_comm]
  simp (proj := false) only [k0_pay79, k0_pay80, k0_pay81, k0_pay36, k0_pay37, k0_pay38, hx, mulf_apply, addf_apply, subf_apply, maximumf_apply, truncf_apply, expv_apply, sc_self, shapeCast_a_a1_apply, mx256, mx512, mx768, mx1024, mx128, sm256, sm512, sm768, sm1024, sm128, bc_a1, mm128]

end Cert.Proof.FoxKernelIdeal

end
-- ==== Proof.Fox.DiagI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.WordCmp
public import Idealize.ShloMosaic.Lib.ValueLayout
public import Idealize.ShloMosaic.Lib.ValueLayoutCasts
public import proofs.«01_k».proof.Proof.Fox.ReadI
public import proofs.«01_k».proof.Proof.Fox.TileI

/-! The diagonal blocks' masked scores, read at an entry. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

set_option backward.isDefEq.respectTransparency.types false

theorem named_mask : (Named.named (F := Ideal) κ "mask" 0xF149F2CA#32 : Ideal .f32) = (⊥ : EReal) := rfl
theorem named_exit : (Named.named (F := Ideal) κ "exit" 0xC2DC0000#32 : Ideal .f32) = (⊥ : EReal) := rfl

/-- A mask along a diagonal `o` lanes to the right. -/
theorem msk (o r k : ℕ) (hr : r < 256) (hk : k < 1024) (ho : o < 1024) (a b : EReal) :
    Scalar.select (IntOp.cmpi .sle (BitVec.ofNat 32 k) (BitVec.ofNat 32 r + BitVec.ofNat 32 o)) a b = if k < r + o + 1 then a else b := by
  rw [← BitVec.ofNat_add, WordCmp.cmpi_sle_ofNat (by omega) (by omega)]
  by_cases h : k < r + o + 1
  · rw [if_pos h, decide_eq_true (show k ≤ r + o by omega)]; rfl
  · rw [if_neg h, decide_eq_false (show ¬ k ≤ r + o by omega)]; rfl

theorem cat768 {α : Type} (x : S1x512.Idx → α) (y : S1x256.Idx → α) (h : Shape.Concatenates [S1x512, S1x256] S1x768 1) (k : Fin 768) :
    concatenate S1x768 1 [⟨S1x512, x⟩, ⟨S1x256, y⟩] h (ix2 0 k) = if hk : k.val < 512 then x (ix2 0 ⟨k.val, hk⟩) else y (ix2 0 ⟨k.val - 512, by omega⟩) := by
  split
  · rename_i hk
    exact concatenate_pair_apply_left 1 x y h (ix2 0 k) rfl (ix2 0 ⟨k.val, hk⟩) fun b => match b with | ⟨0, _⟩ => rfl | ⟨1, _⟩ => rfl
  · rename_i hk
    exact concatenate_pair_apply_right 1 x y h (ix2 0 k) rfl rfl (ix2 0 ⟨k.val - 512, by omega⟩)
      (fun b hb => match b, hb with | ⟨0, _⟩, _ => rfl | ⟨1, _⟩, hb => absurd rfl hb) (by show k.val - 512 + 512 = k.val; omega)
theorem cat1024 {α : Type} (x y : S1x512.Idx → α) (h : Shape.Concatenates [S1x512, S1x512] S1x1024 1) (k : Fin 1024) :
    concatenate S1x1024 1 [⟨S1x512, x⟩, ⟨S1x512, y⟩] h (ix2 0 k) = if hk : k.val < 512 then x (ix2 0 ⟨k.val, hk⟩) else y (ix2 0 ⟨k.val - 512, by omega⟩) := by
  split
  · rename_i hk
    exact concatenate_pair_apply_left 1 x y h (ix2 0 k) rfl (ix2 0 ⟨k.val, hk⟩) fun b => match b with | ⟨0, _⟩ => rfl | ⟨1, _⟩ => rfl
  · rename_i hk
    exact concatenate_pair_apply_right 1 x y h (ix2 0 k) rfl rfl (ix2 0 ⟨k.val - 512, by omega⟩)
      (fun b hb => match b, hb with | ⟨0, _⟩, _ => rfl | ⟨1, _⟩, hb => absurd rfl hb) (by show k.val - 512 + 512 = k.val; omega)

/-! ### The diagonal's masked scores -/

theorem dx0 (q : FVec Ideal S256x256 .bf16) (kb : Vec Ideal S1x256x256 .bf16) (nb : Vec Ideal S1x1x1x256 .f32) (r : Fin 256) (k : Fin 256) :
    k0_pay47 q kb nb (ix2 r k) = if k.val < r.val + 0 + 1 then (∑ e : Fin 256, q (ix2 r e) * kb (ix3 0 k e)) + nb (ix4 0 0 0 k) else ⊥ := by
  rw [← msk 0 r.val k.val r.isLt (by have := k.isLt; omega) (by omega)]
  simp (proj := false) only [k0_pay47, mt256, select_apply, addf_apply, broadcast_apply, shapeCast_1ab_ab_apply, broadcastTo_1b_ab_apply, sc_111n, named_mask]
  refine congrArg (fun c => Scalar.select c _ _) ?_
  show IntOp.cmpi .sle (iota .tc S256x256 32 [1] iota_S256x256_d1_w32 (ix2 r k)) (iota .tc S256x256 32 [0] iota_S256x256_d0_w32 (ix2 r k) + _) = _
  rw [iota_single_apply, iota_single_apply]
  rfl
theorem dx1 (q : FVec Ideal S256x256 .bf16) (kb : Vec Ideal S1x512x256 .bf16) (nb : Vec Ideal S1x1x1x512 .f32) (r : Fin 256) (k : Fin 512) :
    k0_pay54 q kb nb (ix2 r k) = if k.val < r.val + 256 + 1 then (∑ e : Fin 256, q (ix2 r e) * kb (ix3 0 k e)) + nb (ix4 0 0 0 k) else ⊥ := by
  rw [← msk 256 r.val k.val r.isLt (by have := k.isLt; omega) (by omega)]
  simp (proj := false) only [k0_pay54, mt512, select_apply, addf_apply, broadcast_apply, shapeCast_1ab_ab_apply, broadcastTo_1b_ab_apply, sc_111n, named_mask]
  refine congrArg (fun c => Scalar.select c _ _) ?_
  show IntOp.cmpi .sle (iota .tc S256x512 32 [1] iota_S256x512_d1_w32 (ix2 r k)) (iota .tc S256x512 32 [0] iota_S256x512_d0_w32 (ix2 r k) + _) = _
  rw [iota_single_apply, iota_single_apply]
  rfl
theorem dx2 (q : FVec Ideal S256x256 .bf16) (kb : Vec Ideal S1x768x256 .bf16) (na : Vec Ideal S1x1x1x512 .f32) (nb : Vec Ideal S1x1x1x256 .f32) (r : Fin 256) (k : Fin 768) :
    k0_pay63 (k0_pay61 q kb na nb) k0_pay62 (ix2 r k) = if k.val < r.val + 512 + 1 then (∑ e : Fin 256, q (ix2 r e) * kb (ix3 0 k e))
      + (if hk : k.val < 512 then na (ix4 0 0 0 ⟨k.val, hk⟩) else nb (ix4 0 0 0 ⟨k.val - 512, by omega⟩)) else ⊥ := by
  rw [← msk 512 r.val k.val r.isLt (by have := k.isLt; omega) (by omega)]
  simp (proj := false) only [k0_pay61, k0_pay62, k0_pay63, mt768, cat768, select_apply, addf_apply, broadcast_apply, shapeCast_1ab_ab_apply, broadcastTo_1b_ab_apply, sc_111n, named_mask]
  refine congrArg (fun c => Scalar.select c _ _) ?_
  show IntOp.cmpi .sle (iota .tc S256x768 32 [1] iota_S256x768_d1_w32 (ix2 r k)) (iota .tc S256x768 32 [0] iota_S256x768_d0_w32 (ix2 r k) + _) = _
  rw [iota_single_apply, iota_single_apply]
  rfl
theorem dx3 (q : FVec Ideal S256x256 .bf16) (kb : Vec Ideal S1x1024x256 .bf16) (na nb : Vec Ideal S1x1x1x512 .f32) (r : Fin 256) (k : Fin 1024) :
    k0_pay71 (iota .tc S256x1024 32 [0] iota_S256x1024_d0_w32) (iota .tc S256x1024 32 [1] iota_S256x1024_d1_w32) (k0_pay69 q kb) (k0_pay70 na) nb (ix2 r k)
      = if k.val < r.val + 768 + 1 then (∑ e : Fin 256, q (ix2 r e) * kb (ix3 0 k e))
      + (if hk : k.val < 512 then na (ix4 0 0 0 ⟨k.val, hk⟩) else nb (ix4 0 0 0 ⟨k.val - 512, by omega⟩)) else ⊥ := by
  rw [← msk 768 r.val k.val r.isLt (by have := k.isLt; omega) (by omega)]
  simp (proj := false) only [k0_pay69, k0_pay70, k0_pay71, mt1024, cat1024, select_apply, addf_apply, broadcast_apply, shapeCast_1ab_ab_apply, broadcastTo_1b_ab_apply, sc_111n, named_mask]
  refine congrArg (fun c => Scalar.select c _ _) ?_
  show IntOp.cmpi .sle (iota .tc S256x1024 32 [1] iota_S256x1024_d1_w32 (ix2 r k)) (iota .tc S256x1024 32 [0] iota_S256x1024_d0_w32 (ix2 r k) + _) = _
  rw [iota_single_apply, iota_single_apply]
  rfl

/-! ### The loop's test at the ideal -/

theorem oge_exit (g : Ideal .f32) : Scalar.cmpf .oge g (Named.named (F := Ideal) κ "exit" 0xC2DC0000#32) = 1#1 := by
  show BitVec.ofBool (decide ((⊥ : EReal) ≤ g)) = 1#1
  rw [decide_eq_true bot_le]; rfl
theorem wd_nonneg (n : Fin 32) : Scalar.cmpi .sge (wd (n.val + 1)) 0#32 = 1#1 := by
  revert n; decide +kernel
theorem flg_succ (n : Fin 32) (g : Ideal .f32) : Scalar.cmpi .ne (flg (F := Ideal) (n.val + 1) g) 0#32 = 1#1 := by
  unfold flg
  rw [oge_exit, wd_nonneg]
  decide

end Cert.Proof.FoxKernelIdeal

end
-- ==== Proof.Fox.Soft.lean ====
module

public import Idealize.ShloMosaic.Lib.ValueIdx
public import Idealize.ShloMosaic.PureOps.Ideal.Laws

/-! Softmax-weighted sums over a growing interval of positions, as a running maximum, sum and weighted sum. -/

@[expose] public section

noncomputable section

namespace Cert.Proof.Soft

open Idealize.ShloMosaic
open scoped BigOperators

/-- The running triple `m, l, a` stands for the positions in `[lo, hi)`: `l` is the sum of the exponentials of the scores
    less `m`, and `a` the sum of the values weighted by them. -/
def Inv (s : ℕ → ℝ) (v : ℕ → EReal) (lo hi : ℕ) (m l a : EReal) : Prop :=
  ∃ M : ℝ, m = (M : EReal) ∧ l = ((∑ p ∈ Finset.Ico lo hi, Real.exp (s p - M) : ℝ) : EReal)
    ∧ a = ∑ p ∈ Finset.Ico lo hi, ((Real.exp (s p - M) : ℝ) : EReal) * v p

theorem exp_coe (x : ℝ) : Ideal.exp (x : EReal) = ((Real.exp x : ℝ) : EReal) := rfl
theorem exp_bot : Ideal.exp ⊥ = 0 := rfl

theorem coe_sum {ι : Type} (S : Finset ι) (f : ι → ℝ) : ((∑ p ∈ S, f p : ℝ) : EReal) = ∑ p ∈ S, ((f p : ℝ) : EReal) := by
  classical
  induction S using Finset.induction_on with
  | empty => rfl
  | insert a S h ih => rw [Finset.sum_insert h, Finset.sum_insert h, EReal.coe_add, ih]

/-- A nonnegative real factor distributes over any sum of extended reals. -/
theorem sum_mul_coe {ι : Type} (S : Finset ι) (f : ι → EReal) (r : ℝ) (hr : 0 ≤ r) :
    (∑ p ∈ S, f p) * (r : EReal) = ∑ p ∈ S, f p * (r : EReal) := by
  classical
  induction S using Finset.induction_on with
  | empty => simp
  | insert a S h ih =>
    rw [Finset.sum_insert h, Finset.sum_insert h, ← ih, mul_comm,
      EReal.left_distrib_of_nonneg_of_ne_top (EReal.coe_nonneg.mpr hr) (EReal.coe_ne_top r), mul_comm, mul_comm (r : EReal)]

section Block
variable {s : ℕ → ℝ} {v : ℕ → EReal} {n : ℕ} {t w : Fin n → EReal} {lo c : ℕ} (hc : c ≤ n)
  (ht : ∀ k : Fin n, t k = if k.val < c then ((s (lo + k.val) : ℝ) : EReal) else ⊥)
  (hw : ∀ k : Fin n, k.val < c → w k = v (lo + k.val))

theorem sum_lanes {M : Type} [AddCommMonoid M] (g : ℕ → M) (h : Fin n → M) (hc : c ≤ n)
    (hh : ∀ k : Fin n, h k = if k.val < c then g (lo + k.val) else 0) :
    ∑ k : Fin n, h k = ∑ p ∈ Finset.Ico lo (lo + c), g p := by
  rw [Finset.sum_congr rfl fun k _ => hh k, Fin.sum_univ_eq_sum_range (fun k => if k < c then g (lo + k) else 0) n,
    Finset.sum_Ico_eq_sum_range, Nat.add_sub_cancel_left, ← Finset.sum_subset (Finset.range_mono hc)]
  · exact Finset.sum_congr rfl fun k hk => if_pos (Finset.mem_range.mp hk)
  · intro k _ hk; exact if_neg fun h => hk (Finset.mem_range.mpr h)

include hc ht in
theorem sum_exp (M : ℝ) : ∑ k : Fin n, Ideal.exp (t k - (M : EReal))
    = ((∑ p ∈ Finset.Ico lo (lo + c), Real.exp (s p - M) : ℝ) : EReal) := by
  rw [coe_sum]
  refine sum_lanes (fun p => ((Real.exp (s p - M) : ℝ) : EReal)) _ hc fun k => ?_
  rw [ht k]
  by_cases h : k.val < c
  · rw [if_pos h, if_pos h, ← EReal.coe_sub, exp_coe]
  · rw [if_neg h, if_neg h, EReal.bot_sub, exp_bot]

include hc ht hw in
theorem sum_exp_mul (M : ℝ) : ∑ k : Fin n, Ideal.exp (t k - (M : EReal)) * w k
    = ∑ p ∈ Finset.Ico lo (lo + c), ((Real.exp (s p - M) : ℝ) : EReal) * v p := by
  refine sum_lanes (fun p => ((Real.exp (s p - M) : ℝ) : EReal) * v p) _ hc fun k => ?_
  rw [ht k]
  by_cases h : k.val < c
  · rw [if_pos h, if_pos h, ← EReal.coe_sub, exp_coe, hw k h]
  · rw [if_neg h, if_neg h, EReal.bot_sub, exp_bot, zero_mul]

include ht in
/-- The largest lane is a real where some lane is open. -/
theorem sup_real (hn : c ≤ n) (h0 : 0 < c) : ∃ M : ℝ, Finset.univ.sup t = (M : EReal) := by
  have hb : Finset.univ.sup t ≠ ⊥ := by
    intro h
    have h1 := Finset.le_sup (f := t) (Finset.mem_univ ⟨0, by omega⟩)
    rw [h, ht, if_pos h0] at h1
    exact absurd (le_bot_iff.mp h1) (EReal.coe_ne_bot _)
  have hT : Finset.univ.sup t ≠ ⊤ := by
    refine ne_of_lt ((Finset.sup_lt_iff bot_lt_top).mpr fun k _ => ?_)
    rw [ht k]
    split
    · exact EReal.coe_lt_top _
    · exact bot_lt_top
  exact ⟨(Finset.univ.sup t).toReal, (EReal.coe_toReal hT hb).symm⟩

include hc ht hw in
/-- The first block: the maximum of its lanes, the sum and the weighted sum. -/
theorem inv_first (h0 : 0 < c) :
    Inv s v lo (lo + c) (Finset.univ.sup t) (∑ k : Fin n, Ideal.exp (t k - Finset.univ.sup t))
      (∑ k : Fin n, Ideal.exp (t k - Finset.univ.sup t) * w k) := by
  obtain ⟨M, hM⟩ := sup_real ht hc h0
  exact ⟨M, hM, by rw [hM, sum_exp hc ht], by rw [hM, sum_exp_mul hc ht hw]⟩

include hc ht hw in
/-- A further block below, the maximum kept. -/
theorem inv_fixed {mid hi : ℕ} (hm : lo + c = mid) (hh : mid ≤ hi) {m l a : EReal} (h : Inv s v mid hi m l a) :
    Inv s v lo hi m (l + ∑ k : Fin n, Ideal.exp (t k - m)) (a + ∑ k : Fin n, Ideal.exp (t k - m) * w k) := by
  obtain ⟨M, rfl, rfl, rfl⟩ := h
  refine ⟨M, rfl, ?_, ?_⟩
  · rw [sum_exp hc ht, hm, ← EReal.coe_add, add_comm, Finset.sum_Ico_consecutive _ (by omega) hh]
  · rw [sum_exp_mul hc ht hw, hm, add_comm, Finset.sum_Ico_consecutive _ (by omega) hh]

include hc ht hw in
/-- A further block below, the maximum raised and the sums rescaled. -/
theorem inv_online {mid hi : ℕ} (hm : lo + c = mid) (hh : mid ≤ hi) {m l a : EReal} (h : Inv s v mid hi m l a) :
    Inv s v lo hi (max m (Finset.univ.sup t))
      (l * Ideal.exp (m - max m (Finset.univ.sup t)) + ∑ k : Fin n, Ideal.exp (t k - max m (Finset.univ.sup t)))
      (a * Ideal.exp (m - max m (Finset.univ.sup t)) + ∑ k : Fin n, Ideal.exp (t k - max m (Finset.univ.sup t)) * w k) := by
  obtain ⟨M, rfl, rfl, rfl⟩ := h
  have hreal : ∃ M' : ℝ, max (M : EReal) (Finset.univ.sup t) = (M' : EReal) := by
    have hT : max (M : EReal) (Finset.univ.sup t) ≠ ⊤ := by
      refine ne_of_lt (max_lt (EReal.coe_lt_top _) ((Finset.sup_lt_iff bot_lt_top).mpr fun k _ => ?_))
      rw [ht k]
      split
      · exact EReal.coe_lt_top _
      · exact bot_lt_top
    have hb : max (M : EReal) (Finset.univ.sup t) ≠ ⊥ := ne_of_gt (lt_of_lt_of_le (EReal.bot_lt_coe M) (le_max_left _ _))
    exact ⟨_, (EReal.coe_toReal hT hb).symm⟩
  obtain ⟨M', hM'⟩ := hreal
  have hinv : Inv s v mid hi (M' : EReal)
      (((∑ p ∈ Finset.Ico mid hi, Real.exp (s p - M) : ℝ) : EReal) * Ideal.exp ((M : EReal) - (M' : EReal)))
      ((∑ p ∈ Finset.Ico mid hi, ((Real.exp (s p - M) : ℝ) : EReal) * v p) * Ideal.exp ((M : EReal) - (M' : EReal))) := by
    refine ⟨M', rfl, ?_, ?_⟩
    · rw [← EReal.coe_sub, exp_coe, ← EReal.coe_mul, Finset.sum_mul]
      exact congrArg _ (Finset.sum_congr rfl fun p _ => by rw [← Real.exp_add]; congr 1; ring)
    · rw [← EReal.coe_sub, exp_coe, sum_mul_coe _ _ _ (Real.exp_pos _).le]
      refine Finset.sum_congr rfl fun p _ => ?_
      rw [mul_right_comm, ← EReal.coe_mul, ← Real.exp_add]
      congr 3; ring
  rw [hM']
  exact inv_fixed hc ht hw hm hh hinv
end Block

/-- The quotient of the weighted sum by the sum, over `[0, hi)`, is the sum of the values weighted by the softmax of scores
    that differ from these by a constant, at any subtracted real. -/
theorem inv_div {s s' : ℕ → ℝ} {v : ℕ → EReal} {hi : ℕ} {m l a : EReal} (h : Inv s v 0 hi m l a) (h0 : 0 < hi) (b M' : ℝ)
    (hs : ∀ p, s' p = s p + b) :
    Ideal.div a l = ∑ p ∈ Finset.Ico 0 hi, Ideal.div ((Real.exp (s' p - M') : ℝ) : EReal)
      ((∑ p ∈ Finset.Ico 0 hi, Real.exp (s' p - M') : ℝ) : EReal) * v p := by
  obtain ⟨M, rfl, rfl, rfl⟩ := h
  have pos : ∀ (g : ℕ → ℝ), 0 < ∑ p ∈ Finset.Ico 0 hi, Real.exp (g p) := fun g =>
    Finset.sum_pos (fun p _ => Real.exp_pos _) ⟨0, Finset.mem_Ico.mpr ⟨le_refl _, h0⟩⟩
  have hdiv : ∀ (x : EReal) (r : ℝ), 0 < r → Ideal.div x (r : EReal) = x * ((r⁻¹ : ℝ) : EReal) := by
    intro x r hr
    rw [EReal.coe_inv]; unfold Ideal.div
    exact if_neg (by exact_mod_cast hr.ne')
  have hp := pos fun p => s p - M
  have hp' := pos fun p => s' p - M'
  rw [hdiv _ _ hp, sum_mul_coe _ _ _ (inv_nonneg.mpr hp.le)]
  refine Finset.sum_congr rfl fun p _ => ?_
  rw [hdiv _ _ hp', mul_right_comm, ← EReal.coe_mul, ← EReal.coe_mul]
  congr 2
  have hfac : ∀ q, Real.exp (s' q - M') = Real.exp (s q - M) * Real.exp (b + M - M') := fun q => by
    rw [← Real.exp_add, hs q]; congr 1; ring
  rw [Finset.sum_congr rfl fun q _ => hfac q, ← Finset.sum_mul, hfac p]
  have he := (Real.exp_pos (b + M - M')).ne'
  field_simp

end Cert.Proof.Soft

end
-- ==== Proof.Fox.RowsI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.WordCmp
public import Idealize.ShloMosaic.Lib.ValueLayout
public import Idealize.ShloMosaic.Lib.ValueLayoutCasts
public import proofs.«01_k».proof.Proof.Fox.DiagI
public import proofs.«01_k».proof.Proof.Fox.Soft

/-! Every row of the attention body's state is a softmax over the keys seen. -/

@[expose] public section

set_option maxRecDepth 16384

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

set_option backward.isDefEq.respectTransparency.types false

theorem rd_unit {s : Shape} {e : EltTy} (x : Vec Ideal s e) (off size : Fin s.rank → ℕ) (h) (j : (Rect.unit (s := s) off size h).shape.Idx) (k : s.Idx)
    (hk : ∀ d, (k d).val = off d + (j d).val) : rd x (Rect.unit (s := s) off size h) j = x k :=
  congrArg x (funext fun d => Fin.ext (by show off d + 1 * (j d).val = _; rw [Nat.one_mul]; exact (hk d).symm))

theorem rd_rows {c : ℕ} {e : EltTy} (x : Vec Ideal (⟨2, ![1024, c]⟩ : Shape) e) (o : ℕ) (h) (r : Fin 256) (k : Fin c) (ρ : Fin 1024) (hr : ρ.val = o + r.val) :
    rd x (Rect.unit (s := ⟨2, ![1024, c]⟩) ![o, 0] (⟨2, ![256, c]⟩ : Shape).size h) (ix2 r k) = x (ix2 ρ k) :=
  rd_unit x _ _ h _ _ fun d => match d with
    | ⟨0, _⟩ => hr
    | ⟨1, _⟩ => (Nat.zero_add _).symm

theorem rd_mid {a b c : ℕ} {e : EltTy} (x : Vec Ideal (⟨3, ![1, a, c]⟩ : Shape) e) (off : Fin 3 → ℕ) (o : ℕ) (ho : off = ![0, o, 0]) (h) (k : Fin b) (l : Fin c) (J : Fin a)
    (hJ : J.val = o + k.val) :
    rd x (Rect.unit (s := ⟨3, ![1, a, c]⟩) off (⟨3, ![1, b, c]⟩ : Shape).size h) (ix3 0 k l) = x (ix3 0 J l) := by
  subst ho
  exact rd_unit x _ _ h _ _ fun d => match d with
    | ⟨0, _⟩ => rfl
    | ⟨1, _⟩ => hJ
    | ⟨2, _⟩ => (Nat.zero_add _).symm

theorem rd_lane {b : ℕ} {e : EltTy} (x : Vec Ideal S1x1x32x512 e) (off : Fin 4 → ℕ) (o : ℕ) (ho : off = ![0, 0, o, 0]) (h) (k : Fin b) (A : Fin 32) (B : Fin 512)
    (hA : A.val = o) (hB : B.val = k.val) :
    rd x (Rect.unit (s := S1x1x32x512) off (⟨4, ![1, 1, 1, b]⟩ : Shape).size h) (ix4 0 0 0 k) = x (ix4 0 0 A B) := by
  subst ho
  exact rd_unit x _ _ h _ _ fun d => match d with
    | ⟨0, _⟩ => rfl
    | ⟨1, _⟩ => rfl
    | ⟨2, _⟩ => hA
    | ⟨3, _⟩ => hB.trans (Nat.zero_add _).symm

section Stk
variable {d : ℕ} {e : EltTy} (w0 w1 w2 w3 : Vec Ideal (⟨2, ![256, d]⟩ : Shape) e) (ρ : Fin 1024) (r : Fin 256) (c : Fin d)
theorem stk0 (h : ρ.val = 0 + r.val) : stk w0 w1 w2 w3 (ix2 ρ c) = w0 (ix2 r c) := by
  have hr := r.isLt
  have e : ((ix2 ρ c : (⟨2, ![1024, d]⟩ : Shape).Idx) 0).val = ρ.val := rfl
  unfold stk
  split_ifs with c0 c1 c2 <;> first | omega | exact congrArg (fun z => w0 (ix2 z c)) (Fin.ext (show ρ.val = r.val by omega))
theorem stk1 (h : ρ.val = 256 + r.val) : stk w0 w1 w2 w3 (ix2 ρ c) = w1 (ix2 r c) := by
  have hr := r.isLt
  have e : ((ix2 ρ c : (⟨2, ![1024, d]⟩ : Shape).Idx) 0).val = ρ.val := rfl
  unfold stk
  split_ifs with c0 c1 c2 <;> first | omega | exact congrArg (fun z => w1 (ix2 z c)) (Fin.ext (show ρ.val - 256 = r.val by omega))
theorem stk2 (h : ρ.val = 512 + r.val) : stk w0 w1 w2 w3 (ix2 ρ c) = w2 (ix2 r c) := by
  have hr := r.isLt
  have e : ((ix2 ρ c : (⟨2, ![1024, d]⟩ : Shape).Idx) 0).val = ρ.val := rfl
  unfold stk
  split_ifs with c0 c1 c2 <;> first | omega | exact congrArg (fun z => w2 (ix2 z c)) (Fin.ext (show ρ.val - 512 = r.val by omega))
theorem stk3 (h : ρ.val = 768 + r.val) : stk w0 w1 w2 w3 (ix2 ρ c) = w3 (ix2 r c) := by
  have hr := r.isLt
  have e : ((ix2 ρ c : (⟨2, ![1024, d]⟩ : Shape).Idx) 0).val = ρ.val := rfl
  unfold stk
  split_ifs with c0 c1 c2 <;> first | omega | exact congrArg (fun z => w3 (ix2 z c)) (Fin.ext (show ρ.val - 768 = r.val by omega))
end Stk

theorem grp (ρ : Fin 1024) : (∃ r : Fin 256, ρ.val = 0 + r.val) ∨ (∃ r : Fin 256, ρ.val = 256 + r.val) ∨ (∃ r : Fin 256, ρ.val = 512 + r.val)
    ∨ (∃ r : Fin 256, ρ.val = 768 + r.val) := by
  have := ρ.isLt
  by_cases h0 : ρ.val < 256
  · exact .inl ⟨⟨ρ.val, h0⟩, (Nat.zero_add _).symm⟩
  by_cases h1 : ρ.val < 512
  · exact .inr (.inl ⟨⟨ρ.val - 256, by omega⟩, by show ρ.val = 256 + (ρ.val - 256); omega⟩)
  by_cases h2 : ρ.val < 768
  · exact .inr (.inr (.inl ⟨⟨ρ.val - 512, by omega⟩, by show ρ.val = 512 + (ρ.val - 512); omega⟩))
  · exact .inr (.inr (.inr ⟨⟨ρ.val - 768, by omega⟩, by show ρ.val = 768 + (ρ.val - 768); omega⟩))

/-! ### Offsets -/

theorem off8_eq (n : Fin 32) : k0_off8 (wd (n.val + 1)) = ![0, 512 * n.val, 0] := by revert n; decide +kernel
theorem off9_eq (n : Fin 32) : k0_off9 (wd (n.val + 1)) = ![0, 0, n.val, 0] := by revert n; decide +kernel
theorem word_1024 (a : Fin 16) : (Scalar.indexCast (Scalar.muli (BitVec.ofNat 32 a.val) 1024#32) : Index).toNat = 1024 * a.val := by revert a; decide +kernel
theorem word_2 (a : Fin 16) : (Scalar.indexCast (Scalar.addi (Scalar.muli (BitVec.ofNat 32 a.val) 2#32) 0#32) : Index).toNat = 2 * a.val := by revert a; decide +kernel
theorem word_2' (a : Fin 16) : (Scalar.indexCast (Scalar.addi (Scalar.muli (BitVec.ofNat 32 a.val) 2#32) 1#32) : Index).toNat = 2 * a.val + 1 := by revert a; decide +kernel
theorem word_h (a : Fin 4) : (Scalar.indexCast (BitVec.ofNat 32 a.val) : Index).toNat = a.val := by revert a; decide +kernel
theorem off1_eq (i : grid0.Coords) : k0_off1 i = ![0, 1024 * (i 2).val, 0] := congrArg (fun z => (![0, z, 0] : Fin 3 → ℕ)) (word_1024 (i 2))
theorem off3_eq (i : grid0.Coords) : k0_off3 i = ![0, 1024 * (i 2).val, 0] := congrArg (fun z => (![0, z, 0] : Fin 3 → ℕ)) (word_1024 (i 2))
theorem off5_eq (i : grid0.Coords) : k0_off5 i = ![0, 1024 * (i 2).val, 0] := congrArg (fun z => (![0, z, 0] : Fin 3 → ℕ)) (word_1024 (i 2))
theorem off6_eq (i : grid0.Coords) : k0_off6 i = ![0, 1024 * (i 2).val, 0] := congrArg (fun z => (![0, z, 0] : Fin 3 → ℕ)) (word_1024 (i 2))
theorem off2_eq (i : grid0.Coords) : k0_off2 i 0#32 = ![0, 0, 2 * (i 2).val, 0] := congrArg (fun z => (![0, 0, z, 0] : Fin 4 → ℕ)) (word_2 (i 2))
theorem off2_eq' (i : grid0.Coords) : k0_off2 i 1#32 = ![0, 0, 2 * (i 2).val + 1, 0] := congrArg (fun z => (![0, 0, z, 0] : Fin 4 → ℕ)) (word_2' (i 2))
theorem off4_eq (i : grid0.Coords) : k0_off4 i 0#32 = ![0, 0, 2 * (i 2).val, 0] := congrArg (fun z => (![0, 0, z, 0] : Fin 4 → ℕ)) (word_2 (i 2))
theorem off4_eq' (i : grid0.Coords) : k0_off4 i 1#32 = ![0, 0, 2 * (i 2).val + 1, 0] := congrArg (fun z => (![0, 0, z, 0] : Fin 4 → ℕ)) (word_2' (i 2))
theorem off14_eq (i : grid0.Coords) : k0_off14 i = ![(i 1).val, 0] := congrArg (fun z => (![z, 0] : Fin 2 → ℕ)) (word_h (i 1))

theorem i1_lt (i : grid0.Coords) : (i 1).val < 8 := by have : (i 1).val < 4 := (i 1).isLt; omega
theorem i2_lt (i : grid0.Coords) : (i 2).val < 16 := (i 2).isLt

section Rows
variable (i : grid0.Coords) (x3 : Vec Ideal S1x1024x256 .bf16) (x4 x5 : Vec Ideal S1x16384x256 .bf16) (x6 : Vec Ideal S1x1x32x512 .f32)
  (x7 x8 : Vec Ideal S256 .f32) (x9 x10 : Vec Ideal S128x256 .bf16) (x11 : Vec Ideal S8x128 .f32) (x12 : Vec Ideal S4 .f32)

/-- The score of a query row against position `p`: the sixteen learned tokens, then the sequence. -/
def sE (ρ : Fin 1024) (p : ℕ) : EReal :=
  if h : p < 16 then (∑ e : Fin 256, x3 (ix3 0 ρ e) * x9 (ix2 ⟨p, by omega⟩ e)) + x11 (ix2 ⟨(i 1).val, i1_lt i⟩ ⟨p, by omega⟩)
  else if h' : p < 16400 then (∑ e : Fin 256, x3 (ix3 0 ρ e) * x4 (ix3 0 ⟨p - 16, by omega⟩ e)) + x6 (ix4 0 0 ⟨(p - 16) / 512, by omega⟩ ⟨(p - 16) % 512, by omega⟩)
  else 0
def sR (ρ : Fin 1024) (p : ℕ) : ℝ := (sE i x3 x4 x6 x9 x11 ρ p).toReal
/-- The values at position `p`. -/
def vE (d : Fin 256) (p : ℕ) : EReal :=
  if h : p < 16 then x10 (ix2 ⟨p, by omega⟩ d) else if h' : p < 16400 then x5 (ix3 0 ⟨p - 16, by omega⟩ d) else 0

/-- Every row of the state is the softmax over the positions from `lo` to its own. -/
def RowInv (lo : ℕ) (S : St Ideal) : Prop := ∀ (ρ : Fin 1024) (d : Fin 256),
  Soft.Inv (sR i x3 x4 x6 x9 x11 ρ) (vE x5 x10 d) lo (16 + 1024 * (i 2).val + ρ.val + 1) (S.1 (ix2 ρ 0)) (S.2.1 (ix2 ρ 0)) (S.2.2 (ix2 ρ d))

theorem sE_key (ρ : Fin 1024) (p j : ℕ) (J : Fin 16384) (A : Fin 32) (B : Fin 512) (hp : p = 16 + j) (hJ : J.val = j) (hA : A.val = j / 512) (hB : B.val = j % 512) :
    sE i x3 x4 x6 x9 x11 ρ p = (∑ e : Fin 256, x3 (ix3 0 ρ e) * x4 (ix3 0 J e)) + x6 (ix4 0 0 A B) := by
  have := J.isLt
  subst hp
  unfold sE
  rw [dif_neg (by omega), dif_pos (by omega)]
  have e1 : (⟨16 + j - 16, by omega⟩ : Fin 16384) = J := Fin.ext (by show 16 + j - 16 = _; omega)
  have e2 : (⟨(16 + j - 16) / 512, by omega⟩ : Fin 32) = A := Fin.ext (by show (16 + j - 16) / 512 = _; rw [Nat.add_sub_cancel_left, hA])
  have e3 : (⟨(16 + j - 16) % 512, by omega⟩ : Fin 512) = B := Fin.ext (by show (16 + j - 16) % 512 = _; rw [Nat.add_sub_cancel_left, hB])
  rw [e1, e2, e3]

theorem vE_key (d : Fin 256) (p j : ℕ) (J : Fin 16384) (hp : p = 16 + j) (hJ : J.val = j) : vE x5 x10 d p = x5 (ix3 0 J d) := by
  have := J.isLt
  subst hp
  unfold vE
  rw [dif_neg (by omega), dif_pos (by omega)]
  have e1 : (⟨16 + j - 16, by omega⟩ : Fin 16384) = J := Fin.ext (by show 16 + j - 16 = _; omega)
  rw [e1]

/-! ### One earlier block -/

theorem kAt_apply (x : Vec Ideal S1x16384x256 .bf16) (n : Fin 32) (k : Fin 512) (e : Fin 256) (J : Fin 16384) (hJ : J.val = 512 * n.val + k.val) :
    kAt x n (ix3 0 k e) = x (ix3 0 J e) := rd_mid x _ _ (off8_eq n) _ k e J hJ
theorem nAt_apply (n : Fin 32) (k : Fin 512) : nAt x6 n (ix4 0 0 0 k) = x6 (ix4 0 0 n k) := rd_lane x6 _ _ (off9_eq n) _ k n k rfl rfl

variable (hf : ∀ ρ p, p < 16400 → sE i x3 x4 x6 x9 x11 ρ p = (sR i x3 x4 x6 x9 x11 ρ p : EReal))
include hf

theorem blk_score (q : FVec Ideal S256x256 .bf16) (n : Fin 32) (ρ : Fin 1024) (r : Fin 256) (hq : ∀ e, q (ix2 r e) = x3 (ix3 0 ρ e)) (k : Fin 512) :
    sc512 q (kAt x4 n) (nAt x6 n) (ix2 r k) = if k.val < 512 then (sR i x3 x4 x6 x9 x11 ρ (16 + 512 * n.val + k.val) : EReal) else ⊥ := by
  have hn := n.isLt
  have hk := k.isLt
  rw [if_pos k.isLt, ← hf ρ _ (by omega), sc512_apply,
    sE_key i x3 x4 x6 x9 x11 ρ _ (512 * n.val + k.val) ⟨512 * n.val + k.val, by omega⟩ n k (by omega) rfl (by omega) (by omega), nAt_apply]
  refine congrArg (· + _) (Finset.sum_congr rfl fun e _ => ?_)
  rw [hq, kAt_apply x4 n k e ⟨512 * n.val + k.val, by omega⟩ rfl]

omit hf in
theorem blk_val (n : Fin 32) (d : Fin 256) (k : Fin 512) : kAt x5 n (ix3 0 k d) = vE x5 x10 d (16 + 512 * n.val + k.val) := by
  have hn := n.isLt
  have hk := k.isLt
  rw [vE_key x5 x10 d _ (512 * n.val + k.val) ⟨512 * n.val + k.val, by omega⟩ (by omega) rfl, kAt_apply x5 n k d ⟨512 * n.val + k.val, by omega⟩ rfl]

theorem fix_row (q : FVec Ideal S256x256 .bf16) (n : Fin 32) (ρ : Fin 1024) (r d : Fin 256) (hq : ∀ e, q (ix2 r e) = x3 (ix3 0 ρ e))
    (m l : Vec Ideal S256x1 .f32) (a : Vec Ideal S256x256 .f32) (M L A : EReal) (hm : m (ix2 r 0) = M) (hl : l (ix2 r 0) = L) (ha : a (ix2 r d) = A)
    (hi : ℕ) (hh : 16 + 512 * (n.val + 1) ≤ hi) (h : Soft.Inv (sR i x3 x4 x6 x9 x11 ρ) (vE x5 x10 d) (16 + 512 * (n.val + 1)) hi M L A) :
    Soft.Inv (sR i x3 x4 x6 x9 x11 ρ) (vE x5 x10 d) (16 + 512 * n.val) hi M
      (k0_pay4 q (k0_pay83 (kAt x4 n)) (k0_pay85 (nAt x6 n)) m l (ix2 r 0))
      (k0_pay5 q (k0_pay83 (kAt x4 n)) (k0_pay84 (kAt x5 n)) (k0_pay85 (nAt x6 n)) m a (ix2 r d)) := by
  rw [fl_apply, fa_apply, hm, hl, ha]
  exact Soft.inv_fixed (c := 512) le_rfl (blk_score i x3 x4 x6 x9 x11 hf q n ρ r hq) (w := fun k : Fin 512 => kAt x5 n (ix3 0 k d))
    (fun k _ => blk_val x5 x10 n d k) (by omega) hh h

theorem onl_row (q : FVec Ideal S256x256 .bf16) (n : Fin 32) (ρ : Fin 1024) (r d : Fin 256) (hq : ∀ e, q (ix2 r e) = x3 (ix3 0 ρ e))
    (m l : Vec Ideal S256x1 .f32) (a : Vec Ideal S256x256 .f32) (M L A : EReal) (hm : m (ix2 r 0) = M) (hl : l (ix2 r 0) = L) (ha : a (ix2 r d) = A)
    (hi : ℕ) (hh : 16 + 512 * (n.val + 1) ≤ hi) (h : Soft.Inv (sR i x3 x4 x6 x9 x11 ρ) (vE x5 x10 d) (16 + 512 * (n.val + 1)) hi M L A) :
    Soft.Inv (sR i x3 x4 x6 x9 x11 ρ) (vE x5 x10 d) (16 + 512 * n.val) hi
      (k0_pay9 (sc512 q (kAt x4 n) (nAt x6 n)) m (ix2 r 0))
      (k0_pay10 (sc512 q (kAt x4 n) (nAt x6 n)) m l (ix2 r 0))
      (k0_pay11 (k0_pay97 (kAt x5 n)) (sc512 q (kAt x4 n) (nAt x6 n)) m a (ix2 r d)) := by
  rw [om_apply, ol_apply, oa_apply, hm, hl, ha]
  exact Soft.inv_online (c := 512) le_rfl (blk_score i x3 x4 x6 x9 x11 hf q n ρ r hq) (w := fun k : Fin 512 => kAt x5 n (ix3 0 k d))
    (fun k _ => blk_val x5 x10 n d k) (by omega) hh h

/-! ### The learned tokens -/

omit hf in
theorem pB_apply (k : Fin 128) : pB i x11 (ix2 0 k) = x11 (ix2 ⟨(i 1).val, i1_lt i⟩ k) :=
  rd_unit x11 _ _ _ _ _ fun d => match d with
    | ⟨0, _⟩ => (congrFun (off14_eq i) 0).symm
    | ⟨1, _⟩ => by
      have e := congrFun (off14_eq i) 1
      show k.val = k0_off14 i 1 + k.val
      rw [e]
      exact (Nat.zero_add _).symm

variable (hb : ∀ k : Fin 128, 16 ≤ k.val → x11 (ix2 ⟨(i 1).val, i1_lt i⟩ k) = (⊥ : EReal))
include hb

theorem pre_score (q : FVec Ideal S256x256 .bf16) (ρ : Fin 1024) (r : Fin 256) (hq : ∀ e, q (ix2 r e) = x3 (ix3 0 ρ e)) (k : Fin 128) :
    sc128 q x9 (pB i x11) (ix2 r k) = if k.val < 16 then (sR i x3 x4 x6 x9 x11 ρ (0 + k.val) : EReal) else ⊥ := by
  rw [sc128_apply, pB_apply]
  split
  · rename_i h
    rw [← hf ρ _ (by omega), Nat.zero_add]
    unfold sE
    rw [dif_pos h]
    refine congrArg (· + _) (Finset.sum_congr rfl fun e _ => ?_)
    rw [hq]
  · rename_i h
    rw [hb k (by omega), EReal.add_bot]

omit hf hb in
theorem pre_val (d : Fin 256) (k : Fin 128) (h : k.val < 16) : x10 (ix2 k d) = vE x5 x10 d (0 + k.val) := by
  rw [Nat.zero_add]
  unfold vE
  rw [dif_pos h]
omit hf hb

/-! ### Row groups -/

theorem qG0_apply (ρ : Fin 1024) (r e : Fin 256) (hr : ρ.val = 0 + r.val) : qG0 x3 (ix2 r e) = x3 (ix3 0 ρ e) := by
  simp (proj := false) only [qG0, k0_pay39, shapeCast_1ab_ab_apply]
  exact rd_mid x3 _ 0 rfl _ r e ρ hr
theorem qG1_apply (ρ : Fin 1024) (r e : Fin 256) (hr : ρ.val = 256 + r.val) : qG1 x3 (ix2 r e) = x3 (ix3 0 ρ e) := by
  simp (proj := false) only [qG1, k0_pay40, shapeCast_1ab_ab_apply]
  exact rd_mid x3 _ 256 rfl _ r e ρ hr
theorem qG2_apply (ρ : Fin 1024) (r e : Fin 256) (hr : ρ.val = 512 + r.val) : qG2 x3 (ix2 r e) = x3 (ix3 0 ρ e) := by
  simp (proj := false) only [qG2, k0_pay41, shapeCast_1ab_ab_apply]
  exact rd_mid x3 _ 512 rfl _ r e ρ hr
theorem qG3_apply (ρ : Fin 1024) (r e : Fin 256) (hr : ρ.val = 768 + r.val) : qG3 x3 (ix2 r e) = x3 (ix3 0 ρ e) := by
  simp (proj := false) only [qG3, k0_pay42, shapeCast_1ab_ab_apply]
  exact rd_mid x3 _ 768 rfl _ r e ρ hr

include hf in
theorem fixS_row (n : Fin 32) (hn : n.val < 2 * (i 2).val) (S : St Ideal) (h : RowInv i x3 x4 x5 x6 x9 x10 x11 (16 + 512 * (n.val + 1)) S) :
    RowInv i x3 x4 x5 x6 x9 x10 x11 (16 + 512 * n.val) (fixS (qG0 x3) (qG1 x3) (qG2 x3) (qG3 x3) (kAt x4 n) (kAt x5 n) (nAt x6 n) S) := by
  intro ρ d
  have hρ := h ρ d
  unfold fixS
  dsimp only
  rcases grp ρ with ⟨r, hr⟩ | ⟨r, hr⟩ | ⟨r, hr⟩ | ⟨r, hr⟩
  · rw [stk0 _ _ _ _ ρ r _ hr, stk0 _ _ _ _ ρ r _ hr]
    exact fix_row i x3 x4 x5 x6 x9 x10 x11 hf (qG0 x3) n ρ r d (fun e => qG0_apply x3 ρ r e hr) _ _ _ _ _ _
      (rd_rows S.1 0 _ r 0 ρ hr) (rd_rows S.2.1 0 _ r 0 ρ hr) (rd_rows S.2.2 0 _ r d ρ hr) _ (by omega) hρ
  · rw [stk1 _ _ _ _ ρ r _ hr, stk1 _ _ _ _ ρ r _ hr]
    exact fix_row i x3 x4 x5 x6 x9 x10 x11 hf (qG1 x3) n ρ r d (fun e => qG1_apply x3 ρ r e hr) _ _ _ _ _ _
      (rd_rows S.1 256 _ r 0 ρ hr) (rd_rows S.2.1 256 _ r 0 ρ hr) (rd_rows S.2.2 256 _ r d ρ hr) _ (by omega) hρ
  · rw [stk2 _ _ _ _ ρ r _ hr, stk2 _ _ _ _ ρ r _ hr]
    exact fix_row i x3 x4 x5 x6 x9 x10 x11 hf (qG2 x3) n ρ r d (fun e => qG2_apply x3 ρ r e hr) _ _ _ _ _ _
      (rd_rows S.1 512 _ r 0 ρ hr) (rd_rows S.2.1 512 _ r 0 ρ hr) (rd_rows S.2.2 512 _ r d ρ hr) _ (by omega) hρ
  · rw [stk3 _ _ _ _ ρ r _ hr, stk3 _ _ _ _ ρ r _ hr]
    exact fix_row i x3 x4 x5 x6 x9 x10 x11 hf (qG3 x3) n ρ r d (fun e => qG3_apply x3 ρ r e hr) _ _ _ _ _ _
      (rd_rows S.1 768 _ r 0 ρ hr) (rd_rows S.2.1 768 _ r 0 ρ hr) (rd_rows S.2.2 768 _ r d ρ hr) _ (by omega) hρ

include hf in
theorem onlS_row (n : Fin 32) (hn : n.val < 2 * (i 2).val) (S : St Ideal) (h : RowInv i x3 x4 x5 x6 x9 x10 x11 (16 + 512 * (n.val + 1)) S) :
    RowInv i x3 x4 x5 x6 x9 x10 x11 (16 + 512 * n.val) (onlS (qG0 x3) (qG1 x3) (qG2 x3) (qG3 x3) (kAt x4 n) (kAt x5 n) (nAt x6 n) S) := by
  intro ρ d
  have hρ := h ρ d
  unfold onlS
  dsimp only
  rcases grp ρ with ⟨r, hr⟩ | ⟨r, hr⟩ | ⟨r, hr⟩ | ⟨r, hr⟩
  · rw [stk0 _ _ _ _ ρ r _ hr, stk0 _ _ _ _ ρ r _ hr, stk0 _ _ _ _ ρ r _ hr]
    exact onl_row i x3 x4 x5 x6 x9 x10 x11 hf (qG0 x3) n ρ r d (fun e => qG0_apply x3 ρ r e hr) _ _ _ _ _ _
      (rd_rows S.1 0 _ r 0 ρ hr) (rd_rows S.2.1 0 _ r 0 ρ hr) (rd_rows S.2.2 0 _ r d ρ hr) _ (by omega) hρ
  · rw [stk1 _ _ _ _ ρ r _ hr, stk1 _ _ _ _ ρ r _ hr, stk1 _ _ _ _ ρ r _ hr]
    exact onl_row i x3 x4 x5 x6 x9 x10 x11 hf (qG1 x3) n ρ r d (fun e => qG1_apply x3 ρ r e hr) _ _ _ _ _ _
      (rd_rows S.1 256 _ r 0 ρ hr) (rd_rows S.2.1 256 _ r 0 ρ hr) (rd_rows S.2.2 256 _ r d ρ hr) _ (by omega) hρ
  · rw [stk2 _ _ _ _ ρ r _ hr, stk2 _ _ _ _ ρ r _ hr, stk2 _ _ _ _ ρ r _ hr]
    exact onl_row i x3 x4 x5 x6 x9 x10 x11 hf (qG2 x3) n ρ r d (fun e => qG2_apply x3 ρ r e hr) _ _ _ _ _ _
      (rd_rows S.1 512 _ r 0 ρ hr) (rd_rows S.2.1 512 _ r 0 ρ hr) (rd_rows S.2.2 512 _ r d ρ hr) _ (by omega) hρ
  · rw [stk3 _ _ _ _ ρ r _ hr, stk3 _ _ _ _ ρ r _ hr, stk3 _ _ _ _ ρ r _ hr]
    exact onl_row i x3 x4 x5 x6 x9 x10 x11 hf (qG3 x3) n ρ r d (fun e => qG3_apply x3 ρ r e hr) _ _ _ _ _ _
      (rd_rows S.1 768 _ r 0 ρ hr) (rd_rows S.2.1 768 _ r 0 ρ hr) (rd_rows S.2.2 768 _ r d ρ hr) _ (by omega) hρ

include hf in
theorem loopS_row (v49 : Ideal .f32) (n : ℕ) (hn : n ≤ 32) (hn2 : n ≤ 2 * (i 2).val) : ∀ (gap : Ideal .f32) (S : St Ideal)
    (_ : RowInv i x3 x4 x5 x6 x9 x10 x11 (16 + 512 * n) S),
    RowInv i x3 x4 x5 x6 x9 x10 x11 16 (loopS i (qG0 x3) (qG1 x3) (qG2 x3) (qG3 x3) v49 x4 x5 x6 x7 x8 n hn gap S) := by
  induction n with
  | zero => intro gap S h; exact h
  | succ n ih =>
    intro gap S h
    unfold loopS
    rw [if_pos (flg_succ ⟨n, hn⟩ gap)]
    refine ih (by omega) (by omega) _ _ ?_
    unfold stepS
    split
    · exact fixS_row i x3 x4 x5 x6 x9 x10 x11 hf ⟨n, hn⟩ (by show n < _; omega) S h
    · exact onlS_row i x3 x4 x5 x6 x9 x10 x11 hf ⟨n, hn⟩ (by show n < _; omega) S h

include hf hb in
theorem pfS_row (S : St Ideal) (h : RowInv i x3 x4 x5 x6 x9 x10 x11 16 S) :
    RowInv i x3 x4 x5 x6 x9 x10 x11 0 (pfS i x3 x9 x10 x11 S) := by
  intro ρ d
  have hρ := h ρ d
  unfold pfS
  dsimp only
  rcases grp ρ with ⟨r, hr⟩ | ⟨r, hr⟩ | ⟨r, hr⟩ | ⟨r, hr⟩
  · rw [stk0 _ _ _ _ ρ r _ hr, stk0 _ _ _ _ ρ r _ hr, stk0 _ _ _ _ ρ r _ hr, pm0, pl0, pa0,
      rd_rows S.1 0 _ r 0 ρ hr, rd_rows S.2.1 0 _ r 0 ρ hr, rd_rows S.2.2 0 _ r d ρ hr]
    exact Soft.inv_online (c := 16) (by omega) (pre_score i x3 x4 x6 x9 x11 hf hb (qG0 x3) ρ r (fun e => qG0_apply x3 ρ r e hr))
      (w := fun k : Fin 128 => x10 (ix2 k d)) (fun k hk => pre_val x5 x10 d k hk) (by omega) (by omega) hρ
  · rw [stk1 _ _ _ _ ρ r _ hr, stk1 _ _ _ _ ρ r _ hr, stk1 _ _ _ _ ρ r _ hr, pm1, pl1, pa1,
      rd_rows S.1 256 _ r 0 ρ hr, rd_rows S.2.1 256 _ r 0 ρ hr, rd_rows S.2.2 256 _ r d ρ hr]
    exact Soft.inv_online (c := 16) (by omega) (pre_score i x3 x4 x6 x9 x11 hf hb (qG1 x3) ρ r (fun e => qG1_apply x3 ρ r e hr))
      (w := fun k : Fin 128 => x10 (ix2 k d)) (fun k hk => pre_val x5 x10 d k hk) (by omega) (by omega) hρ
  · rw [stk2 _ _ _ _ ρ r _ hr, stk2 _ _ _ _ ρ r _ hr, stk2 _ _ _ _ ρ r _ hr, pm2, pl2, pa2,
      rd_rows S.1 512 _ r 0 ρ hr, rd_rows S.2.1 512 _ r 0 ρ hr, rd_rows S.2.2 512 _ r d ρ hr]
    exact Soft.inv_online (c := 16) (by omega) (pre_score i x3 x4 x6 x9 x11 hf hb (qG2 x3) ρ r (fun e => qG2_apply x3 ρ r e hr))
      (w := fun k : Fin 128 => x10 (ix2 k d)) (fun k hk => pre_val x5 x10 d k hk) (by omega) (by omega) hρ
  · rw [stk3 _ _ _ _ ρ r _ hr, stk3 _ _ _ _ ρ r _ hr, stk3 _ _ _ _ ρ r _ hr, pm3, pl3, pa3,
      rd_rows S.1 768 _ r 0 ρ hr, rd_rows S.2.1 768 _ r 0 ρ hr, rd_rows S.2.2 768 _ r d ρ hr]
    exact Soft.inv_online (c := 16) (by omega) (pre_score i x3 x4 x6 x9 x11 hf hb (qG3 x3) ρ r (fun e => qG3_apply x3 ρ r e hr))
      (w := fun k : Fin 128 => x10 (ix2 k d)) (fun k hk => pre_val x5 x10 d k hk) (by omega) (by omega) hρ

/-! ### The tile's own keys -/

theorem dK1_apply (x : Vec Ideal S1x16384x256 .bf16) (k : Fin 256) (e : Fin 256) (J : Fin 16384) (hJ : J.val = 1024 * (i 2).val + k.val) :
    dK1 i x (ix3 0 k e) = x (ix3 0 J e) := rd_mid x _ _ (off1_eq i) _ k e J hJ
theorem dval0 (d : Fin 256) (k : Fin 256) : dK1 i x5 (ix3 0 k d) = vE x5 x10 d (16 + 1024 * (i 2).val + k.val) := by
  have ht := i2_lt i
  have hk := k.isLt
  rw [vE_key x5 x10 d _ (1024 * (i 2).val + k.val) ⟨1024 * (i 2).val + k.val, by omega⟩ (by omega) rfl, dK1_apply i x5 k d ⟨1024 * (i 2).val + k.val, by omega⟩ rfl]
theorem dK2_apply (x : Vec Ideal S1x16384x256 .bf16) (k : Fin 512) (e : Fin 256) (J : Fin 16384) (hJ : J.val = 1024 * (i 2).val + k.val) :
    dK2 i x (ix3 0 k e) = x (ix3 0 J e) := rd_mid x _ _ (off3_eq i) _ k e J hJ
theorem dval1 (d : Fin 256) (k : Fin 512) : dK2 i x5 (ix3 0 k d) = vE x5 x10 d (16 + 1024 * (i 2).val + k.val) := by
  have ht := i2_lt i
  have hk := k.isLt
  rw [vE_key x5 x10 d _ (1024 * (i 2).val + k.val) ⟨1024 * (i 2).val + k.val, by omega⟩ (by omega) rfl, dK2_apply i x5 k d ⟨1024 * (i 2).val + k.val, by omega⟩ rfl]
theorem dK3_apply (x : Vec Ideal S1x16384x256 .bf16) (k : Fin 768) (e : Fin 256) (J : Fin 16384) (hJ : J.val = 1024 * (i 2).val + k.val) :
    dK3 i x (ix3 0 k e) = x (ix3 0 J e) := rd_mid x _ _ (off5_eq i) _ k e J hJ
theorem dval2 (d : Fin 256) (k : Fin 768) : dK3 i x5 (ix3 0 k d) = vE x5 x10 d (16 + 1024 * (i 2).val + k.val) := by
  have ht := i2_lt i
  have hk := k.isLt
  rw [vE_key x5 x10 d _ (1024 * (i 2).val + k.val) ⟨1024 * (i 2).val + k.val, by omega⟩ (by omega) rfl, dK3_apply i x5 k d ⟨1024 * (i 2).val + k.val, by omega⟩ rfl]
theorem dK4_apply (x : Vec Ideal S1x16384x256 .bf16) (k : Fin 1024) (e : Fin 256) (J : Fin 16384) (hJ : J.val = 1024 * (i 2).val + k.val) :
    dK4 i x (ix3 0 k e) = x (ix3 0 J e) := rd_mid x _ _ (off6_eq i) _ k e J hJ
theorem dval3 (d : Fin 256) (k : Fin 1024) : dK4 i x5 (ix3 0 k d) = vE x5 x10 d (16 + 1024 * (i 2).val + k.val) := by
  have ht := i2_lt i
  have hk := k.isLt
  rw [vE_key x5 x10 d _ (1024 * (i 2).val + k.val) ⟨1024 * (i 2).val + k.val, by omega⟩ (by omega) rfl, dK4_apply i x5 k d ⟨1024 * (i 2).val + k.val, by omega⟩ rfl]

include hf in
theorem dscore0 (ρ : Fin 1024) (r : Fin 256) (hr : ρ.val = 0 + r.val) (k : Fin 256) :
    k0_pay47 (qG0 x3) (dK1 i x4) (dA0 i x6) (ix2 r k)
      = if k.val < ρ.val + 1 then (sR i x3 x4 x6 x9 x11 ρ (16 + 1024 * (i 2).val + k.val) : EReal) else ⊥ := by
  have ht := i2_lt i
  have hk := k.isLt
  rw [dx0]
  by_cases hc : k.val < ρ.val + 1
  · rw [if_pos (by omega), if_pos hc, ← hf ρ _ (by omega)]
    rw [sE_key i x3 x4 x6 x9 x11 ρ _ (1024 * (i 2).val + k.val) ⟨1024 * (i 2).val + k.val, by omega⟩ ⟨2 * (i 2).val, by omega⟩ ⟨k.val, by omega⟩
        (by omega) rfl (by show 2 * (i 2).val = _; omega) (by show k.val = _; omega)]
    refine congr (congrArg _ (Finset.sum_congr rfl fun e _ => ?_)) ?_
    · rw [qG0_apply x3 ρ r e hr, dK1_apply i x4 k e ⟨1024 * (i 2).val + k.val, by omega⟩ rfl]
    · exact rd_lane x6 _ _ (off2_eq i) _ k _ _ rfl rfl
  · rw [if_neg (by omega), if_neg hc]

include hf in
theorem dscore1 (ρ : Fin 1024) (r : Fin 256) (hr : ρ.val = 256 + r.val) (k : Fin 512) :
    k0_pay54 (qG1 x3) (dK2 i x4) (dB0 i x6) (ix2 r k)
      = if k.val < ρ.val + 1 then (sR i x3 x4 x6 x9 x11 ρ (16 + 1024 * (i 2).val + k.val) : EReal) else ⊥ := by
  have ht := i2_lt i
  have hk := k.isLt
  rw [dx1]
  by_cases hc : k.val < ρ.val + 1
  · rw [if_pos (by omega), if_pos hc, ← hf ρ _ (by omega)]
    rw [sE_key i x3 x4 x6 x9 x11 ρ _ (1024 * (i 2).val + k.val) ⟨1024 * (i 2).val + k.val, by omega⟩ ⟨2 * (i 2).val, by omega⟩ ⟨k.val, by omega⟩
        (by omega) rfl (by show 2 * (i 2).val = _; omega) (by show k.val = _; omega)]
    refine congr (congrArg _ (Finset.sum_congr rfl fun e _ => ?_)) ?_
    · rw [qG1_apply x3 ρ r e hr, dK2_apply i x4 k e ⟨1024 * (i 2).val + k.val, by omega⟩ rfl]
    · exact rd_lane x6 _ _ (off4_eq i) _ k _ _ rfl rfl
  · rw [if_neg (by omega), if_neg hc]

include hf in
theorem dscore2 (ρ : Fin 1024) (r : Fin 256) (hr : ρ.val = 512 + r.val) (k : Fin 768) :
    k0_pay63 (k0_pay61 (qG2 x3) (dK3 i x4) (dB0 i x6) (dA1 i x6)) k0_pay62 (ix2 r k)
      = if k.val < ρ.val + 1 then (sR i x3 x4 x6 x9 x11 ρ (16 + 1024 * (i 2).val + k.val) : EReal) else ⊥ := by
  have ht := i2_lt i
  have hk := k.isLt
  rw [dx2]
  by_cases hc : k.val < ρ.val + 1
  · rw [if_pos (by omega), if_pos hc, ← hf ρ _ (by omega)]
    by_cases h5 : k.val < 512
    · rw [dif_pos h5]
      rw [sE_key i x3 x4 x6 x9 x11 ρ _ (1024 * (i 2).val + k.val) ⟨1024 * (i 2).val + k.val, by omega⟩ ⟨2 * (i 2).val, by omega⟩ ⟨k.val, by omega⟩
          (by omega) rfl (by show 2 * (i 2).val = _; omega) (by show k.val = _; omega)]
      refine congr (congrArg _ (Finset.sum_congr rfl fun e _ => ?_)) ?_
      · rw [qG2_apply x3 ρ r e hr, dK3_apply i x4 k e ⟨1024 * (i 2).val + k.val, by omega⟩ rfl]
      · exact rd_lane x6 _ _ (off4_eq i) _ ⟨k.val, h5⟩ _ _ rfl rfl
    · rw [dif_neg h5]
      rw [sE_key i x3 x4 x6 x9 x11 ρ _ (1024 * (i 2).val + k.val) ⟨1024 * (i 2).val + k.val, by omega⟩ ⟨2 * (i 2).val + 1, by omega⟩ ⟨k.val - 512, by omega⟩
          (by omega) rfl (by show 2 * (i 2).val + 1 = _; omega) (by show k.val - 512 = _; omega)]
      refine congr (congrArg _ (Finset.sum_congr rfl fun e _ => ?_)) ?_
      · rw [qG2_apply x3 ρ r e hr, dK3_apply i x4 k e ⟨1024 * (i 2).val + k.val, by omega⟩ rfl]
      · exact rd_lane x6 _ _ (off2_eq' i) _ ⟨k.val - 512, by omega⟩ _ _ rfl rfl
  · rw [if_neg (by omega), if_neg hc]

include hf in
theorem dscore3 (ρ : Fin 1024) (r : Fin 256) (hr : ρ.val = 768 + r.val) (k : Fin 1024) :
    k0_pay71 (iota .tc S256x1024 32 [0] iota_S256x1024_d0_w32) (iota .tc S256x1024 32 [1] iota_S256x1024_d1_w32) (k0_pay69 (qG3 x3) (dK4 i x4)) (k0_pay70 (dB0 i x6)) (dB1 i x6) (ix2 r k)
      = if k.val < ρ.val + 1 then (sR i x3 x4 x6 x9 x11 ρ (16 + 1024 * (i 2).val + k.val) : EReal) else ⊥ := by
  have ht := i2_lt i
  have hk := k.isLt
  rw [dx3]
  by_cases hc : k.val < ρ.val + 1
  · rw [if_pos (by omega), if_pos hc, ← hf ρ _ (by omega)]
    by_cases h5 : k.val < 512
    · rw [dif_pos h5]
      rw [sE_key i x3 x4 x6 x9 x11 ρ _ (1024 * (i 2).val + k.val) ⟨1024 * (i 2).val + k.val, by omega⟩ ⟨2 * (i 2).val, by omega⟩ ⟨k.val, by omega⟩
          (by omega) rfl (by show 2 * (i 2).val = _; omega) (by show k.val = _; omega)]
      refine congr (congrArg _ (Finset.sum_congr rfl fun e _ => ?_)) ?_
      · rw [qG3_apply x3 ρ r e hr, dK4_apply i x4 k e ⟨1024 * (i 2).val + k.val, by omega⟩ rfl]
      · exact rd_lane x6 _ _ (off4_eq i) _ ⟨k.val, h5⟩ _ _ rfl rfl
    · rw [dif_neg h5]
      rw [sE_key i x3 x4 x6 x9 x11 ρ _ (1024 * (i 2).val + k.val) ⟨1024 * (i 2).val + k.val, by omega⟩ ⟨2 * (i 2).val + 1, by omega⟩ ⟨k.val - 512, by omega⟩
          (by omega) rfl (by show 2 * (i 2).val + 1 = _; omega) (by show k.val - 512 = _; omega)]
      refine congr (congrArg _ (Finset.sum_congr rfl fun e _ => ?_)) ?_
      · rw [qG3_apply x3 ρ r e hr, dK4_apply i x4 k e ⟨1024 * (i 2).val + k.val, by omega⟩ rfl]
      · exact rd_lane x6 _ _ (off4_eq' i) _ ⟨k.val - 512, by omega⟩ _ _ rfl rfl
  · rw [if_neg (by omega), if_neg hc]

include hf in
theorem dgS_row : RowInv i x3 x4 x5 x6 x9 x10 x11 (16 + 512 * (2 * (i 2).val)) (dgS i x3 x4 x5 x6) := by
  have e : 16 + 512 * (2 * (i 2).val) = 16 + 1024 * (i 2).val := by omega
  rw [e]
  intro ρ d
  have ht := i2_lt i
  unfold dgS
  dsimp only
  rcases grp ρ with ⟨r, hr⟩ | ⟨r, hr⟩ | ⟨r, hr⟩ | ⟨r, hr⟩
  · rw [stk0 _ _ _ _ ρ r _ hr, stk0 _ _ _ _ ρ r _ hr, stk0 _ _ _ _ ρ r _ hr, dm0, dl0, da0]
    exact Soft.inv_first (c := ρ.val + 1) (by omega) (dscore0 i x3 x4 x6 x9 x11 hf ρ r hr)
      (w := fun k : Fin 256 => dK1 i x5 (ix3 0 k d)) (fun k _ => dval0 i x5 x10 d k) (by omega)
  · rw [stk1 _ _ _ _ ρ r _ hr, stk1 _ _ _ _ ρ r _ hr, stk1 _ _ _ _ ρ r _ hr, dm1, dl1, da1]
    exact Soft.inv_first (c := ρ.val + 1) (by omega) (dscore1 i x3 x4 x6 x9 x11 hf ρ r hr)
      (w := fun k : Fin 512 => dK2 i x5 (ix3 0 k d)) (fun k _ => dval1 i x5 x10 d k) (by omega)
  · rw [stk2 _ _ _ _ ρ r _ hr, stk2 _ _ _ _ ρ r _ hr, stk2 _ _ _ _ ρ r _ hr, dm2, dl2, da2]
    exact Soft.inv_first (c := ρ.val + 1) (by omega) (dscore2 i x3 x4 x6 x9 x11 hf ρ r hr)
      (w := fun k : Fin 768 => dK3 i x5 (ix3 0 k d)) (fun k _ => dval2 i x5 x10 d k) (by omega)
  · rw [stk3 _ _ _ _ ρ r _ hr, stk3 _ _ _ _ ρ r _ hr, stk3 _ _ _ _ ρ r _ hr, dm3, dl3, da3]
    exact Soft.inv_first (c := ρ.val + 1) (by omega) (dscore3 i x3 x4 x6 x9 x11 hf ρ r hr)
      (w := fun k : Fin 1024 => dK4 i x5 (ix3 0 k d)) (fun k _ => dval3 i x5 x10 d k) (by omega)

/-! ### The output -/

include hf hb in
theorem fnS_row : RowInv i x3 x4 x5 x6 x9 x10 x11 0 (fnS i x3 x4 x5 x6 x7 x8 x9 x10 x11 x12) := by
  have hp : pfC i x3 x12 (lpS i x3 x4 x5 x6 x7 x8) := by
    unfold pfC
    rw [oge_exit]
    decide
  unfold fnS
  rw [if_pos hp]
  refine pfS_row i x3 x4 x5 x6 x9 x10 x11 hf hb _ ?_
  unfold lpS
  exact loopS_row i x3 x4 x5 x6 x7 x8 x9 x10 x11 hf _ _ _ le_rfl _ _ (dgS_row i x3 x4 x5 x6 x9 x10 x11 hf)

theorem outF_apply (ρ : Fin 1024) (d : Fin 256) : outF i x3 x4 x5 x6 x7 x8 x9 x10 x11 x12 (ix3 0 ρ d)
    = Ideal.div ((fnS i x3 x4 x5 x6 x7 x8 x9 x10 x11 x12).2.2 (ix2 ρ d)) ((fnS i x3 x4 x5 x6 x7 x8 x9 x10 x11 x12).2.1 (ix2 ρ 0)) := by
  unfold outF
  generalize fnS i x3 x4 x5 x6 x7 x8 x9 x10 x11 x12 = S
  simp (proj := false) only [k0_pay1, k0_pay82, shapeCast_ab_1ab_apply, divf_apply, bc_a1]

include hf hb in
/-- A row's output: the softmax, written with any real shift and any real maximum. -/
theorem outF_row (ρ : Fin 1024) (d : Fin 256) (s' : ℕ → ℝ) (b M' : ℝ) (hs : ∀ p, s' p = sR i x3 x4 x6 x9 x11 ρ p + b) :
    outF i x3 x4 x5 x6 x7 x8 x9 x10 x11 x12 (ix3 0 ρ d)
      = ∑ p ∈ Finset.Ico 0 (16 + 1024 * (i 2).val + ρ.val + 1), Ideal.div ((Real.exp (s' p - M') : ℝ) : EReal)
        ((∑ p ∈ Finset.Ico 0 (16 + 1024 * (i 2).val + ρ.val + 1), Real.exp (s' p - M') : ℝ) : EReal) * vE x5 x10 d p := by
  rw [outF_apply]
  exact Soft.inv_div (fnS_row i x3 x4 x5 x6 x7 x8 x9 x10 x11 x12 hf hb ρ d) (by omega) b M' hs

end Rows

end Cert.Proof.FoxKernelIdeal

end
-- ==== Proof.Fox.RefI.lean ====
module

public import proofs.«01_k».proof.Proof.Gen.ReferenceIdeal.Read
public import proofs.«01_k».proof.Proof.Fox.Soft
public import Idealize.ShloMosaic.Lib.ValueIdx
public import Idealize.ShloMosaic.Lib.WordCmp
public import Idealize.ShloMosaic.Lib.Pipeline.Value
public import Idealize.ShloMosaic.PureOps.Ideal.Laws

/-! The reference attention read at one entry: over the allowed positions, the exponential of the shifted score over
the sum of them, times the value. -/

@[expose] public section

set_option maxRecDepth 16384
set_option backward.isDefEq.respectTransparency.types false

noncomputable section

namespace Cert.Proof.FoxRef

open Cert.ReferenceIdeal Cert.ReferenceIdeal.Gen Cert.ReferenceIdeal.Read
open Idealize.ShloMosaic Idealize.ShloMosaic.ValueIdx

variable (q k v : S2x16384x1024.Idx → EReal) (nb : S8x32768.Idx → EReal) (km vm : S128x1024.Idx → EReal) (nm : S8x128.Idx → EReal)
  (b : Fin 2) (h : Fin 4)

/-- Column `e` of head `h`. -/
def col (h : Fin 4) (e : Fin 256) : Fin 1024 := ⟨256 * h.val + e.val, by omega⟩

/-- Row `p` of the keys or values with the meta tokens in front. -/
def rowv (x : S2x16384x1024.Idx → EReal) (y : S128x1024.Idx → EReal) (b : Fin 2) (p : Fin 16400) (c : Fin 1024) : EReal :=
  if hp : p.val < 16 then y (ix2 ⟨p.val, by omega⟩ c) else x (ix3 b ⟨p.val - 16, by omega⟩ c)

/-- The cumulative log forget gate of position `p`. -/
def cum (b : Fin 2) (h : Fin 4) (p : Fin 16400) : EReal :=
  if hp : p.val < 16 then -nm (ix2 ⟨h.val, by omega⟩ ⟨p.val, by omega⟩)
  else -nb (ix2 ⟨h.val, by omega⟩ ⟨16384 * b.val + (p.val - 16), by omega⟩) + -nm (ix2 ⟨h.val, by omega⟩ ⟨15, by omega⟩)

theorem v2_at (i : Fin 16384) (e : Fin 256) : val_main_v2 (F := Ideal) q (ix4 b h i e) = q (ix3 b i (col h e)) := by
  rw [val_main_v2_apply, val_main_v1_apply, val_main_v0_apply]
  refine congrArg q (funext fun a => Fin.ext ?_)
  have hb := b.isLt; have hh := h.isLt; have hi := i.isLt; have he := e.isLt
  match a with
  | ⟨0, _⟩ => show (((b.val * 16384 + i.val) * 4 + h.val) * 256 + e.val) / 16777216 = b.val; omega
  | ⟨1, _⟩ => show (((b.val * 16384 + i.val) * 4 + h.val) * 256 + e.val) / 1024 % 16384 = i.val; omega
  | ⟨2, _⟩ => show (((b.val * 16384 + i.val) * 4 + h.val) * 256 + e.val) % 1024 = 256 * h.val + e.val; omega

theorem v6_at (p : Fin 16400) (c : Fin 1024) : val_main_v6 (F := Ideal) k km (ix3 b p c) = rowv k km b p c := by
  unfold val_main_v6 rowv
  split
  · rename_i hp
    refine (concatenate_pair_apply_left 1 _ _ concatenates_S2x16x1024_S2x16384x1024_S2x16400x1024_d1 (ix3 b p c) rfl (ix3 b ⟨p.val, hp⟩ c)
      fun a => match a with | ⟨0, _⟩ => rfl | ⟨1, _⟩ => rfl | ⟨2, _⟩ => rfl).trans ?_
    rw [val_main_v5_apply, val_main_v4_apply, val_main_v3_apply]
    refine congrArg km (funext fun a => Fin.ext ?_)
    match a with
    | ⟨0, _⟩ => rfl
    | ⟨1, _⟩ => rfl
  · rename_i hp
    exact concatenate_pair_apply_right 1 _ _ concatenates_S2x16x1024_S2x16384x1024_S2x16400x1024_d1 (ix3 b p c) rfl rfl (ix3 b ⟨p.val - 16, by omega⟩ c)
      (fun a ha => match a, ha with | ⟨0, _⟩, _ => rfl | ⟨1, _⟩, ha => absurd rfl ha | ⟨2, _⟩, _ => rfl) (by show p.val - 16 + 16 = p.val; omega)

theorem v9_at (p : Fin 16400) (e : Fin 256) : val_main_v9 (F := Ideal) k km (ix4 b h p e) = rowv k km b p (col h e) := by
  rw [val_main_v9_apply, val_main_v8_apply, val_main_v7_apply, ← v6_at]
  refine congrArg (val_main_v6 (F := Ideal) k km) (funext fun a => Fin.ext ?_)
  have hb := b.isLt; have hh := h.isLt; have hi := p.isLt; have he := e.isLt
  match a with
  | ⟨0, _⟩ => show (((b.val * 16400 + p.val) * 4 + h.val) * 256 + e.val) / 16793600 = b.val; omega
  | ⟨1, _⟩ => show (((b.val * 16400 + p.val) * 4 + h.val) * 256 + e.val) / 1024 % 16400 = p.val; omega
  | ⟨2, _⟩ => show (((b.val * 16400 + p.val) * 4 + h.val) * 256 + e.val) % 1024 = 256 * h.val + e.val; omega

theorem v13_at (p : Fin 16400) (c : Fin 1024) : val_main_v13 (F := Ideal) v vm (ix3 b p c) = rowv v vm b p c := by
  unfold val_main_v13 rowv
  split
  · rename_i hp
    refine (concatenate_pair_apply_left 1 _ _ concatenates_S2x16x1024_S2x16384x1024_S2x16400x1024_d1 (ix3 b p c) rfl (ix3 b ⟨p.val, hp⟩ c)
      fun a => match a with | ⟨0, _⟩ => rfl | ⟨1, _⟩ => rfl | ⟨2, _⟩ => rfl).trans ?_
    rw [val_main_v12_apply, val_main_v11_apply, val_main_v10_apply]
    refine congrArg vm (funext fun a => Fin.ext ?_)
    match a with
    | ⟨0, _⟩ => rfl
    | ⟨1, _⟩ => rfl
  · rename_i hp
    exact concatenate_pair_apply_right 1 _ _ concatenates_S2x16x1024_S2x16384x1024_S2x16400x1024_d1 (ix3 b p c) rfl rfl (ix3 b ⟨p.val - 16, by omega⟩ c)
      (fun a ha => match a, ha with | ⟨0, _⟩, _ => rfl | ⟨1, _⟩, ha => absurd rfl ha | ⟨2, _⟩, _ => rfl) (by show p.val - 16 + 16 = p.val; omega)

theorem v16_at (p : Fin 16400) (e : Fin 256) : val_main_v16 (F := Ideal) v vm (ix4 b h p e) = rowv v vm b p (col h e) := by
  rw [val_main_v16_apply, val_main_v15_apply, val_main_v14_apply, ← v13_at]
  refine congrArg (val_main_v13 (F := Ideal) v vm) (funext fun a => Fin.ext ?_)
  have hb := b.isLt; have hh := h.isLt; have hi := p.isLt; have he := e.isLt
  match a with
  | ⟨0, _⟩ => show (((b.val * 16400 + p.val) * 4 + h.val) * 256 + e.val) / 16793600 = b.val; omega
  | ⟨1, _⟩ => show (((b.val * 16400 + p.val) * 4 + h.val) * 256 + e.val) / 1024 % 16400 = p.val; omega
  | ⟨2, _⟩ => show (((b.val * 16400 + p.val) * 4 + h.val) * 256 + e.val) % 1024 = 256 * h.val + e.val; omega

theorem v24_at (p : Fin 16) : val_main_v24 (F := Ideal) nm (ix3 b h p) = -nm (ix2 ⟨h.val, by omega⟩ ⟨p.val, by omega⟩) := by
  rw [val_main_v24_apply, val_main_v23_apply, val_main_v22_apply, val_main_v21_apply]
  refine congrArg (fun t => -nm t) (funext fun a => Fin.ext ?_)
  match a with
  | ⟨0, _⟩ => rfl
  | ⟨1, _⟩ => rfl

theorem v20_at (j : Fin 16384) : val_main_v20 (F := Ideal) nb (ix3 b h j) = -nb (ix2 ⟨h.val, by omega⟩ ⟨16384 * b.val + j.val, by omega⟩) := by
  rw [val_main_v20_apply, val_main_v19_apply, val_main_v18_apply, val_main_v17_apply]
  refine congrArg (fun t => -nb t) (funext fun a => Fin.ext ?_)
  have hb := b.isLt; have hh := h.isLt; have hi := j.isLt
  match a with
  | ⟨0, _⟩ => show ((h.val * 2 + b.val) * 16384 + j.val) / 32768 = h.val; omega
  | ⟨1, _⟩ => show ((h.val * 2 + b.val) * 16384 + j.val) % 32768 = 16384 * b.val + j.val; omega

theorem v26_at (j : Fin 16384) : val_main_v26 (F := Ideal) nm (ix3 b h j) = -nm (ix2 ⟨h.val, by omega⟩ ⟨15, by omega⟩) := by
  rw [val_main_v26_apply, val_main_v25_apply, ← v24_at nm b h ⟨15, by omega⟩]
  refine congrArg (val_main_v24 (F := Ideal) nm) (funext fun a => Fin.ext ?_)
  match a with
  | ⟨0, _⟩ => rfl
  | ⟨1, _⟩ => rfl
  | ⟨2, _⟩ => rfl

theorem v28_at (p : Fin 16400) : val_main_v28 (F := Ideal) nb nm (ix3 b h p) = cum nb nm b h p := by
  unfold val_main_v28 cum
  split
  · rename_i hp
    refine (concatenate_pair_apply_left 2 _ _ concatenates_S2x4x16_S2x4x16384_S2x4x16400_d2 (ix3 b h p) rfl (ix3 b h ⟨p.val, hp⟩)
      fun a => match a with | ⟨0, _⟩ => rfl | ⟨1, _⟩ => rfl | ⟨2, _⟩ => rfl).trans ?_
    exact v24_at nm b h ⟨p.val, hp⟩
  · rename_i hp
    refine (concatenate_pair_apply_right 2 _ _ concatenates_S2x4x16_S2x4x16384_S2x4x16400_d2 (ix3 b h p) rfl rfl (ix3 b h ⟨p.val - 16, by omega⟩)
      (fun a ha => match a, ha with | ⟨0, _⟩, _ => rfl | ⟨2, _⟩, ha => absurd rfl ha | ⟨1, _⟩, _ => rfl) (by show p.val - 16 + 16 = p.val; omega)).trans ?_
    rw [val_main_v27_apply, v20_at, v26_at]; rfl

/-- The score of query row `i` at position `p`, before the mask. -/
def score (i : Fin 16384) (p : Fin 16400) : EReal :=
  (∑ e : Fin 256, q (ix3 b i (col h e)) * rowv k km b p (col h e)) + cum nb nm b h ⟨16 + i.val, by omega⟩ - cum nb nm b h p

theorem v36_at (i : Fin 16384) (p : Fin 16400) : val_main_v36 (F := Ideal) q k nb km nm (ix4 b h i p) = score q k nb km nm b h i p := by
  rw [val_main_v36_apply, val_main_v33_apply, val_main_v29_apply, val_main_v32_apply, val_main_v31_apply, val_main_v30_apply, val_main_v35_apply,
    val_main_v34_apply]
  have e1 : ∀ e, val_main_v2 (F := Ideal) q (lidx_main_v29 (ix4 b h i p) e) = q (ix3 b i (col h e)) := fun e => by
    rw [← v2_at q b h i e]; exact congrArg _ (funext fun a => Fin.ext (match a with | ⟨0, _⟩ => rfl | ⟨1, _⟩ => rfl | ⟨2, _⟩ => rfl | ⟨3, _⟩ => rfl))
  have e2 : ∀ e, val_main_v9 (F := Ideal) k km (ridx_main_v29 (ix4 b h i p) e) = rowv k km b p (col h e) := fun e => by
    rw [← v9_at k km b h p e]; exact congrArg _ (funext fun a => Fin.ext (match a with | ⟨0, _⟩ => rfl | ⟨1, _⟩ => rfl | ⟨2, _⟩ => rfl | ⟨3, _⟩ => rfl))
  have e3 : val_main_v28 (F := Ideal) nb nm (idx_main_v30 (idx_main_v31 (idx_main_v32 (ix4 b h i p)))) = cum nb nm b h ⟨16 + i.val, by omega⟩ := by
    rw [← v28_at]; exact congrArg _ (funext fun a => Fin.ext (match a with | ⟨0, _⟩ => rfl | ⟨1, _⟩ => rfl | ⟨2, _⟩ => rfl))
  have e4 : val_main_v28 (F := Ideal) nb nm (idx_main_v34 (idx_main_v35 (ix4 b h i p))) = cum nb nm b h p := by
    rw [← v28_at]; exact congrArg _ (funext fun a => Fin.ext (match a with | ⟨0, _⟩ => rfl | ⟨1, _⟩ => rfl | ⟨2, _⟩ => rfl))
  rw [e3, e4, Finset.sum_congr rfl fun e _ => by rw [e1 e, e2 e]]
  rfl

theorem v45_at (i : Fin 16384) (p : Fin 16400) : val_main_v45 (F := Ideal) (ix2 i p) = if p.val < 16 + i.val + 1 then 1#1 else 0#1 := by
  rw [val_main_v45_apply, val_main_v43_apply, val_main_v38_apply, val_main_v37_apply, val_main_v44_apply, val_main_v42_apply, val_main_v41_apply,
    val_main_v40_apply, val_main_c_apply, val_main_v39_apply]
  have hi := i.isLt; have hp := p.isLt
  show IntOp.cmpi .sle (BitVec.ofNat 32 p.val) (BitVec.ofNat 32 16 + BitVec.ofNat 32 i.val) = _
  rw [← BitVec.ofNat_add, WordCmp.cmpi_sle_ofNat (by omega) (by omega)]
  by_cases c : p.val < 16 + i.val + 1
  · rw [if_pos c, decide_eq_true (show p.val ≤ 16 + i.val by omega)]; rfl
  · rw [if_neg c, decide_eq_false (show ¬ p.val ≤ 16 + i.val by omega)]; rfl

theorem ninf : (FloatOps.ofBits (F := Ideal) .f32 0xFF800000#32 : EReal) = ⊥ := by
  show Ideal.ofBits .f32 0xFF800000#32 = ⊥; simp [Ideal.ofBits, Ideal.ieee]

theorem v46_at (i : Fin 16384) (p : Fin 16400) : val_main_v46 (F := Ideal) q k nb km nm (ix4 b h i p)
    = if p.val < 16 + i.val + 1 then score q k nb km nm b h i p else ⊥ := by
  rw [val_main_v46_apply, v36_at, val_main_call0_v1_apply, val_main_call0_v2_apply, val_main_call0_v0_apply, val_main_cst_apply, ninf]
  have e : idx_main_call0_v1 (ix4 b h i p) = ix2 i p := funext fun a => Fin.ext (match a with | ⟨0, _⟩ => rfl | ⟨1, _⟩ => rfl)
  rw [e, v45_at]
  by_cases c : p.val < 16 + i.val + 1
  · rw [if_pos c, if_pos c]; rfl
  · rw [if_neg c, if_neg c]; rfl

theorem v47_at (i : Fin 16384) : val_main_v47 (F := Ideal) q k nb km nm (ix3 b h i)
    = Finset.univ.sup fun p : Fin 16400 => val_main_v46 (F := Ideal) q k nb km nm (ix4 b h i p) := by
  unfold val_main_v47
  generalize val_main_v46 (F := Ideal) q k nb km nm = y
  have hr : S2x4x16384x16400.Reduces [3] S2x4x16384 := by decide
  refine (Host.reduce_eq_fold_single (FloatOps.maximumf (F := Ideal) (φ := .f32)) y _ reducesTo_S2x4x16384x16400_S2x4x16384_d3 hr h_S_ (ix3 b h i)).trans ?_
  have e : (y ∘ hr.lift (ix3 b h i)) = fun p : Fin 16400 => y (ix4 b h i p) := by
    funext p; refine congrArg y (funext fun d => Fin.ext ?_)
    match d with | ⟨0, _⟩ => rfl | ⟨1, _⟩ => rfl | ⟨2, _⟩ => rfl | ⟨3, _⟩ => rfl
  rw [e, val_main_cst_0_apply, ninf]
  rfl

/-- The reference's value at one entry, when every score is finite. -/
theorem v60_at (i : Fin 16384) (d : Fin 256) (r : ℕ → ℝ) (hr : ∀ p : Fin 16400, score q k nb km nm b h i p = (r p.val : EReal)) :
    ∃ M : ℝ, val_main_v60 (F := Ideal) q k v nb km vm nm (ix3 b i (col h d))
      = ∑ p : Fin 16400, if p.val < 16 + i.val + 1 then
          Ideal.div ((Real.exp (r p.val - M) : ℝ) : EReal) ((∑ p ∈ Finset.Ico 0 (16 + i.val + 1), Real.exp (r p - M) : ℝ) : EReal) * rowv v vm b p (col h d) else 0 := by
  have hi := i.isLt
  have ht : ∀ p : Fin 16400, val_main_v46 (F := Ideal) q k nb km nm (ix4 b h i p) = if p.val < 16 + i.val + 1 then ((r (0 + p.val) : ℝ) : EReal) else ⊥ := fun p => by
    rw [v46_at, hr, Nat.zero_add]
  obtain ⟨M, hM⟩ := Soft.sup_real ht (by omega) (by omega)
  refine ⟨M, ?_⟩
  have h49 : val_main_v49 (F := Ideal) q k nb km nm (ix3 b h i) = (M : EReal) := by
    rw [val_main_v49_apply, val_main_v48_apply, val_main_cst_1_apply, ninf, v47_at, hM]
    exact max_eq_right bot_le
  have h52 : ∀ p : Fin 16400, val_main_v53 (F := Ideal) q k nb km nm (ix4 b h i p)
      = Ideal.exp (val_main_v46 (F := Ideal) q k nb km nm (ix4 b h i p) - (M : EReal)) := fun p => by
    rw [val_main_v53_apply, val_main_v52_apply, val_main_v51_apply, val_main_v50_apply]
    have e : idx_main_v50 (idx_main_v51 (ix4 b h i p)) = ix3 b h i := funext fun a => Fin.ext (match a with | ⟨0, _⟩ => rfl | ⟨1, _⟩ => rfl | ⟨2, _⟩ => rfl)
    rw [e, h49]; rfl
  have h54 : val_main_v54 (F := Ideal) q k nb km nm (ix3 b h i) = ((∑ p ∈ Finset.Ico 0 (16 + i.val + 1), Real.exp (r p - M) : ℝ) : EReal) := by
    rw [val_main_v54_apply, val_main_cst_2_apply]
    have e0 : (FloatOps.ofBits (F := Ideal) .f32 0x00000000#32 : EReal) = 0 := Ideal.ofBits_zero_f32
    have e : ∀ p : Fin 16400, idx_main_v54 (ix3 b h i) p = ix4 b h i p := fun p =>
      funext fun a => Fin.ext (match a with | ⟨0, _⟩ => rfl | ⟨1, _⟩ => rfl | ⟨2, _⟩ => rfl | ⟨3, _⟩ => rfl)
    rw [e0, zero_add, Finset.sum_congr rfl fun p _ => by rw [e p, h52 p], Soft.sum_exp (by omega) ht M, Nat.zero_add]
  rw [val_main_v60_apply, val_main_v59_apply, val_main_v58_apply]
  refine Finset.sum_congr rfl fun p _ => ?_
  have hb := b.isLt; have hh := h.isLt; have hd := d.isLt
  have e0 : (lidx_main_v58 (idx_main_v59 (idx_main_v60 (ix3 b i (col h d)))) p) = ix4 b h i p := funext fun a => Fin.ext (by
    match a with
    | ⟨0, _⟩ => show ((b.val * 16384 + i.val) * 1024 + (256 * h.val + d.val)) / 16777216 = b.val; omega
    | ⟨1, _⟩ => show ((b.val * 16384 + i.val) * 1024 + (256 * h.val + d.val)) / 256 % 4 = h.val; omega
    | ⟨2, _⟩ => show ((b.val * 16384 + i.val) * 1024 + (256 * h.val + d.val)) / 1024 % 16384 = i.val; omega
    | ⟨3, _⟩ => rfl)
  have e1 : (ridx_main_v58 (idx_main_v59 (idx_main_v60 (ix3 b i (col h d)))) p) = ix4 b h p d := funext fun a => Fin.ext (by
    match a with
    | ⟨0, _⟩ => show ((b.val * 16384 + i.val) * 1024 + (256 * h.val + d.val)) / 16777216 = b.val; omega
    | ⟨1, _⟩ => show ((b.val * 16384 + i.val) * 1024 + (256 * h.val + d.val)) / 256 % 4 = h.val; omega
    | ⟨2, _⟩ => rfl
    | ⟨3, _⟩ => show ((b.val * 16384 + i.val) * 1024 + (256 * h.val + d.val)) % 256 = d.val; omega)
  have e2 : idx_main_v55 (idx_main_v56 (ix4 b h i p)) = ix3 b h i := funext fun a => Fin.ext (match a with | ⟨0, _⟩ => rfl | ⟨1, _⟩ => rfl | ⟨2, _⟩ => rfl)
  rw [e0, e1, v16_at, val_main_v57_apply, val_main_v56_apply, val_main_v55_apply, e2, h54, h52, ht]
  by_cases c : p.val < 16 + i.val + 1
  · rw [if_pos c, if_pos c, Nat.zero_add, ← EReal.coe_sub, Soft.exp_coe]; rfl
  · rw [if_neg c, if_neg c, EReal.bot_sub, Soft.exp_bot]
    show Ideal.div 0 _ * _ = 0
    have pos : 0 < ∑ p ∈ Finset.Ico 0 (16 + i.val + 1), Real.exp (r p - M) :=
      Finset.sum_pos (fun p _ => Real.exp_pos _) ⟨0, Finset.mem_Ico.mpr ⟨le_refl _, by omega⟩⟩
    have z : Ideal.div (0 : EReal) ((∑ p ∈ Finset.Ico 0 (16 + i.val + 1), Real.exp (r p - M) : ℝ) : EReal) = 0 := by
      unfold Ideal.div; rw [if_neg (by exact_mod_cast pos.ne'), zero_mul]
    rw [z, zero_mul]

end Cert.Proof.FoxRef

end
-- ==== Proof.Fox.BlocksI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.Pipeline.ValueKit
public import Idealize.ShloMosaic.Lib.Claim
public import proofs.«01_k».proof.Proof.Fox.RunI
public import proofs.«01_k».proof.Proof.Fox.RowsI
public import proofs.«01_k».proof.Proof.Fox.RefI

/-! The windows' blocks of the attention region as entries of the arguments. -/

@[expose] public section

set_option maxRecDepth 16384
set_option backward.isDefEq.respectTransparency.types false

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable (m : (ℓ : Loc nD τ sig) → Buf (Elt Ideal) ℓ) (c : Dev nD)

/-- The arguments, as arrays of extended reals. -/
abbrev A0 : S2x16384x1024.Idx → EReal := m ((c.tc : Thread nD τ).loc main_arg0)
abbrev A1 : S2x16384x1024.Idx → EReal := m ((c.tc : Thread nD τ).loc main_arg1)
abbrev A2 : S2x16384x1024.Idx → EReal := m ((c.tc : Thread nD τ).loc main_arg2)
abbrev A3 : S8x32768.Idx → EReal := m ((c.tc : Thread nD τ).loc main_arg3)
abbrev A5 : S128x1024.Idx → EReal := m ((c.tc : Thread nD τ).loc main_arg5)
abbrev A6 : S128x1024.Idx → EReal := m ((c.tc : Thread nD τ).loc main_arg6)
abbrev A7 : S8x128.Idx → EReal := m ((c.tc : Thread nD τ).loc main_arg7)

theorem t0_lt (t : Fin grid0.N) : (grid0.coords t 0).val < 2 := (grid0.coords t 0).isLt
theorem t1_lt (t : Fin grid0.N) : (grid0.coords t 1).val < 4 := (grid0.coords t 1).isLt
theorem t2_lt (t : Fin grid0.N) : (grid0.coords t 2).val < 16 := (grid0.coords t 2).isLt

/-- The batch, the head and the query row of a point. -/
def tb (t : Fin grid0.N) : Fin 2 := ⟨(grid0.coords t 0).val, t0_lt t⟩
def th (t : Fin grid0.N) : Fin 4 := ⟨(grid0.coords t 1).val, t1_lt t⟩
def tr (t : Fin grid0.N) (ρ : Fin 1024) : Fin 16384 := ⟨1024 * (grid0.coords t 2).val + ρ.val, by have := t2_lt t; omega⟩

theorem x0 : ∀ t : Fin (cfg0 (F := Ideal)).N, win0_0.index t = ![(grid0.coords t 0).val, (grid0.coords t 2).val, (grid0.coords t 1).val] :=
  (by decide +kernel : ∀ t : Fin grid0.N, _)
theorem x1 : ∀ t : Fin (cfg0 (F := Ideal)).N, win0_1.index t = ![(grid0.coords t 0).val, 0, (grid0.coords t 1).val] :=
  (by decide +kernel : ∀ t : Fin grid0.N, _)
theorem x2 : ∀ t : Fin (cfg0 (F := Ideal)).N, win0_2.index t = ![(grid0.coords t 0).val, 0, (grid0.coords t 1).val] :=
  (by decide +kernel : ∀ t : Fin grid0.N, _)
theorem x3 : ∀ t : Fin (cfg0 (F := Ideal)).N, win0_3.index t = ![(grid0.coords t 1).val, (grid0.coords t 0).val, 0, 0] :=
  (by decide +kernel : ∀ t : Fin grid0.N, _)
theorem x6 : ∀ t : Fin (cfg0 (F := Ideal)).N, win0_6.index t = ![0, (grid0.coords t 1).val] :=
  (by decide +kernel : ∀ t : Fin grid0.N, _)
theorem x7 : ∀ t : Fin (cfg0 (F := Ideal)).N, win0_7.index t = ![0, (grid0.coords t 1).val] :=
  (by decide +kernel : ∀ t : Fin grid0.N, _)
theorem x8 : ∀ t : Fin (cfg0 (F := Ideal)).N, win0_8.index t = ![0, 0] :=
  (by decide +kernel : ∀ t : Fin grid0.N, _)
theorem x10 : ∀ t : Fin (cfg0 (F := Ideal)).N, win0_10.index t = ![(grid0.coords t 0).val, (grid0.coords t 2).val, (grid0.coords t 1).val] :=
  (by decide +kernel : ∀ t : Fin grid0.N, _)

theorem b0 (t : Fin (cfg0 (F := Ideal)).N) (ρ : Fin 1024) (e : Fin 256) :
    iblk m c 0 t (ValueIdx.ix3 0 ρ e) = A0 m c (ValueIdx.ix3 (tb t) (tr t ρ) (FoxRef.col (th t) e)) := by
  blk_simp [iblk]
  rw [V_main_arg0]
  refine congrArg _ ?_
  funext a
  refine Fin.ext ?_
  blk_simp [x0]
  match a with
  | ⟨0, _⟩ => show (grid0.coords t 0).val * 1 + 0 = (grid0.coords t 0).val; omega
  | ⟨1, _⟩ => show (grid0.coords t 2).val * 1024 + ρ.val = 1024 * (grid0.coords t 2).val + ρ.val; omega
  | ⟨2, _⟩ => show (grid0.coords t 1).val * 256 + e.val = 256 * (grid0.coords t 1).val + e.val; omega

theorem b1 (t : Fin (cfg0 (F := Ideal)).N) (j : Fin 16384) (e : Fin 256) :
    iblk m c 1 t (ValueIdx.ix3 0 j e) = A1 m c (ValueIdx.ix3 (tb t) j (FoxRef.col (th t) e)) := by
  blk_simp [iblk]
  rw [V_main_arg1]
  refine congrArg _ ?_
  funext a
  refine Fin.ext ?_
  blk_simp [x1]
  match a with
  | ⟨0, _⟩ => show (grid0.coords t 0).val * 1 + 0 = (grid0.coords t 0).val; omega
  | ⟨1, _⟩ => show 0 * 16384 + j.val = j.val; omega
  | ⟨2, _⟩ => show (grid0.coords t 1).val * 256 + e.val = 256 * (grid0.coords t 1).val + e.val; omega

theorem b2 (t : Fin (cfg0 (F := Ideal)).N) (j : Fin 16384) (e : Fin 256) :
    iblk m c 2 t (ValueIdx.ix3 0 j e) = A2 m c (ValueIdx.ix3 (tb t) j (FoxRef.col (th t) e)) := by
  blk_simp [iblk]
  rw [V_main_arg2]
  refine congrArg _ ?_
  funext a
  refine Fin.ext ?_
  blk_simp [x2]
  match a with
  | ⟨0, _⟩ => show (grid0.coords t 0).val * 1 + 0 = (grid0.coords t 0).val; omega
  | ⟨1, _⟩ => show 0 * 16384 + j.val = j.val; omega
  | ⟨2, _⟩ => show (grid0.coords t 1).val * 256 + e.val = 256 * (grid0.coords t 1).val + e.val; omega

theorem b3 (t : Fin (cfg0 (F := Ideal)).N) (a : Fin 32) (l : Fin 512) :
    iblk m c 3 t (ValueIdx.ix4 0 0 a l) = A3 m c
      (ValueIdx.ix2 ⟨(grid0.coords t 1).val, by have := t1_lt t; omega⟩ ⟨16384 * (grid0.coords t 0).val + (512 * a.val + l.val), by have := t0_lt t; omega⟩) := by
  have hix : ((win0_3.blk t).view.emb (ValueIdx.ix4 0 0 a l)) = (ValueIdx.ix4 ⟨(grid0.coords t 1).val, by have := t1_lt t; omega⟩ (tb t) a l : S8x2x32x512.Idx) := by
    funext d; refine Fin.ext ?_
    blk_simp [x3]
    match d with
    | ⟨0, _⟩ => show (grid0.coords t 1).val * 1 + 0 = (grid0.coords t 1).val; omega
    | ⟨1, _⟩ => show (grid0.coords t 0).val * 1 + 0 = (grid0.coords t 0).val; omega
    | ⟨2, _⟩ => show 0 * 32 + a.val = a.val; omega
    | ⟨3, _⟩ => show 0 * 512 + l.val = l.val; omega
  blk_simp [iblk]
  rw [hix]
  have hV : V m c main_v8 = shapeCast S8x2x32x512 (A3 m c) shapeCasts_S8x32768_S8x2x32x512 := by
    entry_read; rfl
  rw [hV]
  refine shapeCast_apply (A3 m c) shapeCasts_S8x32768_S8x2x32x512 _ _ ?_
  rw [Shape.rowMajor_val_two, Shape.rowMajor_val_four]
  have := t0_lt t
  show (grid0.coords t 1).val * 32768 + (16384 * (grid0.coords t 0).val + (512 * a.val + l.val))
    = (((grid0.coords t 1).val * 2 + (grid0.coords t 0).val) * 32 + a.val) * 512 + l.val
  omega

theorem b6 (t : Fin (cfg0 (F := Ideal)).N) (p : Fin 128) (e : Fin 256) :
    iblk m c 6 t (ValueIdx.ix2 p e) = A5 m c (ValueIdx.ix2 p (FoxRef.col (th t) e)) := by
  blk_simp [iblk]
  rw [V_main_arg5]
  refine congrArg _ ?_
  funext a
  refine Fin.ext ?_
  blk_simp [x6]
  match a with
  | ⟨0, _⟩ => show 0 * 128 + p.val = p.val; omega
  | ⟨1, _⟩ => show (grid0.coords t 1).val * 256 + e.val = 256 * (grid0.coords t 1).val + e.val; omega

theorem b7 (t : Fin (cfg0 (F := Ideal)).N) (p : Fin 128) (e : Fin 256) :
    iblk m c 7 t (ValueIdx.ix2 p e) = A6 m c (ValueIdx.ix2 p (FoxRef.col (th t) e)) := by
  blk_simp [iblk]
  rw [V_main_arg6]
  refine congrArg _ ?_
  funext a
  refine Fin.ext ?_
  blk_simp [x7]
  match a with
  | ⟨0, _⟩ => show 0 * 128 + p.val = p.val; omega
  | ⟨1, _⟩ => show (grid0.coords t 1).val * 256 + e.val = 256 * (grid0.coords t 1).val + e.val; omega

theorem b8 (t : Fin (cfg0 (F := Ideal)).N) (h : Fin 8) (k : Fin 128) :
    iblk m c 8 t (ValueIdx.ix2 h k) = if k.val < 16 then A7 m c (ValueIdx.ix2 h k) - A7 m c (ValueIdx.ix2 h ⟨15, by omega⟩) else (⊥ : EReal) := by
  have hix : ((win0_8.blk t).view.emb (ValueIdx.ix2 h k)) = ValueIdx.ix2 h k := by
    funext a; refine Fin.ext ?_
    blk_simp [x8]
    match a with
    | ⟨0, _⟩ => show 0 * 8 + h.val = h.val; omega
    | ⟨1, _⟩ => show 0 * 128 + k.val = k.val; omega
  blk_simp [iblk]
  rw [hix]
  have hV : V m c main_v7 = Idealize.ShloMosaic.select (broadcastInDim S8x128 ![0, 1] bcast_S1x128_S8x128_0_1 (cmpi .slt (broadcastInDim S1x128 ![1] bcast_S128_S1x128_1 (iotaInDim S128 32 0))
        (broadcastInDim S1x128 ![] bcast_S_S1x128 (constantI S_ 32 16#32))))
      (subf (F := Ideal) (φ := .f32) (A7 m c) (broadcastInDim S8x128 ![0, 1] bcast_S8x1_S8x128_0_1 (extractStridedSlice S8x1 ![0, 15] (A7 m c) slices_S8x128_S8x1_0_15)))
      (broadcastInDim S8x128 ![] bcast_S_S8x128 (constant (F := Ideal) S_ .f32 0xFF800000#32)) := by
    rfl
  rw [hV]
  have e1 : broadcastInDim S8x128 ![0, 1] bcast_S1x128_S8x128_0_1 (cmpi .slt (broadcastInDim S1x128 ![1] bcast_S128_S1x128_1 (iotaInDim S128 32 0))
        (broadcastInDim S1x128 ![] bcast_S_S1x128 (constantI S_ 32 16#32))) (ValueIdx.ix2 h k) = IntOp.cmpi .slt (BitVec.ofNat 32 k.val) (BitVec.ofNat 32 16) := by
    refine (broadcastInDim_apply _ bcast_S1x128_S8x128_0_1 _ _ (ValueIdx.ix2 0 k) (fun a => match a with | ⟨0, _⟩ => rfl | ⟨1, _⟩ => rfl)).trans ?_
    show IntOp.cmpi .slt _ _ = _
    rw [broadcastInDim_apply _ bcast_S128_S1x128_1 (iotaInDim S128 32 0) (ValueIdx.ix2 0 k) (ValueIdx.ix1 k) (fun a => match a with | ⟨0, _⟩ => rfl)]
    rfl
  have e2 : broadcastInDim S8x128 ![0, 1] bcast_S8x1_S8x128_0_1 (extractStridedSlice S8x1 ![0, 15] (A7 m c) slices_S8x128_S8x1_0_15) (ValueIdx.ix2 h k) = A7 m c (ValueIdx.ix2 h ⟨15, by omega⟩) := by
    refine (broadcastInDim_apply _ bcast_S8x1_S8x128_0_1 _ _ (ValueIdx.ix2 h 0) (fun a => match a with | ⟨0, _⟩ => rfl | ⟨1, _⟩ => rfl)).trans ?_
    refine congrArg (A7 m c) (funext fun a => Fin.ext ?_)
    match a with
    | ⟨0, _⟩ => show 0 + h.val = h.val; omega
    | ⟨1, _⟩ => rfl
  show Scalar.select _ (A7 m c (ValueIdx.ix2 h k) - _) (Ideal.ofBits .f32 0xFF800000#32) = _
  rw [e1, e2, WordCmp.cmpi_slt_ofNat (by omega) (by omega)]
  have e3 : Ideal.ofBits .f32 0xFF800000#32 = (⊥ : EReal) := by simp [Ideal.ofBits, Ideal.ieee]
  rw [e3]
  by_cases hk : k.val < 16
  · rw [if_pos hk, decide_eq_true hk]; rfl
  · rw [if_neg hk, decide_eq_false hk]; rfl

end Cert.Proof.FoxKernelIdeal

end
-- ==== Proof.Fox.ValueI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.Pipeline.ValueKit
public import Idealize.ShloMosaic.Lib.Claim
public import proofs.«01_k».proof.Proof.Fox.BlocksI

/-! The array the attention leaves is the reference's result. -/

@[expose] public section

set_option maxRecDepth 16384
set_option backward.isDefEq.respectTransparency.types false

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable (m : (ℓ : Loc nD τ sig) → Buf (Elt Ideal) ℓ) (c : Dev nD)

/-- What the precondition says: every entry a logit is made of is a real number. -/
structure Fin_ : Prop where
  q : ∀ i, ∃ r : ℝ, A0 m c i = (r : EReal)
  k : ∀ i, ∃ r : ℝ, A1 m c i = (r : EReal)
  nb : ∀ (h : Fin 4) (j : Fin 32768), ∃ r : ℝ, A3 m c (ValueIdx.ix2 ⟨h.val, by omega⟩ j) = (r : EReal)
  km : ∀ (p : Fin 16) (e : Fin 1024), ∃ r : ℝ, A5 m c (ValueIdx.ix2 ⟨p.val, by omega⟩ e) = (r : EReal)
  nm : ∀ (h : Fin 4) (p : Fin 16), ∃ r : ℝ, A7 m c (ValueIdx.ix2 ⟨h.val, by omega⟩ ⟨p.val, by omega⟩) = (r : EReal)

/-- A sum of products of reals is a real. -/
theorem dot_real {n : ℕ} (x y : Fin n → EReal) (hx : ∀ e, ∃ r : ℝ, x e = (r : EReal)) (hy : ∀ e, ∃ r : ℝ, y e = (r : EReal)) :
    ∃ r : ℝ, ∑ e, x e * y e = (r : EReal) := by
  choose f hf using hx
  choose g hg using hy
  refine ⟨∑ e, f e * g e, ?_⟩
  rw [Soft.coe_sum]
  exact Finset.sum_congr rfl fun e _ => by rw [hf, hg, EReal.coe_mul]

/-- The score the kernel works with, at a query row of a point and a position. -/
abbrev kE (t : Fin (cfg0 (F := Ideal)).N) (ρ : Fin 1024) (p : ℕ) : EReal :=
  sE (grid0.coords t) (iblk m c 0 t) (iblk m c 1 t) (iblk m c 3 t) (iblk m c 6 t) (iblk m c 8 t) ρ p
abbrev kR (t : Fin (cfg0 (F := Ideal)).N) (ρ : Fin 1024) (p : ℕ) : ℝ :=
  sR (grid0.coords t) (iblk m c 0 t) (iblk m c 1 t) (iblk m c 3 t) (iblk m c 6 t) (iblk m c 8 t) ρ p

/-- The kernel's score is a real, and the reference's is it plus a term of the query row alone. -/
theorem score_eq (H : Fin_ m c) (t : Fin (cfg0 (F := Ideal)).N) (ρ : Fin 1024) : ∃ b : ℝ, ∀ p : Fin 16400,
    kE m c t ρ p.val = (kR m c t ρ p.val : EReal)
    ∧ FoxRef.score (A0 m c) (A1 m c) (A3 m c) (A5 m c) (A7 m c) (tb t) (th t) (tr t ρ) p = ((kR m c t ρ p.val + b : ℝ) : EReal) := by
  have h0 := t0_lt t
  have hr := (tr t ρ).isLt
  obtain ⟨n15, hn15⟩ := H.nm (th t) ⟨15, by omega⟩
  obtain ⟨nq, hnq⟩ := H.nb (th t) ⟨16384 * (tb t).val + (tr t ρ).val, by have := (tb t).isLt; omega⟩
  refine ⟨-nq, fun p => ?_⟩
  have hcq : FoxRef.cum (A3 m c) (A7 m c) (tb t) (th t) ⟨16 + (tr t ρ).val, by omega⟩ = ((-nq + -n15 : ℝ) : EReal) := by
    unfold FoxRef.cum
    rw [dif_neg (by show ¬ 16 + (tr t ρ).val < 16; omega)]
    have e1 : (⟨16384 * (tb t).val + (16 + (tr t ρ).val - 16), by have := (tb t).isLt; omega⟩ : Fin 32768) = ⟨16384 * (tb t).val + (tr t ρ).val, by have := (tb t).isLt; omega⟩ := Fin.ext (by show 16384 * (tb t).val + (16 + (tr t ρ).val - 16) = 16384 * (tb t).val + (tr t ρ).val; omega)
    rw [EReal.coe_add, EReal.coe_neg, EReal.coe_neg, ← hnq, ← hn15, ← e1]
  obtain ⟨D, hD⟩ : ∃ D : ℝ, ∑ e, A0 m c (ValueIdx.ix3 (tb t) (tr t ρ) (FoxRef.col (th t) e)) * FoxRef.rowv (A1 m c) (A5 m c) (tb t) p (FoxRef.col (th t) e) = (D : EReal) := by
    refine dot_real _ _ (fun e => H.q _) fun e => ?_
    unfold FoxRef.rowv
    split
    · rename_i hp; exact H.km ⟨p.val, hp⟩ _
    · exact H.k _
  have key : ∃ B : ℝ, kE m c t ρ p.val = ((D + B : ℝ) : EReal) ∧ FoxRef.cum (A3 m c) (A7 m c) (tb t) (th t) p = ((-n15 - B : ℝ) : EReal) := by
    by_cases hp : p.val < 16
    · obtain ⟨np, hnp⟩ := H.nm (th t) ⟨p.val, hp⟩
      refine ⟨np - n15, ?_, ?_⟩
      · show sE _ _ _ _ _ _ _ _ = _
        unfold sE
        rw [dif_pos hp, b8, if_pos (by show p.val < 16; exact hp), EReal.coe_add, EReal.coe_sub, ← hD, ← hnp, ← hn15]
        refine congrArg₂ _ (Finset.sum_congr rfl fun e _ => ?_) rfl
        rw [b0, b6]
        unfold FoxRef.rowv
        rw [dif_pos hp]
      · unfold FoxRef.cum
        rw [dif_pos hp, hnp, ← EReal.coe_neg]
        congr 1; ring
    · have hp' := p.isLt
      obtain ⟨nj, hnj⟩ := H.nb (th t) ⟨16384 * (tb t).val + (p.val - 16), by have := (tb t).isLt; omega⟩
      refine ⟨nj, ?_, ?_⟩
      · show sE _ _ _ _ _ _ _ _ = _
        unfold sE
        rw [dif_neg hp, dif_pos hp', b3, EReal.coe_add, ← hD, ← hnj]
        refine congrArg₂ _ (Finset.sum_congr rfl fun e _ => ?_) ?_
        · rw [b0, b1]
          unfold FoxRef.rowv
          rw [dif_neg hp]
        · refine congrArg (A3 m c) ?_
          refine congrArg₂ (fun x y => ValueIdx.ix2 x y) rfl (Fin.ext ?_)
          show 16384 * _ + (512 * ((p.val - 16) / 512) + (p.val - 16) % 512) = 16384 * _ + (p.val - 16)
          rw [Nat.div_add_mod]; rfl
      · unfold FoxRef.cum
        rw [dif_neg hp, hnj, hn15, ← EReal.coe_neg, ← EReal.coe_neg, ← EReal.coe_add]
        congr 1; ring
  obtain ⟨B, hB, hC⟩ := key
  have hR : kR m c t ρ p.val = D + B := by
    show (kE m c t ρ p.val).toReal = _
    rw [hB]; rfl
  refine ⟨by rw [hR, hB], ?_⟩
  unfold FoxRef.score
  rw [hD, hcq, hC, hR, ← EReal.coe_add, ← EReal.coe_sub]
  congr 1; ring

/-- The values, in the kernel's blocks and in the reference's rows. -/
theorem vE_eq (t : Fin (cfg0 (F := Ideal)).N) (d : Fin 256) (p : Fin 16400) :
    vE (iblk m c 2 t) (iblk m c 7 t) d p.val = FoxRef.rowv (A2 m c) (A6 m c) (tb t) p (FoxRef.col (th t) d) := by
  unfold vE FoxRef.rowv
  by_cases hp : p.val < 16
  · rw [dif_pos hp, dif_pos hp, b7]
  · rw [dif_neg hp, dif_neg hp, dif_pos p.isLt, b2]

/-- The array the region leaves is the reference's result. -/
theorem final (H : Fin_ m c) : (dats m 0 c).arrAt 10 (cfg0 (F := Ideal)).N
    = Cert.ReferenceIdeal.Read.val_main_v60 (F := Ideal) (A0 m c) (A1 m c) (A2 m c) (A3 m c) (A5 m c) (A6 m c) (A7 m c) := by
  refine (dats m 0 c).arrAt_eq_of_covers 10 _ (by decide +kernel) fun t hf y => ?_
  blk_simp
  rw [after0_10]
  obtain ⟨z, ρ, d, rfl⟩ : ∃ (z : Fin 1) (ρ : Fin 1024) (d : Fin 256), y = ValueIdx.ix3 z ρ d := ⟨y 0, y 1, y 2, by funext a; match a with | ⟨0, _⟩ => rfl | ⟨1, _⟩ => rfl | ⟨2, _⟩ => rfl⟩
  obtain rfl : z = 0 := Subsingleton.elim _ _
  have hix : ((win0_10.blk t).view.emb (ValueIdx.ix3 0 ρ d)) = (ValueIdx.ix3 (tb t) (tr t ρ) (FoxRef.col (th t) d) : S2x16384x1024.Idx) := by
    funext a
    refine Fin.ext ?_
    blk_simp [x10]
    match a with
    | ⟨0, _⟩ => show (grid0.coords t 0).val * 1 + 0 = (grid0.coords t 0).val; omega
    | ⟨1, _⟩ => show (grid0.coords t 2).val * 1024 + ρ.val = 1024 * (grid0.coords t 2).val + ρ.val; omega
    | ⟨2, _⟩ => show (grid0.coords t 1).val * 256 + d.val = 256 * (grid0.coords t 1).val + d.val; omega
  rw [hix]
  obtain ⟨b, hb⟩ := score_eq m c H t ρ
  obtain ⟨M, hM⟩ := FoxRef.v60_at (A0 m c) (A1 m c) (A2 m c) (A3 m c) (A5 m c) (A6 m c) (A7 m c) (tb t) (th t) (tr t ρ) d
    (fun p => kR m c t ρ p + b) (fun p => (hb p).2)
  rw [hM]
  have hrow : outsAt m c t (ValueIdx.ix3 0 ρ d) = _ :=
    outF_row (grid0.coords t) (iblk m c 0 t) (iblk m c 1 t) (iblk m c 2 t) (iblk m c 3 t) (iblk m c 4 t) (iblk m c 5 t) (iblk m c 6 t) (iblk m c 7 t) (iblk m c 8 t) (iblk m c 9 t)
      (fun ρ' p hp => ((score_eq m c H t ρ').choose_spec ⟨p, hp⟩).1) (fun k hk => by rw [b8, if_neg (by omega)]) ρ d
      (fun p => kR m c t ρ p + b) b M (fun p => rfl)
  rw [hrow]
  have ht2 := t2_lt t
  have hlen : 16 + 1024 * (grid0.coords t 2).val + ρ.val + 1 = 16 + (tr t ρ).val + 1 := by
    show _ = 16 + (1024 * (grid0.coords t 2).val + ρ.val) + 1; omega
  rw [hlen]
  refine ((Soft.sum_lanes (lo := 0) (c := 16 + (tr t ρ).val + 1) (fun p : ℕ => Ideal.div ((Real.exp (kR m c t ρ p + b - M) : ℝ) : EReal)
      ((∑ p ∈ Finset.Ico 0 (16 + (tr t ρ).val + 1), Real.exp (kR m c t ρ p + b - M) : ℝ) : EReal) * vE (iblk m c 2 t) (iblk m c 7 t) d p) _
      (by have := (tr t ρ).isLt; omega) fun p => ?_).trans ?_).symm
  · rw [Nat.zero_add, vE_eq]
  · rw [Nat.zero_add]

end Cert.Proof.FoxKernelIdeal

end
-- ==== Proof.Fox.PreI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.ReduceAll
public import proofs.«01_k».proof.Pre_logits_finite
public import proofs.«01_k».proof.Proof.Fox.ValueI

/-! The precondition read at an index. -/

@[expose] public section

set_option maxRecDepth 16384
set_option backward.isDefEq.respectTransparency.types false

noncomputable section

namespace Cert.Proof.FoxKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

theorem pinf : Ideal.ofBits .f32 0x7F800000#32 = (⊤ : EReal) := by simp [Ideal.ofBits, Ideal.ieee]
theorem minf : Ideal.ofBits .f32 0xFF800000#32 = (⊥ : EReal) := by simp [Ideal.ofBits, Ideal.ieee]

/-- An entry strictly between the infinities is a real. -/
theorem real_of_between (x : EReal) (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : ∃ r : ℝ, x = (r : EReal) := by
  obtain ⟨h1, h2⟩ := IntOp.andi_eq_one.1 h
  rw [minf] at h1
  rw [pinf] at h2
  have b1 : (⊥ : EReal) < x := by
    by_contra hn
    have : BitVec.ofBool (decide ((⊥ : EReal) < x)) = 1#1 := h1
    rw [decide_eq_false hn] at this
    exact absurd this (by decide)
  have b2 : x < (⊤ : EReal) := by
    by_contra hn
    have : BitVec.ofBool (decide (x < (⊤ : EReal))) = 1#1 := h2
    rw [decide_eq_false hn] at this
    exact absurd this (by decide)
  exact ⟨x.toReal, (EReal.coe_toReal b2.ne b1.ne').symm⟩

variable (m : (ℓ : Loc nD τ sig) → Buf (Elt Ideal) ℓ) (c : Dev nD)

/-- The precondition, read: the entries it speaks of are reals. -/
theorem fin_of_pre [hP : Cert.Pre_logits_finite.Facts]
    (h : Cert.Pre_logits_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) :
    Fin_ m c := by
  have hs : Subsingleton Cert.Pre_logits_finite.S_.Idx := ⟨fun a b => funext fun i => i.elim0⟩
  have h' := congrFun h (fun i => i.elim0)
  unfold Cert.Pre_logits_finite.fn Cert.Pre_logits_finite.fn_part1 Cert.Pre_logits_finite.fn_part2 at h'
  obtain ⟨h1, e7⟩ := IntOp.andi_eq_one.1 h'
  obtain ⟨h2, e5⟩ := IntOp.andi_eq_one.1 h1
  obtain ⟨h3, e3⟩ := IntOp.andi_eq_one.1 h2
  obtain ⟨e0, e1⟩ := IntOp.andi_eq_one.1 h3
  refine ⟨fun i => ?_, fun i => ?_, fun a j => ?_, fun p e => ?_, fun a p => ?_⟩
  · exact real_of_between _ (Host.reduce_andi_all _ _ _ _ _ e0 i)
  · exact real_of_between _ (Host.reduce_andi_all _ _ _ _ _ e1 i)
  · obtain ⟨r, hr⟩ := real_of_between _ (Host.reduce_andi_all _ _ _ _ _ e3 (ValueIdx.ix2 a j))
    refine ⟨r, (congrArg (A3 m c) (funext fun x => Fin.ext ?_)).trans hr⟩
    match x with
    | ⟨0, _⟩ => show a.val = 0 + a.val; omega
    | ⟨1, _⟩ => show j.val = 0 + j.val; omega
  · obtain ⟨r, hr⟩ := real_of_between _ (Host.reduce_andi_all _ _ _ _ _ e5 (ValueIdx.ix2 p e))
    refine ⟨r, (congrArg (A5 m c) (funext fun x => Fin.ext ?_)).trans hr⟩
    match x with
    | ⟨0, _⟩ => show p.val = 0 + p.val; omega
    | ⟨1, _⟩ => show e.val = 0 + e.val; omega
  · obtain ⟨r, hr⟩ := real_of_between _ (Host.reduce_andi_all _ _ _ _ _ e7 (ValueIdx.ix2 a p))
    refine ⟨r, (congrArg (A7 m c) (funext fun x => Fin.ext ?_)).trans hr⟩
    match x with
    | ⟨0, _⟩ => show a.val = 0 + a.val; omega
    | ⟨1, _⟩ => show p.val = 0 + p.val; omega

end Cert.Proof.FoxKernelIdeal

end
-- ==== Proof.Ffn.Body.lean ====
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore

/-! The body at one point. -/

@[expose] public section

set_option maxRecDepth 16384

noncomputable section

namespace Cert.Proof.FfnKernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- Row block `g` of the carried tails. -/
def slot (h : Vec F S11x8x512 .f32) (g : Fin 11) : Vec F S1x8x512 .f32 := fun y => h (ix3 g ⟨(y 1).val, (y 1).isLt⟩ ⟨(y 2).val, (y 2).isLt⟩)

/-- The tile's rows of h1, cast, as the products read them: stored at the first column block, kept afterwards. -/
def hbN (i : grid0.Coords) (x3 : Vec F S1x512x2048 .f32) (x13 : Vec F S512x2048 .bf16) : Vec F S512x2048 .bf16 :=
  if (i 2).val = 0 then k0_pay3 x3 else x13

/-- The eight rows before the tile, of the point's column block. -/
def prevN (i : grid0.Coords) (x9 : Vec F S8x512 .f32) (s : Vec F S1x8x512 .f32) : Vec F S1x8x512 .f32 :=
  if (i 1).val = 0 then k0_pay5 x9 else s

/-- The accumulator a point starts from. -/
def accN (i : grid0.Coords) (x3 x12 : Vec F S1x512x2048 .f32) : Vec F S1x512x2048 .f32 :=
  if (i 2).val = 0 then k0_pay4 x3 else x12

/-- One column block added to the accumulator. -/
def stepN (hb : Vec F S512x2048 .bf16) (x4 x5 : Vec F S2048x512 .bf16) (x6 : Vec F S512x2048 .bf16) (x7 : Vec F S3x512 .f32)
    (x8 : Vec F S1x512 .f32) (s : Vec F S1x8x512 .f32) (o : Vec F S1x512x2048 .f32) : Vec F S1x512x2048 .f32 :=
  k0_pay15 (k0_pay6 hb x4) (k0_pay7 hb x5) (k0_pay9 s) (k0_pay10 s) (k0_pay12 hb x4 s) k0_pay13 k0_pay14 x7 x8 o x6

/-- What the point leaves in the output block: normalised after the last column block. -/
def outN (i : grid0.Coords) (x10 x11 : Vec F S1x2048 .f32) (o : Vec F S1x512x2048 .f32) : Vec F S1x512x2048 .f32 :=
  if (i 2).val = 10 then k0_pay1 o x10 x11 else o

section Mem
variable {κ' : Kind} {sp : Space} {e : EltTy}

theorem readAt_whole2 {a b : ℕ} (v : View sig κ' sp (⟨2, ![a, b]⟩ : Shape) e) (f : v.ty.Contents (Elt F)) (h) :
    v.readAt (Elt F) (Rect.unit (s := ⟨2, ![a, b]⟩) ![0, 0] (⟨2, ![a, b]⟩ : Shape).size h).toLoadRect f = v.read (Elt F) f := by
  funext j
  show v.read (Elt F) f _ = _
  refine congrArg (v.read (Elt F) f) (funext fun d => Fin.ext ?_)
  match d with
  | ⟨0, _⟩ => show 0 + 1 * (j 0).val = (j 0).val; omega
  | ⟨1, _⟩ => show 0 + 1 * (j 1).val = (j 1).val; omega

theorem readAt_whole3 {a b d : ℕ} (v : View sig κ' sp (⟨3, ![a, b, d]⟩ : Shape) e) (f : v.ty.Contents (Elt F)) (h) :
    v.readAt (Elt F) (Rect.unit (s := ⟨3, ![a, b, d]⟩) ![0, 0, 0] (⟨3, ![a, b, d]⟩ : Shape).size h).toLoadRect f = v.read (Elt F) f := by
  funext j
  show v.read (Elt F) f _ = _
  refine congrArg (v.read (Elt F) f) (funext fun d => Fin.ext ?_)
  match d with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem read_writes_whole2 {a b : ℕ} (v : View sig κ' sp (⟨2, ![a, b]⟩ : Shape) e) (f : v.ty.Contents (Elt F)) (h) (w : Vec F (⟨2, ![a, b]⟩ : Shape) e) (L) :
    v.read (Elt F) (v.writes (Elt F) f (⟨Rect.unit (s := ⟨2, ![a, b]⟩) ![0, 0] (⟨2, ![a, b]⟩ : Shape).size h, w⟩ :: L)) = w := by
  funext y
  refine View.read_writes_cons_unit_of_mem v f (off := ![0, 0]) h w L y y rfl fun d => ?_
  match d with
  | ⟨0, _⟩ => exact (Nat.zero_add _).symm
  | ⟨1, _⟩ => exact (Nat.zero_add _).symm

theorem read_writes_whole3 {a b d : ℕ} (v : View sig κ' sp (⟨3, ![a, b, d]⟩ : Shape) e) (f : v.ty.Contents (Elt F)) (h) (w : Vec F (⟨3, ![a, b, d]⟩ : Shape) e) (L) :
    v.read (Elt F) (v.writes (Elt F) f (⟨Rect.unit (s := ⟨3, ![a, b, d]⟩) ![0, 0, 0] (⟨3, ![a, b, d]⟩ : Shape).size h, w⟩ :: L)) = w := by
  funext y
  refine View.read_writes_cons_unit_of_mem v f (off := ![0, 0, 0]) h w L y y rfl fun d => ?_
  match d with
  | ⟨0, _⟩ => exact (Nat.zero_add _).symm
  | ⟨1, _⟩ => exact (Nat.zero_add _).symm
  | ⟨2, _⟩ => exact (Nat.zero_add _).symm

theorem off2_eq (i : grid0.Coords) : k0_off2 i = ![(i 2).val, 0, 0] := by
  have h : (i 2).val < 11 := (i 2).isLt
  have : (Scalar.indexCast (BitVec.ofNat 32 (i 2).val) : Index).toNat = (i 2).val := by
    generalize (i 2).val = a at h ⊢; interval_cases a <;> decide
  show ![_, 0, 0] = _
  exact congrArg (fun a : ℕ => (![a, 0, 0] : Fin 3 → ℕ)) this
theorem off1_eq (i : grid0.Coords) : k0_off1 i = ![(i 2).val, 0, 0] := off2_eq i

theorem readAt_slotG (i : grid0.Coords) (v : View sig κ' sp S11x8x512 .f32) (f : v.ty.Contents (Elt F)) {off : Fin 3 → ℕ} (ho : off = ![(i 2).val, 0, 0]) (h) :
    v.readAt (Elt F) (Rect.unit (s := S11x8x512) off S1x8x512.size h).toLoadRect f = slot (v.read (Elt F) f) (i 2) := by
  subst ho
  funext j
  show v.read (Elt F) f _ = v.read (Elt F) f _
  refine congrArg (v.read (Elt F) f) (funext fun d => Fin.ext ?_)
  have : (j 0).val < 1 := (j 0).isLt
  match d with
  | ⟨0, _⟩ => show (i 2).val + 1 * (j 0).val = (i 2).val; omega
  | ⟨1, _⟩ => show 0 + 1 * (j 1).val = (j 1).val; omega
  | ⟨2, _⟩ => show 0 + 1 * (j 2).val = (j 2).val; omega
theorem readAt_slot (i : grid0.Coords) (v : View sig κ' sp S11x8x512 .f32) (f : v.ty.Contents (Elt F)) (h) :
    v.readAt (Elt F) (Rect.unit (s := S11x8x512) (k0_off2 i) S1x8x512.size h).toLoadRect f = slot (v.read (Elt F) f) (i 2) :=
  readAt_slotG i v f (off2_eq i) h
theorem slot_writes (i : grid0.Coords) (v : View sig κ' sp S11x8x512 .f32) (f : v.ty.Contents (Elt F)) {off : Fin 3 → ℕ} (ho : off = ![(i 2).val, 0, 0]) (h)
    (w : Vec F S1x8x512 .f32) (L) :
    slot (v.read (Elt F) (v.writes (Elt F) f (⟨Rect.unit (s := S11x8x512) off S1x8x512.size h, w⟩ :: L))) (i 2) = w := by
  funext y
  have h0 : (y 0).val < 1 := (y 0).isLt
  refine View.read_writes_cons_unit_of_mem v f h w L _ y ho fun d => ?_
  match d with
  | ⟨0, _⟩ => show (i 2).val = (i 2).val + (y 0).val; omega
  | ⟨1, _⟩ => show (y 1).val = 0 + (y 1).val; omega
  | ⟨2, _⟩ => show (y 2).val = 0 + (y 2).val; omega
theorem slot_writes_ne (i : grid0.Coords) (v : View sig κ' sp S11x8x512 .f32) (f : v.ty.Contents (Elt F)) {off : Fin 3 → ℕ} (ho : off = ![(i 2).val, 0, 0]) (h)
    (w : Vec F S1x8x512 .f32) (L) (g : Fin 11) (hg : g ≠ i 2) :
    slot (v.read (Elt F) (v.writes (Elt F) f (⟨Rect.unit (s := S11x8x512) off S1x8x512.size h, w⟩ :: L))) g = slot (v.read (Elt F) (v.writes (Elt F) f L)) g := by
  funext y
  refine View.read_writes_cons_unit_of_not_mem v f h w L _ ho (0 : Fin 3) ?_
  have : g.val ≠ (i 2).val := fun e => hg (Fin.ext e)
  show g.val < (i 2).val ∨ (i 2).val + 1 ≤ g.val
  omega
end Mem

theorem cond0_iff (i : grid0.Coords) : (Scalar.cmpi .ne (Scalar.extui (Scalar.cmpi .eq (BitVec.ofNat 32 (i 2).val) 0#32) : BitVec 32) 0#32) = 1#1 ↔ (i 2).val = 0 := by
  have h : (i 2).val < 11 := (i 2).isLt
  generalize (i 2).val = a at h ⊢; interval_cases a <;> decide
theorem cond1_iff (i : grid0.Coords) : k0_cond2 i = 1#1 ↔ (i 1).val = 0 := by
  have h : (i 1).val < 32 := (i 1).isLt
  unfold k0_cond2
  generalize (i 1).val = a at h ⊢; interval_cases a <;> decide
theorem cond2_iff (i : grid0.Coords) : (Scalar.cmpi .ne (Scalar.extui (Scalar.cmpi .eq (BitVec.ofNat 32 (i 2).val) 10#32) : BitVec 32) 0#32) = 1#1 ↔ (i 2).val = 10 := by
  have h : (i 2).val < 11 := (i 2).isLt
  generalize (i 2).val = a at h ⊢; interval_cases a <;> decide

theorem readCov_w2 {κ' : Kind} {sp : Space} {e : EltTy} {a b : ℕ} (v : View sig κ' sp (⟨2, ![a, b]⟩ : Shape) e) (h h') (w : Vec F (⟨2, ![a, b]⟩ : Shape) e) (L) :
    v.readCov (Val := Elt F) (⟨Rect.unit (s := ⟨2, ![a, b]⟩) ![0, 0] (⟨2, ![a, b]⟩ : Shape).size h, w⟩ :: L)
      (Rect.unit (s := ⟨2, ![a, b]⟩) ![0, 0] (⟨2, ![a, b]⟩ : Shape).size h').toLoadRect = w :=
  (readAt_whole2 v _ h').trans (read_writes_whole2 v _ h w L)
theorem readCov_w3 {κ' : Kind} {sp : Space} {e : EltTy} {a b d : ℕ} (v : View sig κ' sp (⟨3, ![a, b, d]⟩ : Shape) e) (h h') (w : Vec F (⟨3, ![a, b, d]⟩ : Shape) e) (L) :
    v.readCov (Val := Elt F) (⟨Rect.unit (s := ⟨3, ![a, b, d]⟩) ![0, 0, 0] (⟨3, ![a, b, d]⟩ : Shape).size h, w⟩ :: L)
      (Rect.unit (s := ⟨3, ![a, b, d]⟩) ![0, 0, 0] (⟨3, ![a, b, d]⟩ : Shape).size h').toLoadRect = w :=
  (readAt_whole3 v _ h').trans (read_writes_whole3 v _ h w L)
theorem readCov_s (i : grid0.Coords) {κ' : Kind} {sp : Space} (v : View sig κ' sp S11x8x512 .f32) (h h') (w : Vec F S1x8x512 .f32) (L) :
    v.readCov (Val := Elt F) (⟨Rect.unit (s := S11x8x512) (k0_off1 i) S1x8x512.size h, w⟩ :: L)
      (Rect.unit (s := S11x8x512) (k0_off2 i) S1x8x512.size h').toLoadRect = w :=
  (readAt_slot i v _ h').trans (slot_writes i v _ (off1_eq i) h w L)

theorem readCov_w2Z {κ' : Kind} {sp : Space} {e : EltTy} {a b : ℕ} (v : View sig κ' sp (⟨2, ![a, b]⟩ : Shape) e) (h h') (w : Vec F (⟨2, ![a, b]⟩ : Shape) e) (L) :
    v.readCov (Val := Elt F) (⟨Rect.unit (s := ⟨2, ![a, b]⟩) ![0, 0] ![a, b] h, w⟩ :: L)
      (Rect.unit (s := ⟨2, ![a, b]⟩) ![0, 0] ![a, b] h').toLoadRect = w := readCov_w2 v h h' w L
theorem readCov_w3Z {κ' : Kind} {sp : Space} {e : EltTy} {a b d : ℕ} (v : View sig κ' sp (⟨3, ![a, b, d]⟩ : Shape) e) (h h') (w : Vec F (⟨3, ![a, b, d]⟩ : Shape) e) (L) :
    v.readCov (Val := Elt F) (⟨Rect.unit (s := ⟨3, ![a, b, d]⟩) ![0, 0, 0] ![a, b, d] h, w⟩ :: L)
      (Rect.unit (s := ⟨3, ![a, b, d]⟩) ![0, 0, 0] ![a, b, d] h').toLoadRect = w := readCov_w3 v h h' w L
theorem readCov_sZ (i : grid0.Coords) {κ' : Kind} {sp : Space} (v : View sig κ' sp S11x8x512 .f32) (h h') (w : Vec F S1x8x512 .f32) (L) :
    v.readCov (Val := Elt F) (⟨Rect.unit (s := S11x8x512) (k0_off1 i) ![1, 8, 512] h, w⟩ :: L)
      (Rect.unit (s := S11x8x512) (k0_off2 i) ![1, 8, 512] h').toLoadRect = w := readCov_s i v h h' w L
theorem readAt_whole2Z {κ' : Kind} {sp : Space} {e : EltTy} {a b : ℕ} (v : View sig κ' sp (⟨2, ![a, b]⟩ : Shape) e) (f : v.ty.Contents (Elt F)) (h) :
    v.readAt (Elt F) (Rect.unit (s := ⟨2, ![a, b]⟩) ![0, 0] ![a, b] h).toLoadRect f = v.read (Elt F) f := readAt_whole2 v f h
theorem readAt_whole3Z {κ' : Kind} {sp : Space} {e : EltTy} {a b d : ℕ} (v : View sig κ' sp (⟨3, ![a, b, d]⟩ : Shape) e) (f : v.ty.Contents (Elt F)) (h) :
    v.readAt (Elt F) (Rect.unit (s := ⟨3, ![a, b, d]⟩) ![0, 0, 0] ![a, b, d] h).toLoadRect f = v.read (Elt F) f := readAt_whole3 v f h
theorem readAt_slotZ (i : grid0.Coords) {κ' : Kind} {sp : Space} (v : View sig κ' sp S11x8x512 .f32) (f : v.ty.Contents (Elt F)) (h) :
    v.readAt (Elt F) (Rect.unit (s := S11x8x512) (k0_off2 i) ![1, 8, 512] h).toLoadRect f = slot (v.read (Elt F) f) (i 2) := readAt_slot i v f h
theorem read_writes_whole2Z {κ' : Kind} {sp : Space} {e : EltTy} {a b : ℕ} (v : View sig κ' sp (⟨2, ![a, b]⟩ : Shape) e) (f : v.ty.Contents (Elt F)) (h) (w : Vec F (⟨2, ![a, b]⟩ : Shape) e) (L) :
    v.read (Elt F) (v.writes (Elt F) f (⟨Rect.unit (s := ⟨2, ![a, b]⟩) ![0, 0] ![a, b] h, w⟩ :: L)) = w := read_writes_whole2 v f h w L
theorem read_writes_whole3Z {κ' : Kind} {sp : Space} {e : EltTy} {a b d : ℕ} (v : View sig κ' sp (⟨3, ![a, b, d]⟩ : Shape) e) (f : v.ty.Contents (Elt F)) (h) (w : Vec F (⟨3, ![a, b, d]⟩ : Shape) e) (L) :
    v.read (Elt F) (v.writes (Elt F) f (⟨Rect.unit (s := ⟨3, ![a, b, d]⟩) ![0, 0, 0] ![a, b, d] h, w⟩ :: L)) = w := read_writes_whole3 v f h w L

section W
variable (c : Dev nD) (i : grid0.Coords) (arg3 : Memref sig .tc .vmem S1x512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S8x512 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S11x8x512 .f32) (harg14 : arg14.IsWhole)

set_option maxHeartbeats 2000000 in
theorem runA (hc0 : (Scalar.cmpi .ne (Scalar.extui (Scalar.cmpi .eq (BitVec.ofNat 32 (i 2).val) 0#32) : BitVec 32) 0#32) = 1#1) (hc1 : k0_cond2 i = 1#1) (hc2 : ¬ (Scalar.cmpi .ne (Scalar.extui (Scalar.cmpi .eq (BitVec.ofNat 32 (i 2).val) 10#32) : BitVec 32) 0#32) = 1#1) (x3 : Vec F S1x512x2048 .f32) (x4 : Vec F S2048x512 .bf16) (x5 : Vec F S2048x512 .bf16) (x6 : Vec F S512x2048 .bf16) (x7 : Vec F S3x512 .f32) (x8 : Vec F S1x512 .f32) (x9 : Vec F S8x512 .f32) (x10 : Vec F S1x2048 .f32) (x11 : Vec F S1x2048 .f32) (x12 : Vec F S1x512x2048 .f32) (x13 : Vec F S512x2048 .bf16) (x14 : Vec F S11x8x512 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outN i x10 x11 (stepN (hbN i x3 x13) x4 x5 x6 x7 x8 (prevN i x9 (slot x14 (i 2))) (accN i x3 x12)))
      ∗ owns (c : Thread nD τ) arg13 fullShare (hbN i x3 x13)
      ∗ (∃ h : Vec F S11x8x512 .f32, iprop(⌜slot h (i 2) = k0_pay11 (hbN i x3 x13) x4 ∧ ∀ g, g ≠ i 2 → slot h g = slot x14 g⌝ ∗ owns (c : Thread nD τ) arg14 fullShare h))) -∗ K ⟨⟩))
  ⊢ wp frame (wpE (defs₀ (F := F)) Variants.none (c : Thread nD τ) none) E (cc0_conv_ffn i arg3 harg3 arg4 harg4 arg5 harg5 arg6 harg6 arg7 harg7 arg8 harg8 arg9 harg9 arg10 harg10 arg11 harg11 arg12 harg12 arg13 harg13 arg14 harg14) K := by
  unfold outN stepN hbN prevN accN
  simp only [← cond0_iff i, ← cond1_iff i, ← cond2_iff i]
  simp only [cc0_conv_ffn_eq_skeleton]; unfold cc0_conv_ffn_skel
  simp only [k0_part1_eq_skeleton, k0_part2_eq_skeleton]; unfold k0_part1_skel k0_part2_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0 | sl_exact hc1 | sl_exact hc2)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    refine (read_writes_whole3 _ _ _ _ _).trans ?_
    (try delta runA.sl.v6)
    (try delta runA.sl.v67)
    (try delta runA.sl.v14)
    (try delta runA.sl.H12_1)
    (try delta runA.sl.H13_1)
    (try delta runA.sl.H14_1)
    simp only [if_pos hc0, if_pos hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  isplitl [H13]
  · iexists _; isplitr; swap; · iexact H13
    ipureintro
    (try delta runA.sl.v6)
    (try delta runA.sl.v67)
    (try delta runA.sl.v14)
    (try delta runA.sl.H12_1)
    (try delta runA.sl.H13_1)
    (try delta runA.sl.H14_1)
    simp only [if_pos hc0, if_pos hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  iexists _; isplitr; swap
  · iexists _; isplitr; swap; · iexact H14
    ipureintro; rfl
  ipureintro
  refine ⟨(slot_writes i _ _ (off2_eq i) _ _ _).trans ?_, fun g hg => (slot_writes_ne i _ _ (off2_eq i) _ _ _ g hg).trans ?_⟩
  · (try delta runA.sl.v6)
    (try delta runA.sl.v67)
    (try delta runA.sl.v14)
    (try delta runA.sl.H12_1)
    (try delta runA.sl.H13_1)
    (try delta runA.sl.H14_1)
    simp only [if_pos hc0, if_pos hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  · delta runA.sl.H14_1
    refine (slot_writes_ne i _ _ (off1_eq i) _ _ _ g hg).trans ?_
    rw [View.writes_nil, harg14.read_unread]

set_option maxHeartbeats 2000000 in
theorem runB (hc0 : ¬ (Scalar.cmpi .ne (Scalar.extui (Scalar.cmpi .eq (BitVec.ofNat 32 (i 2).val) 0#32) : BitVec 32) 0#32) = 1#1) (hc1 : k0_cond2 i = 1#1) (hc2 : ¬ (Scalar.cmpi .ne (Scalar.extui (Scalar.cmpi .eq (BitVec.ofNat 32 (i 2).val) 10#32) : BitVec 32) 0#32) = 1#1) (x3 : Vec F S1x512x2048 .f32) (x4 : Vec F S2048x512 .bf16) (x5 : Vec F S2048x512 .bf16) (x6 : Vec F S512x2048 .bf16) (x7 : Vec F S3x512 .f32) (x8 : Vec F S1x512 .f32) (x9 : Vec F S8x512 .f32) (x10 : Vec F S1x2048 .f32) (x11 : Vec F S1x2048 .f32) (x12 : Vec F S1x512x2048 .f32) (x13 : Vec F S512x2048 .bf16) (x14 : Vec F S11x8x512 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outN i x10 x11 (stepN (hbN i x3 x13) x4 x5 x6 x7 x8 (prevN i x9 (slot x14 (i 2))) (accN i x3 x12)))
      ∗ owns (c : Thread nD τ) arg13 fullShare (hbN i x3 x13)
      ∗ (∃ h : Vec F S11x8x512 .f32, iprop(⌜slot h (i 2) = k0_pay11 (hbN i x3 x13) x4 ∧ ∀ g, g ≠ i 2 → slot h g = slot x14 g⌝ ∗ owns (c : Thread nD τ) arg14 fullShare h))) -∗ K ⟨⟩))
  ⊢ wp frame (wpE (defs₀ (F := F)) Variants.none (c : Thread nD τ) none) E (cc0_conv_ffn i arg3 harg3 arg4 harg4 arg5 harg5 arg6 harg6 arg7 harg7 arg8 harg8 arg9 harg9 arg10 harg10 arg11 harg11 arg12 harg12 arg13 harg13 arg14 harg14) K := by
  unfold outN stepN hbN prevN accN
  simp only [← cond0_iff i, ← cond1_iff i, ← cond2_iff i]
  simp only [cc0_conv_ffn_eq_skeleton]; unfold cc0_conv_ffn_skel
  simp only [k0_part1_eq_skeleton, k0_part2_eq_skeleton]; unfold k0_part1_skel k0_part2_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0 | sl_exact hc1 | sl_exact hc2)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    refine (read_writes_whole3 _ _ _ _ _).trans ?_
    (try delta runB.sl.v14)
    (try delta runB.sl.H14_1)
    simp only [if_neg hc0, if_pos hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  isplitl [H13]
  · iexists _; isplitr; swap; · iexact H13
    ipureintro
    (try delta runB.sl.v14)
    (try delta runB.sl.H14_1)
    simp only [if_neg hc0, if_pos hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  iexists _; isplitr; swap
  · iexists _; isplitr; swap; · iexact H14
    ipureintro; rfl
  ipureintro
  refine ⟨(slot_writes i _ _ (off2_eq i) _ _ _).trans ?_, fun g hg => (slot_writes_ne i _ _ (off2_eq i) _ _ _ g hg).trans ?_⟩
  · (try delta runB.sl.v14)
    (try delta runB.sl.H14_1)
    simp only [if_neg hc0, if_pos hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  · delta runB.sl.H14_1
    refine (slot_writes_ne i _ _ (off1_eq i) _ _ _ g hg).trans ?_
    rw [View.writes_nil, harg14.read_unread]

set_option maxHeartbeats 2000000 in
theorem runC (hc0 : ¬ (Scalar.cmpi .ne (Scalar.extui (Scalar.cmpi .eq (BitVec.ofNat 32 (i 2).val) 0#32) : BitVec 32) 0#32) = 1#1) (hc1 : k0_cond2 i = 1#1) (hc2 : (Scalar.cmpi .ne (Scalar.extui (Scalar.cmpi .eq (BitVec.ofNat 32 (i 2).val) 10#32) : BitVec 32) 0#32) = 1#1) (x3 : Vec F S1x512x2048 .f32) (x4 : Vec F S2048x512 .bf16) (x5 : Vec F S2048x512 .bf16) (x6 : Vec F S512x2048 .bf16) (x7 : Vec F S3x512 .f32) (x8 : Vec F S1x512 .f32) (x9 : Vec F S8x512 .f32) (x10 : Vec F S1x2048 .f32) (x11 : Vec F S1x2048 .f32) (x12 : Vec F S1x512x2048 .f32) (x13 : Vec F S512x2048 .bf16) (x14 : Vec F S11x8x512 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outN i x10 x11 (stepN (hbN i x3 x13) x4 x5 x6 x7 x8 (prevN i x9 (slot x14 (i 2))) (accN i x3 x12)))
      ∗ owns (c : Thread nD τ) arg13 fullShare (hbN i x3 x13)
      ∗ (∃ h : Vec F S11x8x512 .f32, iprop(⌜slot h (i 2) = k0_pay11 (hbN i x3 x13) x4 ∧ ∀ g, g ≠ i 2 → slot h g = slot x14 g⌝ ∗ owns (c : Thread nD τ) arg14 fullShare h))) -∗ K ⟨⟩))
  ⊢ wp frame (wpE (defs₀ (F := F)) Variants.none (c : Thread nD τ) none) E (cc0_conv_ffn i arg3 harg3 arg4 harg4 arg5 harg5 arg6 harg6 arg7 harg7 arg8 harg8 arg9 harg9 arg10 harg10 arg11 harg11 arg12 harg12 arg13 harg13 arg14 harg14) K := by
  unfold outN stepN hbN prevN accN
  simp only [← cond0_iff i, ← cond1_iff i, ← cond2_iff i]
  simp only [cc0_conv_ffn_eq_skeleton]; unfold cc0_conv_ffn_skel
  simp only [k0_part1_eq_skeleton, k0_part2_eq_skeleton]; unfold k0_part1_skel k0_part2_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0 | sl_exact hc1 | sl_exact hc2)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    refine (read_writes_whole3 _ _ _ _ _).trans ?_
    (try delta runC.sl.v80)
    (try delta runC.sl.H12_1)
    (try delta runC.sl.v14)
    (try delta runC.sl.H14_1)
    simp only [if_neg hc0, if_pos hc1, if_pos hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  isplitl [H13]
  · iexists _; isplitr; swap; · iexact H13
    ipureintro
    (try delta runC.sl.v80)
    (try delta runC.sl.H12_1)
    (try delta runC.sl.v14)
    (try delta runC.sl.H14_1)
    simp only [if_neg hc0, if_pos hc1, if_pos hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  iexists _; isplitr; swap
  · iexists _; isplitr; swap; · iexact H14
    ipureintro; rfl
  ipureintro
  refine ⟨(slot_writes i _ _ (off2_eq i) _ _ _).trans ?_, fun g hg => (slot_writes_ne i _ _ (off2_eq i) _ _ _ g hg).trans ?_⟩
  · (try delta runC.sl.v80)
    (try delta runC.sl.H12_1)
    (try delta runC.sl.v14)
    (try delta runC.sl.H14_1)
    simp only [if_neg hc0, if_pos hc1, if_pos hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  · delta runC.sl.H14_1
    refine (slot_writes_ne i _ _ (off1_eq i) _ _ _ g hg).trans ?_
    rw [View.writes_nil, harg14.read_unread]

set_option maxHeartbeats 2000000 in
theorem runD (hc0 : (Scalar.cmpi .ne (Scalar.extui (Scalar.cmpi .eq (BitVec.ofNat 32 (i 2).val) 0#32) : BitVec 32) 0#32) = 1#1) (hc1 : ¬ k0_cond2 i = 1#1) (hc2 : ¬ (Scalar.cmpi .ne (Scalar.extui (Scalar.cmpi .eq (BitVec.ofNat 32 (i 2).val) 10#32) : BitVec 32) 0#32) = 1#1) (x3 : Vec F S1x512x2048 .f32) (x4 : Vec F S2048x512 .bf16) (x5 : Vec F S2048x512 .bf16) (x6 : Vec F S512x2048 .bf16) (x7 : Vec F S3x512 .f32) (x8 : Vec F S1x512 .f32) (x9 : Vec F S8x512 .f32) (x10 : Vec F S1x2048 .f32) (x11 : Vec F S1x2048 .f32) (x12 : Vec F S1x512x2048 .f32) (x13 : Vec F S512x2048 .bf16) (x14 : Vec F S11x8x512 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outN i x10 x11 (stepN (hbN i x3 x13) x4 x5 x6 x7 x8 (prevN i x9 (slot x14 (i 2))) (accN i x3 x12)))
      ∗ owns (c : Thread nD τ) arg13 fullShare (hbN i x3 x13)
      ∗ (∃ h : Vec F S11x8x512 .f32, iprop(⌜slot h (i 2) = k0_pay11 (hbN i x3 x13) x4 ∧ ∀ g, g ≠ i 2 → slot h g = slot x14 g⌝ ∗ owns (c : Thread nD τ) arg14 fullShare h))) -∗ K ⟨⟩))
  ⊢ wp frame (wpE (defs₀ (F := F)) Variants.none (c : Thread nD τ) none) E (cc0_conv_ffn i arg3 harg3 arg4 harg4 arg5 harg5 arg6 harg6 arg7 harg7 arg8 harg8 arg9 harg9 arg10 harg10 arg11 harg11 arg12 harg12 arg13 harg13 arg14 harg14) K := by
  unfold outN stepN hbN prevN accN
  simp only [← cond0_iff i, ← cond1_iff i, ← cond2_iff i]
  simp only [cc0_conv_ffn_eq_skeleton]; unfold cc0_conv_ffn_skel
  simp only [k0_part1_eq_skeleton, k0_part2_eq_skeleton]; unfold k0_part1_skel k0_part2_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0 | sl_exact hc1 | sl_exact hc2)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    refine (read_writes_whole3 _ _ _ _ _).trans ?_
    (try delta runD.sl.v6)
    (try delta runD.sl.v67)
    (try delta runD.sl.H12_1)
    (try delta runD.sl.H13_1)
    simp only [if_pos hc0, if_neg hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  isplitl [H13]
  · iexists _; isplitr; swap; · iexact H13
    ipureintro
    (try delta runD.sl.v6)
    (try delta runD.sl.v67)
    (try delta runD.sl.H12_1)
    (try delta runD.sl.H13_1)
    simp only [if_pos hc0, if_neg hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  iexists _; isplitr; swap
  · iexists _; isplitr; swap; · iexact H14
    ipureintro; rfl
  ipureintro
  refine ⟨(slot_writes i _ _ (off2_eq i) _ _ _).trans ?_, fun g hg => (slot_writes_ne i _ _ (off2_eq i) _ _ _ g hg).trans ?_⟩
  · (try delta runD.sl.v6)
    (try delta runD.sl.v67)
    (try delta runD.sl.H12_1)
    (try delta runD.sl.H13_1)
    simp only [if_pos hc0, if_neg hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  · rw [View.writes_nil, harg14.read_unread]

set_option maxHeartbeats 2000000 in
theorem runE (hc0 : ¬ (Scalar.cmpi .ne (Scalar.extui (Scalar.cmpi .eq (BitVec.ofNat 32 (i 2).val) 0#32) : BitVec 32) 0#32) = 1#1) (hc1 : ¬ k0_cond2 i = 1#1) (hc2 : ¬ (Scalar.cmpi .ne (Scalar.extui (Scalar.cmpi .eq (BitVec.ofNat 32 (i 2).val) 10#32) : BitVec 32) 0#32) = 1#1) (x3 : Vec F S1x512x2048 .f32) (x4 : Vec F S2048x512 .bf16) (x5 : Vec F S2048x512 .bf16) (x6 : Vec F S512x2048 .bf16) (x7 : Vec F S3x512 .f32) (x8 : Vec F S1x512 .f32) (x9 : Vec F S8x512 .f32) (x10 : Vec F S1x2048 .f32) (x11 : Vec F S1x2048 .f32) (x12 : Vec F S1x512x2048 .f32) (x13 : Vec F S512x2048 .bf16) (x14 : Vec F S11x8x512 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outN i x10 x11 (stepN (hbN i x3 x13) x4 x5 x6 x7 x8 (prevN i x9 (slot x14 (i 2))) (accN i x3 x12)))
      ∗ owns (c : Thread nD τ) arg13 fullShare (hbN i x3 x13)
      ∗ (∃ h : Vec F S11x8x512 .f32, iprop(⌜slot h (i 2) = k0_pay11 (hbN i x3 x13) x4 ∧ ∀ g, g ≠ i 2 → slot h g = slot x14 g⌝ ∗ owns (c : Thread nD τ) arg14 fullShare h))) -∗ K ⟨⟩))
  ⊢ wp frame (wpE (defs₀ (F := F)) Variants.none (c : Thread nD τ) none) E (cc0_conv_ffn i arg3 harg3 arg4 harg4 arg5 harg5 arg6 harg6 arg7 harg7 arg8 harg8 arg9 harg9 arg10 harg10 arg11 harg11 arg12 harg12 arg13 harg13 arg14 harg14) K := by
  unfold outN stepN hbN prevN accN
  simp only [← cond0_iff i, ← cond1_iff i, ← cond2_iff i]
  simp only [cc0_conv_ffn_eq_skeleton]; unfold cc0_conv_ffn_skel
  simp only [k0_part1_eq_skeleton, k0_part2_eq_skeleton]; unfold k0_part1_skel k0_part2_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0 | sl_exact hc1 | sl_exact hc2)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    refine (read_writes_whole3 _ _ _ _ _).trans ?_
    simp only [if_neg hc0, if_neg hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  isplitl [H13]
  · iexists _; isplitr; swap; · iexact H13
    ipureintro
    simp only [if_neg hc0, if_neg hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  iexists _; isplitr; swap
  · iexists _; isplitr; swap; · iexact H14
    ipureintro; rfl
  ipureintro
  refine ⟨(slot_writes i _ _ (off2_eq i) _ _ _).trans ?_, fun g hg => (slot_writes_ne i _ _ (off2_eq i) _ _ _ g hg).trans ?_⟩
  · simp only [if_neg hc0, if_neg hc1, if_neg hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  · rw [View.writes_nil, harg14.read_unread]

set_option maxHeartbeats 2000000 in
theorem runG (hc0 : ¬ (Scalar.cmpi .ne (Scalar.extui (Scalar.cmpi .eq (BitVec.ofNat 32 (i 2).val) 0#32) : BitVec 32) 0#32) = 1#1) (hc1 : ¬ k0_cond2 i = 1#1) (hc2 : (Scalar.cmpi .ne (Scalar.extui (Scalar.cmpi .eq (BitVec.ofNat 32 (i 2).val) 10#32) : BitVec 32) 0#32) = 1#1) (x3 : Vec F S1x512x2048 .f32) (x4 : Vec F S2048x512 .bf16) (x5 : Vec F S2048x512 .bf16) (x6 : Vec F S512x2048 .bf16) (x7 : Vec F S3x512 .f32) (x8 : Vec F S1x512 .f32) (x9 : Vec F S8x512 .f32) (x10 : Vec F S1x2048 .f32) (x11 : Vec F S1x2048 .f32) (x12 : Vec F S1x512x2048 .f32) (x13 : Vec F S512x2048 .bf16) (x14 : Vec F S11x8x512 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outN i x10 x11 (stepN (hbN i x3 x13) x4 x5 x6 x7 x8 (prevN i x9 (slot x14 (i 2))) (accN i x3 x12)))
      ∗ owns (c : Thread nD τ) arg13 fullShare (hbN i x3 x13)
      ∗ (∃ h : Vec F S11x8x512 .f32, iprop(⌜slot h (i 2) = k0_pay11 (hbN i x3 x13) x4 ∧ ∀ g, g ≠ i 2 → slot h g = slot x14 g⌝ ∗ owns (c : Thread nD τ) arg14 fullShare h))) -∗ K ⟨⟩))
  ⊢ wp frame (wpE (defs₀ (F := F)) Variants.none (c : Thread nD τ) none) E (cc0_conv_ffn i arg3 harg3 arg4 harg4 arg5 harg5 arg6 harg6 arg7 harg7 arg8 harg8 arg9 harg9 arg10 harg10 arg11 harg11 arg12 harg12 arg13 harg13 arg14 harg14) K := by
  unfold outN stepN hbN prevN accN
  simp only [← cond0_iff i, ← cond1_iff i, ← cond2_iff i]
  simp only [cc0_conv_ffn_eq_skeleton]; unfold cc0_conv_ffn_skel
  simp only [k0_part1_eq_skeleton, k0_part2_eq_skeleton]; unfold k0_part1_skel k0_part2_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0 | sl_exact hc1 | sl_exact hc2)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    refine (read_writes_whole3 _ _ _ _ _).trans ?_
    (try delta runG.sl.v80)
    (try delta runG.sl.H12_1)
    simp only [if_neg hc0, if_neg hc1, if_pos hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  isplitl [H13]
  · iexists _; isplitr; swap; · iexact H13
    ipureintro
    (try delta runG.sl.v80)
    (try delta runG.sl.H12_1)
    simp only [if_neg hc0, if_neg hc1, if_pos hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  iexists _; isplitr; swap
  · iexists _; isplitr; swap; · iexact H14
    ipureintro; rfl
  ipureintro
  refine ⟨(slot_writes i _ _ (off2_eq i) _ _ _).trans ?_, fun g hg => (slot_writes_ne i _ _ (off2_eq i) _ _ _ g hg).trans ?_⟩
  · (try delta runG.sl.v80)
    (try delta runG.sl.H12_1)
    simp only [if_neg hc0, if_neg hc1, if_pos hc2, readCov_w2Z, readCov_w3Z, readCov_sZ, readAt_whole2Z, readAt_whole3Z, readAt_slotZ, read_writes_whole2Z, read_writes_whole3Z, harg3.read_unread, harg4.read_unread, harg5.read_unread, harg6.read_unread, harg7.read_unread, harg8.read_unread, harg9.read_unread, harg10.read_unread, harg11.read_unread, harg12.read_unread, harg13.read_unread, harg14.read_unread]
  · rw [View.writes_nil, harg14.read_unread]

set_option maxHeartbeats 2000000 in
theorem kernelRun  (x3 : Vec F S1x512x2048 .f32) (x4 : Vec F S2048x512 .bf16) (x5 : Vec F S2048x512 .bf16) (x6 : Vec F S512x2048 .bf16) (x7 : Vec F S3x512 .f32) (x8 : Vec F S1x512 .f32) (x9 : Vec F S8x512 .f32) (x10 : Vec F S1x2048 .f32) (x11 : Vec F S1x2048 .f32) (x12 : Vec F S1x512x2048 .f32) (x13 : Vec F S512x2048 .bf16) (x14 : Vec F S11x8x512 .f32) (E : Set ℕ) (K : PUnit → sProp 𝕄) :
  iprop((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)
    ∗ ((owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outN i x10 x11 (stepN (hbN i x3 x13) x4 x5 x6 x7 x8 (prevN i x9 (slot x14 (i 2))) (accN i x3 x12)))
      ∗ owns (c : Thread nD τ) arg13 fullShare (hbN i x3 x13)
      ∗ (∃ h : Vec F S11x8x512 .f32, iprop(⌜slot h (i 2) = k0_pay11 (hbN i x3 x13) x4 ∧ ∀ g, g ≠ i 2 → slot h g = slot x14 g⌝ ∗ owns (c : Thread nD τ) arg14 fullShare h))) -∗ K ⟨⟩))
  ⊢ wp frame (wpE (defs₀ (F := F)) Variants.none (c : Thread nD τ) none) E (cc0_conv_ffn i arg3 harg3 arg4 harg4 arg5 harg5 arg6 harg6 arg7 harg7 arg8 harg8 arg9 harg9 arg10 harg10 arg11 harg11 arg12 harg12 arg13 harg13 arg14 harg14) K := by
  by_cases hc0 : (Scalar.cmpi .ne (Scalar.extui (Scalar.cmpi .eq (BitVec.ofNat 32 (i 2).val) 0#32) : BitVec 32) 0#32) = 1#1
  · have hc2 : ¬ (Scalar.cmpi .ne (Scalar.extui (Scalar.cmpi .eq (BitVec.ofNat 32 (i 2).val) 10#32) : BitVec 32) 0#32) = 1#1 := fun h => by have := (cond0_iff i).1 hc0; have := (cond2_iff i).1 h; omega
    by_cases hc1 : k0_cond2 i = 1#1
    · exact runA c i _ harg3 _ harg4 _ harg5 _ harg6 _ harg7 _ harg8 _ harg9 _ harg10 _ harg11 _ harg12 _ harg13 _ harg14 hc0 hc1 hc2 x3 x4 x5 x6 x7 x8 x9 x10 x11 x12 x13 x14 E K
    · exact runD c i _ harg3 _ harg4 _ harg5 _ harg6 _ harg7 _ harg8 _ harg9 _ harg10 _ harg11 _ harg12 _ harg13 _ harg14 hc0 hc1 hc2 x3 x4 x5 x6 x7 x8 x9 x10 x11 x12 x13 x14 E K
  · by_cases hc1 : k0_cond2 i = 1#1
    · by_cases hc2 : (Scalar.cmpi .ne (Scalar.extui (Scalar.cmpi .eq (BitVec.ofNat 32 (i 2).val) 10#32) : BitVec 32) 0#32) = 1#1
      · exact runC c i _ harg3 _ harg4 _ harg5 _ harg6 _ harg7 _ harg8 _ harg9 _ harg10 _ harg11 _ harg12 _ harg13 _ harg14 hc0 hc1 hc2 x3 x4 x5 x6 x7 x8 x9 x10 x11 x12 x13 x14 E K
      · exact runB c i _ harg3 _ harg4 _ harg5 _ harg6 _ harg7 _ harg8 _ harg9 _ harg10 _ harg11 _ harg12 _ harg13 _ harg14 hc0 hc1 hc2 x3 x4 x5 x6 x7 x8 x9 x10 x11 x12 x13 x14 E K
    · by_cases hc2 : (Scalar.cmpi .ne (Scalar.extui (Scalar.cmpi .eq (BitVec.ofNat 32 (i 2).val) 10#32) : BitVec 32) 0#32) = 1#1
      · exact runG c i _ harg3 _ harg4 _ harg5 _ harg6 _ harg7 _ harg8 _ harg9 _ harg10 _ harg11 _ harg12 _ harg13 _ harg14 hc0 hc1 hc2 x3 x4 x5 x6 x7 x8 x9 x10 x11 x12 x13 x14 E K
      · exact runE c i _ harg3 _ harg4 _ harg5 _ harg6 _ harg7 _ harg8 _ harg9 _ harg10 _ harg11 _ harg12 _ harg13 _ harg14 hc0 hc1 hc2 x3 x4 x5 x6 x7 x8 x9 x10 x11 x12 x13 x14 E K

end W

end Cert.Proof.FfnKernel2Ideal

end
-- ==== Proof.Ffn.Run.lean ====
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdxCore
public import proofs.«01_k».proof.Proof.Ffn.Body

/-! The run of the whole feed-forward program. -/

@[expose] public section

set_option maxRecDepth 16384

noncomputable section

namespace Cert.Proof.FfnKernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem owns_of_eq {c : Thread nD τ} {sp : Space} {sh : Shape} {e : EltTy} {M : Memref sig c.2.kind sp sh e} {X Y : Vec F sh e} (h : X = Y) :
    (owns c M fullShare X : sProp 𝕄) ⊢ owns c M fullShare Y := by subst h; exact .rfl

theorem N_eq : cfg0.N = 704 := N_0
theorem co1 (t : Fin cfg0.N) : (grid0.coords t 1).val = t.val / 11 % 32 := Pipeline.Grid.coords_val t 1 (by decide) rfl
theorem co2 (t : Fin cfg0.N) : (grid0.coords t 2).val = t.val % 11 := by
  have e : (grid0.coords t 2).val = t.val / 1 % 11 := Pipeline.Grid.coords_val t 2 (by decide) rfl
  rw [e, Nat.div_one]

/-- The tile's rows of h1, cast. -/
def hbAt (c : Dev nD) (t : Fin cfg0.N) : Vec F S512x2048 .bf16 :=
  k0_pay3 (iblk m c 0 ⟨t.val - t.val % 11, Nat.lt_of_le_of_lt (Nat.sub_le _ _) t.isLt⟩)

/-- The last eight gate rows of the point's tile, of the point's column block. -/
def tlAt (c : Dev nD) (t : Fin cfg0.N) : Vec F S1x8x512 .f32 := k0_pay11 (hbAt m c t) (iblk m c 1 t)

/-- The eight rows before the tile: the meta tokens' at a sequence's first tile, the last tile's otherwise. -/
def prevAt (c : Dev nD) (t : Fin cfg0.N) : Vec F S1x8x512 .f32 :=
  if t.val / 11 % 32 = 0 then k0_pay5 (iblk m c 6 t) else tlAt m c ⟨t.val - 11, Nat.lt_of_le_of_lt (Nat.sub_le _ _) t.isLt⟩

/-- One column block added at point `t`. -/
def stepAt (c : Dev nD) (t : Fin cfg0.N) (o : Vec F S1x512x2048 .f32) : Vec F S1x512x2048 .f32 :=
  stepN (hbAt m c t) (iblk m c 1 t) (iblk m c 2 t) (iblk m c 3 t) (iblk m c 4 t) (iblk m c 5 t) (prevAt m c t) o

/-- The accumulator after point `n`. -/
def oAcc (c : Dev nD) : (n : ℕ) → n < cfg0.N → Vec F S1x512x2048 .f32
  | 0, h => stepAt m c ⟨0, h⟩ (k0_pay4 (iblk m c 0 ⟨0, h⟩))
  | n + 1, h => stepAt m c ⟨n + 1, h⟩ (if (n + 1) % 11 = 0 then k0_pay4 (iblk m c 0 ⟨n + 1, h⟩) else oAcc c n (Nat.lt_of_succ_lt h))

/-- The output block after point `t`. -/
def outAt (c : Dev nD) (t : Fin cfg0.N) : Vec F S1x512x2048 .f32 :=
  if t.val % 11 = 10 then k0_pay1 (oAcc m c t.val t.isLt) (iblk m c 7 t) (iblk m c 8 t) else oAcc m c t.val t.isLt

/-- What the scratch holds before point `n`: the cast rows of the point before, and the tails of the eleven points before. -/
def Inv (c : Dev nD) (n : ℕ) (hb : Vec F S512x2048 .bf16) (h : Vec F S11x8x512 .f32) : Prop :=
  (∀ t : Fin cfg0.N, t.val + 1 = n → hb = hbAt m c t) ∧ ∀ t : Fin cfg0.N, t.val < n → n ≤ t.val + 11 → slot h (grid0.coords t 2) = tlAt m c t

theorem hb_step (c : Dev nD) (t : Fin cfg0.N) {hb h} (H : Inv m c t.val hb h) : hbN (grid0.coords t) (iblk m c 0 t) hb = hbAt m c t := by
  unfold hbN hbAt
  rw [co2]
  split
  · exact congrArg (fun s => k0_pay3 (iblk m c 0 s)) (Fin.ext (show t.val = t.val - t.val % 11 by omega))
  · refine (H.1 ⟨t.val - 1, Nat.lt_of_le_of_lt (Nat.sub_le _ _) t.isLt⟩ (show t.val - 1 + 1 = t.val by omega)).trans ?_
    unfold hbAt
    exact congrArg (fun s => k0_pay3 (iblk m c 0 s)) (Fin.ext (show t.val - 1 - (t.val - 1) % 11 = t.val - t.val % 11 by omega))

theorem prev_step (c : Dev nD) (t : Fin cfg0.N) {hb h} (H : Inv m c t.val hb h) :
    prevN (grid0.coords t) (iblk m c 6 t) (slot h (grid0.coords t 2)) = prevAt m c t := by
  unfold prevN prevAt
  rw [co1]
  split
  · rfl
  · have e : (grid0.coords t 2 : Fin 11) = grid0.coords (⟨t.val - 11, Nat.lt_of_le_of_lt (Nat.sub_le _ _) t.isLt⟩ : Fin cfg0.N) 2 :=
      Fin.ext ((co2 t).trans ((show t.val % 11 = (t.val - 11) % 11 by omega).trans (co2 (⟨t.val - 11, Nat.lt_of_le_of_lt (Nat.sub_le _ _) t.isLt⟩ : Fin cfg0.N)).symm))
    have k := H.2 ⟨t.val - 11, Nat.lt_of_le_of_lt (Nat.sub_le _ _) t.isLt⟩ (show t.val - 11 < t.val by omega) (show t.val ≤ t.val - 11 + 11 by omega)
    exact (congrArg (slot h) e).trans k

theorem acc_step (c : Dev nD) (t : Fin cfg0.N) (o : Vec F S1x512x2048 .f32)
    (ho : ∀ h : t.val % 11 ≠ 0, o = oAcc m c (t.val - 1) (Nat.lt_of_le_of_lt (Nat.sub_le _ _) t.isLt)) :
    stepAt m c t (accN (grid0.coords t) (iblk m c 0 t) o) = oAcc m c t.val t.isLt := by
  unfold accN
  rw [co2]
  obtain ⟨n, hn⟩ := t
  cases n with
  | zero => rfl
  | succ n =>
    unfold oAcc
    by_cases h : (n + 1) % 11 = 0
    · rw [if_pos h, if_pos h]
    · rw [if_neg h, if_neg h]
      exact congrArg _ (ho h)

theorem inv_step (c : Dev nD) (t : Fin cfg0.N) {hb h} (H : Inv m c t.val hb h) (h' : Vec F S11x8x512 .f32)
    (e : slot h' (grid0.coords t 2) = tlAt m c t) (e' : ∀ g, g ≠ grid0.coords t 2 → slot h' g = slot h g) :
    Inv m c (t.val + 1) (hbAt m c t) h' := by
  refine ⟨fun s hs => ?_, fun s h1 h2 => ?_⟩
  · rw [show s = t from Fin.ext (by omega)]
  · by_cases hst : s = t
    · rw [hst]; exact e
    · have : s.val ≠ t.val := fun k => hst (Fin.ext k)
      rw [e' _ fun k => by have := congrArg Fin.val k; rw [co2, co2] at this; omega]
      exact H.2 s (by omega) (by omega)

abbrev scM0 : Memref sig .tc .vmem S512x2048 .bf16 := Memref.whole cc0_scratch0
abbrev scM1 : Memref sig .tc .vmem S11x8x512 .f32 := Memref.whole cc0_scratch1

/-- What the pipeline hands over between points besides the blocks. -/
def PhiS (c : Dev nD) (n : ℕ) : sProp 𝕄 :=
  iprop(∃ hb h, iprop(⌜Inv m c n hb h⌝ ∗ owns (c : Thread nD τ) scM0 fullShare hb ∗ owns (c : Thread nD τ) scM1 fullShare h ∗ (∃ r, prngReg c r)))

/-- The arrays as the region finds them; after the body each input buffer at its block and the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by first | (dsimp only [dats]; done) | rfl
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by first | (dsimp only [dats]; done) | rfl
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by first | (dsimp only [dats]; done) | rfl
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by first | (dsimp only [dats]; done) | rfl
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by first | (dsimp only [dats]; done) | rfl
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by first | (dsimp only [dats]; done) | rfl
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by first | (dsimp only [dats]; done) | rfl
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by first | (dsimp only [dats]; done) | rfl
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by first | (dsimp only [dats]; done) | rfl
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = outAt m c t := by dsimp only [dats]

theorem before9 (c : Dev nD) (t : Fin cfg0.N) (d) (h : t.val % 11 ≠ 0) :
    (dats m 0 c).before 9 t d = oAcc m c (t.val - 1) (Nat.lt_of_le_of_lt (Nat.sub_le _ _) t.isLt) := by
  have hf : (cfg0.win 9).flush ⟨t.val - 1, Nat.lt_of_le_of_lt (Nat.sub_le _ _) t.isLt⟩ = false :=
    Bool.eq_false_iff.2 fun k => by have := (flush0_9 _).1 k; dsimp only at this; omega
  rw [(dats m 0 c).before_out_kept 9 rfl t (fun k => h (by rw [k])) hf (fun _ => rfl) (fun _ _ => rfl) d, after0_9]
  unfold outAt
  rw [if_neg (show ¬ (t.val - 1) % 11 = 10 by omega)]

theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%hb, G0⟩, ⟨%h, G1⟩⟩, Hr⟩
  iexists hb, h
  isplitr
  · ipureintro; exact ⟨fun _ k => absurd k (Nat.succ_ne_zero _), fun _ k => absurd k (Nat.not_lt_zero _)⟩
  isplitl [G0]; · iexact G0
  isplitl [G1]; · iexact G1
  iexact Hr

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%hb, %h, -, G0, G1, Hr⟩
  isplitr [Hr]
  · isplitl [G0]; · iexists hb; iexact G0
    iexists h; iexact G1
  iexact Hr

theorem out_step (c : Dev nD) (t : Fin cfg0.N) {hb h} (H : Inv m c t.val hb h) (o : Vec F S1x512x2048 .f32)
    (ho : ∀ h : t.val % 11 ≠ 0, o = oAcc m c (t.val - 1) (Nat.lt_of_le_of_lt (Nat.sub_le _ _) t.isLt)) :
    outN (grid0.coords t) (iblk m c 7 t) (iblk m c 8 t) (stepN (hbN (grid0.coords t) (iblk m c 0 t) hb) (iblk m c 1 t) (iblk m c 2 t) (iblk m c 3 t)
      (iblk m c 4 t) (iblk m c 5 t) (prevN (grid0.coords t) (iblk m c 6 t) (slot h (grid0.coords t 2))) (accN (grid0.coords t) (iblk m c 0 t) o))
      = outAt m c t := by
  rw [hb_step m c t H, prev_step m c t H]
  have e := acc_step m c t o ho
  unfold stepAt at e
  rw [e]
  unfold outN outAt
  rw [co2]

set_option maxHeartbeats 1000000 in
/-- At every point the body, with its input buffers at their blocks, leaves them so and writes `outAt`. -/
theorem body_obligation (c : Dev nD) : BodyObligation (dats (F := F) m 0 c) (defs₀ (F := F)) Variants.none () Set.univ := fun t => by
  rw [bigSep_W0, bigSep_W0]
  sl_whnfR [defs₀, Defs.onTc]
  rw [show (dats m 0 c).owesAt () t.succ = (dats m 0 c).owesAt () t.castSucc from rfl, after0_0, after0_1, after0_2, after0_3, after0_4, after0_5, after0_6, after0_7, after0_8, after0_9]
  rw [show (dats m 0 c).Φ t.castSucc = PhiS m c t.val from rfl, show (dats m 0 c).Φ t.succ = PhiS m c (t.val + 1) from rfl]
  unfold PhiS
  iintro ⟨⟨%hb, %h, %hI, G0, G1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have ho : ∀ k : t.val % 11 ≠ 0, (dats m 0 c).before 9 t d9 = oAcc m c (t.val - 1) (Nat.lt_of_le_of_lt (Nat.sub_le _ _) t.isLt) := fun k => before9 m c t d9 k
  iapply (kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) hb h Set.univ _)
  isplitl [H0 H1 H2 H3 H4 H5 H6 H7 H8 H9 G0 G1]
  · isplitl [H0]; · iapply (owns_of_eq (before0_0 m c t d0)); iexact H0
    isplitl [H1]; · iapply (owns_of_eq (before0_1 m c t d1)); iexact H1
    isplitl [H2]; · iapply (owns_of_eq (before0_2 m c t d2)); iexact H2
    isplitl [H3]; · iapply (owns_of_eq (before0_3 m c t d3)); iexact H3
    isplitl [H4]; · iapply (owns_of_eq (before0_4 m c t d4)); iexact H4
    isplitl [H5]; · iapply (owns_of_eq (before0_5 m c t d5)); iexact H5
    isplitl [H6]; · iapply (owns_of_eq (before0_6 m c t d6)); iexact H6
    isplitl [H7]; · iapply (owns_of_eq (before0_7 m c t d7)); iexact H7
    isplitl [H8]; · iapply (owns_of_eq (before0_8 m c t d8)); iexact H8
    isplitl [H9]; · iexact H9
    isplitl [G0]; · iexact G0
    iexact G1
  iintro ⟨H0, H1, H2, H3, H4, H5, H6, H7, H8, H9, G0, ⟨%h', %hh, G1⟩⟩
  rw [out_step m c t hI _ ho, hb_step m c t hI]
  isplitl [G0 G1 Hr]
  · iexists hbAt m c t, h'
    isplitr
    · ipureintro; exact inv_step m c t hI h' (hh.1.trans (by rw [hb_step m c t hI]; rfl)) hh.2
    isplitl [G0]; · iexact G0
    isplitl [G1]; · iexact G1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- the implicit arguments are found by unfolding plain definitions in a metavariable's type
set_option backward.isDefEq.respectTransparency.types false in
/-- From any memory with zero counters every execution ends, with every array at what the proof data say and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Proof.FfnKernel2Ideal

end
-- ==== Proof.Ffn.Frame.lean ====
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import Idealize.ShloMosaic.Lib.Claim
public import proofs.«01_k».proof.Proof.Ffn.Run

/-! The frame of the feed-forward program. -/

@[expose] public section

set_option maxRecDepth 16384

noncomputable section

namespace Cert.Proof.FfnKernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- Every execution ends with the arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_with_sems (frame_of m ρ (dats m) (A_eq m)) (run_main (F := F) m ρ)

end Cert.Proof.FfnKernel2Ideal

end
-- ==== Proof.Ffn.Spec.lean ====
module

public import Idealize.ShloMosaic.Lib.ValueIdx
public import Idealize.ShloMosaic.Lib.MatmulPlain
public import Idealize.ShloMosaic.Lib.ValueLayout
public import Idealize.ShloMosaic.Lib.ValueLayoutCasts

/-! The feed-forward part of the layer as formulas over the extended reals. -/

@[expose] public section

noncomputable section

namespace Cert.Proof.FfnSpec

open Idealize.ShloMosaic

/-- `x` times its logistic. -/
def silu (x : EReal) : EReal := x * Ideal.div (Ideal.ofBits .f32 0x3F800000#32) (Ideal.ofBits .f32 0x3F800000#32 + Ideal.exp (-x))

/-- The mean of a row of 2048. -/
def mean (row : Fin 2048 → EReal) : EReal := Ideal.div (∑ k, row k) (Ideal.ofBits .f32 0x45000000#32)

/-- Entry `d` of a row's layer norm with gain `g` and offset `b`. -/
def ln (row : Fin 2048 → EReal) (g b : EReal) (d : Fin 2048) : EReal :=
  (row d - mean row) * Ideal.rsqrt (mean (fun k => (row k - mean row) * (row k - mean row)) + Ideal.ofBits .f32 0x3727C5AC#32) * g + b

/-- The activation from the three gate rows, the convolution's weights and the up projection. -/
def act (w0 w1 w2 cb g0 g1 g2 u : EReal) : EReal := silu (w0 * g0 + w1 * g1 + w2 * g2 + cb) * u

section
variable (a0 : (⟨3, ![2, 16384, 2048]⟩ : Shape).Idx → EReal) (a1 : (⟨2, ![16, 5632]⟩ : Shape).Idx → EReal)
  (a2 : (⟨3, ![1, 2048, 11264]⟩ : Shape).Idx → EReal) (a3 : (⟨3, ![1, 3, 5632]⟩ : Shape).Idx → EReal)
  (a4 : (⟨2, ![1, 5632]⟩ : Shape).Idx → EReal) (a5 : (⟨3, ![1, 5632, 2048]⟩ : Shape).Idx → EReal)
  (a6 a7 : (⟨2, ![1, 2048]⟩ : Shape).Idx → EReal)

/-- The gate and up projection. -/
def gu (b : Fin 2) (r : Fin 16384) (j : Fin 11264) : EReal := ∑ k : Fin 2048, a0 (ValueIdx.ix3 b r k) * a2 (ValueIdx.ix3 0 k j)

/-- Row `q` of the gate with the meta tokens' last two rows in front. -/
def gate (b : Fin 2) (q : ℕ) (hq : q < 16386) (j : Fin 5632) : EReal :=
  if h : q < 2 then a1 (ValueIdx.ix2 ⟨14 + q, by omega⟩ j) else gu a0 a2 b ⟨q - 2, by omega⟩ ⟨j.val, by omega⟩

/-- The activation of a row and column. -/
def actAt (b : Fin 2) (r : Fin 16384) (j : Fin 5632) : EReal :=
  act (a3 (ValueIdx.ix3 0 0 j)) (a3 (ValueIdx.ix3 0 1 j)) (a3 (ValueIdx.ix3 0 2 j)) (a4 (ValueIdx.ix2 0 j))
    (gate a0 a1 a2 b r.val (by omega) j) (gate a0 a1 a2 b (1 + r.val) (by omega) j) (gate a0 a1 a2 b (2 + r.val) (by omega) j)
    (gu a0 a2 b r ⟨5632 + j.val, by omega⟩)

/-- The row before the layer norm. -/
def rowAt (b : Fin 2) (r : Fin 16384) (d : Fin 2048) : EReal :=
  Ideal.ofBits .f32 0x3F9837F0#32 * a0 (ValueIdx.ix3 b r d) + ∑ j : Fin 5632, actAt a0 a1 a2 a3 a4 b r j * a5 (ValueIdx.ix3 0 j d)

end

end Cert.Proof.FfnSpec

end
-- ==== Proof.Ffn.Blocks.lean ====
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import Idealize.ShloMosaic.Lib.Claim
public import proofs.«01_k».proof.Proof.Fox.ReadI
public import proofs.«01_k».proof.Proof.Ffn.Run
public import proofs.«01_k».proof.Proof.Ffn.Spec

/-! The windows' blocks of the feed-forward region as entries of the arguments. -/

@[expose] public section

set_option maxRecDepth 16384

noncomputable section

namespace Cert.Proof.FfnKernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

open Cert.Proof.FoxKernelIdeal (mm_plain sm_apply bc_a1 sc_self expv_apply)
open Cert.Proof.FfnSpec

set_option backward.isDefEq.respectTransparency.types false

variable (m : (ℓ : Loc nD τ sig) → Buf (Elt Ideal) ℓ) (c : Dev nD)

/-- The arguments, as arrays of extended reals. -/
abbrev A0 : S2x16384x2048.Idx → EReal := m ((c.tc : Thread nD τ).loc main_arg0)
abbrev A1 : S16x5632.Idx → EReal := m ((c.tc : Thread nD τ).loc main_arg1)
abbrev A2 : S1x2048x11264.Idx → EReal := m ((c.tc : Thread nD τ).loc main_arg2)
abbrev A3 : S1x3x5632.Idx → EReal := m ((c.tc : Thread nD τ).loc main_arg3)
abbrev A4 : S1x5632.Idx → EReal := m ((c.tc : Thread nD τ).loc main_arg4)
abbrev A5 : S1x5632x2048.Idx → EReal := m ((c.tc : Thread nD τ).loc main_arg5)
abbrev A6 : S1x2048.Idx → EReal := m ((c.tc : Thread nD τ).loc main_arg6)
abbrev A7 : S1x2048.Idx → EReal := m ((c.tc : Thread nD τ).loc main_arg7)

theorem t0_lt (t : Fin grid0.N) : (grid0.coords t 0).val < 2 := (grid0.coords t 0).isLt
theorem t1_lt (t : Fin grid0.N) : (grid0.coords t 1).val < 32 := (grid0.coords t 1).isLt
theorem t2_lt (t : Fin grid0.N) : (grid0.coords t 2).val < 11 := (grid0.coords t 2).isLt

/-- The batch, the row and the column of the feed-forward width at a point. -/
def tb (t : Fin grid0.N) : Fin 2 := ⟨(grid0.coords t 0).val, t0_lt t⟩
def tr (t : Fin grid0.N) (ρ : Fin 512) : Fin 16384 := ⟨512 * (grid0.coords t 1).val + ρ.val, by have := t1_lt t; omega⟩
def tf (t : Fin grid0.N) (j : Fin 512) : Fin 5632 := ⟨512 * (grid0.coords t 2).val + j.val, by have := t2_lt t; omega⟩

theorem x0 : ∀ t : Fin cfg0.N, win0_0.index t = ![(grid0.coords t 0).val, (grid0.coords t 1).val, 0] :=
  (by decide +kernel : ∀ t : Fin grid0.N, _)
theorem x1 : ∀ t : Fin cfg0.N, win0_1.index t = ![0, (grid0.coords t 2).val] :=
  (by decide +kernel : ∀ t : Fin grid0.N, _)
theorem x2 : ∀ t : Fin cfg0.N, win0_2.index t = ![0, 11 + (grid0.coords t 2).val] :=
  (by decide +kernel : ∀ t : Fin grid0.N, _)
theorem x3 : ∀ t : Fin cfg0.N, win0_3.index t = ![(grid0.coords t 2).val, 0] :=
  (by decide +kernel : ∀ t : Fin grid0.N, _)
theorem x4 : ∀ t : Fin cfg0.N, win0_4.index t = ![0, (grid0.coords t 2).val] :=
  (by decide +kernel : ∀ t : Fin grid0.N, _)
theorem x5 : ∀ t : Fin cfg0.N, win0_5.index t = ![0, (grid0.coords t 2).val] :=
  (by decide +kernel : ∀ t : Fin grid0.N, _)
theorem x6 : ∀ t : Fin cfg0.N, win0_6.index t = ![0, (grid0.coords t 2).val] :=
  (by decide +kernel : ∀ t : Fin grid0.N, _)
theorem x7 : ∀ t : Fin cfg0.N, win0_7.index t = ![0, 0] :=
  (by decide +kernel : ∀ t : Fin grid0.N, _)
theorem x8 : ∀ t : Fin cfg0.N, win0_8.index t = ![0, 0] :=
  (by decide +kernel : ∀ t : Fin grid0.N, _)
theorem x9 : ∀ t : Fin cfg0.N, win0_9.index t = ![(grid0.coords t 0).val, (grid0.coords t 1).val, 0] :=
  (by decide +kernel : ∀ t : Fin grid0.N, _)

theorem b0 (t : Fin cfg0.N) (ρ : Fin 512) (d : Fin 2048) :
    iblk m c 0 t (ValueIdx.ix3 0 ρ d) = A0 m c (ValueIdx.ix3 (tb t) (tr t ρ) d) := by
  have hix : ((win0_0.blk t).view.emb (ValueIdx.ix3 0 ρ d)) = (ValueIdx.ix3 (tb t) (tr t ρ) d : S2x16384x2048.Idx) := by
    funext a; refine Fin.ext ?_
    blk_simp [x0]
    match a with
    | ⟨0, _⟩ => show (grid0.coords t 0).val * 1 + 0 = (grid0.coords t 0).val; omega
    | ⟨1, _⟩ => show (grid0.coords t 1).val * 512 + ρ.val = 512 * (grid0.coords t 1).val + ρ.val; omega
    | ⟨2, _⟩ => show 0 * 2048 + d.val = d.val; omega
  blk_simp [iblk]
  rw [hix]
  rw [V_main_arg0]

theorem b1 (t : Fin cfg0.N) (k : Fin 2048) (j : Fin 512) :
    iblk m c 1 t (ValueIdx.ix2 k j) = A2 m c (ValueIdx.ix3 0 k ⟨(tf t j).val, by omega⟩) := by
  have hix : ((win0_1.blk t).view.emb (ValueIdx.ix2 k j)) = (ValueIdx.ix2 k ⟨(tf t j).val, by omega⟩ : S2048x11264.Idx) := by
    funext a; refine Fin.ext ?_
    blk_simp [x1]
    match a with
    | ⟨0, _⟩ => show 0 * 2048 + k.val = k.val; omega
    | ⟨1, _⟩ => show (grid0.coords t 2).val * 512 + j.val = (512 * (grid0.coords t 2).val + j.val); omega
  blk_simp [iblk]
  rw [hix]
  have hV : V m c main_v1 = truncf (F := Ideal) .bf16 (shapeCast S2048x11264 (A2 m c) shapeCasts_S1x2048x11264_S2048x11264) bitsLt_bf16_f32 := by
    entry_read; rfl
  rw [hV]
  refine shapeCast_apply (A2 m c) shapeCasts_S1x2048x11264_S2048x11264 _ _ ?_
  rw [Shape.rowMajor_val_three, Shape.rowMajor_val_two]
  show (0 * 2048 + k.val) * 11264 + _ = k.val * 11264 + _
  rw [Nat.zero_mul, Nat.zero_add]

theorem b2 (t : Fin cfg0.N) (k : Fin 2048) (j : Fin 512) :
    iblk m c 2 t (ValueIdx.ix2 k j) = A2 m c (ValueIdx.ix3 0 k ⟨5632 + (tf t j).val, by omega⟩) := by
  have hix : ((win0_2.blk t).view.emb (ValueIdx.ix2 k j)) = (ValueIdx.ix2 k ⟨5632 + (tf t j).val, by omega⟩ : S2048x11264.Idx) := by
    funext a; refine Fin.ext ?_
    blk_simp [x2]
    match a with
    | ⟨0, _⟩ => show 0 * 2048 + k.val = k.val; omega
    | ⟨1, _⟩ => show (11 + (grid0.coords t 2).val) * 512 + j.val = 5632 + (512 * (grid0.coords t 2).val + j.val); omega
  blk_simp [iblk]
  rw [hix]
  have hV : V m c main_v1 = truncf (F := Ideal) .bf16 (shapeCast S2048x11264 (A2 m c) shapeCasts_S1x2048x11264_S2048x11264) bitsLt_bf16_f32 := by
    entry_read; rfl
  rw [hV]
  refine shapeCast_apply (A2 m c) shapeCasts_S1x2048x11264_S2048x11264 _ _ ?_
  rw [Shape.rowMajor_val_three, Shape.rowMajor_val_two]
  show (0 * 2048 + k.val) * 11264 + _ = k.val * 11264 + _
  rw [Nat.zero_mul, Nat.zero_add]

theorem b3 (t : Fin cfg0.N) (j : Fin 512) (d : Fin 2048) :
    iblk m c 3 t (ValueIdx.ix2 j d) = A5 m c (ValueIdx.ix3 0 (tf t j) d) := by
  have hix : ((win0_3.blk t).view.emb (ValueIdx.ix2 j d)) = (ValueIdx.ix2 (tf t j) d : S5632x2048.Idx) := by
    funext a; refine Fin.ext ?_
    blk_simp [x3]
    match a with
    | ⟨0, _⟩ => show (grid0.coords t 2).val * 512 + j.val = 512 * (grid0.coords t 2).val + j.val; omega
    | ⟨1, _⟩ => show 0 * 2048 + d.val = d.val; omega
  blk_simp [iblk]
  rw [hix]
  have hV : V m c main_v3 = truncf (F := Ideal) .bf16 (shapeCast S5632x2048 (A5 m c) shapeCasts_S1x5632x2048_S5632x2048) bitsLt_bf16_f32 := by
    entry_read; rfl
  rw [hV]
  refine shapeCast_apply (A5 m c) shapeCasts_S1x5632x2048_S5632x2048 _ _ ?_
  rw [Shape.rowMajor_val_three, Shape.rowMajor_val_two]
  show (0 * 5632 + (tf t j).val) * 2048 + d.val = (tf t j).val * 2048 + d.val
  rw [Nat.zero_mul, Nat.zero_add]

theorem b4 (t : Fin cfg0.N) (q : Fin 3) (j : Fin 512) :
    iblk m c 4 t (ValueIdx.ix2 q j) = A3 m c (ValueIdx.ix3 0 q (tf t j)) := by
  have hix : ((win0_4.blk t).view.emb (ValueIdx.ix2 q j)) = (ValueIdx.ix2 q (tf t j) : S3x5632.Idx) := by
    funext a; refine Fin.ext ?_
    blk_simp [x4]
    match a with
    | ⟨0, _⟩ => show 0 * 3 + q.val = q.val; omega
    | ⟨1, _⟩ => show (grid0.coords t 2).val * 512 + j.val = 512 * (grid0.coords t 2).val + j.val; omega
  blk_simp [iblk]
  rw [hix]
  have hV : V m c main_v9 = shapeCast S3x5632 (A3 m c) shapeCasts_S1x3x5632_S3x5632 := by
    entry_read; rfl
  rw [hV]
  refine shapeCast_apply (A3 m c) shapeCasts_S1x3x5632_S3x5632 _ _ ?_
  rw [Shape.rowMajor_val_three, Shape.rowMajor_val_two]
  show (0 * 3 + q.val) * 5632 + (tf t j).val = q.val * 5632 + (tf t j).val
  rw [Nat.zero_mul, Nat.zero_add]

theorem b5 (t : Fin cfg0.N) (j : Fin 512) :
    iblk m c 5 t (ValueIdx.ix2 0 j) = A4 m c (ValueIdx.ix2 0 (tf t j)) := by
  have hix : ((win0_5.blk t).view.emb (ValueIdx.ix2 0 j)) = (ValueIdx.ix2 0 (tf t j) : S1x5632.Idx) := by
    funext a; refine Fin.ext ?_
    blk_simp [x5]
    match a with
    | ⟨0, _⟩ => show 0 * 1 + 0 = 0; omega
    | ⟨1, _⟩ => show (grid0.coords t 2).val * 512 + j.val = 512 * (grid0.coords t 2).val + j.val; omega
  blk_simp [iblk]
  rw [hix]
  have hV : V m c main_v11 = shapeCast S1x5632 (shapeCast S5632 (A4 m c) shapeCasts_S1x5632_S5632) shapeCasts_S5632_S1x5632 := by
    entry_read; rfl
  rw [hV]
  refine (shapeCast_apply (shapeCast S5632 (A4 m c) shapeCasts_S1x5632_S5632) shapeCasts_S5632_S1x5632 _ (ValueIdx.ix1 (tf t j)) ?_).trans
    (shapeCast_apply (A4 m c) shapeCasts_S1x5632_S5632 _ (ValueIdx.ix2 0 (tf t j)) ?_)
  · rw [Shape.rowMajor_val_one, Shape.rowMajor_val_two]
    show (tf t j).val = 0 * 5632 + (tf t j).val
    rw [Nat.zero_mul, Nat.zero_add]
  · rw [Shape.rowMajor_val_one, Shape.rowMajor_val_two]
    show 0 * 5632 + (tf t j).val = (tf t j).val
    rw [Nat.zero_mul, Nat.zero_add]

theorem b6 (t : Fin cfg0.N) (q : Fin 8) (j : Fin 512) :
    iblk m c 6 t (ValueIdx.ix2 q j) = A1 m c (ValueIdx.ix2 ⟨8 + q.val, by omega⟩ (tf t j)) := by
  have hix : ((win0_6.blk t).view.emb (ValueIdx.ix2 q j)) = (ValueIdx.ix2 q (tf t j) : S8x5632.Idx) := by
    funext a; refine Fin.ext ?_
    blk_simp [x6]
    match a with
    | ⟨0, _⟩ => show 0 * 8 + q.val = q.val; omega
    | ⟨1, _⟩ => show (grid0.coords t 2).val * 512 + j.val = 512 * (grid0.coords t 2).val + j.val; omega
  blk_simp [iblk]
  rw [hix]
  have hV : V m c main_v8 = extractStridedSlice S8x5632 ![8, 0] (A1 m c) slices_S16x5632_S8x5632_8_0 := by
    entry_read; rfl
  rw [hV]
  exact extractStridedSlice_apply ![8, 0] (A1 m c) slices_S16x5632_S8x5632_8_0 _ _ (fun a => match a with
    | ⟨0, _⟩ => rfl
    | ⟨1, _⟩ => by show (tf t j).val = 0 + (tf t j).val; rw [Nat.zero_add])

theorem b7 (t : Fin cfg0.N) (d : Fin 2048) :
    iblk m c 7 t (ValueIdx.ix2 0 d) = A6 m c (ValueIdx.ix2 0 d) := by
  have hix : ((win0_7.blk t).view.emb (ValueIdx.ix2 0 d)) = (ValueIdx.ix2 0 d : S1x2048.Idx) := by
    funext a; refine Fin.ext ?_
    blk_simp [x7]
    match a with
    | ⟨0, _⟩ => show 0 * 1 + 0 = 0; omega
    | ⟨1, _⟩ => show 0 * 2048 + d.val = d.val; omega
  blk_simp [iblk]
  rw [hix]
  have hV : V m c main_v5 = shapeCast S1x2048 (shapeCast S2048 (A6 m c) shapeCasts_S1x2048_S2048) shapeCasts_S2048_S1x2048 := by
    entry_read; rfl
  rw [hV]
  refine (shapeCast_apply (shapeCast S2048 (A6 m c) shapeCasts_S1x2048_S2048) shapeCasts_S2048_S1x2048 _ (ValueIdx.ix1 d) ?_).trans
    (shapeCast_apply (A6 m c) shapeCasts_S1x2048_S2048 _ (ValueIdx.ix2 0 d) ?_)
  · rw [Shape.rowMajor_val_one, Shape.rowMajor_val_two]
    show d.val = 0 * 2048 + d.val
    rw [Nat.zero_mul, Nat.zero_add]
  · rw [Shape.rowMajor_val_one, Shape.rowMajor_val_two]
    show 0 * 2048 + d.val = d.val
    rw [Nat.zero_mul, Nat.zero_add]

theorem b8 (t : Fin cfg0.N) (d : Fin 2048) :
    iblk m c 8 t (ValueIdx.ix2 0 d) = A7 m c (ValueIdx.ix2 0 d) := by
  have hix : ((win0_8.blk t).view.emb (ValueIdx.ix2 0 d)) = (ValueIdx.ix2 0 d : S1x2048.Idx) := by
    funext a; refine Fin.ext ?_
    blk_simp [x8]
    match a with
    | ⟨0, _⟩ => show 0 * 1 + 0 = 0; omega
    | ⟨1, _⟩ => show 0 * 2048 + d.val = d.val; omega
  blk_simp [iblk]
  rw [hix]
  have hV : V m c main_v7 = shapeCast S1x2048 (shapeCast S2048 (A7 m c) shapeCasts_S1x2048_S2048) shapeCasts_S2048_S1x2048 := by
    entry_read; rfl
  rw [hV]
  refine (shapeCast_apply (shapeCast S2048 (A7 m c) shapeCasts_S1x2048_S2048) shapeCasts_S2048_S1x2048 _ (ValueIdx.ix1 d) ?_).trans
    (shapeCast_apply (A7 m c) shapeCasts_S1x2048_S2048 _ (ValueIdx.ix2 0 d) ?_)
  · rw [Shape.rowMajor_val_one, Shape.rowMajor_val_two]
    show d.val = 0 * 2048 + d.val
    rw [Nat.zero_mul, Nat.zero_add]
  · rw [Shape.rowMajor_val_one, Shape.rowMajor_val_two]
    show 0 * 2048 + d.val = d.val
    rw [Nat.zero_mul, Nat.zero_add]

end Cert.Proof.FfnKernel2Ideal

end
-- ==== Proof.Ffn.Pay.lean ====
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import Idealize.ShloMosaic.Lib.Claim
public import proofs.«01_k».proof.Proof.Fox.ReadI
public import proofs.«01_k».proof.Proof.Ffn.Spec

/-! The feed-forward body's values read at an entry. -/

@[expose] public section

set_option maxRecDepth 16384

noncomputable section

namespace Cert.Proof.FfnKernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

open Cert.Proof.FoxKernelIdeal (mm_plain sm_apply bc_a1 sc_self expv_apply)
open Cert.Proof.FfnSpec

theorem mmA (lhs : FVec Ideal S512x2048 .bf16) (rhs : FVec Ideal S2048x512 .bf16) (r c : Fin 512) :
    matmul dot_S512x2048_S2048x512_S512x512_1_0_0_1_n_n none lhs rhs (constant S512x512 .f32 0x00000000#32) (ValueIdx.ix2 r c) = ∑ k : Fin 2048, lhs (ValueIdx.ix2 r k) * rhs (ValueIdx.ix2 k c) :=
  mm_plain _ rfl lhs rhs r c
theorem mmB (lhs : FVec Ideal S512x512 .bf16) (rhs : FVec Ideal S512x2048 .bf16) (r : Fin 512) (c : Fin 2048) :
    matmul dot_S512x512_S512x2048_S512x2048_1_0_0_1_n_n none lhs rhs (constant S512x2048 .f32 0x00000000#32) (ValueIdx.ix2 r c) = ∑ k : Fin 512, lhs (ValueIdx.ix2 r k) * rhs (ValueIdx.ix2 k c) :=
  mm_plain _ rfl lhs rhs r c
theorem smA (src : FVec Ideal S512x2048 .f32) (h : S512x2048.Reduces [1] S512) (hφ : FKind.Formats .f32)
    (hacc : (0x00000000#32 : BitVec 32) = 0x00000000#32) (r : Fin 512) :
    multiReduction .add [1] S512 src 0x00000000#32 h hφ hacc (ValueIdx.ix1 r) = ∑ k : Fin 2048, src (ValueIdx.ix2 r k) :=
  sm_apply src h hφ hacc r

theorem pay2_at (x : Vec Ideal S1x512x2048 .f32) (r : Fin 512) (d : Fin 2048) : k0_pay2 x (ValueIdx.ix2 r d) = x (ValueIdx.ix3 0 r d) := by
  unfold k0_pay2; exact shapeCast_1ab_ab_apply _ _ _ _
theorem pay3_at (x : Vec Ideal S1x512x2048 .f32) (r : Fin 512) (d : Fin 2048) : k0_pay3 x (ValueIdx.ix2 r d) = x (ValueIdx.ix3 0 r d) := by
  unfold k0_pay3
  refine (sc_self _ _ _).trans ?_
  exact pay2_at x r d
theorem pay4_at (x : Vec Ideal S1x512x2048 .f32) (r : Fin 512) (d : Fin 2048) :
    k0_pay4 x (ValueIdx.ix3 0 r d) = Ideal.ofBits .f32 0x3F9837F0#32 * x (ValueIdx.ix3 0 r d) := by
  unfold k0_pay4
  refine (shapeCast_ab_1ab_apply _ _ _ _ _).trans ?_
  show _ * k0_pay2 x (ValueIdx.ix2 r d) = _
  rw [pay2_at]; rfl
theorem pay5_at (x : Vec Ideal S8x512 .f32) (q : Fin 8) (j : Fin 512) : k0_pay5 x (ValueIdx.ix3 0 q j) = x (ValueIdx.ix2 q j) := by
  unfold k0_pay5
  refine (shapeCast_ab_1ab_apply _ _ _ _ _).trans ?_
  exact sc_self _ _ _
theorem pay6_at (hb : Vec Ideal S512x2048 .bf16) (w : Vec Ideal S2048x512 .bf16) (r j : Fin 512) :
    k0_pay6 hb w (ValueIdx.ix2 r j) = ∑ k : Fin 2048, hb (ValueIdx.ix2 r k) * w (ValueIdx.ix2 k j) := by
  unfold k0_pay6
  refine (mmA _ _ r j).trans ?_
  exact Finset.sum_congr rfl fun k _ => congrArg _ (sc_self _ _ _)
theorem pay7_at (hb : Vec Ideal S512x2048 .bf16) (w : Vec Ideal S2048x512 .bf16) (r j : Fin 512) :
    k0_pay7 hb w (ValueIdx.ix2 r j) = ∑ k : Fin 2048, hb (ValueIdx.ix2 r k) * w (ValueIdx.ix2 k j) := by
  unfold k0_pay7
  refine (mmA _ _ r j).trans ?_
  exact Finset.sum_congr rfl fun k _ => congrArg _ (sc_self _ _ _)
theorem pay9_at (s : Vec Ideal S1x8x512 .f32) (j : Fin 512) : k0_pay9 s (ValueIdx.ix2 0 j) = s (ValueIdx.ix3 0 7 j) := by
  unfold k0_pay9
  refine (extractStridedSlice_apply ![7, 0] _ slices_S8x512_o7_0_S1x512 _ (ValueIdx.ix2 7 j) (fun a => match a with
    | ⟨0, _⟩ => rfl
    | ⟨1, _⟩ => by show j.val = 0 + j.val; omega)).trans ?_
  unfold k0_pay8; exact shapeCast_1ab_ab_apply _ _ _ _
theorem pay10_at (s : Vec Ideal S1x8x512 .f32) (j : Fin 512) : k0_pay10 s (ValueIdx.ix2 0 j) = s (ValueIdx.ix3 0 6 j) := by
  unfold k0_pay10
  refine (extractStridedSlice_apply ![6, 0] _ slices_S8x512_o6_0_S1x512 _ (ValueIdx.ix2 6 j) (fun a => match a with
    | ⟨0, _⟩ => rfl
    | ⟨1, _⟩ => by show j.val = 0 + j.val; omega)).trans ?_
  unfold k0_pay8; exact shapeCast_1ab_ab_apply _ _ _ _
theorem pay11_at (hb : Vec Ideal S512x2048 .bf16) (w : Vec Ideal S2048x512 .bf16) (q : Fin 8) (j : Fin 512) :
    k0_pay11 hb w (ValueIdx.ix3 0 q j) = ∑ k : Fin 2048, hb (ValueIdx.ix2 ⟨504 + q.val, by omega⟩ k) * w (ValueIdx.ix2 k j) := by
  unfold k0_pay11
  refine (shapeCast_ab_1ab_apply _ _ _ _ _).trans ?_
  refine (extractStridedSlice_apply ![504, 0] _ slices_S512x512_o504_0_S8x512 _ (ValueIdx.ix2 ⟨504 + q.val, by omega⟩ j) (fun a => match a with
    | ⟨0, _⟩ => rfl
    | ⟨1, _⟩ => by show j.val = 0 + j.val; omega)).trans ?_
  exact pay6_at _ _ _ _

theorem sel_row (n : ℕ) (hn : n < 2 ^ 32) (h : S512x512.Iotas .tc 32 [0]) (x y : EReal) (r j : Fin 512) :
    Scalar.select ((cmpi .eq (iota .tc S512x512 32 [0] h) (broadcast S512x512 (BitVec.ofNat 32 n))) (ValueIdx.ix2 r j)) x y = if r.val = n then x else y := by
  have e : (cmpi .eq (iota .tc S512x512 32 [0] h) (broadcast S512x512 (BitVec.ofNat 32 n))) (ValueIdx.ix2 r j) = BitVec.ofBool (decide (r.val = n)) := by
    show IntOp.cmpi .eq (iota .tc S512x512 32 [0] h (ValueIdx.ix2 r j)) (BitVec.ofNat 32 n) = _
    rw [iota_single_apply]
    exact WordCmp.cmpi_eq_ofNat (show r.val < 2 ^ 32 by omega) hn
  rw [e]
  by_cases k : r.val = n
  · rw [if_pos k, decide_eq_true k]; rfl
  · rw [if_neg k, decide_eq_false k]; rfl

theorem rot_at (n : ℕ) (hn : n < 512) (x : FVec Ideal S512x512 .f32) (h : S512x512.Rotates 0 none) (r j : Fin 512) (hr : n ≤ r.val) :
    dynamicRotate 0 (BitVec.ofNat 32 n) none x h (ValueIdx.ix2 r j) = x (ValueIdx.ix2 ⟨r.val - n, by omega⟩ j) :=
  dynamicRotate_apply 0 (BitVec.ofNat 32 n) x h (ValueIdx.ix2 r j) _ fun a => match a with
    | ⟨0, _⟩ => by
      show r.val - n = (r.val + 512 - (BitVec.ofNat 32 n).toNat % 512) % 512
      rw [BitVec.toNat_ofNat, Nat.mod_eq_of_lt (show n < 2 ^ 32 by omega), Nat.mod_eq_of_lt hn]
      have := r.isLt; omega
    | ⟨1, _⟩ => rfl

/-- The gate's rows moved down by one, the row before the tile in front. -/
theorem pay12_at (hb : Vec Ideal S512x2048 .bf16) (w : Vec Ideal S2048x512 .bf16) (s : Vec Ideal S1x8x512 .f32) (r j : Fin 512) :
    k0_pay12 hb w s (ValueIdx.ix2 r j) = if r.val = 0 then s (ValueIdx.ix3 0 7 j) else k0_pay6 hb w (ValueIdx.ix2 ⟨r.val - 1, by omega⟩ j) := by
  unfold k0_pay12
  refine (sel_row 0 (by omega) iota_S512x512_d0_w32 _ _ r j).trans ?_
  by_cases h : r.val = 0
  · rw [if_pos h, if_pos h]
    refine (broadcastTo_1b_ab_apply _ _ _ _).trans ?_
    exact (sc_self _ _ _).trans (pay9_at s j)
  · rw [if_neg h, if_neg h]
    exact rot_at 1 (by omega) _ _ r j (by omega)

/-- The gate's rows moved down by two, the two rows before the tile in front. -/
def two (G : FVec Ideal S512x512 .f32) (p7 p6 : FVec Ideal S1x512 .f32) (r j : Fin 512) : EReal :=
  if r.val = 0 then p6 (ValueIdx.ix2 0 j) else if r.val = 1 then p7 (ValueIdx.ix2 0 j) else G (ValueIdx.ix2 ⟨r.val - 2, by omega⟩ j)

theorem row_at (o : ℕ) (ho : o < 3) (x : FVec Ideal S3x512 .f32) (h : S3x512.Slices ![o, 0] S1x512) (h' : S1x512.Broadcasts S512x512) (h'' : S3x512.ShapeCasts S3x512) (r j : Fin 512) :
    broadcastTo S512x512 (extractStridedSlice S1x512 ![o, 0] (shapeCast S3x512 x h'') h) h' (ValueIdx.ix2 r j) = x (ValueIdx.ix2 ⟨o, ho⟩ j) := by
  refine (broadcastTo_1b_ab_apply _ _ _ _).trans ?_
  refine (extractStridedSlice_apply ![o, 0] _ h _ (ValueIdx.ix2 ⟨o, ho⟩ j) (fun a => match a with
    | ⟨0, _⟩ => rfl
    | ⟨1, _⟩ => by show j.val = 0 + j.val; omega)).trans ?_
  exact sc_self _ _ _

theorem zero_sub_bits (x : EReal) : (FloatOps.ofBits (F := Ideal) .f32 0x00000000#32 : EReal) - x = -x := by
  have : (FloatOps.ofBits (F := Ideal) .f32 0x00000000#32 : EReal) = 0 := Ideal.ofBits_zero_f32
  rw [this, zero_sub]

theorem pay15_at (G U : FVec Ideal S512x512 .f32) (p7 p6 : FVec Ideal S1x512 .f32) (g1 : FVec Ideal S512x512 .f32)
    (x7 : Vec Ideal S3x512 .f32) (x8 : Vec Ideal S1x512 .f32) (o : Vec Ideal S1x512x2048 .f32) (x6 : Vec Ideal S512x2048 .bf16) (r : Fin 512) (d : Fin 2048) :
    k0_pay15 (F := Ideal) G U p7 p6 g1 k0_pay13 k0_pay14 x7 x8 o x6 (ValueIdx.ix3 0 r d) = o (ValueIdx.ix3 0 r d) + ∑ j : Fin 512,
      act (x7 (ValueIdx.ix2 0 j)) (x7 (ValueIdx.ix2 1 j)) (x7 (ValueIdx.ix2 2 j)) (x8 (ValueIdx.ix2 0 j)) (two G p7 p6 r j) (g1 (ValueIdx.ix2 r j)) (G (ValueIdx.ix2 r j)) (U (ValueIdx.ix2 r j)) * x6 (ValueIdx.ix2 j d) := by
  unfold k0_pay15
  refine (shapeCast_ab_1ab_apply _ _ _ _ _).trans ?_
  refine congrArg₂ (fun x y : EReal => x + y) (shapeCast_1ab_ab_apply _ _ _ _) ?_
  refine (mmB _ _ r d).trans ?_
  refine Finset.sum_congr rfl fun j _ => congrArg₂ (fun x y : EReal => x * y) ?_ (sc_self _ _ _)
  unfold act
  refine congrArg (fun x : EReal => x * U (ValueIdx.ix2 r j)) ?_
  have e : ∀ X Y : EReal, X = Y → X * Ideal.div (Ideal.ofBits .f32 0x3F800000#32) (Ideal.ofBits .f32 0x3F800000#32 + Ideal.exp ((FloatOps.ofBits (F := Ideal) .f32 0x00000000#32 : EReal) - X)) = silu Y := by
    intro X Y h; subst h; unfold silu; rw [zero_sub_bits]
  refine e _ _ ?_
  refine congrArg₂ (fun x y : EReal => x + y) ?_ ((broadcastTo_1b_ab_apply _ _ _ _).trans (sc_self _ _ _))
  refine congrArg₂ (fun x y : EReal => x + y) ?_ (congrArg (fun x : EReal => x * G (ValueIdx.ix2 r j)) (row_at 2 (by omega) _ _ _ _ r j))
  refine congrArg₂ (fun x y : EReal => x + y) ?_ (congrArg (fun x : EReal => x * g1 (ValueIdx.ix2 r j)) (row_at 1 (by omega) _ _ _ _ r j))
  refine congrArg₂ (fun x y : EReal => x * y) (row_at 0 (by omega) _ _ _ _ r j) ?_
  unfold two k0_pay13 k0_pay14
  refine (sel_row 0 (by omega) iota_S512x512_d0_w32 _ _ r j).trans ?_
  by_cases h : r.val = 0
  · rw [if_pos h, if_pos h]
    exact (broadcastTo_1b_ab_apply _ _ _ _).trans (sc_self _ _ _)
  · rw [if_neg h, if_neg h]
    refine (sel_row 1 (by omega) iota_S512x512_d0_w32 _ _ r j).trans ?_
    by_cases h' : r.val = 1
    · rw [if_pos h', if_pos h']
      exact (broadcastTo_1b_ab_apply _ _ _ _).trans (sc_self _ _ _)
    · rw [if_neg h', if_neg h']
      exact rot_at 2 (by omega) _ _ r j (by omega)

theorem mean_at (x : FVec Ideal S512x2048 .f32) (row : Fin 2048 → EReal) (r : Fin 512) (h : ∀ k, x (ValueIdx.ix2 r k) = row k) (hr hφ ha hs) :
    divf (shapeCast S512x1 (multiReduction .add [1] S512 x 0x00000000#32 hr hφ ha) hs) (broadcast S512x1 (Scalar.ofBits .f32 0x45000000#32)) (ValueIdx.ix2 r 0) = mean row := by
  refine congrArg (fun s : EReal => Ideal.div s (Ideal.ofBits .f32 0x45000000#32)) ?_
  refine (shapeCast_a_a1_apply _ _ _ _).trans ?_
  refine (smA _ _ _ _ r).trans ?_
  exact Finset.sum_congr rfl fun k _ => h k

/-- The layer norm at the last column block. -/
theorem pay1_at (o : Vec Ideal S1x512x2048 .f32) (g b : Vec Ideal S1x2048 .f32) (row : Fin 2048 → EReal) (r : Fin 512) (h : ∀ k, o (ValueIdx.ix3 0 r k) = row k) (d : Fin 2048) :
    k0_pay1 o g b (ValueIdx.ix3 0 r d) = ln row (g (ValueIdx.ix2 0 d)) (b (ValueIdx.ix2 0 d)) d := by
  have h0 : ∀ hs k, (shapeCast S512x2048 o hs) (ValueIdx.ix2 r k) = row k := fun hs k => (shapeCast_1ab_ab_apply _ _ _ _).trans (h k)
  unfold k0_pay1 ln
  refine (shapeCast_ab_1ab_apply _ _ _ _ _).trans ?_
  refine congrArg₂ (fun x y : EReal => x + y) ?_ ((broadcastTo_1b_ab_apply _ _ _ _).trans (sc_self _ _ _))
  refine congrArg₂ (fun x y : EReal => x * y) ?_ ((broadcastTo_1b_ab_apply _ _ _ _).trans (sc_self _ _ _))
  have hd : ∀ k : Fin 2048, _ - (broadcastTo S512x2048 _ _ (ValueIdx.ix2 r k) : EReal) = row k - mean row := fun k =>
    congrArg₂ (fun x y : EReal => x - y) (h0 shapeCasts_S1x512x2048_S512x2048 k) ((bc_a1 _ broadcasts_S512x1_S512x2048 r k).trans (mean_at _ row r (h0 shapeCasts_S1x512x2048_S512x2048) reduces_S512x2048_S512 (.inl rfl) rfl shapeCasts_S512_S512x1))
  refine congrArg₂ (fun x y : EReal => x * y) (hd d) ?_
  refine (bc_a1 _ _ r d).trans ?_
  refine congrArg (fun x : EReal => Ideal.rsqrt (x + Ideal.ofBits .f32 0x3727C5AC#32)) ?_
  refine mean_at _ _ r (fun k => ?_) _ _ _ _
  exact congrArg₂ (fun x y : EReal => x * y) (hd k) (hd k)

end Cert.Proof.FfnKernel2Ideal

end
-- ==== Proof.Ffn.Ref.lean ====
module

public import proofs.«01_k».proof.Proof.Gen.Reference2Ideal.Read
public import proofs.«01_k».proof.Proof.Ffn.Spec
public import Idealize.ShloMosaic.Lib.ValueIdx
public import Idealize.ShloMosaic.Lib.WordCmp
public import Idealize.ShloMosaic.Lib.Pipeline.Value
public import Idealize.ShloMosaic.PureOps.Ideal.Laws

/-! The reference feed-forward part read at one entry. -/

@[expose] public section

set_option maxRecDepth 16384
set_option backward.isDefEq.respectTransparency.types false

noncomputable section

namespace Cert.Proof.FfnRef

open Cert.Reference2Ideal Cert.Reference2Ideal.Gen Cert.Reference2Ideal.Read
open Idealize.ShloMosaic Idealize.ShloMosaic.ValueIdx
open Cert.Proof.FfnSpec

variable (a0 : S2x16384x2048.Idx → EReal) (a1 : S16x5632.Idx → EReal) (a2 : S1x2048x11264.Idx → EReal) (a3 : S1x3x5632.Idx → EReal)
  (a4 : S1x5632.Idx → EReal) (a5 : S1x5632x2048.Idx → EReal) (a6 a7 : S1x2048.Idx → EReal) (b : Fin 2) (r : Fin 16384)

theorem i3 {a b c : ℕ} (i : (⟨3, ![a, b, c]⟩ : Shape).Idx) (x : Fin a) (y : Fin b) (z : Fin c) (h0 : (i 0).val = x.val) (h1 : (i 1).val = y.val) (h2 : (i 2).val = z.val) :
    i = ValueIdx.ix3 x y z := by
  funext d
  refine Fin.ext ?_
  match d with
  | ⟨0, _⟩ => exact h0
  | ⟨1, _⟩ => exact h1
  | ⟨2, _⟩ => exact h2
theorem i2 {a b : ℕ} (i : (⟨2, ![a, b]⟩ : Shape).Idx) (x : Fin a) (y : Fin b) (h0 : (i 0).val = x.val) (h1 : (i 1).val = y.val) :
    i = ValueIdx.ix2 x y := by
  funext d
  refine Fin.ext ?_
  match d with
  | ⟨0, _⟩ => exact h0
  | ⟨1, _⟩ => exact h1

theorem v1_at (j : Fin 11264) : val_main_v1 (F := Ideal) a0 a2 (ValueIdx.ix3 b r j) = gu a0 a2 b r j := by
  rw [val_main_v1_apply]
  refine Finset.sum_congr rfl fun k _ => congrArg₂ (fun x y : EReal => x * y) ?_ ?_
  · exact congrArg a0 (i3 _ b r k rfl rfl rfl)
  · rw [val_main_v0_apply]
    refine congrArg a2 (i3 _ 0 k j rfl ?_ ?_)
    · show (k.val * 11264 + j.val) / 11264 % 2048 = k.val; omega
    · show (k.val * 11264 + j.val) % 11264 = j.val; omega

theorem v7_at (q : Fin 16386) (j : Fin 5632) : val_main_v7 (F := Ideal) a0 a1 a2 (ValueIdx.ix3 b q j) = gate a0 a1 a2 b q.val q.isLt j := by
  rw [val_main_v7_apply]
  unfold val_main_v6 gate
  split
  · rename_i hq
    refine (concatenate_pair_apply_left 1 _ _ concatenates_S2x16x5632_S2x16384x5632_S2x16400x5632_d1 _ rfl (ValueIdx.ix3 b ⟨14 + q.val, by omega⟩ j)
      fun a => match a with | ⟨0, _⟩ => rfl | ⟨1, _⟩ => rfl | ⟨2, _⟩ => rfl).trans ?_
    rw [val_main_v4_apply, val_main_v3_apply]
    exact congrArg a1 (i2 _ _ j rfl rfl)
  · rename_i hq
    refine (concatenate_pair_apply_right 1 _ _ concatenates_S2x16x5632_S2x16384x5632_S2x16400x5632_d1 _ rfl rfl (ValueIdx.ix3 b ⟨q.val - 2, by omega⟩ j)
      (fun a ha => match a, ha with | ⟨0, _⟩, _ => rfl | ⟨1, _⟩, ha => absurd rfl ha | ⟨2, _⟩, _ => rfl) (by show q.val - 2 + 16 = 14 + q.val; omega)).trans ?_
    rw [val_main_v5_apply, ← v1_at]
    exact congrArg (val_main_v1 (F := Ideal) a0 a2) (i3 _ b _ ⟨j.val, by omega⟩ rfl rfl rfl)

theorem v12_at (j : Fin 5632) : val_main_v12 (F := Ideal) a3 (ValueIdx.ix3 b r j) = a3 (ValueIdx.ix3 0 0 j) := by
  rw [val_main_v12_apply, val_main_v11_apply, val_main_v9_apply, val_main_v8_apply]
  exact congrArg a3 (i3 _ 0 0 j rfl rfl (show j.val % 5632 = j.val by omega))
theorem v10_at (j : Fin 5632) : val_main_v10 (F := Ideal) a0 a1 a2 (ValueIdx.ix3 b r j) = gate a0 a1 a2 b (0 + r.val) (by omega) j := by
  rw [val_main_v10_apply, ← v7_at a0 a1 a2 b ⟨0 + r.val, by omega⟩]
  exact congrArg (val_main_v7 (F := Ideal) a0 a1 a2) (i3 _ b _ j rfl (Nat.zero_add _).symm rfl)

theorem v18_at (j : Fin 5632) : val_main_v18 (F := Ideal) a3 (ValueIdx.ix3 b r j) = a3 (ValueIdx.ix3 0 1 j) := by
  rw [val_main_v18_apply, val_main_v17_apply, val_main_v15_apply, val_main_v14_apply]
  exact congrArg a3 (i3 _ 0 1 j rfl rfl (show j.val % 5632 = j.val by omega))
theorem v16_at (j : Fin 5632) : val_main_v16 (F := Ideal) a0 a1 a2 (ValueIdx.ix3 b r j) = gate a0 a1 a2 b (1 + r.val) (by omega) j := by
  rw [val_main_v16_apply, ← v7_at a0 a1 a2 b ⟨1 + r.val, by omega⟩]
  exact congrArg (val_main_v7 (F := Ideal) a0 a1 a2) (i3 _ b _ j rfl rfl rfl)

theorem v25_at (j : Fin 5632) : val_main_v25 (F := Ideal) a3 (ValueIdx.ix3 b r j) = a3 (ValueIdx.ix3 0 2 j) := by
  rw [val_main_v25_apply, val_main_v24_apply, val_main_v22_apply, val_main_v21_apply]
  exact congrArg a3 (i3 _ 0 2 j rfl rfl (show j.val % 5632 = j.val by omega))
theorem v23_at (j : Fin 5632) : val_main_v23 (F := Ideal) a0 a1 a2 (ValueIdx.ix3 b r j) = gate a0 a1 a2 b (2 + r.val) (by omega) j := by
  rw [val_main_v23_apply, ← v7_at a0 a1 a2 b ⟨2 + r.val, by omega⟩]
  exact congrArg (val_main_v7 (F := Ideal) a0 a1 a2) (i3 _ b _ j rfl rfl rfl)

theorem v30_at (j : Fin 5632) : val_main_v30 (F := Ideal) a4 (ValueIdx.ix3 b r j) = a4 (ValueIdx.ix2 0 j) := by
  rw [val_main_v30_apply, val_main_v29_apply, val_main_v28_apply]
  exact congrArg a4 (i2 _ 0 j rfl (show j.val % 5632 = j.val by omega))

theorem v33_at (j : Fin 5632) : val_main_v33 (F := Ideal) a0 a1 a2 a3 a4 (ValueIdx.ix3 b r j) = actAt a0 a1 a2 a3 a4 b r j := by
  rw [val_main_v33_apply, val_main_v32_apply]
  have e : val_main_v31 (F := Ideal) a0 a1 a2 a3 a4 (ValueIdx.ix3 b r j) = a3 (ValueIdx.ix3 0 0 j) * gate a0 a1 a2 b (0 + r.val) (by omega) j
      + a3 (ValueIdx.ix3 0 1 j) * gate a0 a1 a2 b (1 + r.val) (by omega) j + a3 (ValueIdx.ix3 0 2 j) * gate a0 a1 a2 b (2 + r.val) (by omega) j + a4 (ValueIdx.ix2 0 j) := by
    rw [val_main_v31_apply, val_main_v27_apply, val_main_v20_apply, val_main_v13_apply, val_main_v19_apply, val_main_v26_apply,
      v12_at, v18_at, v25_at, v10_at, v16_at, v23_at, v30_at]
    rfl
  have e2 : val_main_v2 (F := Ideal) a0 a2 (ValueIdx.ix3 b r j) = gu a0 a2 b r ⟨5632 + j.val, by omega⟩ := by
    rw [val_main_v2_apply, ← v1_at]
    exact congrArg (val_main_v1 (F := Ideal) a0 a2) (i3 _ b r _ rfl rfl rfl)
  have e3 : ∀ (p : ℕ) (h : p < 16386) (h' : r.val < 16386), p = r.val → gate a0 a1 a2 b p h j = gate a0 a1 a2 b r.val h' j := by
    intro p h h' k; subst k; rfl
  rw [val_main_call0_v5_apply, val_main_call0_v4_apply, val_main_call0_v3_apply, val_main_call0_v2_apply, val_main_call0_v1_apply, val_main_call0_v0_apply,
    val_main_call0_cst_0_apply, val_main_call0_cst_apply, e, e2, e3 _ _ (by omega) (Nat.zero_add _)]
  rfl

theorem v38_at (d : Fin 2048) : val_main_v38 (F := Ideal) a0 a1 a2 a3 a4 a5 (ValueIdx.ix3 b r d) = rowAt a0 a1 a2 a3 a4 a5 b r d := by
  rw [val_main_v38_apply, val_main_v37_apply, val_main_v36_apply, val_main_v35_apply]
  refine congrArg₂ (fun x y : EReal => x + y) rfl ?_
  refine Finset.sum_congr rfl fun j _ => congrArg₂ (fun x y : EReal => x * y) ?_ ?_
  · rw [← v33_at]
    exact congrArg (val_main_v33 (F := Ideal) a0 a1 a2 a3 a4) (i3 _ b r j rfl rfl rfl)
  · rw [val_main_v34_apply]
    refine congrArg a5 (i3 _ 0 j d rfl ?_ ?_)
    · show (j.val * 2048 + d.val) / 2048 % 5632 = j.val; omega
    · show (j.val * 2048 + d.val) % 2048 = d.val; omega

theorem zero_first (s : S_.Idx) (y : EReal) : (val_main_cst_0 (F := Ideal) s : EReal) + y = y := by
  rw [val_main_cst_0_apply]
  show Ideal.ofBits .f32 0x00000000#32 + y = y
  rw [Ideal.ofBits_zero_f32, zero_add]

theorem v42_at (u : Fin 1) : val_main_v42 (F := Ideal) a0 a1 a2 a3 a4 a5 (ValueIdx.ix3 b r u) = mean (rowAt a0 a1 a2 a3 a4 a5 b r) := by
  rw [val_main_v42_apply, val_main_v41_apply, val_main_v40_apply, val_main_v39_apply, zero_first]
  refine congrArg (fun s : EReal => Ideal.div s (Ideal.ofBits .f32 0x45000000#32)) ?_
  refine Finset.sum_congr rfl fun k _ => ?_
  rw [← v38_at]
  exact congrArg (val_main_v38 (F := Ideal) a0 a1 a2 a3 a4 a5) (i3 _ b r k rfl rfl rfl)

theorem v44_at (d : Fin 2048) : val_main_v44 (F := Ideal) a0 a1 a2 a3 a4 a5 (ValueIdx.ix3 b r d) = rowAt a0 a1 a2 a3 a4 a5 b r d - mean (rowAt a0 a1 a2 a3 a4 a5 b r) := by
  rw [val_main_v44_apply, val_main_v43_apply, v38_at, ← v42_at a0 a1 a2 a3 a4 a5 b r 0]
  exact congrArg (fun i => rowAt a0 a1 a2 a3 a4 a5 b r d - val_main_v42 (F := Ideal) a0 a1 a2 a3 a4 a5 i) (i3 _ b r 0 rfl rfl rfl)

theorem v51_at (d : Fin 2048) : val_main_v51 (F := Ideal) a0 a1 a2 a3 a4 a5 (ValueIdx.ix3 b r d) = rowAt a0 a1 a2 a3 a4 a5 b r d - mean (rowAt a0 a1 a2 a3 a4 a5 b r) := by
  rw [val_main_v51_apply, val_main_v50_apply, v38_at, ← v42_at a0 a1 a2 a3 a4 a5 b r 0]
  exact congrArg (fun i => rowAt a0 a1 a2 a3 a4 a5 b r d - val_main_v42 (F := Ideal) a0 a1 a2 a3 a4 a5 i) (i3 _ b r 0 rfl rfl rfl)

theorem v49_at (u : Fin 1) : val_main_v49 (F := Ideal) a0 a1 a2 a3 a4 a5 (ValueIdx.ix3 b r u)
    = mean (fun k => (rowAt a0 a1 a2 a3 a4 a5 b r k - mean (rowAt a0 a1 a2 a3 a4 a5 b r)) * (rowAt a0 a1 a2 a3 a4 a5 b r k - mean (rowAt a0 a1 a2 a3 a4 a5 b r))) := by
  rw [val_main_v49_apply, val_main_v48_apply, val_main_v47_apply, val_main_v46_apply]
  refine congrArg (fun s : EReal => Ideal.div s (Ideal.ofBits .f32 0x45000000#32)) ?_
  refine (zero_first _ _).trans ?_
  refine Finset.sum_congr rfl fun k _ => ?_
  rw [val_main_v45_apply]
  have e : val_main_v44 (F := Ideal) a0 a1 a2 a3 a4 a5 (idx_main_v46 (idx_main_v47 (ValueIdx.ix3 b r u)) k) = rowAt a0 a1 a2 a3 a4 a5 b r k - mean (rowAt a0 a1 a2 a3 a4 a5 b r) := by
    rw [← v44_at]
    exact congrArg (val_main_v44 (F := Ideal) a0 a1 a2 a3 a4 a5) (i3 _ b r k rfl rfl rfl)
  rw [e]; rfl

theorem v64_at (d : Fin 2048) : val_main_v64 (F := Ideal) a0 a1 a2 a3 a4 a5 a6 a7 (ValueIdx.ix3 b r d)
    = ln (rowAt a0 a1 a2 a3 a4 a5 b r) (a6 (ValueIdx.ix2 0 d)) (a7 (ValueIdx.ix2 0 d)) d := by
  rw [val_main_v64_apply, val_main_v63_apply, val_main_v62_apply, val_main_v61_apply, val_main_v60_apply, val_main_v59_apply, val_main_v58_apply, val_main_v57_apply,
    val_main_v56_apply, val_main_v55_apply, val_main_v54_apply, val_main_v53_apply, val_main_v52_apply, v51_at]
  refine congrArg₂ (fun x y : EReal => x + y) ?_ (congrArg a7 (i2 _ 0 d rfl (show d.val % 2048 = d.val by omega)))
  refine congrArg₂ (fun x y : EReal => x * y) ?_ (congrArg a6 (i2 _ 0 d rfl (show d.val % 2048 = d.val by omega)))
  refine congrArg (fun x : EReal => (rowAt a0 a1 a2 a3 a4 a5 b r d - mean (rowAt a0 a1 a2 a3 a4 a5 b r)) * Ideal.rsqrt (x + Ideal.ofBits .f32 0x3727C5AC#32)) ?_
  rw [← v49_at a0 a1 a2 a3 a4 a5 b r 0]
  exact congrArg (val_main_v49 (F := Ideal) a0 a1 a2 a3 a4 a5) (i3 _ b r 0 rfl rfl rfl)

end Cert.Proof.FfnRef

end
-- ==== Proof.Ffn.Value.lean ====
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import Idealize.ShloMosaic.Lib.Claim
public import proofs.«01_k».proof.Proof.Fox.ReadI
public import proofs.«01_k».proof.Proof.Ffn.Blocks
public import proofs.«01_k».proof.Proof.Ffn.Pay
public import proofs.«01_k».proof.Proof.Ffn.Ref

/-! The feed-forward region leaves the reference's result. -/

@[expose] public section

set_option maxRecDepth 16384

noncomputable section

namespace Cert.Proof.FfnKernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

open Cert.Proof.FoxKernelIdeal (mm_plain sm_apply bc_a1 sc_self expv_apply)
open Cert.Proof.FfnSpec

set_option backward.isDefEq.respectTransparency.types false

variable (m : (ℓ : Loc nD τ sig) → Buf (Elt Ideal) ℓ) (c : Dev nD)

theorem co0 (t : Fin cfg0.N) : (grid0.coords t 0).val = t.val / 352 % 2 := Pipeline.Grid.coords_val t 0 (by decide) rfl

theorem tb_congr (s t : Fin cfg0.N) (h : s.val / 352 = t.val / 352) : tb s = tb t :=
  Fin.ext (by show (grid0.coords s 0).val = (grid0.coords t 0).val; rw [co0, co0, h])
theorem tr_congr (s t : Fin cfg0.N) (h : s.val / 11 = t.val / 11) (ρ : Fin 512) : tr s ρ = tr t ρ :=
  Fin.ext (by show 512 * (grid0.coords s 1).val + ρ.val = 512 * (grid0.coords t 1).val + ρ.val; rw [co1, co1, h])
theorem tf_congr (s t : Fin cfg0.N) (h : s.val % 11 = t.val % 11) (j : Fin 512) : tf s j = tf t j :=
  Fin.ext (by show 512 * (grid0.coords s 2).val + j.val = 512 * (grid0.coords t 2).val + j.val; rw [co2, co2, h])

theorem hbAt_at (t : Fin cfg0.N) (ρ : Fin 512) (k : Fin 2048) : hbAt m c t (ValueIdx.ix2 ρ k) = A0 m c (ValueIdx.ix3 (tb t) (tr t ρ) k) := by
  unfold hbAt
  rw [pay3_at, b0, tb_congr _ t (show (t.val - t.val % 11) / 352 = t.val / 352 by omega), tr_congr _ t (show (t.val - t.val % 11) / 11 = t.val / 11 by omega)]

theorem gate_blk (t : Fin cfg0.N) (ρ j : Fin 512) :
    k0_pay6 (hbAt m c t) (iblk m c 1 t) (ValueIdx.ix2 ρ j) = gu (A0 m c) (A2 m c) (tb t) (tr t ρ) ⟨(tf t j).val, by omega⟩ := by
  refine (pay6_at _ _ ρ j).trans ?_
  exact Finset.sum_congr rfl fun k _ => congrArg₂ (fun x y : EReal => x * y) (hbAt_at m c t ρ k) (b1 m c t k j)
theorem up_blk (t : Fin cfg0.N) (ρ j : Fin 512) :
    k0_pay7 (hbAt m c t) (iblk m c 2 t) (ValueIdx.ix2 ρ j) = gu (A0 m c) (A2 m c) (tb t) (tr t ρ) ⟨5632 + (tf t j).val, by omega⟩ := by
  refine (pay7_at _ _ ρ j).trans ?_
  exact Finset.sum_congr rfl fun k _ => congrArg₂ (fun x y : EReal => x * y) (hbAt_at m c t ρ k) (b2 m c t k j)

theorem gate_congr (b : Fin 2) (p q : ℕ) (hp hq) (j : Fin 5632) (h : p = q) : gate (A0 m c) (A1 m c) (A2 m c) b p hp j = gate (A0 m c) (A1 m c) (A2 m c) b q hq j := by
  subst h; rfl

theorem gate_low (b : Fin 2) (p : ℕ) (hp) (j : Fin 5632) (q : Fin 16) (h : p < 2) (hq : q.val = 14 + p) :
    gate (A0 m c) (A1 m c) (A2 m c) b p hp j = A1 m c (ValueIdx.ix2 q j) := by
  unfold gate
  rw [dif_pos h]
  exact congrArg (fun s => A1 m c (ValueIdx.ix2 s j)) (Fin.ext hq.symm)
theorem gate_high (b : Fin 2) (p : ℕ) (hp) (j : Fin 5632) (r : Fin 16384) (h : ¬ p < 2) (hr : r.val = p - 2) :
    gate (A0 m c) (A1 m c) (A2 m c) b p hp j = gu (A0 m c) (A2 m c) b r ⟨j.val, by omega⟩ := by
  unfold gate
  rw [dif_neg h]
  exact congrArg (fun s => gu (A0 m c) (A2 m c) b s _) (Fin.ext hr.symm)

/-- The two rows before the tile. -/
theorem prev_at (t : Fin cfg0.N) (q : Fin 8) (hq : 6 ≤ q.val) (j : Fin 512) (h) :
    prevAt m c t (ValueIdx.ix3 0 q j) = gate (A0 m c) (A1 m c) (A2 m c) (tb t) (512 * (grid0.coords t 1).val + q.val - 6) h (tf t j) := by
  have h8 := q.isLt
  have hN : t.val < 704 := lt_of_lt_of_eq t.isLt N_eq
  have hc := co1 t
  unfold prevAt
  by_cases hi : t.val / 11 % 32 = 0
  · rw [if_pos hi, pay5_at, b6]
    exact (gate_low m c _ _ _ _ _ (by omega) (by show 8 + q.val = _; omega)).symm
  · rw [if_neg hi]
    have ht : t.val - 11 < cfg0.N := Nat.lt_of_le_of_lt (Nat.sub_le _ _) t.isLt
    have hd := co1 (⟨t.val - 11, ht⟩ : Fin cfg0.N)
    have hd' : (t.val - 11) / 11 % 32 + 1 = t.val / 11 % 32 := by omega
    have e := gate_blk m c (⟨t.val - 11, ht⟩ : Fin cfg0.N) ⟨504 + q.val, by omega⟩ j
    rw [tb_congr _ t (show (t.val - 11) / 352 = t.val / 352 by omega)] at e
    have e2 : (tf (⟨t.val - 11, ht⟩ : Fin cfg0.N) j) = tf t j := tf_congr _ t (show (t.val - 11) % 11 = t.val % 11 by omega) j
    refine ((pay11_at _ _ q j).trans ((pay6_at _ _ _ _).symm.trans e)).trans ?_
    have hr : (tr (⟨t.val - 11, ht⟩ : Fin cfg0.N) ⟨504 + q.val, by omega⟩).val = 512 * (grid0.coords t 1).val + q.val - 6 - 2 := by
      show 512 * (grid0.coords (⟨t.val - 11, ht⟩ : Fin cfg0.N) 1).val + (504 + q.val) = _
      rw [hd, hc]
      show 512 * ((t.val - 11) / 11 % 32) + (504 + q.val) = _
      omega
    rw [gate_high m c _ _ h (tf t j) _ (by omega) hr]
    exact congrArg (fun s => gu (A0 m c) (A2 m c) (tb t) _ s) (Fin.ext (show (tf (⟨t.val - 11, ht⟩ : Fin cfg0.N) j).val = (tf t j).val by rw [e2]))

/-- One term of the down projection's sum, zero past the width. -/
def T (b : Fin 2) (r : Fin 16384) (d : Fin 2048) (n : ℕ) : EReal :=
  if h : n < 5632 then actAt (A0 m c) (A1 m c) (A2 m c) (A3 m c) (A4 m c) b r ⟨n, h⟩ * A5 m c (ValueIdx.ix3 0 ⟨n, h⟩ d) else 0

theorem two_at (t : Fin cfg0.N) (ρ j : Fin 512) :
    two (k0_pay6 (hbAt m c t) (iblk m c 1 t)) (k0_pay9 (prevAt m c t)) (k0_pay10 (prevAt m c t)) ρ j
      = gate (A0 m c) (A1 m c) (A2 m c) (tb t) (tr t ρ).val (by omega) (tf t j) := by
  have hr : (tr t ρ).val = 512 * (grid0.coords t 1).val + ρ.val := rfl
  have hlt := (tr t ρ).isLt
  unfold two
  by_cases h0 : ρ.val = 0
  · rw [if_pos h0, pay10_at, prev_at m c t 6 (by decide) j (by show 512 * (grid0.coords t 1).val + 6 - 6 < _; omega)]
    exact gate_congr m c _ _ _ _ _ _ (by show 512 * (grid0.coords t 1).val + 6 - 6 = _; omega)
  · rw [if_neg h0]
    by_cases h1 : ρ.val = 1
    · rw [if_pos h1, pay9_at, prev_at m c t 7 (by decide) j (by show 512 * (grid0.coords t 1).val + 7 - 6 < _; omega)]
      exact gate_congr m c _ _ _ _ _ _ (by show 512 * (grid0.coords t 1).val + 7 - 6 = _; omega)
    · rw [if_neg h1, gate_blk]
      exact (gate_high m c _ _ _ _ _ (by omega) (by show 512 * (grid0.coords t 1).val + (ρ.val - 2) = _; omega)).symm

theorem one_at (t : Fin cfg0.N) (ρ j : Fin 512) :
    k0_pay12 (hbAt m c t) (iblk m c 1 t) (prevAt m c t) (ValueIdx.ix2 ρ j)
      = gate (A0 m c) (A1 m c) (A2 m c) (tb t) (1 + (tr t ρ).val) (by omega) (tf t j) := by
  have hr : (tr t ρ).val = 512 * (grid0.coords t 1).val + ρ.val := rfl
  have hlt := (tr t ρ).isLt
  refine (pay12_at _ _ _ ρ j).trans ?_
  by_cases h0 : ρ.val = 0
  · rw [if_pos h0, prev_at m c t 7 (by decide) j (by show 512 * (grid0.coords t 1).val + 7 - 6 < _; omega)]
    exact gate_congr m c _ _ _ _ _ _ (by show 512 * (grid0.coords t 1).val + 7 - 6 = _; omega)
  · rw [if_neg h0, gate_blk]
    exact (gate_high m c _ _ _ _ _ (by omega) (by show 512 * (grid0.coords t 1).val + (ρ.val - 1) = _; omega)).symm

theorem step_at (t : Fin cfg0.N) (o : Vec Ideal S1x512x2048 .f32) (ρ : Fin 512) (d : Fin 2048) :
    stepAt m c t o (ValueIdx.ix3 0 ρ d) = o (ValueIdx.ix3 0 ρ d) + ∑ j : Fin 512, T m c (tb t) (tr t ρ) d (512 * (grid0.coords t 2).val + j.val) := by
  unfold stepAt stepN
  refine (pay15_at _ _ _ _ _ _ _ _ _ ρ d).trans ?_
  refine congrArg₂ (fun x y : EReal => x + y) rfl ?_
  refine Finset.sum_congr rfl fun j _ => ?_
  have hlt := t2_lt t
  unfold T
  rw [dif_pos (show 512 * (grid0.coords t 2).val + j.val < 5632 by omega)]
  refine congrArg₂ (fun x y : EReal => x * y) ?_ (b3 m c t j d)
  rw [two_at, one_at, gate_blk, up_blk, b4, b4, b4, b5]
  have k := gate_high m c (tb t) (2 + (tr t ρ).val) (by omega) (tf t j) (tr t ρ) (by omega) (by omega)
  rw [← k]
  rfl

theorem acc_at (ρ : Fin 512) (d : Fin 2048) : ∀ (n : ℕ) (h : n < cfg0.N), oAcc m c n h (ValueIdx.ix3 0 ρ d)
    = Ideal.ofBits .f32 0x3F9837F0#32 * A0 m c (ValueIdx.ix3 (tb (⟨n, h⟩ : Fin cfg0.N)) (tr (⟨n, h⟩ : Fin cfg0.N) ρ) d)
      + ∑ k ∈ Finset.range (512 * (n % 11 + 1)), T m c (tb (⟨n, h⟩ : Fin cfg0.N)) (tr (⟨n, h⟩ : Fin cfg0.N) ρ) d k := by
  have first : ∀ (t : Fin cfg0.N), t.val % 11 = 0 → stepAt m c t (k0_pay4 (iblk m c 0 t)) (ValueIdx.ix3 0 ρ d)
      = Ideal.ofBits .f32 0x3F9837F0#32 * A0 m c (ValueIdx.ix3 (tb t) (tr t ρ) d) + ∑ k ∈ Finset.range (512 * (t.val % 11 + 1)), T m c (tb t) (tr t ρ) d k := by
    intro t ht
    rw [step_at, pay4_at, b0, co2, ht, Finset.sum_range]
    refine congrArg₂ (fun x y : EReal => x + y) rfl ?_
    exact Finset.sum_congr rfl fun j _ => congrArg _ (by omega)
  intro n
  induction n with
  | zero => intro h; exact first ⟨0, h⟩ rfl
  | succ n ih =>
    intro h
    by_cases h0 : (n + 1) % 11 = 0
    · unfold oAcc
      rw [if_pos h0]
      exact first ⟨n + 1, h⟩ h0
    · unfold oAcc
      rw [if_neg h0, step_at, ih (Nat.lt_of_succ_lt h), co2]
      rw [tb_congr (⟨n, Nat.lt_of_succ_lt h⟩ : Fin cfg0.N) ⟨n + 1, h⟩ (show n / 352 = (n + 1) / 352 by omega),
        tr_congr (⟨n, Nat.lt_of_succ_lt h⟩ : Fin cfg0.N) ⟨n + 1, h⟩ (show n / 11 = (n + 1) / 11 by omega)]
      have e : 512 * ((n + 1) % 11 + 1) = 512 * (n % 11 + 1) + 512 := by omega
      have e2 : 512 * ((⟨n + 1, h⟩ : Fin cfg0.N).val % 11) = 512 * (n % 11 + 1) := by show 512 * ((n + 1) % 11) = _; omega
      rw [e, Finset.sum_range_add, e2, Finset.sum_range (fun x => T m c _ _ d (512 * (n % 11 + 1) + x)), ← add_assoc]

/-- At a tile's last column block the accumulator is the row before the layer norm. -/
theorem last_at (t : Fin cfg0.N) (h : t.val % 11 = 10) (ρ : Fin 512) (d : Fin 2048) :
    oAcc m c t.val t.isLt (ValueIdx.ix3 0 ρ d) = rowAt (A0 m c) (A1 m c) (A2 m c) (A3 m c) (A4 m c) (A5 m c) (tb t) (tr t ρ) d := by
  rw [acc_at, h]
  unfold rowAt
  refine congrArg₂ (fun x y : EReal => x + y) rfl ?_
  rw [show 512 * (10 + 1) = 5632 by decide, Finset.sum_range]
  refine Finset.sum_congr rfl fun j _ => ?_
  unfold T
  rw [dif_pos j.isLt]

theorem final : (dats m 0 c).arrAt 9 cfg0.N
    = Cert.Reference2Ideal.Read.val_main_v64 (F := Ideal) (A0 m c) (A1 m c) (A2 m c) (A3 m c) (A4 m c) (A5 m c) (A6 m c) (A7 m c) := by
  refine (dats m 0 c).arrAt_eq_of_covers 9 _ (by decide +kernel) fun t hf y => ?_
  blk_simp
  rw [after0_9]
  obtain ⟨z, ρ, d, rfl⟩ : ∃ (z : Fin 1) (ρ : Fin 512) (d : Fin 2048), y = ValueIdx.ix3 z ρ d := ⟨y 0, y 1, y 2, by funext a; match a with | ⟨0, _⟩ => rfl | ⟨1, _⟩ => rfl | ⟨2, _⟩ => rfl⟩
  obtain rfl : z = 0 := Subsingleton.elim _ _
  have hix : ((win0_9.blk t).view.emb (ValueIdx.ix3 0 ρ d)) = (ValueIdx.ix3 (tb t) (tr t ρ) d : S2x16384x2048.Idx) := by
    funext a
    refine Fin.ext ?_
    blk_simp [x9]
    match a with
    | ⟨0, _⟩ => show (grid0.coords t 0).val * 1 + 0 = (grid0.coords t 0).val; omega
    | ⟨1, _⟩ => show (grid0.coords t 1).val * 512 + ρ.val = 512 * (grid0.coords t 1).val + ρ.val; omega
    | ⟨2, _⟩ => show 0 * 2048 + d.val = d.val; omega
  rw [hix, FfnRef.v64_at]
  have ht : t.val % 11 = 10 := (flush0_9 t).mp hf
  unfold outAt
  rw [if_pos ht]
  refine (pay1_at _ _ _ _ ρ (fun k => last_at m c t ht ρ k) d).trans ?_
  rw [b7, b8]

end Cert.Proof.FfnKernel2Ideal

end
-- ==== Proof.Ffn.Claims.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Ffn.Frame
public import proofs.«01_k».proof.Proof.Ffn.FrameK
public import proofs.«01_k».proof.Proof.Ffn.Value
public import Idealize.ShloMosaic.Adequacy
public import Idealize.ShloMosaic.Init

/-! The claims of the feed-forward call, each from the run and from what the region leaves. -/

@[expose] public section

set_option maxRecDepth 16384

noncomputable section

namespace Cert.Proof.Ffn

open Idealize.ShloMosaic Idealize.SL.Sem

theorem frame_k : Cert.quiescent_Kernel2 := fun m ρ _ => Cert.Proof.FfnKernel2.frame (F := Bits) m ρ

theorem frame_i : Cert.quiescent_Kernel2Ideal := fun m ρ _ => Cert.Proof.FfnKernel2Ideal.frame (F := Ideal) m ρ

/-- The reference's run read at its arguments; it declares no semaphore. -/
theorem frame_r : Cert.quiescent_Reference2Ideal := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The ideal's result array is the reference's result, from any arguments. -/
theorem value : Cert.algebraic_Kernel2Ideal_Reference2Ideal := by
  intro m g m' g' _ hagree
  refine ⟨fun c => Cert.Reference2Ideal.Read.val_main_v64 (F := Ideal) (Cert.Proof.FfnKernel2Ideal.A0 m c) (Cert.Proof.FfnKernel2Ideal.A1 m c)
    (Cert.Proof.FfnKernel2Ideal.A2 m c) (Cert.Proof.FfnKernel2Ideal.A3 m c) (Cert.Proof.FfnKernel2Ideal.A4 m c) (Cert.Proof.FfnKernel2Ideal.A5 m c)
    (Cert.Proof.FfnKernel2Ideal.A6 m c) (Cert.Proof.FfnKernel2Ideal.A7 m c), ?_, ?_⟩
  · exact (θ_run Cert.Kernel2Ideal.defs _ _).mono (fun r h c => ⟨(h.1.1.out_eq c 9).trans
      (Cert.Proof.FfnKernel2Ideal.final m c), h.2.1 c⟩)
      (θ_run_and (Cert.Proof.FfnKernel2Ideal.run_main (F := Ideal) m g) (Cert.Proof.FfnKernel2Ideal.frame (F := Ideal) m g))
  · refine (θ_run Cert.Reference2Ideal.defs _ _).mono (fun r h c => ⟨(h c).1.trans ?_, (h c).2⟩) (Cert.Reference2Ideal.Value.run (F := Ideal) m' g')
    obtain ⟨a0, a1, a2, a3, a4, a5, a6, a7⟩ := hagree c
    rw [Cert.Reference2Ideal.Read.val_main_v64_eq]
    exact congr (congr (congr (congr (congr (congr (congr (congrArg _ a0) a1) a2) a3) a4) a5) a6) a7

end Cert.Proof.Ffn

end
-- ==== Proof.Gate.Value.lean ====
module

public import proofs.«01_k».proof.Proof.Gen.Kernel3Ideal.Frame
public import proofs.«01_k».proof.Proof.Gen.Kernel3Ideal.Value
public import proofs.«01_k».proof.Proof.Gen.Reference3Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI

/-! The gate rows of the learned tokens: what the region leaves is the reference's result. -/

@[expose] public section

set_option maxRecDepth 16384

noncomputable section

namespace Cert.Proof.GateKernel3Ideal

open Cert.Kernel3Ideal Cert.Kernel3Ideal.Gen
open Idealize.ShloMosaic Idealize.ShloMosaic.TcCoe Idealize.ShloMosaic.Tactic Idealize.SL.Sem
open Idealize.ShloMosaic.ValueIdx
open Idealize.ShloMosaic.Pipeline (Dat Cfg Window)
open Cert.Proof.FoxKernelIdeal (mm_plain sc_self)

set_option backward.isDefEq.respectTransparency.types false

variable (m : (ℓ : Loc nD τ sig) → Buf (Elt Ideal) ℓ) (c : Dev nD)

/-- The arguments, as arrays of extended reals. -/
abbrev A0 : S16x2048.Idx → EReal := m ((c.tc : Thread nD τ).loc main_arg0)
abbrev A1 : S1x2048x11264.Idx → EReal := m ((c.tc : Thread nD τ).loc main_arg1)

theorem t0_lt (t : Fin grid0.N) : (grid0.coords t 0).val < 11 := (grid0.coords t 0).isLt
/-- The column of the feed-forward width at a point. -/
def tf (t : Fin grid0.N) (j : Fin 512) : Fin 5632 := ⟨512 * (grid0.coords t 0).val + j.val, by have := t0_lt t; omega⟩

theorem x0 : ∀ t : Fin cfg0.N, win0_0.index t = ![0, 0] := (by decide +kernel : ∀ t : Fin grid0.N, _)
theorem x1 : ∀ t : Fin cfg0.N, win0_1.index t = ![0, (grid0.coords t 0).val] := (by decide +kernel : ∀ t : Fin grid0.N, _)
theorem x2 : ∀ t : Fin cfg0.N, win0_2.index t = ![0, (grid0.coords t 0).val] := (by decide +kernel : ∀ t : Fin grid0.N, _)

theorem b0 (t : Fin cfg0.N) (q : Fin 16) (k : Fin 2048) : iblk m c 0 t (ValueIdx.ix2 q k) = A0 m c (ValueIdx.ix2 q k) := by
  have hix : ((win0_0.blk t).view.emb (ValueIdx.ix2 q k)) = (ValueIdx.ix2 q k : S16x2048.Idx) := by
    funext a; refine Fin.ext ?_
    blk_simp [x0]
    match a with
    | ⟨0, _⟩ => show 0 * 16 + q.val = q.val; omega
    | ⟨1, _⟩ => show 0 * 2048 + k.val = k.val; omega
  blk_simp [iblk]
  rw [hix]
  rw [V_main_arg0]

theorem b1 (t : Fin cfg0.N) (k : Fin 2048) (j : Fin 512) :
    iblk m c 1 t (ValueIdx.ix2 k j) = A1 m c (ValueIdx.ix3 0 k ⟨(tf t j).val, by omega⟩) := by
  have hix : ((win0_1.blk t).view.emb (ValueIdx.ix2 k j)) = (ValueIdx.ix2 k ⟨(tf t j).val, by omega⟩ : S2048x11264.Idx) := by
    funext a; refine Fin.ext ?_
    blk_simp [x1]
    match a with
    | ⟨0, _⟩ => show 0 * 2048 + k.val = k.val; omega
    | ⟨1, _⟩ => show (grid0.coords t 0).val * 512 + j.val = (512 * (grid0.coords t 0).val + j.val); omega
  blk_simp [iblk]
  rw [hix]
  have hV : V m c main_v1 = truncf (F := Ideal) .bf16 (shapeCast S2048x11264 (A1 m c) shapeCasts_S1x2048x11264_S2048x11264) bitsLt_bf16_f32 := by
    entry_read; rfl
  rw [hV]
  refine shapeCast_apply (A1 m c) shapeCasts_S1x2048x11264_S2048x11264 _ _ ?_
  rw [Shape.rowMajor_val_three, Shape.rowMajor_val_two]
  show (0 * 2048 + k.val) * 11264 + _ = k.val * 11264 + _
  rw [Nat.zero_mul, Nat.zero_add]

theorem pay1_at (x : Vec Ideal S16x2048 .f32) (w : Vec Ideal S2048x512 .bf16) (q : Fin 16) (j : Fin 512) :
    k0_pay1 x w (ValueIdx.ix2 q j) = ∑ k : Fin 2048, x (ValueIdx.ix2 q k) * w (ValueIdx.ix2 k j) := by
  unfold k0_pay1
  refine (mm_plain (M := 16) (K := 2048) (N := 512) _ rfl _ _ q j).trans ?_
  exact Finset.sum_congr rfl fun k _ => congrArg₂ (fun x y : EReal => x * y) rfl (sc_self _ _ _)

theorem out_at (x : Vec Ideal S16x2048 .f32) (w : Vec Ideal S2048x512 .bf16) (q : Fin 16) (j : Fin 512) :
    out0_2 x w (ValueIdx.ix2 q j) = ∑ k : Fin 2048, x (ValueIdx.ix2 q k) * w (ValueIdx.ix2 k j) := by
  unfold out0_2
  rw [View.canon_cons_unit_lit _ _ _ (by decide), View.ld_unit_lit _ _ (by decide), View.ld_unit_lit _ _ (by decide)]
  exact pay1_at x w q j

theorem ref_at (a0 : S16x2048.Idx → EReal) (a1 : S1x2048x11264.Idx → EReal) (q : Fin 16) (n : Fin 5632) :
    Cert.Reference3Ideal.Read.val_main_v2 (F := Ideal) a0 a1 (ValueIdx.ix2 q n) = ∑ k : Fin 2048, a0 (ValueIdx.ix2 q k) * a1 (ValueIdx.ix3 0 k ⟨n.val, by omega⟩) := by
  rw [Cert.Reference3Ideal.Read.val_main_v2_apply, Cert.Reference3Ideal.Read.val_main_v1_apply]
  refine Finset.sum_congr rfl fun k _ => congrArg₂ (fun x y : EReal => x * y) ?_ ?_
  · exact congrArg a0 (funext fun a => match a with | ⟨0, _⟩ => rfl | ⟨1, _⟩ => rfl)
  · rw [Cert.Reference3Ideal.Read.val_main_v0_apply]
    refine congrArg a1 (funext fun a => Fin.ext ?_)
    match a with
    | ⟨0, _⟩ => rfl
    | ⟨1, _⟩ => show (k.val * 11264 + n.val) / 11264 % 2048 = k.val; omega
    | ⟨2, _⟩ => show (k.val * 11264 + n.val) % 11264 = n.val; omega

/-- The region leaves the reference's gate rows. -/
theorem final : (dats m 0 c).arrAt 2 cfg0.N = Cert.Reference3Ideal.Read.val_main_v2 (F := Ideal) (A0 m c) (A1 m c) := by
  refine (dats m 0 c).arrAt_eq_of_covers 2 _ (by decide +kernel) fun t hf y => ?_
  blk_simp
  rw [after0_2]
  obtain ⟨q, j, rfl⟩ : ∃ (q : Fin 16) (j : Fin 512), y = ValueIdx.ix2 q j := ⟨y 0, y 1, by funext a; match a with | ⟨0, _⟩ => rfl | ⟨1, _⟩ => rfl⟩
  have hix : ((win0_2.blk t).view.emb (ValueIdx.ix2 q j)) = (ValueIdx.ix2 q (tf t j) : S16x5632.Idx) := by
    funext a
    refine Fin.ext ?_
    blk_simp [x2]
    match a with
    | ⟨0, _⟩ => show 0 * 16 + q.val = q.val; omega
    | ⟨1, _⟩ => show (grid0.coords t 0).val * 512 + j.val = 512 * (grid0.coords t 0).val + j.val; omega
  rw [hix]
  refine (out_at _ _ q j).trans (Eq.trans ?_ (ref_at _ _ q (tf t j)).symm)
  exact Finset.sum_congr rfl fun k _ => congrArg₂ (fun x y : EReal => x * y) (b0 m c t q k) (b1 m c t k j)

end Cert.Proof.GateKernel3Ideal

end
-- ==== Proof.Gate.Claims.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gate.Value
public import Idealize.ShloMosaic.Adequacy
public import Idealize.ShloMosaic.Init

/-! The claims of this call, each from the run and from what the region leaves. -/

@[expose] public section

set_option maxRecDepth 16384

noncomputable section

namespace Cert.Proof.Gate

open Idealize.ShloMosaic Idealize.SL.Sem

theorem frame_k : Cert.quiescent_Kernel3 := fun m ρ _ => Cert.Kernel3.Gen.frame (F := Bits) m ρ

theorem frame_i : Cert.quiescent_Kernel3Ideal := fun m ρ _ => Cert.Kernel3Ideal.Gen.frame (F := Ideal) m ρ

/-- The reference's run read at its arguments; it declares no semaphore. -/
theorem frame_r : Cert.quiescent_Reference3Ideal := by
  intro m ρ _
  exact (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The ideal's result array is the reference's result, from any arguments. -/
theorem value : Cert.algebraic_Kernel3Ideal_Reference3Ideal := by
  intro m g m' g' _ hagree
  refine ⟨fun c => Cert.Reference3Ideal.Read.val_main_v2 (F := Ideal) (Cert.Proof.GateKernel3Ideal.A0 m c) (Cert.Proof.GateKernel3Ideal.A1 m c), ?_, ?_⟩
  · exact (θ_run Cert.Kernel3Ideal.defs _ _).mono (fun r h c => ⟨(h c).1.trans (Cert.Proof.GateKernel3Ideal.final m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨a0, a1⟩ := hagree c
    rw [Cert.Reference3Ideal.Read.val_main_v2_eq]
    exact congr (congrArg _ a0) a1

end Cert.Proof.Gate

end
-- ==== Proof.Out.Spec.lean ====
module

public import Idealize.ShloMosaic.Lib.ValueIdx
public import Idealize.ShloMosaic.Lib.MatmulPlain
public import Idealize.ShloMosaic.Lib.ValueLayout
public import Idealize.ShloMosaic.Lib.ValueLayoutCasts
public import proofs.«01_k».proof.Proof.Ffn.Spec

/-! The attention's output projection as formulas over the extended reals. -/

@[expose] public section

noncomputable section

namespace Cert.Proof.OutSpec

open Idealize.ShloMosaic Cert.Proof.FfnSpec

/-- The mean square of a row of 1024. -/
def msq (row : Fin 1024 → EReal) : EReal := Ideal.div (∑ k, row k * row k) (Ideal.ofBits .f32 0x44800000#32)

/-- Entry `k` of a row divided by the root of its mean square, with gain `g`. -/
def rms (row : Fin 1024 → EReal) (g : EReal) (k : Fin 1024) : EReal := row k * Ideal.rsqrt (msq row + Ideal.ofBits .f32 0x358637BD#32) * g

/-- The residual and the projected heads, before the second layer norm. -/
def pre (o s : Fin 1024 → EReal) (x g0 b0 : Fin 2048 → EReal) (gf gs : Fin 1024 → EReal) (w : Fin 2048 → Fin 2048 → EReal) (d : Fin 2048) : EReal :=
  Ideal.ofBits .f32 0x3F9837F0#32 * ln x (g0 d) (b0 d) d
    + ((∑ k : Fin 1024, rms o (gf k) k * w ⟨k.val, by omega⟩ d) + ∑ k : Fin 1024, rms s (gs k) k * w ⟨1024 + k.val, by omega⟩ d)

/-- A sum over 2048 as its two halves. -/
theorem sum_halves (f : Fin 2048 → EReal) : ∑ k, f k = (∑ k : Fin 1024, f ⟨k.val, by omega⟩) + ∑ k : Fin 1024, f ⟨1024 + k.val, by omega⟩ :=
  Fin.sum_univ_add (a := 1024) (b := 1024) f

end Cert.Proof.OutSpec

end
-- ==== Proof.Out.Pay.lean ====
module

public import proofs.«01_k».proof.Proof.Gen.Kernel4Ideal.Frame
public import proofs.«01_k».proof.Proof.Gen.Kernel4Ideal.Value
public import proofs.«01_k».proof.Proof.Gen.Reference4Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.Out.Spec

/-! The output projection's body read at an entry. -/

@[expose] public section

set_option maxRecDepth 16384

noncomputable section

namespace Cert.Proof.OutKernel4Ideal

open Cert.Kernel4Ideal Cert.Kernel4Ideal.Gen
open Idealize.ShloMosaic Idealize.ShloMosaic.TcCoe Idealize.ShloMosaic.Tactic Idealize.SL.Sem
open Idealize.ShloMosaic.ValueIdx
open Idealize.ShloMosaic.Pipeline (Dat Cfg Window)
open Cert.Proof.FoxKernelIdeal (mm_plain sm_apply bc_a1 sc_self)
open Cert.Proof.FfnSpec Cert.Proof.OutSpec

set_option backward.isDefEq.respectTransparency.types false

theorem sm1 (src : FVec Ideal S512x1024 .f32) (h : S512x1024.Reduces [1] S512) (hφ : FKind.Formats .f32)
    (hacc : (0x00000000#32 : BitVec 32) = 0x00000000#32) (r : Fin 512) :
    multiReduction .add [1] S512 src 0x00000000#32 h hφ hacc (ValueIdx.ix1 r) = ∑ k : Fin 1024, src (ValueIdx.ix2 r k) :=
  sm_apply src h hφ hacc r
theorem sm2 (src : FVec Ideal S512x2048 .f32) (h : S512x2048.Reduces [1] S512) (hφ : FKind.Formats .f32)
    (hacc : (0x00000000#32 : BitVec 32) = 0x00000000#32) (r : Fin 512) :
    multiReduction .add [1] S512 src 0x00000000#32 h hφ hacc (ValueIdx.ix1 r) = ∑ k : Fin 2048, src (ValueIdx.ix2 r k) :=
  sm_apply src h hφ hacc r
theorem mm1 (lhs : FVec Ideal S512x1024 .bf16) (rhs : FVec Ideal S1024x2048 .bf16) (r : Fin 512) (c : Fin 2048) :
    matmul dot_S512x1024_S1024x2048_S512x2048_1_0_0_1_n_n none lhs rhs (constant S512x2048 .f32 0x00000000#32) (ValueIdx.ix2 r c) = ∑ k : Fin 1024, lhs (ValueIdx.ix2 r k) * rhs (ValueIdx.ix2 k c) :=
  mm_plain _ rfl lhs rhs r c

theorem pay2_at (x : Vec Ideal S512x1024 .f32) (g : Vec Ideal S1x1024 .f32) (row : Fin 1024 → EReal) (r : Fin 512) (h : ∀ k, x (ValueIdx.ix2 r k) = row k) (k : Fin 1024) :
    k0_pay2 x g (ValueIdx.ix2 r k) = rms row (g (ValueIdx.ix2 0 k)) k := by
  have h0 : ∀ hs k, (shapeCast S512x1024 x hs) (ValueIdx.ix2 r k) = row k := fun hs k => (sc_self _ _ _).trans (h k)
  unfold k0_pay2 rms
  refine congrArg₂ (fun x y : EReal => x * y) ?_ ((broadcastTo_1b_ab_apply _ _ _ _).trans (sc_self _ _ _))
  refine congrArg₂ (fun x y : EReal => x * y) (h0 _ k) ?_
  refine (bc_a1 _ _ r k).trans ?_
  refine congrArg (fun x : EReal => Ideal.rsqrt (x + Ideal.ofBits .f32 0x358637BD#32)) ?_
  unfold msq
  refine congrArg (fun s : EReal => Ideal.div s (Ideal.ofBits .f32 0x44800000#32)) ?_
  refine (shapeCast_a_a1_apply _ _ _ _).trans ?_
  refine (sm1 _ _ _ _ r).trans ?_
  exact Finset.sum_congr rfl fun k _ => congrArg₂ (fun x y : EReal => x * y) (h0 _ k) (h0 _ k)

theorem pay3_at (x : Vec Ideal S512x1024 .f32) (g : Vec Ideal S1x1024 .f32) (w : Vec Ideal S1024x2048 .bf16) (row : Fin 1024 → EReal) (r : Fin 512) (h : ∀ k, x (ValueIdx.ix2 r k) = row k) (d : Fin 2048) :
    k0_pay3 x g w (ValueIdx.ix2 r d) = ∑ k : Fin 1024, rms row (g (ValueIdx.ix2 0 k)) k * w (ValueIdx.ix2 k d) := by
  unfold k0_pay3
  refine (mm1 _ _ r d).trans ?_
  exact Finset.sum_congr rfl fun k _ => congrArg₂ (fun x y : EReal => x * y) (pay2_at x g row r h k) (sc_self _ _ _)

theorem mean_at (x : FVec Ideal S512x2048 .f32) (row : Fin 2048 → EReal) (r : Fin 512) (h : ∀ k, x (ValueIdx.ix2 r k) = row k) (hr hφ ha hs) :
    divf (shapeCast S512x1 (multiReduction .add [1] S512 x 0x00000000#32 hr hφ ha) hs) (broadcast S512x1 (Scalar.ofBits .f32 0x45000000#32)) (ValueIdx.ix2 r 0) = mean row := by
  refine congrArg (fun s : EReal => Ideal.div s (Ideal.ofBits .f32 0x45000000#32)) ?_
  refine (shapeCast_a_a1_apply _ _ _ _).trans ?_
  refine (sm2 _ _ _ _ r).trans ?_
  exact Finset.sum_congr rfl fun k _ => h k

/-- A centred row, its square's mean under the root, gain and offset. -/
theorem ln_at (v sq : FVec Ideal S512x2048 .f32) (G B : FVec Ideal S512x2048 .f32) (row : Fin 2048 → EReal) (g b : EReal) (r : Fin 512) (d : Fin 2048)
    (hv : ∀ k, v (ValueIdx.ix2 r k) = row k - mean row) (hsq : ∀ k, sq (ValueIdx.ix2 r k) = v (ValueIdx.ix2 r k) * v (ValueIdx.ix2 r k)) (hG : G (ValueIdx.ix2 r d) = g) (hB : B (ValueIdx.ix2 r d) = b) (hr hφ ha hs hb) :
    addf (mulf (mulf v (broadcastTo S512x2048 (rsqrt (addf (divf (shapeCast S512x1 (multiReduction .add [1] S512 sq 0x00000000#32 hr hφ ha) hs)
      (broadcast S512x1 (Scalar.ofBits .f32 0x45000000#32))) (broadcast S512x1 (Scalar.ofBits .f32 0x3727C5AC#32)))) hb)) G) B (ValueIdx.ix2 r d) = ln row g b d := by
  unfold ln
  refine congrArg₂ (fun x y : EReal => x + y) ?_ hB
  refine congrArg₂ (fun x y : EReal => x * y) ?_ hG
  refine congrArg₂ (fun x y : EReal => x * y) (hv d) ?_
  refine (bc_a1 _ _ r d).trans ?_
  refine congrArg (fun x : EReal => Ideal.rsqrt (x + Ideal.ofBits .f32 0x3727C5AC#32)) ?_
  refine mean_at _ _ r (fun k => ?_) _ _ _ _
  rw [hsq, hv]

theorem sub_at (x : FVec Ideal S512x2048 .f32) (row : Fin 2048 → EReal) (r : Fin 512) (h : ∀ k, x (ValueIdx.ix2 r k) = row k) (hr hφ ha hs hb) (k : Fin 2048) :
    subf x (broadcastTo S512x2048 (divf (shapeCast S512x1 (multiReduction .add [1] S512 x 0x00000000#32 hr hφ ha) hs) (broadcast S512x1 (Scalar.ofBits .f32 0x45000000#32))) hb) (ValueIdx.ix2 r k)
      = row k - mean row :=
  congrArg₂ (fun x y : EReal => x - y) (h k) ((bc_a1 _ _ r k).trans (mean_at x row r h _ _ _ _))

theorem pay7_at (u : FVec Ideal S512x1024 .bf16) (p : FVec Ideal S512x2048 .f32) (w : FVec Ideal S1024x2048 .bf16) (x : Vec Ideal S512x2048 .f32) (g b : Vec Ideal S1x2048 .f32)
    (xr : Fin 2048 → EReal) (r : Fin 512) (hx : ∀ k, x (ValueIdx.ix2 r k) = xr k) (row : Fin 2048 → EReal)
    (hrow : ∀ d, row d = Ideal.ofBits .f32 0x3F9837F0#32 * ln xr (g (ValueIdx.ix2 0 d)) (b (ValueIdx.ix2 0 d)) d + (p (ValueIdx.ix2 r d) + ∑ k : Fin 1024, u (ValueIdx.ix2 r k) * w (ValueIdx.ix2 k d))) (d : Fin 2048) :
    k0_pay7 u p w (constant S512x2048 .f32 0x00000000#32) x g b (ValueIdx.ix2 r d) = row d - mean row := by
  unfold k0_pay7
  refine sub_at _ row r (fun k => ?_) _ _ _ _ _ d
  rw [hrow k]
  refine congrArg₂ (fun x y : EReal => x + y) ?_ (congrArg (fun y : EReal => p (ValueIdx.ix2 r k) + y) (mm1 u w r k))
  refine congrArg (fun y : EReal => Ideal.ofBits .f32 0x3F9837F0#32 * y) ?_
  refine ln_at _ _ _ _ xr _ _ r k (fun k => ?_) (fun k => rfl) ((broadcastTo_1b_ab_apply _ _ _ _).trans (sc_self _ _ _)) ((broadcastTo_1b_ab_apply _ _ _ _).trans (sc_self _ _ _)) _ _ _ _ _
  exact sub_at _ xr r (fun k => (sc_self _ _ _).trans (hx k)) _ _ _ _ _ k

theorem pay1_at (g b : FVec Ideal S1x2048 .f32) (v sq : FVec Ideal S512x2048 .f32) (row : Fin 2048 → EReal) (r : Fin 512)
    (hv : ∀ k, v (ValueIdx.ix2 r k) = row k - mean row) (hsq : ∀ k, sq (ValueIdx.ix2 r k) = v (ValueIdx.ix2 r k) * v (ValueIdx.ix2 r k)) (d : Fin 2048) :
    k0_pay1 g b v sq (ValueIdx.ix2 r d) = ln row (g (ValueIdx.ix2 0 d)) (b (ValueIdx.ix2 0 d)) d := by
  unfold k0_pay1
  exact ln_at _ _ _ _ row _ _ r d hv hsq (broadcastTo_1b_ab_apply _ _ _ _) (broadcastTo_1b_ab_apply _ _ _ _) _ _ _ _ _

/-- A block of the result, entry by entry, from the blocks of the arguments. -/
theorem out_at (x0 x1 : Vec Ideal S512x1024 .f32) (x2 : Vec Ideal S512x2048 .f32) (x3 x4 : Vec Ideal S1x2048 .f32) (x5 x6 : Vec Ideal S1x1024 .f32) (x7 : Vec Ideal S2048x2048 .bf16) (x8 x9 : Vec Ideal S1x2048 .f32)
    (r : Fin 512) (d : Fin 2048) :
    out0_10 x0 x1 x2 x3 x4 x5 x6 x7 x8 x9 (ValueIdx.ix2 r d)
      = ln (pre (fun k => x0 (ValueIdx.ix2 r k)) (fun k => x1 (ValueIdx.ix2 r k)) (fun k => x2 (ValueIdx.ix2 r k)) (fun k => x3 (ValueIdx.ix2 0 k)) (fun k => x4 (ValueIdx.ix2 0 k)) (fun k => x5 (ValueIdx.ix2 0 k)) (fun k => x6 (ValueIdx.ix2 0 k)) (fun k n => x7 (ValueIdx.ix2 k n)))
        (x8 (ValueIdx.ix2 0 d)) (x9 (ValueIdx.ix2 0 d)) d := by
  unfold out0_10
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  refine (pay1_at _ _ _ _ _ r (fun k => ?_) (fun k => rfl) d).trans (congrArg₂ (fun g b => ln (pre _ _ _ _ _ _ _ _) g b d) (sc_self _ _ _) (sc_self _ _ _))
  unfold k0_pay9
  refine pay7_at _ _ _ x2 x3 x4 _ r (fun k => rfl) _ (fun d => ?_) k
  unfold pre k0_pay10 k0_pay11 k0_pay12
  rw [View.ld_unit_lit _ _ (by decide), View.ld_unit_lit _ _ (by decide), View.ld_unit_lit _ _ (by decide), View.ld_unit_lit _ _ (by decide)]
  refine congrArg (fun y : EReal => Ideal.ofBits .f32 0x3F9837F0#32 * ln _ (x3 (ValueIdx.ix2 0 d)) (x4 (ValueIdx.ix2 0 d)) d + y) ?_
  refine congrArg₂ (fun x y : EReal => x + y) ?_ ?_
  · refine Eq.trans ?_ (pay3_at x0 x5 _ _ r (fun k => rfl) d).symm
    refine Finset.sum_congr rfl fun k _ => congrArg (fun y : EReal => rms _ _ k * y) ?_
    exact (View.ld_unit_apply_of x7 _ _ _ (ValueIdx.ix2 k d) (ValueIdx.ix2 ⟨k.val, by omega⟩ d) fun a => match a with
      | ⟨0, _⟩ => (Nat.zero_add _).symm
      | ⟨1, _⟩ => (Nat.zero_add _).symm).symm
  · refine Finset.sum_congr rfl fun k _ => congrArg₂ (fun x y : EReal => x * y) (pay2_at x1 x6 _ r (fun k => rfl) k).symm ?_
    refine Eq.symm ?_
    unfold k0_pay4
    refine (sc_self _ _ _).trans ?_
    exact View.ld_unit_apply_of x7 _ _ _ (ValueIdx.ix2 k d) (ValueIdx.ix2 ⟨1024 + k.val, by omega⟩ d) fun a => match a with
      | ⟨0, _⟩ => rfl
      | ⟨1, _⟩ => (Nat.zero_add _).symm

end Cert.Proof.OutKernel4Ideal

end
-- ==== Proof.Out.Blocks.lean ====
module

public import proofs.«01_k».proof.Proof.Gen.Kernel4Ideal.Frame
public import proofs.«01_k».proof.Proof.Gen.Kernel4Ideal.Value
public import proofs.«01_k».proof.Proof.Gen.Reference4Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.Out.Spec

/-! The blocks the output projection's body reads, from the arguments. -/

@[expose] public section

set_option maxRecDepth 16384

noncomputable section

namespace Cert.Proof.OutKernel4Ideal

open Cert.Kernel4Ideal Cert.Kernel4Ideal.Gen
open Idealize.ShloMosaic Idealize.ShloMosaic.TcCoe Idealize.ShloMosaic.Tactic Idealize.SL.Sem
open Idealize.ShloMosaic.ValueIdx
open Idealize.ShloMosaic.Pipeline (Dat Cfg Window)
open Cert.Proof.FoxKernelIdeal (mm_plain sm_apply bc_a1 sc_self)
open Cert.Proof.FfnSpec Cert.Proof.OutSpec

set_option backward.isDefEq.respectTransparency.types false

variable (m : (ℓ : Loc nD τ sig) → Buf (Elt Ideal) ℓ) (c : Dev nD)

/-- The arguments, as arrays of extended reals. -/
abbrev A0 : S2x16384x1024.Idx → EReal := m ((c.tc : Thread nD τ).loc main_arg0)
abbrev A1 : S2x16384x1024.Idx → EReal := m ((c.tc : Thread nD τ).loc main_arg1)
abbrev A2 : S2x16384x2048.Idx → EReal := m ((c.tc : Thread nD τ).loc main_arg2)
abbrev A3 : S2048.Idx → EReal := m ((c.tc : Thread nD τ).loc main_arg3)
abbrev A4 : S2048.Idx → EReal := m ((c.tc : Thread nD τ).loc main_arg4)
abbrev A5 : S1x1024.Idx → EReal := m ((c.tc : Thread nD τ).loc main_arg5)
abbrev A6 : S1x1024.Idx → EReal := m ((c.tc : Thread nD τ).loc main_arg6)
abbrev A7 : S1x2048x2048.Idx → EReal := m ((c.tc : Thread nD τ).loc main_arg7)
abbrev A8 : S1x2048.Idx → EReal := m ((c.tc : Thread nD τ).loc main_arg8)
abbrev A9 : S1x2048.Idx → EReal := m ((c.tc : Thread nD τ).loc main_arg9)

theorem t0_lt (t : Fin grid0.N) : (grid0.coords t 0).val < 64 := (grid0.coords t 0).isLt
/-- The row of the flattened sequence at a point. -/
def tn (t : Fin grid0.N) (r : Fin 512) : Fin 32768 := ⟨512 * (grid0.coords t 0).val + r.val, by have := t0_lt t; omega⟩

theorem x0 : ∀ t : Fin cfg0.N, win0_0.index t = ![(grid0.coords t 0).val, 0] := (by decide +kernel : ∀ t : Fin grid0.N, _)
theorem x1 : ∀ t : Fin cfg0.N, win0_1.index t = ![(grid0.coords t 0).val, 0] := (by decide +kernel : ∀ t : Fin grid0.N, _)
theorem x2 : ∀ t : Fin cfg0.N, win0_2.index t = ![(grid0.coords t 0).val, 0] := (by decide +kernel : ∀ t : Fin grid0.N, _)
theorem x3 : ∀ t : Fin cfg0.N, win0_3.index t = ![0, 0] := (by decide +kernel : ∀ t : Fin grid0.N, _)
theorem x4 : ∀ t : Fin cfg0.N, win0_4.index t = ![0, 0] := (by decide +kernel : ∀ t : Fin grid0.N, _)
theorem x5 : ∀ t : Fin cfg0.N, win0_5.index t = ![0, 0] := (by decide +kernel : ∀ t : Fin grid0.N, _)
theorem x6 : ∀ t : Fin cfg0.N, win0_6.index t = ![0, 0] := (by decide +kernel : ∀ t : Fin grid0.N, _)
theorem x7 : ∀ t : Fin cfg0.N, win0_7.index t = ![0, 0] := (by decide +kernel : ∀ t : Fin grid0.N, _)
theorem x8 : ∀ t : Fin cfg0.N, win0_8.index t = ![0, 0] := (by decide +kernel : ∀ t : Fin grid0.N, _)
theorem x9 : ∀ t : Fin cfg0.N, win0_9.index t = ![0, 0] := (by decide +kernel : ∀ t : Fin grid0.N, _)
theorem x10 : ∀ t : Fin cfg0.N, win0_10.index t = ![(grid0.coords t 0).val, 0] := (by decide +kernel : ∀ t : Fin grid0.N, _)

theorem b0 (t : Fin cfg0.N) (r : Fin 512) (k : Fin 1024) :
    iblk m c 0 t (ValueIdx.ix2 r k) = A0 m c (ValueIdx.ix3 ⟨(tn t r).val / 16384, by omega⟩ ⟨(tn t r).val % 16384, by omega⟩ k) := by
  have hix : ((win0_0.blk t).view.emb (ValueIdx.ix2 r k)) = (ValueIdx.ix2 (tn t r) k : S32768x1024.Idx) := by
    funext a; refine Fin.ext ?_
    blk_simp [x0]
    match a with
    | ⟨0, _⟩ => show (grid0.coords t 0).val * 512 + r.val = 512 * (grid0.coords t 0).val + r.val; omega
    | ⟨1, _⟩ => show 0 * 1024 + k.val = k.val; omega
  blk_simp [iblk]
  rw [hix]
  have hV : V m c main_v0 = shapeCast S32768x1024 (A0 m c) shapeCasts_S2x16384x1024_S32768x1024 := by
    entry_read; rfl
  rw [hV]
  refine shapeCast_apply (A0 m c) shapeCasts_S2x16384x1024_S32768x1024 _ _ ?_
  rw [Shape.rowMajor_val_three, Shape.rowMajor_val_two]
  show ((tn t r).val / 16384 * 16384 + (tn t r).val % 16384) * 1024 + k.val = (tn t r).val * 1024 + k.val
  rw [Nat.div_add_mod' (tn t r).val 16384]

theorem b1 (t : Fin cfg0.N) (r : Fin 512) (k : Fin 1024) :
    iblk m c 1 t (ValueIdx.ix2 r k) = A1 m c (ValueIdx.ix3 ⟨(tn t r).val / 16384, by omega⟩ ⟨(tn t r).val % 16384, by omega⟩ k) := by
  have hix : ((win0_1.blk t).view.emb (ValueIdx.ix2 r k)) = (ValueIdx.ix2 (tn t r) k : S32768x1024.Idx) := by
    funext a; refine Fin.ext ?_
    blk_simp [x1]
    match a with
    | ⟨0, _⟩ => show (grid0.coords t 0).val * 512 + r.val = 512 * (grid0.coords t 0).val + r.val; omega
    | ⟨1, _⟩ => show 0 * 1024 + k.val = k.val; omega
  blk_simp [iblk]
  rw [hix]
  have hV : V m c main_v1 = shapeCast S32768x1024 (A1 m c) shapeCasts_S2x16384x1024_S32768x1024 := by
    entry_read; rfl
  rw [hV]
  refine shapeCast_apply (A1 m c) shapeCasts_S2x16384x1024_S32768x1024 _ _ ?_
  rw [Shape.rowMajor_val_three, Shape.rowMajor_val_two]
  show ((tn t r).val / 16384 * 16384 + (tn t r).val % 16384) * 1024 + k.val = (tn t r).val * 1024 + k.val
  rw [Nat.div_add_mod' (tn t r).val 16384]

theorem b2 (t : Fin cfg0.N) (r : Fin 512) (k : Fin 2048) :
    iblk m c 2 t (ValueIdx.ix2 r k) = A2 m c (ValueIdx.ix3 ⟨(tn t r).val / 16384, by omega⟩ ⟨(tn t r).val % 16384, by omega⟩ k) := by
  have hix : ((win0_2.blk t).view.emb (ValueIdx.ix2 r k)) = (ValueIdx.ix2 (tn t r) k : S32768x2048.Idx) := by
    funext a; refine Fin.ext ?_
    blk_simp [x2]
    match a with
    | ⟨0, _⟩ => show (grid0.coords t 0).val * 512 + r.val = 512 * (grid0.coords t 0).val + r.val; omega
    | ⟨1, _⟩ => show 0 * 2048 + k.val = k.val; omega
  blk_simp [iblk]
  rw [hix]
  have hV : V m c main_v2 = shapeCast S32768x2048 (A2 m c) shapeCasts_S2x16384x2048_S32768x2048 := by
    entry_read; rfl
  rw [hV]
  refine shapeCast_apply (A2 m c) shapeCasts_S2x16384x2048_S32768x2048 _ _ ?_
  rw [Shape.rowMajor_val_three, Shape.rowMajor_val_two]
  show ((tn t r).val / 16384 * 16384 + (tn t r).val % 16384) * 2048 + k.val = (tn t r).val * 2048 + k.val
  rw [Nat.div_add_mod' (tn t r).val 16384]

theorem b3 (t : Fin cfg0.N) (d : Fin 2048) : iblk m c 3 t (ValueIdx.ix2 0 d) = A3 m c (ValueIdx.ix1 d) := by
  have hix : ((win0_3.blk t).view.emb (ValueIdx.ix2 0 d)) = (ValueIdx.ix2 0 d : S1x2048.Idx) := by
    funext a; refine Fin.ext ?_
    blk_simp [x3]
    match a with
    | ⟨0, _⟩ => rfl
    | ⟨1, _⟩ => show 0 * 2048 + d.val = d.val; omega
  blk_simp [iblk]
  rw [hix]
  have hV : V m c main_v3 = shapeCast S1x2048 (A3 m c) shapeCasts_S2048_S1x2048 := by
    entry_read; rfl
  rw [hV]
  refine shapeCast_apply (A3 m c) shapeCasts_S2048_S1x2048 _ _ ?_
  rw [Shape.rowMajor_val_one, Shape.rowMajor_val_two]
  show d.val = 0 * 2048 + d.val; omega

theorem b4 (t : Fin cfg0.N) (d : Fin 2048) : iblk m c 4 t (ValueIdx.ix2 0 d) = A4 m c (ValueIdx.ix1 d) := by
  have hix : ((win0_4.blk t).view.emb (ValueIdx.ix2 0 d)) = (ValueIdx.ix2 0 d : S1x2048.Idx) := by
    funext a; refine Fin.ext ?_
    blk_simp [x4]
    match a with
    | ⟨0, _⟩ => rfl
    | ⟨1, _⟩ => show 0 * 2048 + d.val = d.val; omega
  blk_simp [iblk]
  rw [hix]
  have hV : V m c main_v4 = shapeCast S1x2048 (A4 m c) shapeCasts_S2048_S1x2048 := by
    entry_read; rfl
  rw [hV]
  refine shapeCast_apply (A4 m c) shapeCasts_S2048_S1x2048 _ _ ?_
  rw [Shape.rowMajor_val_one, Shape.rowMajor_val_two]
  show d.val = 0 * 2048 + d.val; omega

theorem b5 (t : Fin cfg0.N) (d : Fin 1024) : iblk m c 5 t (ValueIdx.ix2 0 d) = A5 m c (ValueIdx.ix2 0 d) := by
  have hix : ((win0_5.blk t).view.emb (ValueIdx.ix2 0 d)) = (ValueIdx.ix2 0 d : S1x1024.Idx) := by
    funext a; refine Fin.ext ?_
    blk_simp [x5]
    match a with
    | ⟨0, _⟩ => rfl
    | ⟨1, _⟩ => show 0 * 1024 + d.val = d.val; omega
  blk_simp [iblk]
  rw [hix]
  have hV : V m c main_v6 = shapeCast S1x1024 (shapeCast S1024 (A5 m c) shapeCasts_S1x1024_S1024) shapeCasts_S1024_S1x1024 := by
    entry_read; rfl
  rw [hV]
  refine (shapeCast_apply (shapeCast S1024 (A5 m c) shapeCasts_S1x1024_S1024) shapeCasts_S1024_S1x1024 _ (ValueIdx.ix1 d) ?_).trans
    (shapeCast_apply (A5 m c) shapeCasts_S1x1024_S1024 _ (ValueIdx.ix2 0 d) ?_)
  · rw [Shape.rowMajor_val_one, Shape.rowMajor_val_two]
    show d.val = 0 * 1024 + d.val; omega
  · rw [Shape.rowMajor_val_one, Shape.rowMajor_val_two]
    show 0 * 1024 + d.val = d.val; omega

theorem b6 (t : Fin cfg0.N) (d : Fin 1024) : iblk m c 6 t (ValueIdx.ix2 0 d) = A6 m c (ValueIdx.ix2 0 d) := by
  have hix : ((win0_6.blk t).view.emb (ValueIdx.ix2 0 d)) = (ValueIdx.ix2 0 d : S1x1024.Idx) := by
    funext a; refine Fin.ext ?_
    blk_simp [x6]
    match a with
    | ⟨0, _⟩ => rfl
    | ⟨1, _⟩ => show 0 * 1024 + d.val = d.val; omega
  blk_simp [iblk]
  rw [hix]
  have hV : V m c main_v8 = shapeCast S1x1024 (shapeCast S1024 (A6 m c) shapeCasts_S1x1024_S1024) shapeCasts_S1024_S1x1024 := by
    entry_read; rfl
  rw [hV]
  refine (shapeCast_apply (shapeCast S1024 (A6 m c) shapeCasts_S1x1024_S1024) shapeCasts_S1024_S1x1024 _ (ValueIdx.ix1 d) ?_).trans
    (shapeCast_apply (A6 m c) shapeCasts_S1x1024_S1024 _ (ValueIdx.ix2 0 d) ?_)
  · rw [Shape.rowMajor_val_one, Shape.rowMajor_val_two]
    show d.val = 0 * 1024 + d.val; omega
  · rw [Shape.rowMajor_val_one, Shape.rowMajor_val_two]
    show 0 * 1024 + d.val = d.val; omega

theorem b8 (t : Fin cfg0.N) (d : Fin 2048) : iblk m c 8 t (ValueIdx.ix2 0 d) = A8 m c (ValueIdx.ix2 0 d) := by
  have hix : ((win0_8.blk t).view.emb (ValueIdx.ix2 0 d)) = (ValueIdx.ix2 0 d : S1x2048.Idx) := by
    funext a; refine Fin.ext ?_
    blk_simp [x8]
    match a with
    | ⟨0, _⟩ => rfl
    | ⟨1, _⟩ => show 0 * 2048 + d.val = d.val; omega
  blk_simp [iblk]
  rw [hix]
  have hV : V m c main_v12 = shapeCast S1x2048 (shapeCast S2048 (A8 m c) shapeCasts_S1x2048_S2048) shapeCasts_S2048_S1x2048 := by
    entry_read; rfl
  rw [hV]
  refine (shapeCast_apply (shapeCast S2048 (A8 m c) shapeCasts_S1x2048_S2048) shapeCasts_S2048_S1x2048 _ (ValueIdx.ix1 d) ?_).trans
    (shapeCast_apply (A8 m c) shapeCasts_S1x2048_S2048 _ (ValueIdx.ix2 0 d) ?_)
  · rw [Shape.rowMajor_val_one, Shape.rowMajor_val_two]
    show d.val = 0 * 2048 + d.val; omega
  · rw [Shape.rowMajor_val_one, Shape.rowMajor_val_two]
    show 0 * 2048 + d.val = d.val; omega

theorem b9 (t : Fin cfg0.N) (d : Fin 2048) : iblk m c 9 t (ValueIdx.ix2 0 d) = A9 m c (ValueIdx.ix2 0 d) := by
  have hix : ((win0_9.blk t).view.emb (ValueIdx.ix2 0 d)) = (ValueIdx.ix2 0 d : S1x2048.Idx) := by
    funext a; refine Fin.ext ?_
    blk_simp [x9]
    match a with
    | ⟨0, _⟩ => rfl
    | ⟨1, _⟩ => show 0 * 2048 + d.val = d.val; omega
  blk_simp [iblk]
  rw [hix]
  have hV : V m c main_v14 = shapeCast S1x2048 (shapeCast S2048 (A9 m c) shapeCasts_S1x2048_S2048) shapeCasts_S2048_S1x2048 := by
    entry_read; rfl
  rw [hV]
  refine (shapeCast_apply (shapeCast S2048 (A9 m c) shapeCasts_S1x2048_S2048) shapeCasts_S2048_S1x2048 _ (ValueIdx.ix1 d) ?_).trans
    (shapeCast_apply (A9 m c) shapeCasts_S1x2048_S2048 _ (ValueIdx.ix2 0 d) ?_)
  · rw [Shape.rowMajor_val_one, Shape.rowMajor_val_two]
    show d.val = 0 * 2048 + d.val; omega
  · rw [Shape.rowMajor_val_one, Shape.rowMajor_val_two]
    show 0 * 2048 + d.val = d.val; omega

theorem b7 (t : Fin cfg0.N) (k d : Fin 2048) : iblk m c 7 t (ValueIdx.ix2 k d) = A7 m c (ValueIdx.ix3 0 k d) := by
  have hix : ((win0_7.blk t).view.emb (ValueIdx.ix2 k d)) = (ValueIdx.ix2 k d : S2048x2048.Idx) := by
    funext a; refine Fin.ext ?_
    blk_simp [x7]
    match a with
    | ⟨0, _⟩ => show 0 * 2048 + k.val = k.val; omega
    | ⟨1, _⟩ => show 0 * 2048 + d.val = d.val; omega
  blk_simp [iblk]
  rw [hix]
  have hV : V m c main_v10 = truncf (F := Ideal) .bf16 (shapeCast S2048x2048 (A7 m c) shapeCasts_S1x2048x2048_S2048x2048) bitsLt_bf16_f32 := by
    entry_read; rfl
  rw [hV]
  refine shapeCast_apply (A7 m c) shapeCasts_S1x2048x2048_S2048x2048 _ _ ?_
  rw [Shape.rowMajor_val_three, Shape.rowMajor_val_two]
  show (0 * 2048 + k.val) * 2048 + d.val = k.val * 2048 + d.val
  rw [Nat.zero_mul, Nat.zero_add]

end Cert.Proof.OutKernel4Ideal

end
-- ==== Proof.Out.Ref.lean ====
module

public import proofs.«01_k».proof.Proof.Gen.Kernel4Ideal.Frame
public import proofs.«01_k».proof.Proof.Gen.Kernel4Ideal.Value
public import proofs.«01_k».proof.Proof.Gen.Reference4Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.Out.Spec
public import proofs.«01_k».proof.Proof.Ffn.Ref

/-! The output projection's reference read at an entry. -/

@[expose] public section

set_option maxRecDepth 16384

noncomputable section

namespace Cert.Proof.OutRef

open Cert.Reference4Ideal Cert.Reference4Ideal.Gen Cert.Reference4Ideal.Read
open Idealize.ShloMosaic Idealize.ShloMosaic.ValueIdx
open Cert.Proof.FfnSpec Cert.Proof.OutSpec
open Cert.Proof.FfnRef (i2 i3)

variable (a0 a1 : S2x16384x1024.Idx → EReal) (a2 : S2x16384x2048.Idx → EReal) (a3 a4 : S2048.Idx → EReal)
  (a5 a6 : S1x1024.Idx → EReal) (a7 : S1x2048x2048.Idx → EReal) (a8 a9 : S1x2048.Idx → EReal) (b : Fin 2) (r : Fin 16384)

/-- A row of the residual and the projected heads, before the second layer norm. -/
def rowAt : Fin 2048 → EReal :=
  pre (fun k => a0 (ValueIdx.ix3 b r k)) (fun k => a1 (ValueIdx.ix3 b r k)) (fun k => a2 (ValueIdx.ix3 b r k)) (fun k => a3 (ValueIdx.ix1 k)) (fun k => a4 (ValueIdx.ix1 k)) (fun k => a5 (ValueIdx.ix2 0 k)) (fun k => a6 (ValueIdx.ix2 0 k)) (fun k n => a7 (ValueIdx.ix3 0 k n))

theorem zero (s : S_.Idx) (y : EReal) : (val_main_cst (F := Ideal) s : EReal) + y = y := by
  rw [val_main_cst_apply]
  show Ideal.ofBits .f32 0x00000000#32 + y = y
  rw [Ideal.ofBits_zero_f32, zero_add]

theorem v13_at (k : Fin 1024) : val_main_v13 (F := Ideal) a0 a5 (ValueIdx.ix3 b r k) = rms (fun k => a0 (ValueIdx.ix3 b r k)) (a5 (ValueIdx.ix2 0 k)) k := by
  rw [val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v0_apply]
  unfold rms
  refine congrArg₂ (fun x y : EReal => x * y) ?_ (congrArg a5 (i2 _ 0 k rfl (show k.val % 1024 = k.val by omega)))
  refine congrArg (fun y : EReal => a0 (ValueIdx.ix3 b r k) * Ideal.rsqrt (y + Ideal.ofBits .f32 0x358637BD#32)) ?_
  unfold msq
  refine congrArg (fun s : EReal => Ideal.div s (Ideal.ofBits .f32 0x44800000#32)) ?_
  refine (zero _ _).trans ?_
  refine Finset.sum_congr rfl fun q _ => ?_
  rw [val_main_v1_apply]
  have e : a0 (idx_main_v2 (idx_main_v3 (idx_main_v9 (ValueIdx.ix3 b r k))) q) = a0 (ValueIdx.ix3 b r q) := congrArg a0 (i3 _ b r q rfl rfl rfl)
  rw [e]; rfl
theorem zero_2 (s : S_.Idx) (y : EReal) : (val_main_cst_2 (F := Ideal) s : EReal) + y = y := by
  rw [val_main_cst_2_apply]
  show Ideal.ofBits .f32 0x00000000#32 + y = y
  rw [Ideal.ofBits_zero_f32, zero_add]

theorem v27_at (k : Fin 1024) : val_main_v27 (F := Ideal) a1 a6 (ValueIdx.ix3 b r k) = rms (fun k => a1 (ValueIdx.ix3 b r k)) (a6 (ValueIdx.ix2 0 k)) k := by
  rw [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v14_apply]
  unfold rms
  refine congrArg₂ (fun x y : EReal => x * y) ?_ (congrArg a6 (i2 _ 0 k rfl (show k.val % 1024 = k.val by omega)))
  refine congrArg (fun y : EReal => a1 (ValueIdx.ix3 b r k) * Ideal.rsqrt (y + Ideal.ofBits .f32 0x358637BD#32)) ?_
  unfold msq
  refine congrArg (fun s : EReal => Ideal.div s (Ideal.ofBits .f32 0x44800000#32)) ?_
  refine (zero_2 _ _).trans ?_
  refine Finset.sum_congr rfl fun q _ => ?_
  rw [val_main_v15_apply]
  have e : a1 (idx_main_v16 (idx_main_v17 (idx_main_v23 (ValueIdx.ix3 b r k))) q) = a1 (ValueIdx.ix3 b r q) := congrArg a1 (i3 _ b r q rfl rfl rfl)
  rw [e]; rfl
theorem zero_5 (s : S_.Idx) (y : EReal) : (val_main_cst_5 (F := Ideal) s : EReal) + y = y := by
  rw [val_main_cst_5_apply]
  show Ideal.ofBits .f32 0x00000000#32 + y = y
  rw [Ideal.ofBits_zero_f32, zero_add]
theorem zero_7 (s : S_.Idx) (y : EReal) : (val_main_cst_7 (F := Ideal) s : EReal) + y = y := by
  rw [val_main_cst_7_apply]
  show Ideal.ofBits .f32 0x00000000#32 + y = y
  rw [Ideal.ofBits_zero_f32, zero_add]
theorem zero_11 (s : S_.Idx) (y : EReal) : (val_main_cst_11 (F := Ideal) s : EReal) + y = y := by
  rw [val_main_cst_11_apply]
  show Ideal.ofBits .f32 0x00000000#32 + y = y
  rw [Ideal.ofBits_zero_f32, zero_add]
theorem zero_13 (s : S_.Idx) (y : EReal) : (val_main_cst_13 (F := Ideal) s : EReal) + y = y := by
  rw [val_main_cst_13_apply]
  show Ideal.ofBits .f32 0x00000000#32 + y = y
  rw [Ideal.ofBits_zero_f32, zero_add]

theorem v32_at (u : Fin 1) : val_main_v32 (F := Ideal) a2 (ValueIdx.ix3 b r u) = mean (fun k => a2 (ValueIdx.ix3 b r k)) := by
  rw [val_main_v32_apply, val_main_v31_apply, val_main_v30_apply, val_main_v29_apply, zero_5]
  refine congrArg (fun s : EReal => Ideal.div s (Ideal.ofBits .f32 0x45000000#32)) ?_
  refine Finset.sum_congr rfl fun k _ => ?_
  exact congrArg a2 (i3 _ b r k rfl rfl rfl)

theorem v34_at (d : Fin 2048) : val_main_v34 (F := Ideal) a2 (ValueIdx.ix3 b r d) = (fun k => a2 (ValueIdx.ix3 b r k)) d - mean (fun k => a2 (ValueIdx.ix3 b r k)) := by
  rw [val_main_v34_apply, val_main_v33_apply, ← v32_at a2 b r 0]
  exact congrArg (fun i => (fun k => a2 (ValueIdx.ix3 b r k)) d - val_main_v32 (F := Ideal) a2 i) (i3 _ b r 0 rfl rfl rfl)

theorem v41_at (d : Fin 2048) : val_main_v41 (F := Ideal) a2 (ValueIdx.ix3 b r d) = (fun k => a2 (ValueIdx.ix3 b r k)) d - mean (fun k => a2 (ValueIdx.ix3 b r k)) := by
  rw [val_main_v41_apply, val_main_v40_apply, ← v32_at a2 b r 0]
  exact congrArg (fun i => (fun k => a2 (ValueIdx.ix3 b r k)) d - val_main_v32 (F := Ideal) a2 i) (i3 _ b r 0 rfl rfl rfl)

theorem v39_at (u : Fin 1) : val_main_v39 (F := Ideal) a2 (ValueIdx.ix3 b r u)
    = mean (fun k => ((fun k => a2 (ValueIdx.ix3 b r k)) k - mean (fun k => a2 (ValueIdx.ix3 b r k))) * ((fun k => a2 (ValueIdx.ix3 b r k)) k - mean (fun k => a2 (ValueIdx.ix3 b r k)))) := by
  rw [val_main_v39_apply, val_main_v38_apply, val_main_v37_apply, val_main_v36_apply]
  refine congrArg (fun s : EReal => Ideal.div s (Ideal.ofBits .f32 0x45000000#32)) ?_
  refine (zero_7 _ _).trans ?_
  refine Finset.sum_congr rfl fun k _ => ?_
  rw [val_main_v35_apply]
  have e : val_main_v34 (F := Ideal) a2 (idx_main_v36 (idx_main_v37 (ValueIdx.ix3 b r u)) k) = (fun k => a2 (ValueIdx.ix3 b r k)) k - mean (fun k => a2 (ValueIdx.ix3 b r k)) := by
    rw [← v34_at]
    exact congrArg (val_main_v34 (F := Ideal) a2) (i3 _ b r k rfl rfl rfl)
  rw [e]; rfl

theorem v52_at (d : Fin 2048) : val_main_v52 (F := Ideal) a2 a3 a4 (ValueIdx.ix3 b r d)
    = ln (fun k => a2 (ValueIdx.ix3 b r k)) ((fun d => a3 (ValueIdx.ix1 d)) d) ((fun d => a4 (ValueIdx.ix1 d)) d) d := by
  rw [val_main_v52_apply, val_main_v51_apply, val_main_v50_apply, val_main_v49_apply, val_main_v48_apply, val_main_v47_apply, val_main_v46_apply, val_main_v45_apply, val_main_v44_apply, val_main_v43_apply, val_main_v42_apply, v41_at]
  refine congrArg₂ (fun x y : EReal => x + y) ?_ (congrArg a4 (by funext a; match a with | ⟨0, _⟩ => rfl))
  refine congrArg₂ (fun x y : EReal => x * y) ?_ (congrArg a3 (by funext a; match a with | ⟨0, _⟩ => rfl))
  refine congrArg (fun x : EReal => ((fun k => a2 (ValueIdx.ix3 b r k)) d - mean (fun k => a2 (ValueIdx.ix3 b r k))) * Ideal.rsqrt (x + Ideal.ofBits .f32 0x3727C5AC#32)) ?_
  rw [← v39_at a2 b r 0]
  exact congrArg (val_main_v39 (F := Ideal) a2) (i3 _ b r 0 rfl rfl rfl)

theorem v57_at (d : Fin 2048) : val_main_v57 (F := Ideal) a0 a1 a2 a3 a4 a5 a6 a7 (ValueIdx.ix3 b r d) = rowAt a0 a1 a2 a3 a4 a5 a6 a7 b r d := by
  rw [val_main_v57_apply, val_main_v54_apply, val_main_v53_apply, val_main_v56_apply, v52_at]
  unfold rowAt pre
  refine congrArg (fun y : EReal => Ideal.ofBits .f32 0x3F9837F0#32 * ln (fun k => a2 (ValueIdx.ix3 b r k)) (a3 (ValueIdx.ix1 d)) (a4 (ValueIdx.ix1 d)) d + y) ?_
  refine (sum_halves _).trans (congrArg₂ (fun x y : EReal => x + y) ?_ ?_)
  · refine Finset.sum_congr rfl fun k _ => congrArg₂ (fun x y : EReal => x * y) ?_ ?_
    · rw [← v13_at]
      unfold val_main_v28
      exact concatenate_pair_apply_left 2 _ _ concatenates_S2x16384x1024_S2x16384x1024_S2x16384x2048_d2 _ rfl (ValueIdx.ix3 b r k)
        fun a => match a with | ⟨0, _⟩ => rfl | ⟨1, _⟩ => rfl | ⟨2, _⟩ => rfl
    · rw [val_main_v55_apply]
      refine congrArg a7 (i3 _ 0 _ d rfl ?_ ?_)
      · show (k.val * 2048 + d.val) / 2048 % 2048 = k.val; omega
      · show (k.val * 2048 + d.val) % 2048 = d.val; omega
  · refine Finset.sum_congr rfl fun k _ => congrArg₂ (fun x y : EReal => x * y) ?_ ?_
    · rw [← v27_at]
      unfold val_main_v28
      exact concatenate_pair_apply_right 2 _ _ concatenates_S2x16384x1024_S2x16384x1024_S2x16384x2048_d2 _ rfl rfl (ValueIdx.ix3 b r k)
        (fun a ha => match a, ha with | ⟨0, _⟩, _ => rfl | ⟨1, _⟩, _ => rfl | ⟨2, _⟩, ha => absurd rfl ha) (by show k.val + 1024 = 1024 + k.val; omega)
    · rw [val_main_v55_apply]
      refine congrArg a7 (i3 _ 0 _ d rfl ?_ ?_)
      · show ((1024 + k.val) * 2048 + d.val) / 2048 % 2048 = 1024 + k.val; omega
      · show ((1024 + k.val) * 2048 + d.val) % 2048 = d.val; omega

theorem v63_at (u : Fin 1) : val_main_v63 (F := Ideal) a0 a1 a2 a3 a4 a5 a6 a7 (ValueIdx.ix3 b r u) = mean (rowAt a0 a1 a2 a3 a4 a5 a6 a7 b r) := by
  rw [val_main_v63_apply, val_main_v62_apply, val_main_v61_apply, val_main_v60_apply, zero_11]
  refine congrArg (fun s : EReal => Ideal.div s (Ideal.ofBits .f32 0x45000000#32)) ?_
  refine Finset.sum_congr rfl fun k _ => ?_
  rw [← v57_at]
  exact congrArg (val_main_v57 (F := Ideal) a0 a1 a2 a3 a4 a5 a6 a7) (i3 _ b r k rfl rfl rfl)

theorem v65_at (d : Fin 2048) : val_main_v65 (F := Ideal) a0 a1 a2 a3 a4 a5 a6 a7 (ValueIdx.ix3 b r d) = (rowAt a0 a1 a2 a3 a4 a5 a6 a7 b r) d - mean (rowAt a0 a1 a2 a3 a4 a5 a6 a7 b r) := by
  rw [val_main_v65_apply, val_main_v64_apply, v57_at, ← v63_at a0 a1 a2 a3 a4 a5 a6 a7 b r 0]
  exact congrArg (fun i => (rowAt a0 a1 a2 a3 a4 a5 a6 a7 b r) d - val_main_v63 (F := Ideal) a0 a1 a2 a3 a4 a5 a6 a7 i) (i3 _ b r 0 rfl rfl rfl)

theorem v72_at (d : Fin 2048) : val_main_v72 (F := Ideal) a0 a1 a2 a3 a4 a5 a6 a7 (ValueIdx.ix3 b r d) = (rowAt a0 a1 a2 a3 a4 a5 a6 a7 b r) d - mean (rowAt a0 a1 a2 a3 a4 a5 a6 a7 b r) := by
  rw [val_main_v72_apply, val_main_v71_apply, v57_at, ← v63_at a0 a1 a2 a3 a4 a5 a6 a7 b r 0]
  exact congrArg (fun i => (rowAt a0 a1 a2 a3 a4 a5 a6 a7 b r) d - val_main_v63 (F := Ideal) a0 a1 a2 a3 a4 a5 a6 a7 i) (i3 _ b r 0 rfl rfl rfl)

theorem v70_at (u : Fin 1) : val_main_v70 (F := Ideal) a0 a1 a2 a3 a4 a5 a6 a7 (ValueIdx.ix3 b r u)
    = mean (fun k => ((rowAt a0 a1 a2 a3 a4 a5 a6 a7 b r) k - mean (rowAt a0 a1 a2 a3 a4 a5 a6 a7 b r)) * ((rowAt a0 a1 a2 a3 a4 a5 a6 a7 b r) k - mean (rowAt a0 a1 a2 a3 a4 a5 a6 a7 b r))) := by
  rw [val_main_v70_apply, val_main_v69_apply, val_main_v68_apply, val_main_v67_apply]
  refine congrArg (fun s : EReal => Ideal.div s (Ideal.ofBits .f32 0x45000000#32)) ?_
  refine (zero_13 _ _).trans ?_
  refine Finset.sum_congr rfl fun k _ => ?_
  rw [val_main_v66_apply]
  have e : val_main_v65 (F := Ideal) a0 a1 a2 a3 a4 a5 a6 a7 (idx_main_v67 (idx_main_v68 (ValueIdx.ix3 b r u)) k) = (rowAt a0 a1 a2 a3 a4 a5 a6 a7 b r) k - mean (rowAt a0 a1 a2 a3 a4 a5 a6 a7 b r) := by
    rw [← v65_at]
    exact congrArg (val_main_v65 (F := Ideal) a0 a1 a2 a3 a4 a5 a6 a7) (i3 _ b r k rfl rfl rfl)
  rw [e]; rfl

theorem v83_at (d : Fin 2048) : val_main_v83 (F := Ideal) a0 a1 a2 a3 a4 a5 a6 a7 a8 a9 (ValueIdx.ix3 b r d)
    = ln (rowAt a0 a1 a2 a3 a4 a5 a6 a7 b r) ((fun d => a8 (ValueIdx.ix2 0 d)) d) ((fun d => a9 (ValueIdx.ix2 0 d)) d) d := by
  rw [val_main_v83_apply, val_main_v82_apply, val_main_v81_apply, val_main_v80_apply, val_main_v79_apply, val_main_v78_apply, val_main_v77_apply, val_main_v76_apply, val_main_v75_apply, val_main_v74_apply, val_main_v73_apply, val_main_v59_apply, val_main_v58_apply, v72_at]
  refine congrArg₂ (fun x y : EReal => x + y) ?_ (congrArg a9 (i2 _ 0 d rfl (show d.val % 2048 = d.val by omega)))
  refine congrArg₂ (fun x y : EReal => x * y) ?_ (congrArg a8 (i2 _ 0 d rfl (show d.val % 2048 = d.val by omega)))
  refine congrArg (fun x : EReal => ((rowAt a0 a1 a2 a3 a4 a5 a6 a7 b r) d - mean (rowAt a0 a1 a2 a3 a4 a5 a6 a7 b r)) * Ideal.rsqrt (x + Ideal.ofBits .f32 0x3727C5AC#32)) ?_
  rw [← v70_at a0 a1 a2 a3 a4 a5 a6 a7 b r 0]
  exact congrArg (val_main_v70 (F := Ideal) a0 a1 a2 a3 a4 a5 a6 a7) (i3 _ b r 0 rfl rfl rfl)

/-- Row `n` of the flattened result. -/
theorem ref_at (n : Fin 32768) (d : Fin 2048) : val_main_v84 (F := Ideal) a0 a1 a2 a3 a4 a5 a6 a7 a8 a9 (ValueIdx.ix2 n d)
    = ln (rowAt a0 a1 a2 a3 a4 a5 a6 a7 ⟨n.val / 16384, by omega⟩ ⟨n.val % 16384, by omega⟩) (a8 (ValueIdx.ix2 0 d)) (a9 (ValueIdx.ix2 0 d)) d := by
  rw [val_main_v84_apply, ← v83_at a0 a1 a2 a3 a4 a5 a6 a7 a8 a9 ⟨n.val / 16384, by omega⟩ ⟨n.val % 16384, by omega⟩ d]
  refine congrArg (val_main_v83 (F := Ideal) a0 a1 a2 a3 a4 a5 a6 a7 a8 a9) (i3 _ _ _ d ?_ ?_ ?_)
  · show (n.val * 2048 + d.val) / 33554432 = n.val / 16384; omega
  · show (n.val * 2048 + d.val) / 2048 % 16384 = n.val % 16384; omega
  · show (n.val * 2048 + d.val) % 2048 = d.val; omega

end Cert.Proof.OutRef

end
-- ==== Proof.Out.Value.lean ====
module

public import proofs.«01_k».proof.Proof.Gen.Kernel4Ideal.Frame
public import proofs.«01_k».proof.Proof.Gen.Kernel4Ideal.Value
public import proofs.«01_k».proof.Proof.Gen.Reference4Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.Out.Spec
public import proofs.«01_k».proof.Proof.Out.Pay
public import proofs.«01_k».proof.Proof.Out.Blocks
public import proofs.«01_k».proof.Proof.Out.Ref

/-! The output projection: what the region leaves is the reference's result. -/

@[expose] public section

set_option maxRecDepth 16384

noncomputable section

namespace Cert.Proof.OutKernel4Ideal

open Cert.Kernel4Ideal Cert.Kernel4Ideal.Gen
open Idealize.ShloMosaic Idealize.ShloMosaic.TcCoe Idealize.ShloMosaic.Tactic Idealize.SL.Sem
open Idealize.ShloMosaic.ValueIdx
open Idealize.ShloMosaic.Pipeline (Dat Cfg Window)
open Cert.Proof.FoxKernelIdeal (mm_plain sm_apply bc_a1 sc_self)
open Cert.Proof.FfnSpec Cert.Proof.OutSpec

set_option backward.isDefEq.respectTransparency.types false

variable (m : (ℓ : Loc nD τ sig) → Buf (Elt Ideal) ℓ) (c : Dev nD)

/-- The region leaves the reference's rows. -/
theorem final : (dats m 0 c).arrAt 10 cfg0.N = Cert.Reference4Ideal.Read.val_main_v84 (F := Ideal) (A0 m c) (A1 m c) (A2 m c) (A3 m c) (A4 m c) (A5 m c) (A6 m c) (A7 m c) (A8 m c) (A9 m c) := by
  refine (dats m 0 c).arrAt_eq_of_covers 10 _ (by decide +kernel) fun t hf y => ?_
  blk_simp
  rw [after0_10]
  obtain ⟨r, d, rfl⟩ : ∃ (r : Fin 512) (d : Fin 2048), y = ValueIdx.ix2 r d := ⟨y 0, y 1, by funext a; match a with | ⟨0, _⟩ => rfl | ⟨1, _⟩ => rfl⟩
  have hix : ((win0_10.blk t).view.emb (ValueIdx.ix2 r d)) = (ValueIdx.ix2 (tn t r) d : S32768x2048.Idx) := by
    funext a
    refine Fin.ext ?_
    blk_simp [x10]
    match a with
    | ⟨0, _⟩ => show (grid0.coords t 0).val * 512 + r.val = 512 * (grid0.coords t 0).val + r.val; omega
    | ⟨1, _⟩ => show 0 * 2048 + d.val = d.val; omega
  rw [hix]
  refine (out_at _ _ _ _ _ _ _ _ _ _ r d).trans (Eq.trans ?_ (Cert.Proof.OutRef.ref_at _ _ _ _ _ _ _ _ _ _ (tn t r) d).symm)
  unfold Cert.Proof.OutRef.rowAt
  rw [b8, b9, funext fun k => b0 m c t r k, funext fun k => b1 m c t r k, funext fun k => b2 m c t r k, funext fun k => b3 m c t k, funext fun k => b4 m c t k,
    funext fun k => b5 m c t k, funext fun k => b6 m c t k, funext fun k => funext fun n => b7 m c t k n]

end Cert.Proof.OutKernel4Ideal

end
-- ==== Proof.Out.Claims.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Out.Value
public import Idealize.ShloMosaic.Adequacy
public import Idealize.ShloMosaic.Init

/-! The claims of this call, each from the run and from what the region leaves. -/

@[expose] public section

set_option maxRecDepth 16384

noncomputable section

namespace Cert.Proof.Out

open Idealize.ShloMosaic Idealize.SL.Sem

theorem frame_k : Cert.quiescent_Kernel4 := fun m ρ _ => Cert.Kernel4.Gen.frame (F := Bits) m ρ

theorem frame_i : Cert.quiescent_Kernel4Ideal := fun m ρ _ => Cert.Kernel4Ideal.Gen.frame (F := Ideal) m ρ

/-- The reference's run read at its arguments; it declares no semaphore. -/
theorem frame_r : Cert.quiescent_Reference4Ideal := by
  intro m ρ _
  exact (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The ideal's result array is the reference's result, from any arguments. -/
theorem value : Cert.algebraic_Kernel4Ideal_Reference4Ideal := by
  intro m g m' g' _ hagree
  refine ⟨fun c => Cert.Reference4Ideal.Read.val_main_v84 (F := Ideal) (Cert.Proof.OutKernel4Ideal.A0 m c) (Cert.Proof.OutKernel4Ideal.A1 m c) (Cert.Proof.OutKernel4Ideal.A2 m c) (Cert.Proof.OutKernel4Ideal.A3 m c) (Cert.Proof.OutKernel4Ideal.A4 m c) (Cert.Proof.OutKernel4Ideal.A5 m c) (Cert.Proof.OutKernel4Ideal.A6 m c) (Cert.Proof.OutKernel4Ideal.A7 m c) (Cert.Proof.OutKernel4Ideal.A8 m c) (Cert.Proof.OutKernel4Ideal.A9 m c), ?_, ?_⟩
  · exact (θ_run Cert.Kernel4Ideal.defs _ _).mono (fun r h c => ⟨(h c).1.trans (Cert.Proof.OutKernel4Ideal.final m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨a0, a1, a2, a3, a4, a5, a6, a7, a8, a9⟩ := hagree c
    rw [Cert.Reference4Ideal.Read.val_main_v84_eq]
    exact congr (congr (congr (congr (congr (congr (congr (congr (congr (congrArg _ a0) a1) a2) a3) a4) a5) a6) a7) a8) a9

end Cert.Proof.Out

end
-- ==== Proof.InProj.Outs.lean ====
module

public import proofs.«01_k».proof.Proof.Gen.Kernel5Ideal.Frame
public import proofs.«01_k».proof.Proof.Gen.Kernel5Ideal.Value
public import proofs.«01_k».proof.Proof.Gen.Reference5Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI

/-! What a grid point of the input projection leaves in each block it writes. -/

@[expose] public section

set_option maxRecDepth 16384

noncomputable section

namespace Cert.Proof.InProjKernel5Ideal

open Cert.Kernel5Ideal Cert.Kernel5Ideal.Gen
open Idealize.ShloMosaic Idealize.ShloMosaic.TcCoe Idealize.ShloMosaic.Tactic Idealize.SL.Sem
open Idealize.ShloMosaic.ValueIdx
open Idealize.ShloMosaic.Pipeline (Dat Cfg Window)

variable {F : FTy → Type} [FloatOps F]

/-- A block of the query rows, from the blocks of the arguments. -/
def o8 (x0 : Vec F S512x2048 .f32) (x1 x2 : Vec F S1x2048 .f32) (x3 x4 : Vec F S2048x3072 .bf16) : FVec F S512x1024 .bf16 :=
  k0_pay3 x0 x1 x2 (View.ld x3 (Rect.unit (s := S2048x3072) ![0, 0] S2048x1024.size inb_S2048x3072_S2048x1024_0_0))

/-- A block of the key rows, from the blocks of the arguments. -/
def o9 (x0 : Vec F S512x2048 .f32) (x1 x2 : Vec F S1x2048 .f32) (x3 x4 : Vec F S2048x3072 .bf16) : FVec F S512x1024 .bf16 :=
  k0_pay4 x0 x1 x2 (View.ld x3 (Rect.unit (s := S2048x3072) ![0, 1024] S2048x1024.size inb_S2048x3072_S2048x1024_0_1024))

/-- A block of the value rows, from the blocks of the arguments. -/
def o10 (x0 : Vec F S512x2048 .f32) (x1 x2 : Vec F S1x2048 .f32) (x3 x4 : Vec F S2048x3072 .bf16) : FVec F S512x1024 .bf16 :=
  k0_pay6 (k0_pay2 x0 x1 x2) (View.ld x3 (Rect.unit (s := S2048x3072) ![0, 2048] S2048x1024.size inb_S2048x3072_S2048x1024_0_2048))

/-- A block of the query of the second group rows, from the blocks of the arguments. -/
def o11 (x0 : Vec F S512x2048 .f32) (x1 x2 : Vec F S1x2048 .f32) (x3 x4 : Vec F S2048x3072 .bf16) : FVec F S512x1024 .bf16 :=
  k0_pay7 (k0_pay2 x0 x1 x2) (View.ld x4 (Rect.unit (s := S2048x3072) ![0, 0] S2048x1024.size inb_S2048x3072_S2048x1024_0_0))

/-- A block of the key of the second group rows, from the blocks of the arguments. -/
def o12 (x0 : Vec F S512x2048 .f32) (x1 x2 : Vec F S1x2048 .f32) (x3 x4 : Vec F S2048x3072 .bf16) : FVec F S512x1024 .bf16 :=
  k0_pay8 (k0_pay2 x0 x1 x2) (View.ld x4 (Rect.unit (s := S2048x3072) ![0, 1024] S2048x1024.size inb_S2048x3072_S2048x1024_0_1024))

/-- A block of the value of the second group rows, from the blocks of the arguments. -/
def o13 (x0 : Vec F S512x2048 .f32) (x1 x2 : Vec F S1x2048 .f32) (x3 x4 : Vec F S2048x3072 .bf16) : FVec F S512x1024 .bf16 :=
  k0_pay9 (k0_pay2 x0 x1 x2) (View.ld x4 (Rect.unit (s := S2048x3072) ![0, 2048] S2048x1024.size inb_S2048x3072_S2048x1024_0_2048))

variable (m : (ℓ : Loc nD τ sig) → Buf (Elt F) ℓ) (c : Dev nD)

/-- What a grid point leaves in this output's block, whichever way its conditional goes. -/
theorem at8 (t : Fin cfg0.N) : (dats m 0 c).after 8 t = o8 (iblk m c 0 t) (iblk m c 1 t) (iblk m c 2 t) (iblk m c 3 t) (iblk m c 4 t) := by
  rw [after0_8]
  by_cases h0 : t.val % 32 = 0
  · rw [outsAt0_A m c t h0]
    unfold o8
    frame_out
  · rw [outsAt0_B m c t h0]
    unfold o8
    frame_out

/-- What a grid point leaves in this output's block, whichever way its conditional goes. -/
theorem at9 (t : Fin cfg0.N) : (dats m 0 c).after 9 t = o9 (iblk m c 0 t) (iblk m c 1 t) (iblk m c 2 t) (iblk m c 3 t) (iblk m c 4 t) := by
  rw [after0_9]
  by_cases h0 : t.val % 32 = 0
  · rw [outsAt0_A m c t h0]
    unfold o9
    frame_out
  · rw [outsAt0_B m c t h0]
    unfold o9
    frame_out

/-- What a grid point leaves in this output's block, whichever way its conditional goes. -/
theorem at10 (t : Fin cfg0.N) : (dats m 0 c).after 10 t = o10 (iblk m c 0 t) (iblk m c 1 t) (iblk m c 2 t) (iblk m c 3 t) (iblk m c 4 t) := by
  rw [after0_10]
  by_cases h0 : t.val % 32 = 0
  · rw [outsAt0_A m c t h0]
    unfold o10
    frame_out
  · rw [outsAt0_B m c t h0]
    unfold o10
    frame_out

/-- What a grid point leaves in this output's block, whichever way its conditional goes. -/
theorem at11 (t : Fin cfg0.N) : (dats m 0 c).after 11 t = o11 (iblk m c 0 t) (iblk m c 1 t) (iblk m c 2 t) (iblk m c 3 t) (iblk m c 4 t) := by
  rw [after0_11]
  by_cases h0 : t.val % 32 = 0
  · rw [outsAt0_A m c t h0]
    unfold o11
    frame_out
  · rw [outsAt0_B m c t h0]
    unfold o11
    frame_out

/-- What a grid point leaves in this output's block, whichever way its conditional goes. -/
theorem at12 (t : Fin cfg0.N) : (dats m 0 c).after 12 t = o12 (iblk m c 0 t) (iblk m c 1 t) (iblk m c 2 t) (iblk m c 3 t) (iblk m c 4 t) := by
  rw [after0_12]
  by_cases h0 : t.val % 32 = 0
  · rw [outsAt0_A m c t h0]
    unfold o12
    frame_out
  · rw [outsAt0_B m c t h0]
    unfold o12
    frame_out

/-- What a grid point leaves in this output's block, whichever way its conditional goes. -/
theorem at13 (t : Fin cfg0.N) : (dats m 0 c).after 13 t = o13 (iblk m c 0 t) (iblk m c 1 t) (iblk m c 2 t) (iblk m c 3 t) (iblk m c 4 t) := by
  rw [after0_13]
  by_cases h0 : t.val % 32 = 0
  · rw [outsAt0_A m c t h0]
    unfold o13
    frame_out
  · rw [outsAt0_B m c t h0]
    unfold o13
    frame_out

end Cert.Proof.InProjKernel5Ideal

end
-- ==== Proof.InProj.Pay.lean ====
module

public import proofs.«01_k».proof.Proof.Gen.Kernel5Ideal.Frame
public import proofs.«01_k».proof.Proof.Gen.Kernel5Ideal.Value
public import proofs.«01_k».proof.Proof.Gen.Reference5Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.InProj.Outs
public import proofs.«01_k».proof.Proof.Ffn.Spec
public import proofs.«01_k».proof.Proof.Out.Pay

/-! The input projection's body read at an entry. -/

@[expose] public section

set_option maxRecDepth 16384

noncomputable section

namespace Cert.Proof.InProjKernel5Ideal

open Cert.Kernel5Ideal Cert.Kernel5Ideal.Gen
open Idealize.ShloMosaic Idealize.ShloMosaic.TcCoe Idealize.ShloMosaic.Tactic Idealize.SL.Sem
open Idealize.ShloMosaic.ValueIdx
open Idealize.ShloMosaic.Pipeline (Dat Cfg Window)
open Cert.Proof.FoxKernelIdeal (mm_plain sm_apply bc_a1 sc_self)
open Cert.Proof.OutKernel4Ideal (ln_at sub_at)
open Cert.Proof.FfnSpec

set_option backward.isDefEq.respectTransparency.types false

theorem mm5 (lhs : FVec Ideal S512x2048 .bf16) (rhs : FVec Ideal S2048x1024 .bf16) (r : Fin 512) (c : Fin 1024) :
    matmul dot_S512x2048_S2048x1024_S512x1024_1_0_0_1_n_n none lhs rhs (constant S512x1024 .f32 0x00000000#32) (ValueIdx.ix2 r c) = ∑ k : Fin 2048, lhs (ValueIdx.ix2 r k) * rhs (ValueIdx.ix2 k c) :=
  mm_plain _ rfl lhs rhs r c

/-- The normalised rows of a block. -/
theorem pay2_at (x0 : Vec Ideal S512x2048 .f32) (x1 x2 : Vec Ideal S1x2048 .f32) (r : Fin 512) (k : Fin 2048) :
    k0_pay2 x0 x1 x2 (ValueIdx.ix2 r k) = ln (fun k => x0 (ValueIdx.ix2 r k)) (x1 (ValueIdx.ix2 0 k)) (x2 (ValueIdx.ix2 0 k)) k := by
  unfold k0_pay2
  refine ln_at _ _ _ _ (fun k => x0 (ValueIdx.ix2 r k)) _ _ r k (fun k => ?_) (fun k => rfl) ((broadcastTo_1b_ab_apply _ _ _ _).trans (sc_self _ _ _)) ((broadcastTo_1b_ab_apply _ _ _ _).trans (sc_self _ _ _)) _ _ _ _ _
  exact sub_at _ (fun k => x0 (ValueIdx.ix2 r k)) r (fun k => sc_self _ _ _) _ _ _ _ _ k

/-- The rows projected by some columns of the matrix. -/
theorem proj_at (x0 : Vec Ideal S512x2048 .f32) (x1 x2 : Vec Ideal S1x2048 .f32) (w : FVec Ideal S2048x1024 .bf16) (u : Fin 2048 → EReal) (r : Fin 512) (d : Fin 1024) (h : ∀ k, w (ValueIdx.ix2 k d) = u k) :
    matmul dot_S512x2048_S2048x1024_S512x1024_1_0_0_1_n_n none (k0_pay2 x0 x1 x2) w (constant S512x1024 .f32 0x00000000#32) (ValueIdx.ix2 r d)
      = ∑ k : Fin 2048, ln (fun k => x0 (ValueIdx.ix2 r k)) (x1 (ValueIdx.ix2 0 k)) (x2 (ValueIdx.ix2 0 k)) k * u k := by
  refine (mm5 _ _ r d).trans ?_
  exact Finset.sum_congr rfl fun k _ => congrArg₂ (fun x y : EReal => x * y) (pay2_at x0 x1 x2 r k) (h k)

variable (x0 : Vec Ideal S512x2048 .f32) (x1 x2 : Vec Ideal S1x2048 .f32) (x3 x4 : Vec Ideal S2048x3072 .bf16) (r : Fin 512) (d : Fin 1024)

theorem o8_at : o8 x0 x1 x2 x3 x4 (ValueIdx.ix2 r d) = (∑ k : Fin 2048, ln (fun k => x0 (ValueIdx.ix2 r k)) (x1 (ValueIdx.ix2 0 k)) (x2 (ValueIdx.ix2 0 k)) k * x3 (ValueIdx.ix2 k ⟨d.val, by omega⟩)) * Ideal.ofBits .f32 0x3D800000#32 := by
  unfold o8 k0_pay3
  refine congrArg (fun y : EReal => y * Ideal.ofBits .f32 0x3D800000#32) (proj_at x0 x1 x2 _ (fun k => x3 (ValueIdx.ix2 k ⟨d.val, by omega⟩)) r d fun k => ?_)
  refine (sc_self _ _ _).trans ?_
  exact View.ld_unit_apply_of x3 _ _ _ (ValueIdx.ix2 k d) (ValueIdx.ix2 k ⟨d.val, by omega⟩) fun a => match a with
    | ⟨0, _⟩ => (Nat.zero_add _).symm
    | ⟨1, _⟩ => (Nat.zero_add _).symm

theorem o9_at : o9 x0 x1 x2 x3 x4 (ValueIdx.ix2 r d) = ∑ k : Fin 2048, ln (fun k => x0 (ValueIdx.ix2 r k)) (x1 (ValueIdx.ix2 0 k)) (x2 (ValueIdx.ix2 0 k)) k * x3 (ValueIdx.ix2 k ⟨1024 + d.val, by omega⟩) := by
  unfold o9 k0_pay4
  refine (proj_at x0 x1 x2 _ (fun k => x3 (ValueIdx.ix2 k ⟨1024 + d.val, by omega⟩)) r d fun k => ?_)
  refine (sc_self _ _ _).trans ?_
  exact View.ld_unit_apply_of x3 _ _ _ (ValueIdx.ix2 k d) (ValueIdx.ix2 k ⟨1024 + d.val, by omega⟩) fun a => match a with
    | ⟨0, _⟩ => (Nat.zero_add _).symm
    | ⟨1, _⟩ => rfl

theorem o10_at : o10 x0 x1 x2 x3 x4 (ValueIdx.ix2 r d) = ∑ k : Fin 2048, ln (fun k => x0 (ValueIdx.ix2 r k)) (x1 (ValueIdx.ix2 0 k)) (x2 (ValueIdx.ix2 0 k)) k * x3 (ValueIdx.ix2 k ⟨2048 + d.val, by omega⟩) := by
  unfold o10 k0_pay6
  refine (proj_at x0 x1 x2 _ (fun k => x3 (ValueIdx.ix2 k ⟨2048 + d.val, by omega⟩)) r d fun k => ?_)
  refine (sc_self _ _ _).trans ?_
  exact View.ld_unit_apply_of x3 _ _ _ (ValueIdx.ix2 k d) (ValueIdx.ix2 k ⟨2048 + d.val, by omega⟩) fun a => match a with
    | ⟨0, _⟩ => (Nat.zero_add _).symm
    | ⟨1, _⟩ => rfl

theorem o11_at : o11 x0 x1 x2 x3 x4 (ValueIdx.ix2 r d) = (∑ k : Fin 2048, ln (fun k => x0 (ValueIdx.ix2 r k)) (x1 (ValueIdx.ix2 0 k)) (x2 (ValueIdx.ix2 0 k)) k * x4 (ValueIdx.ix2 k ⟨d.val, by omega⟩)) * Ideal.ofBits .f32 0x3D800000#32 := by
  unfold o11 k0_pay7
  refine congrArg (fun y : EReal => y * Ideal.ofBits .f32 0x3D800000#32) (proj_at x0 x1 x2 _ (fun k => x4 (ValueIdx.ix2 k ⟨d.val, by omega⟩)) r d fun k => ?_)
  refine (sc_self _ _ _).trans ?_
  exact View.ld_unit_apply_of x4 _ _ _ (ValueIdx.ix2 k d) (ValueIdx.ix2 k ⟨d.val, by omega⟩) fun a => match a with
    | ⟨0, _⟩ => (Nat.zero_add _).symm
    | ⟨1, _⟩ => (Nat.zero_add _).symm

theorem o12_at : o12 x0 x1 x2 x3 x4 (ValueIdx.ix2 r d) = ∑ k : Fin 2048, ln (fun k => x0 (ValueIdx.ix2 r k)) (x1 (ValueIdx.ix2 0 k)) (x2 (ValueIdx.ix2 0 k)) k * x4 (ValueIdx.ix2 k ⟨1024 + d.val, by omega⟩) := by
  unfold o12 k0_pay8
  refine (proj_at x0 x1 x2 _ (fun k => x4 (ValueIdx.ix2 k ⟨1024 + d.val, by omega⟩)) r d fun k => ?_)
  refine (sc_self _ _ _).trans ?_
  exact View.ld_unit_apply_of x4 _ _ _ (ValueIdx.ix2 k d) (ValueIdx.ix2 k ⟨1024 + d.val, by omega⟩) fun a => match a with
    | ⟨0, _⟩ => (Nat.zero_add _).symm
    | ⟨1, _⟩ => rfl

theorem o13_at : o13 x0 x1 x2 x3 x4 (ValueIdx.ix2 r d) = ∑ k : Fin 2048, ln (fun k => x0 (ValueIdx.ix2 r k)) (x1 (ValueIdx.ix2 0 k)) (x2 (ValueIdx.ix2 0 k)) k * x4 (ValueIdx.ix2 k ⟨2048 + d.val, by omega⟩) := by
  unfold o13 k0_pay9
  refine (proj_at x0 x1 x2 _ (fun k => x4 (ValueIdx.ix2 k ⟨2048 + d.val, by omega⟩)) r d fun k => ?_)
  refine (sc_self _ _ _).trans ?_
  exact View.ld_unit_apply_of x4 _ _ _ (ValueIdx.ix2 k d) (ValueIdx.ix2 k ⟨2048 + d.val, by omega⟩) fun a => match a with
    | ⟨0, _⟩ => (Nat.zero_add _).symm
    | ⟨1, _⟩ => rfl

end Cert.Proof.InProjKernel5Ideal

end
-- ==== Proof.InProj.Blocks.lean ====
module

public import proofs.«01_k».proof.Proof.Gen.Kernel5Ideal.Frame
public import proofs.«01_k».proof.Proof.Gen.Kernel5Ideal.Value
public import proofs.«01_k».proof.Proof.Gen.Reference5Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.Ffn.Spec

/-! The blocks the input projection's body reads, from the arguments. -/

@[expose] public section

set_option maxRecDepth 16384

noncomputable section

namespace Cert.Proof.InProjKernel5Ideal

open Cert.Kernel5Ideal Cert.Kernel5Ideal.Gen
open Idealize.ShloMosaic Idealize.ShloMosaic.TcCoe Idealize.ShloMosaic.Tactic Idealize.SL.Sem
open Idealize.ShloMosaic.ValueIdx
open Idealize.ShloMosaic.Pipeline (Dat Cfg Window)
open Cert.Proof.FoxKernelIdeal (mm_plain sm_apply bc_a1 sc_self)
open Cert.Proof.FfnSpec

set_option backward.isDefEq.respectTransparency.types false

variable (m : (ℓ : Loc nD τ sig) → Buf (Elt Ideal) ℓ) (c : Dev nD)

/-- The arguments, as arrays of extended reals. -/
abbrev A0 : S2x16384x2048.Idx → EReal := m ((c.tc : Thread nD τ).loc main_arg0)
abbrev A1 : S2048.Idx → EReal := m ((c.tc : Thread nD τ).loc main_arg1)
abbrev A2 : S2048.Idx → EReal := m ((c.tc : Thread nD τ).loc main_arg2)
abbrev A3 : S1x2048x6148.Idx → EReal := m ((c.tc : Thread nD τ).loc main_arg3)

theorem t0_lt (t : Fin grid0.N) : (grid0.coords t 0).val < 64 := by have := (grid0.coords t 0).isLt; exact this
/-- The row of the flattened sequence at a point. -/
def tn (t : Fin grid0.N) (r : Fin 512) : Fin 32768 := ⟨512 * (grid0.coords t 0).val + r.val, by have := t0_lt t; omega⟩

theorem x0 : ∀ t : Fin cfg0.N, win0_0.index t = ![(grid0.coords t 0).val, 0] := (by decide +kernel : ∀ t : Fin grid0.N, _)
theorem x1 : ∀ t : Fin cfg0.N, win0_1.index t = ![0, 0] := (by decide +kernel : ∀ t : Fin grid0.N, _)
theorem x2 : ∀ t : Fin cfg0.N, win0_2.index t = ![0, 0] := (by decide +kernel : ∀ t : Fin grid0.N, _)
theorem x3 : ∀ t : Fin cfg0.N, win0_3.index t = ![0, 0] := (by decide +kernel : ∀ t : Fin grid0.N, _)
theorem x4 : ∀ t : Fin cfg0.N, win0_4.index t = ![0, 0] := (by decide +kernel : ∀ t : Fin grid0.N, _)
theorem x8 : ∀ t : Fin cfg0.N, win0_8.index t = ![(grid0.coords t 0).val, 0] := (by decide +kernel : ∀ t : Fin grid0.N, _)
theorem x9 : ∀ t : Fin cfg0.N, win0_9.index t = ![(grid0.coords t 0).val, 0] := (by decide +kernel : ∀ t : Fin grid0.N, _)
theorem x10 : ∀ t : Fin cfg0.N, win0_10.index t = ![(grid0.coords t 0).val, 0] := (by decide +kernel : ∀ t : Fin grid0.N, _)
theorem x11 : ∀ t : Fin cfg0.N, win0_11.index t = ![(grid0.coords t 0).val, 0] := (by decide +kernel : ∀ t : Fin grid0.N, _)
theorem x12 : ∀ t : Fin cfg0.N, win0_12.index t = ![(grid0.coords t 0).val, 0] := (by decide +kernel : ∀ t : Fin grid0.N, _)
theorem x13 : ∀ t : Fin cfg0.N, win0_13.index t = ![(grid0.coords t 0).val, 0] := (by decide +kernel : ∀ t : Fin grid0.N, _)

theorem b0 (t : Fin cfg0.N) (r : Fin 512) (k : Fin 2048) :
    iblk m c 0 t (ValueIdx.ix2 r k) = A0 m c (ValueIdx.ix3 ⟨(tn t r).val / 16384, by omega⟩ ⟨(tn t r).val % 16384, by omega⟩ k) := by
  have hix : ((win0_0.blk t).view.emb (ValueIdx.ix2 r k)) = (ValueIdx.ix2 (tn t r) k : S32768x2048.Idx) := by
    funext a; refine Fin.ext ?_
    blk_simp [x0]
    match a with
    | ⟨0, _⟩ => show (grid0.coords t 0).val * 512 + r.val = 512 * (grid0.coords t 0).val + r.val; omega
    | ⟨1, _⟩ => show 0 * 2048 + k.val = k.val; omega
  blk_simp [iblk]
  rw [hix]
  have hV : V m c main_v9 = shapeCast S32768x2048 (A0 m c) shapeCasts_S2x16384x2048_S32768x2048 := by
    entry_read; rfl
  rw [hV]
  refine shapeCast_apply (A0 m c) shapeCasts_S2x16384x2048_S32768x2048 _ _ ?_
  rw [Shape.rowMajor_val_three, Shape.rowMajor_val_two]
  show ((tn t r).val / 16384 * 16384 + (tn t r).val % 16384) * 2048 + k.val = (tn t r).val * 2048 + k.val
  rw [Nat.div_add_mod' (tn t r).val 16384]

theorem b1 (t : Fin cfg0.N) (d : Fin 2048) : iblk m c 1 t (ValueIdx.ix2 0 d) = A1 m c (ValueIdx.ix1 d) := by
  have hix : ((win0_1.blk t).view.emb (ValueIdx.ix2 0 d)) = (ValueIdx.ix2 0 d : S1x2048.Idx) := by
    funext a; refine Fin.ext ?_
    blk_simp [x1]
    match a with
    | ⟨0, _⟩ => rfl
    | ⟨1, _⟩ => show 0 * 2048 + d.val = d.val; omega
  blk_simp [iblk]
  rw [hix]
  have hV : V m c main_v10 = shapeCast S1x2048 (A1 m c) shapeCasts_S2048_S1x2048 := by
    entry_read; rfl
  rw [hV]
  refine shapeCast_apply (A1 m c) shapeCasts_S2048_S1x2048 _ _ ?_
  rw [Shape.rowMajor_val_one, Shape.rowMajor_val_two]
  show d.val = 0 * 2048 + d.val; omega

theorem b2 (t : Fin cfg0.N) (d : Fin 2048) : iblk m c 2 t (ValueIdx.ix2 0 d) = A2 m c (ValueIdx.ix1 d) := by
  have hix : ((win0_2.blk t).view.emb (ValueIdx.ix2 0 d)) = (ValueIdx.ix2 0 d : S1x2048.Idx) := by
    funext a; refine Fin.ext ?_
    blk_simp [x2]
    match a with
    | ⟨0, _⟩ => rfl
    | ⟨1, _⟩ => show 0 * 2048 + d.val = d.val; omega
  blk_simp [iblk]
  rw [hix]
  have hV : V m c main_v11 = shapeCast S1x2048 (A2 m c) shapeCasts_S2048_S1x2048 := by
    entry_read; rfl
  rw [hV]
  refine shapeCast_apply (A2 m c) shapeCasts_S2048_S1x2048 _ _ ?_
  rw [Shape.rowMajor_val_one, Shape.rowMajor_val_two]
  show d.val = 0 * 2048 + d.val; omega

theorem b3 (t : Fin cfg0.N) (k : Fin 2048) (d : Fin 3072) : iblk m c 3 t (ValueIdx.ix2 k d) = A3 m c (ValueIdx.ix3 0 k ⟨d.val, by omega⟩) := by
  have hix : ((win0_3.blk t).view.emb (ValueIdx.ix2 k d)) = (ValueIdx.ix2 k d : S2048x3072.Idx) := by
    funext a; refine Fin.ext ?_
    blk_simp [x3]
    match a with
    | ⟨0, _⟩ => show 0 * 2048 + k.val = k.val; omega
    | ⟨1, _⟩ => show 0 * 3072 + d.val = d.val; omega
  blk_simp [iblk]
  rw [hix]
  have hV : V m c main_v2 = extractStridedSlice S2048x3072 ![0, 0] (truncf (F := Ideal) .bf16 (shapeCast S2048x6148 (A3 m c) shapeCasts_S1x2048x6148_S2048x6148) bitsLt_bf16_f32) slices_S2048x6148_S2048x3072_0_0 := by
    entry_read; rfl
  rw [hV]
  refine (extractStridedSlice_apply ![0, 0] (truncf (F := Ideal) .bf16 (shapeCast S2048x6148 (A3 m c) shapeCasts_S1x2048x6148_S2048x6148) bitsLt_bf16_f32) slices_S2048x6148_S2048x3072_0_0 (ValueIdx.ix2 k d) (ValueIdx.ix2 k ⟨d.val, by omega⟩) (fun a => match a with
    | ⟨0, _⟩ => by show k.val = 0 + k.val; omega
    | ⟨1, _⟩ => by show d.val = 0 + d.val; omega)).trans ?_
  refine shapeCast_apply (A3 m c) shapeCasts_S1x2048x6148_S2048x6148 _ _ ?_
  rw [Shape.rowMajor_val_three, Shape.rowMajor_val_two]
  show (0 * 2048 + k.val) * 6148 + (d.val) = k.val * 6148 + (d.val)
  rw [Nat.zero_mul, Nat.zero_add]

theorem b4 (t : Fin cfg0.N) (k : Fin 2048) (d : Fin 3072) : iblk m c 4 t (ValueIdx.ix2 k d) = A3 m c (ValueIdx.ix3 0 k ⟨3076 + d.val, by omega⟩) := by
  have hix : ((win0_4.blk t).view.emb (ValueIdx.ix2 k d)) = (ValueIdx.ix2 k d : S2048x3072.Idx) := by
    funext a; refine Fin.ext ?_
    blk_simp [x4]
    match a with
    | ⟨0, _⟩ => show 0 * 2048 + k.val = k.val; omega
    | ⟨1, _⟩ => show 0 * 3072 + d.val = d.val; omega
  blk_simp [iblk]
  rw [hix]
  have hV : V m c main_v3 = extractStridedSlice S2048x3072 ![0, 3076] (truncf (F := Ideal) .bf16 (shapeCast S2048x6148 (A3 m c) shapeCasts_S1x2048x6148_S2048x6148) bitsLt_bf16_f32) slices_S2048x6148_S2048x3072_0_3076 := by
    entry_read; rfl
  rw [hV]
  refine (extractStridedSlice_apply ![0, 3076] (truncf (F := Ideal) .bf16 (shapeCast S2048x6148 (A3 m c) shapeCasts_S1x2048x6148_S2048x6148) bitsLt_bf16_f32) slices_S2048x6148_S2048x3072_0_3076 (ValueIdx.ix2 k d) (ValueIdx.ix2 k ⟨3076 + d.val, by omega⟩) (fun a => match a with
    | ⟨0, _⟩ => by show k.val = 0 + k.val; omega
    | ⟨1, _⟩ => by show 3076 + d.val = 3076 + d.val; omega)).trans ?_
  refine shapeCast_apply (A3 m c) shapeCasts_S1x2048x6148_S2048x6148 _ _ ?_
  rw [Shape.rowMajor_val_three, Shape.rowMajor_val_two]
  show (0 * 2048 + k.val) * 6148 + (3076 + d.val) = k.val * 6148 + (3076 + d.val)
  rw [Nat.zero_mul, Nat.zero_add]

end Cert.Proof.InProjKernel5Ideal

end
-- ==== Proof.InProj.Ref.lean ====
module

public import proofs.«01_k».proof.Proof.Gen.Kernel5Ideal.Frame
public import proofs.«01_k».proof.Proof.Gen.Kernel5Ideal.Value
public import proofs.«01_k».proof.Proof.Gen.Reference5Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.Ffn.Spec
public import proofs.«01_k».proof.Proof.Ffn.Ref

/-! The input projection's reference read at an entry. -/

@[expose] public section

set_option maxRecDepth 16384

noncomputable section

namespace Cert.Proof.InProjRef

open Cert.Reference5Ideal Cert.Reference5Ideal.Gen Cert.Reference5Ideal.Read
open Idealize.ShloMosaic Idealize.ShloMosaic.ValueIdx
open Cert.Proof.FfnSpec
open Cert.Proof.FfnRef (i2 i3)

variable (a0 : S2x16384x2048.Idx → EReal) (a1 a2 : S2048.Idx → EReal) (a3 : S1x2048x6148.Idx → EReal) (b : Fin 2) (r : Fin 16384)

theorem zero (s : S_.Idx) (y : EReal) : (val_main_cst (F := Ideal) s : EReal) + y = y := by
  rw [val_main_cst_apply]
  show Ideal.ofBits .f32 0x00000000#32 + y = y
  rw [Ideal.ofBits_zero_f32, zero_add]
theorem zero_1 (s : S_.Idx) (y : EReal) : (val_main_cst_1 (F := Ideal) s : EReal) + y = y := by
  rw [val_main_cst_1_apply]
  show Ideal.ofBits .f32 0x00000000#32 + y = y
  rw [Ideal.ofBits_zero_f32, zero_add]

theorem v3_at (u : Fin 1) : val_main_v3 (F := Ideal) a0 (ValueIdx.ix3 b r u) = mean (fun k => a0 (ValueIdx.ix3 b r k)) := by
  rw [val_main_v3_apply, val_main_v2_apply, val_main_v1_apply, val_main_v0_apply, zero]
  refine congrArg (fun s : EReal => Ideal.div s (Ideal.ofBits .f32 0x45000000#32)) ?_
  refine Finset.sum_congr rfl fun k _ => ?_
  exact congrArg a0 (i3 _ b r k rfl rfl rfl)

theorem v5_at (d : Fin 2048) : val_main_v5 (F := Ideal) a0 (ValueIdx.ix3 b r d) = (fun k => a0 (ValueIdx.ix3 b r k)) d - mean (fun k => a0 (ValueIdx.ix3 b r k)) := by
  rw [val_main_v5_apply, val_main_v4_apply, ← v3_at a0 b r 0]
  exact congrArg (fun i => (fun k => a0 (ValueIdx.ix3 b r k)) d - val_main_v3 (F := Ideal) a0 i) (i3 _ b r 0 rfl rfl rfl)

theorem v12_at (d : Fin 2048) : val_main_v12 (F := Ideal) a0 (ValueIdx.ix3 b r d) = (fun k => a0 (ValueIdx.ix3 b r k)) d - mean (fun k => a0 (ValueIdx.ix3 b r k)) := by
  rw [val_main_v12_apply, val_main_v11_apply, ← v3_at a0 b r 0]
  exact congrArg (fun i => (fun k => a0 (ValueIdx.ix3 b r k)) d - val_main_v3 (F := Ideal) a0 i) (i3 _ b r 0 rfl rfl rfl)

theorem v10_at (u : Fin 1) : val_main_v10 (F := Ideal) a0 (ValueIdx.ix3 b r u)
    = mean (fun k => ((fun k => a0 (ValueIdx.ix3 b r k)) k - mean (fun k => a0 (ValueIdx.ix3 b r k))) * ((fun k => a0 (ValueIdx.ix3 b r k)) k - mean (fun k => a0 (ValueIdx.ix3 b r k)))) := by
  rw [val_main_v10_apply, val_main_v9_apply, val_main_v8_apply, val_main_v7_apply]
  refine congrArg (fun s : EReal => Ideal.div s (Ideal.ofBits .f32 0x45000000#32)) ?_
  refine (zero_1 _ _).trans ?_
  refine Finset.sum_congr rfl fun k _ => ?_
  rw [val_main_v6_apply]
  have e : val_main_v5 (F := Ideal) a0 (idx_main_v7 (idx_main_v8 (ValueIdx.ix3 b r u)) k) = (fun k => a0 (ValueIdx.ix3 b r k)) k - mean (fun k => a0 (ValueIdx.ix3 b r k)) := by
    rw [← v5_at]
    exact congrArg (val_main_v5 (F := Ideal) a0) (i3 _ b r k rfl rfl rfl)
  rw [e]; rfl

theorem v23_at (d : Fin 2048) : val_main_v23 (F := Ideal) a0 a1 a2 (ValueIdx.ix3 b r d)
    = ln (fun k => a0 (ValueIdx.ix3 b r k)) ((fun d => a1 (ValueIdx.ix1 d)) d) ((fun d => a2 (ValueIdx.ix1 d)) d) d := by
  rw [val_main_v23_apply, val_main_v22_apply, val_main_v21_apply, val_main_v20_apply, val_main_v19_apply, val_main_v18_apply, val_main_v17_apply, val_main_v16_apply, val_main_v15_apply, val_main_v14_apply, val_main_v13_apply, v12_at]
  refine congrArg₂ (fun x y : EReal => x + y) ?_ (congrArg a2 (by funext a; match a with | ⟨0, _⟩ => rfl))
  refine congrArg₂ (fun x y : EReal => x * y) ?_ (congrArg a1 (by funext a; match a with | ⟨0, _⟩ => rfl))
  refine congrArg (fun x : EReal => ((fun k => a0 (ValueIdx.ix3 b r k)) d - mean (fun k => a0 (ValueIdx.ix3 b r k))) * Ideal.rsqrt (x + Ideal.ofBits .f32 0x3727C5AC#32)) ?_
  rw [← v10_at a0 b r 0]
  exact congrArg (val_main_v10 (F := Ideal) a0) (i3 _ b r 0 rfl rfl rfl)

/-- Column `n` of the projected row. -/
theorem v25_at (n : Fin 6148) : val_main_v25 (F := Ideal) a0 a1 a2 a3 (ValueIdx.ix3 b r n)
    = ∑ k : Fin 2048, ln (fun k => a0 (ValueIdx.ix3 b r k)) (a1 (ValueIdx.ix1 k)) (a2 (ValueIdx.ix1 k)) k * a3 (ValueIdx.ix3 0 k n) := by
  rw [val_main_v25_apply]
  refine Finset.sum_congr rfl fun k _ => congrArg₂ (fun x y : EReal => x * y) ?_ ?_
  · rw [← v23_at]
    exact congrArg (val_main_v23 (F := Ideal) a0 a1 a2) (i3 _ b r k rfl rfl rfl)
  · rw [val_main_v24_apply]
    refine congrArg a3 (i3 _ 0 k n rfl ?_ ?_)
    · show (k.val * 6148 + n.val) / 6148 % 2048 = k.val; omega
    · show (k.val * 6148 + n.val) % 6148 = n.val; omega

theorem ref8 (n : Fin 32768) (d : Fin 1024) : val_main_v36 (F := Ideal) a0 a1 a2 a3 (ValueIdx.ix2 n d)
    = (∑ k : Fin 2048, ln (fun k => a0 (ValueIdx.ix3 ⟨n.val / 16384, by omega⟩ ⟨n.val % 16384, by omega⟩ k)) (a1 (ValueIdx.ix1 k)) (a2 (ValueIdx.ix1 k)) k * a3 (ValueIdx.ix3 0 k ⟨d.val, by omega⟩)) * Ideal.ofBits .f32 0x3D800000#32 := by
  rw [val_main_v36_apply, val_main_v35_apply, val_main_v34_apply, val_main_v33_apply, val_main_cst_4_apply, val_main_v26_apply, ← v25_at a0 a1 a2 a3 ⟨n.val / 16384, by omega⟩ ⟨n.val % 16384, by omega⟩ ⟨d.val, by omega⟩]
  refine congrArg (fun y : EReal => y * Ideal.ofBits .f32 0x3D800000#32) (congrArg (val_main_v25 (F := Ideal) a0 a1 a2 a3) (i3 _ _ _ ⟨d.val, by omega⟩ ?_ ?_ ?_))
  · show (n.val * 1024 + d.val) / 16777216 = n.val / 16384; omega
  · show (n.val * 1024 + d.val) / 1024 % 16384 = n.val % 16384; omega
  · show (n.val * 1024 + d.val) % 1024 = d.val; omega

theorem ref9 (n : Fin 32768) (d : Fin 1024) : val_main_v38 (F := Ideal) a0 a1 a2 a3 (ValueIdx.ix2 n d)
    = ∑ k : Fin 2048, ln (fun k => a0 (ValueIdx.ix3 ⟨n.val / 16384, by omega⟩ ⟨n.val % 16384, by omega⟩ k)) (a1 (ValueIdx.ix1 k)) (a2 (ValueIdx.ix1 k)) k * a3 (ValueIdx.ix3 0 k ⟨1024 + d.val, by omega⟩) := by
  rw [val_main_v38_apply, val_main_v37_apply, val_main_v27_apply, ← v25_at a0 a1 a2 a3 ⟨n.val / 16384, by omega⟩ ⟨n.val % 16384, by omega⟩ ⟨1024 + d.val, by omega⟩]
  refine (congrArg (val_main_v25 (F := Ideal) a0 a1 a2 a3) (i3 _ _ _ ⟨1024 + d.val, by omega⟩ ?_ ?_ ?_))
  · show (n.val * 1024 + d.val) / 16777216 = n.val / 16384; omega
  · show (n.val * 1024 + d.val) / 1024 % 16384 = n.val % 16384; omega
  · show 1024 + (n.val * 1024 + d.val) % 1024 = 1024 + d.val; omega

theorem ref10 (n : Fin 32768) (d : Fin 1024) : val_main_v40 (F := Ideal) a0 a1 a2 a3 (ValueIdx.ix2 n d)
    = ∑ k : Fin 2048, ln (fun k => a0 (ValueIdx.ix3 ⟨n.val / 16384, by omega⟩ ⟨n.val % 16384, by omega⟩ k)) (a1 (ValueIdx.ix1 k)) (a2 (ValueIdx.ix1 k)) k * a3 (ValueIdx.ix3 0 k ⟨2048 + d.val, by omega⟩) := by
  rw [val_main_v40_apply, val_main_v39_apply, val_main_v28_apply, ← v25_at a0 a1 a2 a3 ⟨n.val / 16384, by omega⟩ ⟨n.val % 16384, by omega⟩ ⟨2048 + d.val, by omega⟩]
  refine (congrArg (val_main_v25 (F := Ideal) a0 a1 a2 a3) (i3 _ _ _ ⟨2048 + d.val, by omega⟩ ?_ ?_ ?_))
  · show (n.val * 1024 + d.val) / 16777216 = n.val / 16384; omega
  · show (n.val * 1024 + d.val) / 1024 % 16384 = n.val % 16384; omega
  · show 2048 + (n.val * 1024 + d.val) % 1024 = 2048 + d.val; omega

theorem ref11 (n : Fin 32768) (d : Fin 1024) : val_main_v44 (F := Ideal) a0 a1 a2 a3 (ValueIdx.ix2 n d)
    = (∑ k : Fin 2048, ln (fun k => a0 (ValueIdx.ix3 ⟨n.val / 16384, by omega⟩ ⟨n.val % 16384, by omega⟩ k)) (a1 (ValueIdx.ix1 k)) (a2 (ValueIdx.ix1 k)) k * a3 (ValueIdx.ix3 0 k ⟨3076 + d.val, by omega⟩)) * Ideal.ofBits .f32 0x3D800000#32 := by
  rw [val_main_v44_apply, val_main_v43_apply, val_main_v42_apply, val_main_v41_apply, val_main_cst_5_apply, val_main_v30_apply, ← v25_at a0 a1 a2 a3 ⟨n.val / 16384, by omega⟩ ⟨n.val % 16384, by omega⟩ ⟨3076 + d.val, by omega⟩]
  refine congrArg (fun y : EReal => y * Ideal.ofBits .f32 0x3D800000#32) (congrArg (val_main_v25 (F := Ideal) a0 a1 a2 a3) (i3 _ _ _ ⟨3076 + d.val, by omega⟩ ?_ ?_ ?_))
  · show (n.val * 1024 + d.val) / 16777216 = n.val / 16384; omega
  · show (n.val * 1024 + d.val) / 1024 % 16384 = n.val % 16384; omega
  · show 3076 + (n.val * 1024 + d.val) % 1024 = 3076 + d.val; omega

theorem ref12 (n : Fin 32768) (d : Fin 1024) : val_main_v46 (F := Ideal) a0 a1 a2 a3 (ValueIdx.ix2 n d)
    = ∑ k : Fin 2048, ln (fun k => a0 (ValueIdx.ix3 ⟨n.val / 16384, by omega⟩ ⟨n.val % 16384, by omega⟩ k)) (a1 (ValueIdx.ix1 k)) (a2 (ValueIdx.ix1 k)) k * a3 (ValueIdx.ix3 0 k ⟨4100 + d.val, by omega⟩) := by
  rw [val_main_v46_apply, val_main_v45_apply, val_main_v31_apply, ← v25_at a0 a1 a2 a3 ⟨n.val / 16384, by omega⟩ ⟨n.val % 16384, by omega⟩ ⟨4100 + d.val, by omega⟩]
  refine (congrArg (val_main_v25 (F := Ideal) a0 a1 a2 a3) (i3 _ _ _ ⟨4100 + d.val, by omega⟩ ?_ ?_ ?_))
  · show (n.val * 1024 + d.val) / 16777216 = n.val / 16384; omega
  · show (n.val * 1024 + d.val) / 1024 % 16384 = n.val % 16384; omega
  · show 4100 + (n.val * 1024 + d.val) % 1024 = 4100 + d.val; omega

theorem ref13 (n : Fin 32768) (d : Fin 1024) : val_main_v48 (F := Ideal) a0 a1 a2 a3 (ValueIdx.ix2 n d)
    = ∑ k : Fin 2048, ln (fun k => a0 (ValueIdx.ix3 ⟨n.val / 16384, by omega⟩ ⟨n.val % 16384, by omega⟩ k)) (a1 (ValueIdx.ix1 k)) (a2 (ValueIdx.ix1 k)) k * a3 (ValueIdx.ix3 0 k ⟨5124 + d.val, by omega⟩) := by
  rw [val_main_v48_apply, val_main_v47_apply, val_main_v32_apply, ← v25_at a0 a1 a2 a3 ⟨n.val / 16384, by omega⟩ ⟨n.val % 16384, by omega⟩ ⟨5124 + d.val, by omega⟩]
  refine (congrArg (val_main_v25 (F := Ideal) a0 a1 a2 a3) (i3 _ _ _ ⟨5124 + d.val, by omega⟩ ?_ ?_ ?_))
  · show (n.val * 1024 + d.val) / 16777216 = n.val / 16384; omega
  · show (n.val * 1024 + d.val) / 1024 % 16384 = n.val % 16384; omega
  · show 5124 + (n.val * 1024 + d.val) % 1024 = 5124 + d.val; omega

end Cert.Proof.InProjRef

end
-- ==== Proof.InProj.Value.lean ====
module

public import proofs.«01_k».proof.Proof.Gen.Kernel5Ideal.Frame
public import proofs.«01_k».proof.Proof.Gen.Kernel5Ideal.Value
public import proofs.«01_k».proof.Proof.Gen.Reference5Ideal.Read
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.Pipeline.ValueKit
public import proofs.«01_k».proof.Proof.Fox.ReadI
public import proofs.«01_k».proof.Proof.InProj.Outs
public import proofs.«01_k».proof.Proof.InProj.Pay
public import proofs.«01_k».proof.Proof.InProj.Blocks
public import proofs.«01_k».proof.Proof.InProj.Ref

/-! The input projection: what the region leaves is the reference's results. -/

@[expose] public section

set_option maxRecDepth 16384

noncomputable section

namespace Cert.Proof.InProjKernel5Ideal

open Cert.Kernel5Ideal Cert.Kernel5Ideal.Gen
open Idealize.ShloMosaic Idealize.ShloMosaic.TcCoe Idealize.ShloMosaic.Tactic Idealize.SL.Sem
open Idealize.ShloMosaic.ValueIdx
open Idealize.ShloMosaic.Pipeline (Dat Cfg Window)
open Cert.Proof.FoxKernelIdeal (mm_plain sm_apply bc_a1 sc_self)
open Cert.Proof.OutKernel4Ideal (ln_at sub_at)
open Cert.Proof.FfnSpec

set_option backward.isDefEq.respectTransparency.types false

variable (m : (ℓ : Loc nD τ sig) → Buf (Elt Ideal) ℓ) (c : Dev nD)

/-- A row of a block times a column of the matrix, from the arguments. -/
theorem sum_at (t : Fin cfg0.N) (r : Fin 512) (w : Fin 2048 → EReal) (n : Fin 6148) (h : ∀ k, w k = A3 m c (ValueIdx.ix3 0 k n)) :
    ∑ k : Fin 2048, ln (fun k => iblk m c 0 t (ValueIdx.ix2 r k)) (iblk m c 1 t (ValueIdx.ix2 0 k)) (iblk m c 2 t (ValueIdx.ix2 0 k)) k * w k
      = ∑ k : Fin 2048, ln (fun k => A0 m c (ValueIdx.ix3 ⟨(tn t r).val / 16384, by omega⟩ ⟨(tn t r).val % 16384, by omega⟩ k)) (A1 m c (ValueIdx.ix1 k)) (A2 m c (ValueIdx.ix1 k)) k * A3 m c (ValueIdx.ix3 0 k n) := by
  refine Finset.sum_congr rfl fun k _ => congrArg₂ (fun x y : EReal => x * y) ?_ (h k)
  rw [b1, b2, funext fun k => b0 m c t r k]

theorem pair (y : S512x1024.Idx) : ∃ (r : Fin 512) (d : Fin 1024), y = ValueIdx.ix2 r d := ⟨y 0, y 1, by funext a; match a with | ⟨0, _⟩ => rfl | ⟨1, _⟩ => rfl⟩

/-- The region leaves the reference's rows in this output. -/
theorem final8 : (dats m 0 c).arrAt 8 cfg0.N = Cert.Reference5Ideal.Read.val_main_v36 (F := Ideal) (A0 m c) (A1 m c) (A2 m c) (A3 m c) := by
  refine (dats m 0 c).arrAt_eq_of_covers 8 _ (by decide +kernel) fun t hf y => ?_
  blk_simp
  rw [at8]
  obtain ⟨r, d, rfl⟩ := pair y
  have hix : ((win0_8.blk t).view.emb (ValueIdx.ix2 r d)) = (ValueIdx.ix2 (tn t r) d : S32768x1024.Idx) := by
    funext a
    refine Fin.ext ?_
    blk_simp [x8]
    match a with
    | ⟨0, _⟩ => show (grid0.coords t 0).val * 512 + r.val = 512 * (grid0.coords t 0).val + r.val; omega
    | ⟨1, _⟩ => show 0 * 1024 + d.val = d.val; omega
  rw [hix]
  refine (o8_at _ _ _ _ _ r d).trans (Eq.trans ?_ (Cert.Proof.InProjRef.ref8 _ _ _ _ (tn t r) d).symm)
  exact congrArg (fun y : EReal => y * Ideal.ofBits .f32 0x3D800000#32) (sum_at m c t r _ _ fun k => (b3 m c t k _).trans (congrArg (A3 m c) (Cert.Proof.FfnRef.i3 _ _ _ _ rfl rfl rfl)))

/-- The region leaves the reference's rows in this output. -/
theorem final9 : (dats m 0 c).arrAt 9 cfg0.N = Cert.Reference5Ideal.Read.val_main_v38 (F := Ideal) (A0 m c) (A1 m c) (A2 m c) (A3 m c) := by
  refine (dats m 0 c).arrAt_eq_of_covers 9 _ (by decide +kernel) fun t hf y => ?_
  blk_simp
  rw [at9]
  obtain ⟨r, d, rfl⟩ := pair y
  have hix : ((win0_9.blk t).view.emb (ValueIdx.ix2 r d)) = (ValueIdx.ix2 (tn t r) d : S32768x1024.Idx) := by
    funext a
    refine Fin.ext ?_
    blk_simp [x9]
    match a with
    | ⟨0, _⟩ => show (grid0.coords t 0).val * 512 + r.val = 512 * (grid0.coords t 0).val + r.val; omega
    | ⟨1, _⟩ => show 0 * 1024 + d.val = d.val; omega
  rw [hix]
  refine (o9_at _ _ _ _ _ r d).trans (Eq.trans ?_ (Cert.Proof.InProjRef.ref9 _ _ _ _ (tn t r) d).symm)
  exact (sum_at m c t r _ _ fun k => (b3 m c t k _).trans (congrArg (A3 m c) (Cert.Proof.FfnRef.i3 _ _ _ _ rfl rfl rfl)))

/-- The region leaves the reference's rows in this output. -/
theorem final10 : (dats m 0 c).arrAt 10 cfg0.N = Cert.Reference5Ideal.Read.val_main_v40 (F := Ideal) (A0 m c) (A1 m c) (A2 m c) (A3 m c) := by
  refine (dats m 0 c).arrAt_eq_of_covers 10 _ (by decide +kernel) fun t hf y => ?_
  blk_simp
  rw [at10]
  obtain ⟨r, d, rfl⟩ := pair y
  have hix : ((win0_10.blk t).view.emb (ValueIdx.ix2 r d)) = (ValueIdx.ix2 (tn t r) d : S32768x1024.Idx) := by
    funext a
    refine Fin.ext ?_
    blk_simp [x10]
    match a with
    | ⟨0, _⟩ => show (grid0.coords t 0).val * 512 + r.val = 512 * (grid0.coords t 0).val + r.val; omega
    | ⟨1, _⟩ => show 0 * 1024 + d.val = d.val; omega
  rw [hix]
  refine (o10_at _ _ _ _ _ r d).trans (Eq.trans ?_ (Cert.Proof.InProjRef.ref10 _ _ _ _ (tn t r) d).symm)
  exact (sum_at m c t r _ _ fun k => (b3 m c t k _).trans (congrArg (A3 m c) (Cert.Proof.FfnRef.i3 _ _ _ _ rfl rfl rfl)))

/-- The region leaves the reference's rows in this output. -/
theorem final11 : (dats m 0 c).arrAt 11 cfg0.N = Cert.Reference5Ideal.Read.val_main_v44 (F := Ideal) (A0 m c) (A1 m c) (A2 m c) (A3 m c) := by
  refine (dats m 0 c).arrAt_eq_of_covers 11 _ (by decide +kernel) fun t hf y => ?_
  blk_simp
  rw [at11]
  obtain ⟨r, d, rfl⟩ := pair y
  have hix : ((win0_11.blk t).view.emb (ValueIdx.ix2 r d)) = (ValueIdx.ix2 (tn t r) d : S32768x1024.Idx) := by
    funext a
    refine Fin.ext ?_
    blk_simp [x11]
    match a with
    | ⟨0, _⟩ => show (grid0.coords t 0).val * 512 + r.val = 512 * (grid0.coords t 0).val + r.val; omega
    | ⟨1, _⟩ => show 0 * 1024 + d.val = d.val; omega
  rw [hix]
  refine (o11_at _ _ _ _ _ r d).trans (Eq.trans ?_ (Cert.Proof.InProjRef.ref11 _ _ _ _ (tn t r) d).symm)
  exact congrArg (fun y : EReal => y * Ideal.ofBits .f32 0x3D800000#32) (sum_at m c t r _ _ fun k => (b4 m c t k _).trans (congrArg (A3 m c) (Cert.Proof.FfnRef.i3 _ _ _ _ rfl rfl rfl)))

/-- The region leaves the reference's rows in this output. -/
theorem final12 : (dats m 0 c).arrAt 12 cfg0.N = Cert.Reference5Ideal.Read.val_main_v46 (F := Ideal) (A0 m c) (A1 m c) (A2 m c) (A3 m c) := by
  refine (dats m 0 c).arrAt_eq_of_covers 12 _ (by decide +kernel) fun t hf y => ?_
  blk_simp
  rw [at12]
  obtain ⟨r, d, rfl⟩ := pair y
  have hix : ((win0_12.blk t).view.emb (ValueIdx.ix2 r d)) = (ValueIdx.ix2 (tn t r) d : S32768x1024.Idx) := by
    funext a
    refine Fin.ext ?_
    blk_simp [x12]
    match a with
    | ⟨0, _⟩ => show (grid0.coords t 0).val * 512 + r.val = 512 * (grid0.coords t 0).val + r.val; omega
    | ⟨1, _⟩ => show 0 * 1024 + d.val = d.val; omega
  rw [hix]
  refine (o12_at _ _ _ _ _ r d).trans (Eq.trans ?_ (Cert.Proof.InProjRef.ref12 _ _ _ _ (tn t r) d).symm)
  exact (sum_at m c t r _ _ fun k => (b4 m c t k _).trans (congrArg (A3 m c) (Cert.Proof.FfnRef.i3 _ _ _ _ rfl rfl (by show 3076 + (1024 + d.val) = 4100 + d.val; omega))))

/-- The region leaves the reference's rows in this output. -/
theorem final13 : (dats m 0 c).arrAt 13 cfg0.N = Cert.Reference5Ideal.Read.val_main_v48 (F := Ideal) (A0 m c) (A1 m c) (A2 m c) (A3 m c) := by
  refine (dats m 0 c).arrAt_eq_of_covers 13 _ (by decide +kernel) fun t hf y => ?_
  blk_simp
  rw [at13]
  obtain ⟨r, d, rfl⟩ := pair y
  have hix : ((win0_13.blk t).view.emb (ValueIdx.ix2 r d)) = (ValueIdx.ix2 (tn t r) d : S32768x1024.Idx) := by
    funext a
    refine Fin.ext ?_
    blk_simp [x13]
    match a with
    | ⟨0, _⟩ => show (grid0.coords t 0).val * 512 + r.val = 512 * (grid0.coords t 0).val + r.val; omega
    | ⟨1, _⟩ => show 0 * 1024 + d.val = d.val; omega
  rw [hix]
  refine (o13_at _ _ _ _ _ r d).trans (Eq.trans ?_ (Cert.Proof.InProjRef.ref13 _ _ _ _ (tn t r) d).symm)
  exact (sum_at m c t r _ _ fun k => (b4 m c t k _).trans (congrArg (A3 m c) (Cert.Proof.FfnRef.i3 _ _ _ _ rfl rfl (by show 3076 + (2048 + d.val) = 5124 + d.val; omega))))

end Cert.Proof.InProjKernel5Ideal

end
-- ==== Proof.InProj.Claims.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.InProj.Value
public import Idealize.ShloMosaic.Adequacy
public import Idealize.ShloMosaic.Init

/-! The claims of this call, each from the run and from what the region leaves. -/

@[expose] public section

set_option maxRecDepth 16384

noncomputable section

namespace Cert.Proof.InProj

open Idealize.ShloMosaic Idealize.SL.Sem

theorem frame_k : Cert.quiescent_Kernel5 := fun m ρ _ => Cert.Kernel5.Gen.frame (F := Bits) m ρ

theorem frame_i : Cert.quiescent_Kernel5Ideal := fun m ρ _ => Cert.Kernel5Ideal.Gen.frame (F := Ideal) m ρ

/-- The reference's run read at its arguments; it declares no semaphore. -/
theorem frame_r : Cert.quiescent_Reference5Ideal := by
  intro m ρ _
  exact (θ_run Cert.Reference5Ideal.defs _ _).mono (fun r h => ⟨fun c => (h c).2.2.2.2.2.2,
      Idealize.ShloMosaic.sem_eq_zero_of_no_sems (by decide) r.2⟩)
    (Cert.Reference5Ideal.Value.run (F := Ideal) m ρ)

/-- Each of the ideal's six result arrays is the reference's, from any arguments. -/
theorem value : Cert.algebraic_Kernel5Ideal_Reference5Ideal := by
  intro m g m' g' _ hagree
  refine ⟨fun c => Cert.Reference5Ideal.Read.val_main_v36 (F := Ideal) (Cert.Proof.InProjKernel5Ideal.A0 m c) (Cert.Proof.InProjKernel5Ideal.A1 m c) (Cert.Proof.InProjKernel5Ideal.A2 m c) (Cert.Proof.InProjKernel5Ideal.A3 m c),
      fun c => Cert.Reference5Ideal.Read.val_main_v38 (F := Ideal) (Cert.Proof.InProjKernel5Ideal.A0 m c) (Cert.Proof.InProjKernel5Ideal.A1 m c) (Cert.Proof.InProjKernel5Ideal.A2 m c) (Cert.Proof.InProjKernel5Ideal.A3 m c),
      fun c => Cert.Reference5Ideal.Read.val_main_v40 (F := Ideal) (Cert.Proof.InProjKernel5Ideal.A0 m c) (Cert.Proof.InProjKernel5Ideal.A1 m c) (Cert.Proof.InProjKernel5Ideal.A2 m c) (Cert.Proof.InProjKernel5Ideal.A3 m c),
      fun c => Cert.Reference5Ideal.Read.val_main_v44 (F := Ideal) (Cert.Proof.InProjKernel5Ideal.A0 m c) (Cert.Proof.InProjKernel5Ideal.A1 m c) (Cert.Proof.InProjKernel5Ideal.A2 m c) (Cert.Proof.InProjKernel5Ideal.A3 m c),
      fun c => Cert.Reference5Ideal.Read.val_main_v46 (F := Ideal) (Cert.Proof.InProjKernel5Ideal.A0 m c) (Cert.Proof.InProjKernel5Ideal.A1 m c) (Cert.Proof.InProjKernel5Ideal.A2 m c) (Cert.Proof.InProjKernel5Ideal.A3 m c),
      fun c => Cert.Reference5Ideal.Read.val_main_v48 (F := Ideal) (Cert.Proof.InProjKernel5Ideal.A0 m c) (Cert.Proof.InProjKernel5Ideal.A1 m c) (Cert.Proof.InProjKernel5Ideal.A2 m c) (Cert.Proof.InProjKernel5Ideal.A3 m c), ?_, ?_⟩
  · exact (θ_run Cert.Kernel5Ideal.defs _ _).mono (fun r h c => ⟨(h c).1.trans (Cert.Proof.InProjKernel5Ideal.final8 m c),
      (h c).2.1.trans (Cert.Proof.InProjKernel5Ideal.final9 m c),
      (h c).2.2.1.trans (Cert.Proof.InProjKernel5Ideal.final10 m c),
      (h c).2.2.2.1.trans (Cert.Proof.InProjKernel5Ideal.final11 m c),
      (h c).2.2.2.2.1.trans (Cert.Proof.InProjKernel5Ideal.final12 m c),
      (h c).2.2.2.2.2.1.trans (Cert.Proof.InProjKernel5Ideal.final13 m c),
      (h c).2.2.2.2.2.2.2.2⟩)
      (Cert.Kernel5Ideal.Value.run_blocks (F := Ideal) m g)
  · refine (θ_run Cert.Reference5Ideal.defs _ _).mono (fun r h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2⟩) (Cert.Reference5Ideal.Value.run (F := Ideal) m' g')
    all_goals obtain ⟨a0, a1, a2, a3, -⟩ := hagree c
    · rw [Cert.Reference5Ideal.Read.val_main_v36_eq]
      exact congr (congr (congr (congrArg _ a0) a1) a2) a3
    · rw [Cert.Reference5Ideal.Read.val_main_v38_eq]
      exact congr (congr (congr (congrArg _ a0) a1) a2) a3
    · rw [Cert.Reference5Ideal.Read.val_main_v40_eq]
      exact congr (congr (congr (congrArg _ a0) a1) a2) a3
    · rw [Cert.Reference5Ideal.Read.val_main_v44_eq]
      exact congr (congr (congr (congrArg _ a0) a1) a2) a3
    · rw [Cert.Reference5Ideal.Read.val_main_v46_eq]
      exact congr (congr (congr (congrArg _ a0) a1) a2) a3
    · rw [Cert.Reference5Ideal.Read.val_main_v48_eq]
      exact congr (congr (congr (congrArg _ a0) a1) a2) a3

end Cert.Proof.InProj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_logits_finite
public import proofs.«01_k».proof.Proof.Gen.Kernel2
public import proofs.«01_k».proof.Proof.Gen.Kernel2.Frame
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Fox.FrameK
public import proofs.«01_k».proof.Proof.Fox.FrameI
public import proofs.«01_k».proof.Proof.Fox.PreI
public import proofs.«01_k».proof.Proof.Ffn.Claims
public import proofs.«01_k».proof.Proof.Gate.Claims
public import proofs.«01_k».proof.Proof.Out.Claims
public import proofs.«01_k».proof.Proof.InProj.Claims
public import Idealize.ShloMosaic.Adequacy
public import Idealize.ShloMosaic.Init

@[expose] public section

set_option maxRecDepth 16384

noncomputable section

namespace Cert.Proof

open Idealize.ShloMosaic Idealize.SL.Sem Cert.Kernel

/-- The reference's run read at its arguments; it declares no semaphore. -/
theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same, where the precondition is read and not used. -/
theorem frame_r_pre : Cert.quiescent_ReferenceIdeal_pre_logits_finite := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal's result array is the reference's result, from any arguments the precondition holds of. -/
theorem value : Cert.algebraic_KernelIdeal_ReferenceIdeal_pre_logits_finite := by
  intro m g m' g' hpre hagree
  refine ⟨fun c => Cert.ReferenceIdeal.Read.val_main_v60 (F := Ideal) (Cert.Proof.FoxKernelIdeal.A0 m c) (Cert.Proof.FoxKernelIdeal.A1 m c)
    (Cert.Proof.FoxKernelIdeal.A2 m c) (Cert.Proof.FoxKernelIdeal.A3 m c) (Cert.Proof.FoxKernelIdeal.A5 m c) (Cert.Proof.FoxKernelIdeal.A6 m c)
    (Cert.Proof.FoxKernelIdeal.A7 m c), ?_, ?_⟩
  · exact (θ_run Cert.KernelIdeal.defs _ _).mono (fun r h c => ⟨(h.1.1.out_eq c 10).trans
      (Cert.Proof.FoxKernelIdeal.final m c (Cert.Proof.FoxKernelIdeal.fin_of_pre m c (hpre c))), h.2.1 c⟩)
      (θ_run_and (Cert.Proof.FoxKernelIdeal.run_main (F := Ideal) m g) (Cert.Proof.FoxKernelIdeal.frame (F := Ideal) m g))
  · refine (θ_run Cert.ReferenceIdeal.defs _ _).mono (fun r h c => ⟨(h c).1.trans ?_, (h c).2⟩) (Cert.ReferenceIdeal.Value.run (F := Ideal) m' g')
    obtain ⟨a0, a1, a2, a3, -, a5, a6, a7, -⟩ := hagree c
    rw [Cert.ReferenceIdeal.Read.val_main_v60_eq]
    exact congr (congr (congr (congr (congr (congr (congrArg _ a0) a1) a2) a3) a5) a6) a7

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_logits_finite.Gen.facts,
  fun m ρ _ => Cert.Proof.FoxKernel.frame m ρ, fun m ρ _ => Cert.Proof.FoxKernelIdeal.frame m ρ, fun m ρ _ => Cert.Proof.FoxKernelIdeal.frame m ρ,
  frame_r, frame_r_pre, Ffn.frame_k, Ffn.frame_i, Ffn.frame_r,
  Gate.frame_k, Gate.frame_i, Gate.frame_r, Out.frame_k, Out.frame_i, Out.frame_r, InProj.frame_k, InProj.frame_i, InProj.frame_r,
  ⟨IdealRules.named_const.statement Cert.KernelIdeal.κ "mask" .f32 0xF149F2CA#32 ⊥ rfl,
  IdealRules.named_const.statement Cert.KernelIdeal.κ "exit" .f32 0xC2DC0000#32 ⊥ rfl⟩, value, trivial, Ffn.value, trivial, Gate.value, trivial, Out.value, trivial, InProj.value⟩

end Cert.Proof

end
